-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tables : Cert.Pre_tables.Facts] (m : (ℓ : Loc Cert.Kernel5.nD Cert.Kernel5.τ Cert.Kernel5.sig) → Buf (Elt Bits) ℓ) : Prop :=
  ∀ c : Dev Cert.Kernel5.nD,
    (Cert.Pre_tables.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8)) (m ((c.tc : Thread Cert.Kernel5.nD Cert.Kernel5.τ).loc Cert.Kernel5.main_arg9)) (m ((c.tc : Thread Cert.Kernel5.nD Cert.Kernel5.τ).loc Cert.Kernel5.main_arg10))) = (fun _ => 1#1)

def Pre_Kernel5Ideal [hPre_tables : Cert.Pre_tables.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tables [hPre_tables : Cert.Pre_tables.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tables.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_tables : Cert.Pre_tables.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] [hPre_tables : Cert.Pre_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_tables [hReference5Ideal : Cert.Reference5Ideal.Facts] [hPre_tables : Cert.Pre_tables.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tables m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_tables : Cert.Pre_tables.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tables := hPre_tables)
    ∧ quiescent_Kernel5Ideal (hKernel5Ideal := hKernel5Ideal) (hPre_tables := hPre_tables)
    ∧ quiescent_Reference5Ideal (hReference5Ideal := hReference5Ideal)
    ∧ quiescent_Reference5Ideal_pre_tables (hReference5Ideal := hReference5Ideal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_tables := hPre_tables)
-- ==== Pre_finite.lean ====
abbrev S2x16x4096x64 : Shape := ⟨4, ![2, 16, 4096, 64]⟩
abbrev S2x1x16x512x64 : Shape := ⟨5, ![2, 1, 16, 512, 64]⟩
abbrev S16x15x31 : Shape := ⟨3, ![16, 15, 31]⟩
abbrev S8388608 : Shape := ⟨1, ![8388608]⟩
abbrev S1048576 : Shape := ⟨1, ![1048576]⟩
abbrev S7440 : Shape := ⟨1, ![7440]⟩
abbrev S17833232 : Shape := ⟨1, ![17833232]⟩
abbrev S_ : Shape := ⟨0, ![]⟩

class Facts : Prop where
  shapeCasts_S2x16x4096x64_S8388608 : S2x16x4096x64.ShapeCasts S8388608
  shapeCasts_S2x1x16x512x64_S1048576 : S2x1x16x512x64.ShapeCasts S1048576
  shapeCasts_S16x15x31_S7440 : S16x15x31.ShapeCasts S7440
  concatenates_S8388608_S8388608_S1048576_S7440_S17833232_d0 : Shape.Concatenates [S8388608, S8388608, S1048576, S7440] S17833232 0
  bcast_S_S17833232 : S_.BroadcastsInDim S17833232 (![] : Fin 0 → Fin S17833232.rank)

variable [Facts]

def fn {F : FTy → Type} [FloatOps F] (main_arg0 : FVec F S2x16x4096x64 .f32) (main_arg1 : FVec F S2x16x4096x64 .f32) (main_arg2 : FVec F S2x16x4096x64 .f32) (main_arg3 : FVec F S2x1x16x512x64 .f32) (main_arg4 : FVec F S2x1x16x512x64 .f32) (main_arg5 : FVec F S16x15x31 .f32) : IVec S17833232 1 :=
  let main_v0 : FVec F S8388608 .f32 := shapeCast S8388608 main_arg0 shapeCasts_S2x16x4096x64_S8388608
  let main_v1 : FVec F S8388608 .f32 := shapeCast S8388608 main_arg1 shapeCasts_S2x16x4096x64_S8388608
  let main_v2 : FVec F S1048576 .f32 := shapeCast S1048576 main_arg3 shapeCasts_S2x1x16x512x64_S1048576
  let main_v3 : FVec F S7440 .f32 := shapeCast S7440 main_arg5 shapeCasts_S16x15x31_S7440
  let main_v4 : FVec F S17833232 .f32 := concatenate S17833232 0 [⟨S8388608, main_v0⟩, ⟨S8388608, main_v1⟩, ⟨S1048576, main_v2⟩, ⟨S7440, main_v3⟩] concatenates_S8388608_S8388608_S1048576_S7440_S17833232_d0
  let main_v5 : FVec F S17833232 .f32 := Host.absf main_v4
  let main_cst : FVec F S_ .f32 := constant S_ .f32 0x7F800000#32
  let main_v6 : FVec F S17833232 .f32 := broadcastInDim S17833232 ![] bcast_S_S17833232 main_cst
  let main_v7 : IVec S17833232 1 := cmpf .olt main_v5 main_v6
  main_v7
-- ==== Pre_tables.lean ====
abbrev S81920x1024 : Shape := ⟨2, ![81920, 1024]⟩
abbrev S160 : Shape := ⟨1, ![160]⟩
abbrev S1 : Shape := ⟨1, ![1]⟩
abbrev S2x32x1024x1024 : Shape := ⟨4, ![2, 32, 1024, 1024]⟩
abbrev S2x32x1024 : Shape := ⟨3, ![2, 32, 1024]⟩
abbrev S_ : Shape := ⟨0, ![]⟩
abbrev S159 : Shape := ⟨1, ![159]⟩

class Facts : Prop where
  shapeCasts_S1_S_ : S1.ShapeCasts S_
  slices_S160_S159_1 : S160.Slices ![1] S159
  slices_S160_S1_0 : S160.Slices ![0] S1
  concatenates_S159_S1_S160_d0 : Shape.Concatenates [S159, S1] S160 0
  bcast_S_S160 : S_.BroadcastsInDim S160 (![] : Fin 0 → Fin S160.rank)

variable [Facts]

def fn_part2 {F : FTy → Type} [FloatOps F] (main_arg4 : IVec S160 32) (main_v0 : IVec S160 32) (main_v1 : IVec S_ 32) (main_v15 : IVec S160 1) (main_v22 : IVec S160 1) (main_v38 : IVec S160 1) (main_v39 : IVec S160 32) : IVec S160 1 :=
  let main_v40 : IVec S160 32 := addi main_v0 main_v39
  let main_v41 : IVec S160 32 := broadcastInDim S160 ![] bcast_S_S160 main_v1
  let main_v42 : IVec S160 1 := cmpi .sge main_v40 main_v41
  let main_v43 : IVec S160 1 := ori main_v42 main_v15
  let main_v44 : IVec S160 1 := ori main_v43 main_v22
  let main_v45 : IVec S160 1 := andi main_v38 main_v44
  let main_c_7 : IVec S_ 32 := constantI S_ 32 1#32
  let main_v46 : IVec S160 32 := broadcastInDim S160 ![] bcast_S_S160 main_c_7
  let main_v47 : IVec S160 32 := addi main_v0 main_v46
  let main_v48 : IVec S160 32 := broadcastInDim S160 ![] bcast_S_S160 main_v1
  let main_v49 : IVec S160 1 := cmpi .ne main_v47 main_v48
  let main_c_8 : IVec S_ 32 := constantI S_ 32 4294967295#32
  let main_v50 : IVec S160 32 := broadcastInDim S160 ![] bcast_S_S160 main_c_8
  let main_v51 : IVec S160 1 := cmpi .eq main_arg4 main_v50
  let main_v52 : IVec S160 1 := ori main_v49 main_v51
  let main_v53 : IVec S160 1 := andi main_v45 main_v52
  main_v53

def fn_part1 {F : FTy → Type} [FloatOps F] (main_arg1 : IVec S160 32) (main_arg3 : IVec S160 32) (main_arg4 : IVec S160 32) (main_v0 : IVec S160 32) (main_v1 : IVec S_ 32) (main_v15 : IVec S160 1) (main_v22 : IVec S160 1) : IVec S160 1 :=
  let main_c_0 : IVec S_ 32 := constantI S_ 32 1#32
  let main_v23 : IVec S_ 1 := cmpi .sge main_v1 main_c_0
  let main_c_1 : IVec S_ 32 := constantI S_ 32 160#32
  let main_v24 : IVec S_ 1 := cmpi .sle main_v1 main_c_1
  let main_v25 : IVec S_ 1 := andi main_v23 main_v24
  let main_c_2 : IVec S_ 32 := constantI S_ 32 0#32
  let main_v26 : IVec S160 32 := broadcastInDim S160 ![] bcast_S_S160 main_c_2
  let main_v27 : IVec S160 1 := cmpi .sge main_arg1 main_v26
  let main_v28 : IVec S160 1 := broadcastInDim S160 ![] bcast_S_S160 main_v25
  let main_v29 : IVec S160 1 := andi main_v28 main_v27
  let main_c_3 : IVec S_ 32 := constantI S_ 32 32#32
  let main_v30 : IVec S160 32 := broadcastInDim S160 ![] bcast_S_S160 main_c_3
  let main_v31 : IVec S160 1 := cmpi .slt main_arg1 main_v30
  let main_v32 : IVec S160 1 := andi main_v29 main_v31
  let main_c_4 : IVec S_ 32 := constantI S_ 32 0#32
  let main_v33 : IVec S160 32 := broadcastInDim S160 ![] bcast_S_S160 main_c_4
  let main_v34 : IVec S160 1 := cmpi .eq main_arg3 main_v33
  let main_c_5 : IVec S_ 32 := constantI S_ 32 1#32
  let main_v35 : IVec S160 32 := broadcastInDim S160 ![] bcast_S_S160 main_c_5
  let main_v36 : IVec S160 1 := cmpi .eq main_arg3 main_v35
  let main_v37 : IVec S160 1 := ori main_v34 main_v36
  let main_v38 : IVec S160 1 := andi main_v32 main_v37
  let main_c_6 : IVec S_ 32 := constantI S_ 32 1#32
  let main_v39 : IVec S160 32 := broadcastInDim S160 ![] bcast_S_S160 main_c_6
  fn_part2 (F := F) main_arg4 main_v0 main_v1 main_v15 main_v22 main_v38 main_v39

def fn {F : FTy → Type} [FloatOps F] (main_arg0 : FVec F S81920x1024 .f32) (main_arg1 : IVec S160 32) (main_arg2 : IVec S1 32) (main_arg3 : IVec S160 32) (main_arg4 : IVec S160 32) (main_arg5 : FVec F S2x32x1024x1024 .f32) (main_arg6 : FVec F S2x32x1024 .f32) (main_arg7 : FVec F S2x32x1024x1024 .f32) (main_arg8 : FVec F S2x32x1024 .f32) (main_arg9 : FVec F S2x32x1024x1024 .f32) (main_arg10 : FVec F S2x32x1024 .f32) : IVec S160 1 :=
  let main_v0 : IVec S160 32 := iotaInDim S160 32 0
  let main_v1 : IVec S_ 32 := shapeCast S_ main_arg2 shapeCasts_S1_S_
  let main_v2 : IVec S159 32 := (extractStridedSlice S159 ![1] · slices_S160_S159_1) main_arg1
  let main_v3 : IVec S1 32 := (extractStridedSlice S1 ![0] · slices_S160_S1_0) main_arg1
  let main_v4 : IVec S160 32 := (fun a b => concatenate S160 0 [⟨S159, a⟩, ⟨S1, b⟩] concatenates_S159_S1_S160_d0) main_v2 main_v3
  let main_v5 : IVec S159 32 := (extractStridedSlice S159 ![1] · slices_S160_S159_1) main_arg3
  let main_v6 : IVec S1 32 := (extractStridedSlice S1 ![0] · slices_S160_S1_0) main_arg3
  let main_v7 : IVec S160 32 := (fun a b => concatenate S160 0 [⟨S159, a⟩, ⟨S1, b⟩] concatenates_S159_S1_S160_d0) main_v5 main_v6
  let main_v8 : IVec S159 32 := (extractStridedSlice S159 ![1] · slices_S160_S159_1) main_arg4
  let main_v9 : IVec S1 32 := (extractStridedSlice S1 ![0] · slices_S160_S1_0) main_arg4
  let main_v10 : IVec S160 32 := (fun a b => concatenate S160 0 [⟨S159, a⟩, ⟨S1, b⟩] concatenates_S159_S1_S160_d0) main_v8 main_v9
  let main_v11 : IVec S160 1 := cmpi .eq main_v4 main_arg1
  let main_v12 : IVec S160 1 := cmpi .eq main_v7 main_arg3
  let main_v13 : IVec S160 1 := andi main_v11 main_v12
  let main_v14 : IVec S160 1 := cmpi .eq main_v10 main_arg4
  let main_v15 : IVec S160 1 := andi main_v13 main_v14
  let main_v16 : IVec S160 1 := cmpi .ne main_v4 main_arg1
  let main_c : IVec S_ 32 := constantI S_ 32 1#32
  let main_v17 : IVec S160 32 := broadcastInDim S160 ![] bcast_S_S160 main_c
  let main_v18 : IVec S160 32 := subi main_v17 main_arg3
  let main_v19 : IVec S160 1 := cmpi .eq main_v7 main_v18
  let main_v20 : IVec S160 1 := andi main_v16 main_v19
  let main_v21 : IVec S160 1 := cmpi .eq main_arg4 main_v4
  let main_v22 : IVec S160 1 := andi main_v20 main_v21
  fn_part1 (F := F) main_arg1 main_arg3 main_arg4 main_v0 main_v1 main_v15 main_v22
-- ==== Kernel.lean ====
abbrev S2x16x4096x64 : Shape := ⟨4, ![2, 16, 4096, 64]⟩
abbrev S2x1x16x512x64 : Shape := ⟨5, ![2, 1, 16, 512, 64]⟩
abbrev S16x15x31 : Shape := ⟨3, ![16, 15, 31]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S32 : Shape := ⟨1, ![32]⟩
abbrev S32x1x1 : Shape := ⟨3, ![32, 1, 1]⟩
abbrev S32x64x64 : Shape := ⟨3, ![32, 64, 64]⟩
abbrev S32x4096 : Shape := ⟨2, ![32, 4096]⟩
abbrev S240x31 : Shape := ⟨2, ![240, 31]⟩
abbrev S240x32 : Shape := ⟨2, ![240, 32]⟩
abbrev S240x4096 : Shape := ⟨2, ![240, 4096]⟩
abbrev S16x15x64x64 : Shape := ⟨4, ![16, 15, 64, 64]⟩
abbrev S16x3x256x704 : Shape := ⟨4, ![16, 3, 256, 704]⟩
abbrev S1x15x64x64 : Shape := ⟨4, ![1, 15, 64, 64]⟩
abbrev S1x3x256x704 : Shape := ⟨4, ![1, 3, 256, 704]⟩
abbrev S1x1x64x64 : Shape := ⟨4, ![1, 1, 64, 64]⟩
abbrev S8192x1024 : Shape := ⟨2, ![8192, 1024]⟩
abbrev S1x2x4096x64 : Shape := ⟨4, ![1, 2, 4096, 64]⟩
abbrev S1x1x2x512x64 : Shape := ⟨5, ![1, 1, 2, 512, 64]⟩
abbrev S2x3x256x704 : Shape := ⟨4, ![2, 3, 256, 704]⟩
abbrev S4096x128 : Shape := ⟨2, ![4096, 128]⟩
abbrev S1x1x1x512x64 : Shape := ⟨5, ![1, 1, 1, 512, 64]⟩
abbrev S512x64 : Shape := ⟨2, ![512, 64]⟩
abbrev S1x1x256x64 : Shape := ⟨4, ![1, 1, 256, 64]⟩
abbrev S256x64 : Shape := ⟨2, ![256, 64]⟩
abbrev S1x1x704x64 : Shape := ⟨4, ![1, 1, 704, 64]⟩
abbrev S704x64 : Shape := ⟨2, ![704, 64]⟩
abbrev S1216x64 : Shape := ⟨2, ![1216, 64]⟩
abbrev S256x1216 : Shape := ⟨2, ![256, 1216]⟩
abbrev S256x512 : Shape := ⟨2, ![256, 512]⟩
abbrev S256x704 : Shape := ⟨2, ![256, 704]⟩
abbrev S1x1x256x704 : Shape := ⟨4, ![1, 1, 256, 704]⟩
abbrev S256 : Shape := ⟨1, ![256]⟩
abbrev S256x1 : Shape := ⟨2, ![256, 1]⟩

abbrev nBuf : Space → Nat
  | .hbm => 49
  | .vmem => 21
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S2x1x16x512x64, .f32⟩
  | .hbm, ⟨4, _⟩ => ⟨S2x1x16x512x64, .f32⟩
  | .hbm, ⟨5, _⟩ => ⟨S16x15x31, .f32⟩
  | .hbm, ⟨6, _⟩ => ⟨S_, .f32⟩
  | .hbm, ⟨7, _⟩ => ⟨S2x16x4096x64, .f32⟩
  | .hbm, ⟨8, _⟩ => ⟨S2x16x4096x64, .f32⟩
  | .hbm, ⟨9, _⟩ => ⟨S2x16x4096x64, .bf16⟩
  | .hbm, ⟨10, _⟩ => ⟨S2x16x4096x64, .bf16⟩
  | .hbm, ⟨11, _⟩ => ⟨S2x16x4096x64, .bf16⟩
  | .hbm, ⟨12, _⟩ => ⟨S64, .i32⟩
  | .hbm, ⟨13, _⟩ => ⟨S64x1, .i32⟩
  | .hbm, ⟨14, _⟩ => ⟨S64, .i32⟩
  | .hbm, ⟨15, _⟩ => ⟨S1x64, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S1x64x64, .i32⟩
  | .hbm, ⟨34, _⟩ => ⟨S32, .i32⟩
  | .hbm, ⟨35, _⟩ => ⟨S32x1x1, .i32⟩
  | .hbm, ⟨36, _⟩ => ⟨S32x64x64, .i32⟩
  | .hbm, ⟨37, _⟩ => ⟨S32x64x64, .i32⟩
  | .hbm, ⟨38, _⟩ => ⟨S32x64x64, .i1⟩
  | .hbm, ⟨39, _⟩ => ⟨S32x4096, .i1⟩
  | .hbm, ⟨40, _⟩ => ⟨S32x4096, .f32⟩
  | .hbm, ⟨41, _⟩ => ⟨S240x31, .f32⟩
  | .hbm, ⟨42, _⟩ => ⟨S_, .i32⟩
  | .hbm, ⟨43, _⟩ => ⟨S_, .f32⟩
  | .hbm, ⟨44, _⟩ => ⟨S240x32, .f32⟩
  | .hbm, ⟨45, _⟩ => ⟨S240x4096, .f32⟩
  | .hbm, ⟨46, _⟩ => ⟨S16x15x64x64, .f32⟩
  | .hbm, ⟨47, _⟩ => ⟨S16x3x256x704, .f32⟩
  | .hbm, ⟨48, _⟩ => ⟨S8192x1024, .bf16⟩
  | .local _ .vmem, ⟨0, _⟩ => ⟨S240x32, .f32⟩
  | .local _ .vmem, ⟨1, _⟩ => ⟨S32x4096, .f32⟩
  | .local _ .vmem, ⟨2, _⟩ => ⟨S240x4096, .f32⟩
  | .local _ .vmem, ⟨3, _⟩ => ⟨S1x15x64x64, .f32⟩
  | .local _ .vmem, ⟨4, _⟩ => ⟨S1x15x64x64, .f32⟩
  | .local _ .vmem, ⟨5, _⟩ => ⟨S1x3x256x704, .f32⟩
  | .local _ .vmem, ⟨6, _⟩ => ⟨S1x3x256x704, .f32⟩
  | .local _ .vmem, ⟨7, _⟩ => ⟨S1x2x4096x64, .bf16⟩
  | .local _ .vmem, ⟨8, _⟩ => ⟨S1x2x4096x64, .bf16⟩
  | .local _ .vmem, ⟨9, _⟩ => ⟨S1x2x4096x64, .bf16⟩
  | .local _ .vmem, ⟨10, _⟩ => ⟨S1x2x4096x64, .bf16⟩
  | .local _ .vmem, ⟨11, _⟩ => ⟨S1x2x4096x64, .bf16⟩
  | .local _ .vmem, ⟨12, _⟩ => ⟨S1x2x4096x64, .bf16⟩
  | .local _ .vmem, ⟨13, _⟩ => ⟨S1x1x2x512x64, .f32⟩
  | .local _ .vmem, ⟨14, _⟩ => ⟨S1x1x2x512x64, .f32⟩
  | .local _ .vmem, ⟨15, _⟩ => ⟨S1x1x2x512x64, .f32⟩
  | .local _ .vmem, ⟨16, _⟩ => ⟨S1x1x2x512x64, .f32⟩
  | .local _ .vmem, ⟨17, _⟩ => ⟨S2x3x256x704, .f32⟩
  | .local _ .vmem, ⟨18, _⟩ => ⟨S2x3x256x704, .f32⟩
  | .local _ .vmem, ⟨19, _⟩ => ⟨S4096x128, .bf16⟩
  | .local _ .vmem, ⟨20, _⟩ => ⟨S4096x128, .bf16⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc2_stg6_0 : Ref sig .tc := ⟨.vmem, 19, rfl⟩
abbrev cc2_stg6_1 : Ref sig .tc := ⟨.vmem, 20, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20

abbrev nD : Nat := 1
abbrev τ : Topo := Topo.v7x

variable {F : FTy → Type} [FloatOps F]

abbrev grid0 : Pipeline.Grid := .none

abbrev stage0_0 : Fin 1 → Memref sig .tc .vmem S240x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x15x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x256x704 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 8], ![false, false]⟩

@[reducible] def k2_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k2_mult1 (k2_t1 : Fin k2_t1_loop.trips) : BitVec 32 :=
  let c0_i32 : BitVec 32 := 0#32
  let c1_i32 : BitVec 32 := 1#32
  let arg9 : BitVec 32 := Scf.iv c0_i32 c1_i32 k2_t1
  let c256_i32 : BitVec 32 := 256#32
  let v21 : BitVec 32 := Scalar.muli arg9 c256_i32
  v21
def k2_mult2 (k2_t1 : Fin k2_t1_loop.trips) : BitVec 32 :=
  let c53_i32 : BitVec 32 := 53#32
  let c0_i32_20 : BitVec 32 := 0#32
  let c0_i32 : BitVec 32 := 0#32
  let c1_i32 : BitVec 32 := 1#32
  let arg9 : BitVec 32 := Scf.iv c0_i32 c1_i32 k2_t1
  let c4_i32 : BitVec 32 := 4#32
  let v13 : BitVec 32 := Scalar.muli arg9 c4_i32
  let c4_i32_19 : BitVec 32 := 4#32
  let v14 : BitVec 32 := Scalar.subi v13 c4_i32_19
  let v15 : BitVec 32 := Scalar.maxsi c0_i32_20 v14
  let v16 : BitVec 32 := Scalar.minsi c53_i32 v15
  let c64_i32 : BitVec 32 := 64#32
  let v23 : BitVec 32 := Scalar.muli v16 c64_i32
  v23
def k2_off1 (k2_t1 : Fin k2_t1_loop.trips) : Fin 4 → Nat :=
  let c0_24 : Index := 0#32
  let c0_25 : Index := 0#32
  let c0_i32 : BitVec 32 := 0#32
  let c1_i32 : BitVec 32 := 1#32
  let arg9 : BitVec 32 := Scf.iv c0_i32 c1_i32 k2_t1
  let c256_i32 : BitVec 32 := 256#32
  let v21 : BitVec 32 := Scalar.muli arg9 c256_i32
  let v22 : BitVec 32 := v21
  let v25 : Index := Scalar.indexCast v22
  let c0_26 : Index := 0#32
  ![0, 0, v25.toNat, 0]
def k2_off2 (k2_t1 : Fin k2_t1_loop.trips) : Fin 4 → Nat :=
  let c0_27 : Index := 0#32
  let c0_28 : Index := 0#32
  let c53_i32 : BitVec 32 := 53#32
  let c0_i32_20 : BitVec 32 := 0#32
  let c0_i32 : BitVec 32 := 0#32
  let c1_i32 : BitVec 32 := 1#32
  let arg9 : BitVec 32 := Scf.iv c0_i32 c1_i32 k2_t1
  let c4_i32 : BitVec 32 := 4#32
  let v13 : BitVec 32 := Scalar.muli arg9 c4_i32
  let c4_i32_19 : BitVec 32 := 4#32
  let v14 : BitVec 32 := Scalar.subi v13 c4_i32_19
  let v15 : BitVec 32 := Scalar.maxsi c0_i32_20 v14
  let v16 : BitVec 32 := Scalar.minsi c53_i32 v15
  let c64_i32 : BitVec 32 := 64#32
  let v23 : BitVec 32 := Scalar.muli v16 c64_i32
  let v24 : BitVec 32 := v23
  let v28 : Index := Scalar.indexCast v24
  let c0_29 : Index := 0#32
  ![0, 0, v28.toNat, 0]
def k2_off3 (k2_t1 : Fin k2_t1_loop.trips) : Fin 4 → Nat :=
  let c0_30 : Index := 0#32
  let c0_i32 : BitVec 32 := 0#32
  let c1_i32 : BitVec 32 := 1#32
  let arg9 : BitVec 32 := Scf.iv c0_i32 c1_i32 k2_t1
  let c0_i32_21 : BitVec 32 := 0#32
  let v17 : BitVec 1 := Scalar.cmpi .eq arg9 c0_i32_21
  let c0_i32_23 : BitVec 32 := 0#32
  let c15_i32 : BitVec 32 := 15#32
  let v18 : BitVec 1 := Scalar.cmpi .eq arg9 c15_i32
  let c2_i32 : BitVec 32 := 2#32
  let c1_i32_22 : BitVec 32 := 1#32
  let v19 : BitVec 32 := Scalar.select v18 c2_i32 c1_i32_22
  let v20 : BitVec 32 := Scalar.select v17 c0_i32_23 v19
  let v35 : Index := Scalar.indexCast v20
  let c0_31 : Index := 0#32
  let c0_32 : Index := 0#32
  ![0, v35.toNat, 0, 0]
def k2_off4 (k2_t1 : Fin k2_t1_loop.trips) : Fin 2 → Nat :=
  let c0_i32 : BitVec 32 := 0#32
  let c1_i32 : BitVec 32 := 1#32
  let arg9 : BitVec 32 := Scf.iv c0_i32 c1_i32 k2_t1
  let c256_i32 : BitVec 32 := 256#32
  let v21 : BitVec 32 := Scalar.muli arg9 c256_i32
  let v22 : BitVec 32 := v21
  let v56 : Index := Scalar.indexCast v22
  let c0_39 : Index := 0#32
  ![v56.toNat, 0]
def k2_off5 (k2_t1 : Fin k2_t1_loop.trips) : Fin 4 → Nat :=
  let c0_40 : Index := 0#32
  let c1_41 : Index := 1#32
  let c0_i32 : BitVec 32 := 0#32
  let c1_i32 : BitVec 32 := 1#32
  let arg9 : BitVec 32 := Scf.iv c0_i32 c1_i32 k2_t1
  let c256_i32 : BitVec 32 := 256#32
  let v21 : BitVec 32 := Scalar.muli arg9 c256_i32
  let v22 : BitVec 32 := v21
  let v58 : Index := Scalar.indexCast v22
  let c0_42 : Index := 0#32
  ![0, 1, v58.toNat, 0]
def k2_off6 (k2_t1 : Fin k2_t1_loop.trips) : Fin 4 → Nat :=
  let c0_43 : Index := 0#32
  let c1_44 : Index := 1#32
  let c53_i32 : BitVec 32 := 53#32
  let c0_i32_20 : BitVec 32 := 0#32
  let c0_i32 : BitVec 32 := 0#32
  let c1_i32 : BitVec 32 := 1#32
  let arg9 : BitVec 32 := Scf.iv c0_i32 c1_i32 k2_t1
  let c4_i32 : BitVec 32 := 4#32
  let v13 : BitVec 32 := Scalar.muli arg9 c4_i32
  let c4_i32_19 : BitVec 32 := 4#32
  let v14 : BitVec 32 := Scalar.subi v13 c4_i32_19
  let v15 : BitVec 32 := Scalar.maxsi c0_i32_20 v14
  let v16 : BitVec 32 := Scalar.minsi c53_i32 v15
  let c64_i32 : BitVec 32 := 64#32
  let v23 : BitVec 32 := Scalar.muli v16 c64_i32
  let v24 : BitVec 32 := v23
  let v61 : Index := Scalar.indexCast v24
  let c0_45 : Index := 0#32
  ![0, 1, v61.toNat, 0]
def k2_off7 (k2_t1 : Fin k2_t1_loop.trips) : Fin 4 → Nat :=
  let c1_47 : Index := 1#32
  let c0_i32 : BitVec 32 := 0#32
  let c1_i32 : BitVec 32 := 1#32
  let arg9 : BitVec 32 := Scf.iv c0_i32 c1_i32 k2_t1
  let c0_i32_21 : BitVec 32 := 0#32
  let v17 : BitVec 1 := Scalar.cmpi .eq arg9 c0_i32_21
  let c0_i32_23 : BitVec 32 := 0#32
  let c15_i32 : BitVec 32 := 15#32
  let v18 : BitVec 1 := Scalar.cmpi .eq arg9 c15_i32
  let c2_i32 : BitVec 32 := 2#32
  let c1_i32_22 : BitVec 32 := 1#32
  let v19 : BitVec 32 := Scalar.select v18 c2_i32 c1_i32_22
  let v20 : BitVec 32 := Scalar.select v17 c0_i32_23 v19
  let v68 : Index := Scalar.indexCast v20
  let c0_48 : Index := 0#32
  let c0_49 : Index := 0#32
  ![1, v68.toNat, 0, 0]
def k2_off8 (k2_t1 : Fin k2_t1_loop.trips) : Fin 2 → Nat :=
  let c0_i32 : BitVec 32 := 0#32
  let c1_i32 : BitVec 32 := 1#32
  let arg9 : BitVec 32 := Scf.iv c0_i32 c1_i32 k2_t1
  let c256_i32 : BitVec 32 := 256#32
  let v21 : BitVec 32 := Scalar.muli arg9 c256_i32
  let v22 : BitVec 32 := v21
  let v89 : Index := Scalar.indexCast v22
  let c64 : Index := 64#32
  ![v89.toNat, 64]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_4 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x2x4096x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2x4096x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2x4096x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x2x512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x2x512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S2x3x256x704 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S4096x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S2x16x4096x64 : Shape := ⟨4, ![2, 16, 4096, 64]⟩
abbrev S2x1x16x512x64 : Shape := ⟨5, ![2, 1, 16, 512, 64]⟩
abbrev S16x15x31 : Shape := ⟨3, ![16, 15, 31]⟩
abbrev S2x16x512x64 : Shape := ⟨4, ![2, 16, 512, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S16x465 : Shape := ⟨2, ![16, 465]⟩
abbrev S64x64x64x64x1 : Shape := ⟨5, ![64, 64, 64, 64, 1]⟩
abbrev S16x64x64x64x64 : Shape := ⟨5, ![16, 64, 64, 64, 64]⟩
abbrev S16x4096x4096 : Shape := ⟨3, ![16, 4096, 4096]⟩
abbrev S2x16x4096x4096 : Shape := ⟨4, ![2, 16, 4096, 4096]⟩
abbrev S1x16x4096x4096 : Shape := ⟨4, ![1, 16, 4096, 4096]⟩
abbrev S2x16x4096x512 : Shape := ⟨4, ![2, 16, 4096, 512]⟩
abbrev S2x16x4096x4608 : Shape := ⟨4, ![2, 16, 4096, 4608]⟩
abbrev S2x16x4096 : Shape := ⟨3, ![2, 16, 4096]⟩
abbrev S2x16x4096x1 : Shape := ⟨4, ![2, 16, 4096, 1]⟩
abbrev S2x4096x16x64 : Shape := ⟨4, ![2, 4096, 16, 64]⟩
abbrev S8192x1024 : Shape := ⟨2, ![8192, 1024]⟩

abbrev nBuf : Space → Nat
  | .hbm => 131
  | .vmem => 0
  | .smem => 0
  | _ => 0

abbrev hbmTy0_0 (i : Nat) : BufTy := match i % 128 with
  | 0 => ⟨S2x16x4096x64, .f32⟩
  | 1 => ⟨S2x16x4096x64, .f32⟩
  | 2 => ⟨S2x16x4096x64, .f32⟩
  | 3 => ⟨S2x1x16x512x64, .f32⟩
  | 4 => ⟨S2x1x16x512x64, .f32⟩
  | 5 => ⟨S16x15x31, .f32⟩
  | 6 => ⟨S2x16x512x64, .f32⟩
  | 7 => ⟨S2x16x512x64, .f32⟩
  | 8 => ⟨S64, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S_, .i32⟩
  | 16 => ⟨S64, .i32⟩
  | 17 => ⟨S64, .i32⟩
  | 18 => ⟨S64x1, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S1x64, .i32⟩
  | 30 => ⟨S64x64, .i32⟩
  | 31 => ⟨S64x64, .i32⟩
  | 32 => ⟨S64x64, .i1⟩
  | 33 => ⟨S1x64, .i32⟩
  | 34 => ⟨S_, .i32⟩
  | 35 => ⟨S64x1, .i32⟩
  | 36 => ⟨S64x1, .i32⟩
  | 37 => ⟨S64x64, .i32⟩
  | 38 => ⟨S64x64, .i32⟩
  | 39 => ⟨S64x64, .i1⟩
  | 40 => ⟨S64x64, .i1⟩
  | 41 => ⟨S1x64, .i32⟩
  | 42 => ⟨S64x64, .i32⟩
  | 43 => ⟨S64x64, .i32⟩
  | 44 => ⟨S64x64, .i1⟩
  | 45 => ⟨S1x64, .i32⟩
  | 46 => ⟨S_, .i32⟩
  | 47 => ⟨S64x1, .i32⟩
  | 48 => ⟨S64x1, .i32⟩
  | 49 => ⟨S64x64, .i32⟩
  | 50 => ⟨S64x64, .i32⟩
  | 51 => ⟨S64x64, .i1⟩
  | 52 => ⟨S64x64, .i1⟩
  | 53 => ⟨S1x64, .i32⟩
  | 54 => ⟨S64x1, .i32⟩
  | 55 => ⟨S64x64, .i32⟩
  | 56 => ⟨S64x64, .i32⟩
  | 57 => ⟨S64x64, .i32⟩
  | 58 => ⟨S_, .i32⟩
  | 59 => ⟨S64x64, .i32⟩
  | 60 => ⟨S64x64, .i32⟩
  | 61 => ⟨S_, .i32⟩
  | 62 => ⟨S64x64, .i32⟩
  | 63 => ⟨S64x64, .i32⟩
  | 64 => ⟨S_, .i32⟩
  | 65 => ⟨S64x64, .i32⟩
  | 66 => ⟨S64x64, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S64x1x64x1, .i32⟩
  | 77 => ⟨S_, .i32⟩
  | 78 => ⟨S64x1x64x1, .i32⟩
  | 79 => ⟨S64x1x64x1, .i32⟩
  | 80 => ⟨S1x64x1x64, .i32⟩
  | 81 => ⟨S64x64x64x64, .i32⟩
  | 82 => ⟨S64x64x64x64, .i32⟩
  | 83 => ⟨S64x64x64x64, .i32⟩
  | 84 => ⟨S16x465, .f32⟩
  | 85 => ⟨S64x64x64x64x1, .i32⟩
  | 86 => ⟨S16x64x64x64x64, .f32⟩
  | 87 => ⟨S64x1x64x1, .i1⟩
  | 88 => ⟨S1x64x1x64, .i1⟩
  | 89 => ⟨S64x64x64x64, .i1⟩
  | 90 => ⟨S64x64x64x64, .i1⟩
  | 91 => ⟨S64x64x64x64, .i1⟩
  | 92 => ⟨S16x64x64x64x64, .i1⟩
  | 93 => ⟨S_, .f32⟩
  | 94 => ⟨S16x64x64x64x64, .f32⟩
  | 95 => ⟨S16x64x64x64x64, .f32⟩
  | 96 => ⟨S16x4096x4096, .f32⟩
  | 97 => ⟨S2x16x4096x4096, .f32⟩
  | 98 => ⟨S_, .f32⟩
  | 99 => ⟨S2x16x4096x4096, .f32⟩
  | 100 => ⟨S2x16x4096x4096, .f32⟩
  | 101 => ⟨S1x16x4096x4096, .f32⟩
  | 102 => ⟨S2x16x4096x4096, .f32⟩
  | 103 => ⟨S2x16x4096x4096, .f32⟩
  | 104 => ⟨S2x16x4096x512, .f32⟩
  | 105 => ⟨S_, .f32⟩
  | 106 => ⟨S2x16x4096x512, .f32⟩
  | 107 => ⟨S2x16x4096x512, .f32⟩
  | 108 => ⟨S2x16x4096x4608, .f32⟩
  | 109 => ⟨S_, .f32⟩
  | 110 => ⟨S2x16x4096, .f32⟩
  | 111 => ⟨S_, .f32⟩
  | 112 => ⟨S2x16x4096, .f32⟩
  | 113 => ⟨S2x16x4096, .f32⟩
  | 114 => ⟨S2x16x4096x1, .f32⟩
  | 115 => ⟨S2x16x4096x4608, .f32⟩
  | 116 => ⟨S2x16x4096x4608, .f32⟩
  | 117 => ⟨S2x16x4096x4608, .f32⟩
  | 118 => ⟨S_, .f32⟩
  | 119 => ⟨S2x16x4096, .f32⟩
  | 120 => ⟨S2x16x4096x1, .f32⟩
  | 121 => ⟨S2x16x4096x4608, .f32⟩
  | 122 => ⟨S2x16x4096x4608, .f32⟩
  | 123 => ⟨S2x16x4096x4096, .f32⟩
  | 124 => ⟨S2x16x4096x64, .f32⟩
  | 125 => ⟨S2x16x4096x512, .f32⟩
  | 126 => ⟨S2x16x4096x64, .f32⟩
  | 127 => ⟨S2x16x4096x64, .f32⟩
  | _ => ⟨S2x16x4096x64, .f32⟩

abbrev hbmTy0_1 (i : Nat) : BufTy := match i % 128 with
  | 0 => ⟨S2x4096x16x64, .f32⟩
  | 1 => ⟨S8192x1024, .f32⟩
  | 2 => ⟨S8192x1024, .bf16⟩
  | _ => ⟨S2x16x4096x64, .f32⟩

abbrev hbmTy (i : Nat) : BufTy := match i / 128 with
  | 0 => hbmTy0_0 i
  | 1 => hbmTy0_1 i
  | _ => ⟨S2x16x4096x64, .f32⟩

abbrev bufTy : (tb : Table) → Fin (tcTables nBuf tb) → BufTy
  | .hbm, ⟨i, _⟩ => hbmTy i
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_cst_17 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_18 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S8x6144 : Shape := ⟨2, ![8, 6144]⟩
abbrev S1024x3072 : Shape := ⟨2, ![1024, 3072]⟩
abbrev S8x6x1024 : Shape := ⟨3, ![8, 6, 1024]⟩
abbrev S6x8x1024 : Shape := ⟨3, ![6, 8, 1024]⟩
abbrev S48x1x1024 : Shape := ⟨3, ![48, 1, 1024]⟩
abbrev S1x1024 : Shape := ⟨2, ![1, 1024]⟩
abbrev S32x16x256x64 : Shape := ⟨4, ![32, 16, 256, 64]⟩
abbrev S256x1024 : Shape := ⟨2, ![256, 1024]⟩
abbrev S1x1x1024 : Shape := ⟨3, ![1, 1, 1024]⟩
abbrev S1x16x256x64 : Shape := ⟨4, ![1, 16, 256, 64]⟩
abbrev S256 : Shape := ⟨1, ![256]⟩
abbrev S256x1 : Shape := ⟨2, ![256, 1]⟩
abbrev S256x3072 : Shape := ⟨2, ![256, 3072]⟩
abbrev S256x64 : Shape := ⟨2, ![256, 64]⟩
abbrev S1x1x256x64 : Shape := ⟨4, ![1, 1, 256, 64]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6144, .f32⟩
  | .hbm, ⟨3, _⟩ => ⟨S1024x3072, .f32⟩
  | .hbm, ⟨4, _⟩ => ⟨S8x6x1024, .f32⟩
  | .hbm, ⟨5, _⟩ => ⟨S6x8x1024, .f32⟩
  | .hbm, ⟨6, _⟩ => ⟨S48x1x1024, .f32⟩
  | .hbm, ⟨7, _⟩ => ⟨S1024x3072, .bf16⟩
  | .hbm, ⟨8, _⟩ => ⟨S1x1024, .f32⟩
  | .hbm, ⟨9, _⟩ => ⟨S32x16x256x64, .bf16⟩
  | .hbm, ⟨10, _⟩ => ⟨S32x16x256x64, .f32⟩
  | .hbm, ⟨11, _⟩ => ⟨S32x16x256x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x16x256x64, .bf16⟩
  | .local _ .vmem, ⟨9, _⟩ => ⟨S1x16x256x64, .bf16⟩
  | .local _ .vmem, ⟨10, _⟩ => ⟨S1x16x256x64, .f32⟩
  | .local _ .vmem, ⟨11, _⟩ => ⟨S1x16x256x64, .f32⟩
  | .local _ .vmem, ⟨12, _⟩ => ⟨S1x16x256x64, .f32⟩
  | .local _ .vmem, ⟨13, _⟩ => ⟨S1x16x256x64, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 1 := Scalar.cmpi .slt v0 c32_i32
  let c32_i32_0 : BitVec 32 := 32#32
  let v2 : BitVec 32 := Scalar.subi v0 c32_i32_0
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c8_i32 : BitVec 32 := 8#32
  let v22 : BitVec 32 := Scalar.addi c8_i32 v21
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 1 := Scalar.cmpi .slt v0 c32_i32
  let c32_i32_0 : BitVec 32 := 32#32
  let v2 : BitVec 32 := Scalar.subi v0 c32_i32_0
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let v22 : BitVec 32 := Scalar.addi c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_6 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_7 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1024 : Shape := ⟨1, ![1024]⟩
abbrev S8x6144 : Shape := ⟨2, ![8, 6144]⟩
abbrev S1024x3072 : Shape := ⟨2, ![1024, 3072]⟩
abbrev S8192x1024 : Shape := ⟨2, ![8192, 1024]⟩
abbrev S32x256x1024 : Shape := ⟨3, ![32, 256, 1024]⟩
abbrev S1x6144 : Shape := ⟨2, ![1, 6144]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S32x256x3x16x64 : Shape := ⟨5, ![32, 256, 3, 16, 64]⟩
abbrev S3x32x16x256x64 : Shape := ⟨5, ![3, 32, 16, 256, 64]⟩
abbrev S1x32x16x256x64 : Shape := ⟨5, ![1, 32, 16, 256, 64]⟩
abbrev S32x16x256x64 : Shape := ⟨4, ![32, 16, 256, 64]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6144, .f32⟩
  | .hbm, ⟨3, _⟩ => ⟨S1024x3072, .f32⟩
  | .hbm, ⟨4, _⟩ => ⟨S8192x1024, .f32⟩
  | .hbm, ⟨5, _⟩ => ⟨S32x256x1024, .f32⟩
  | .hbm, ⟨6, _⟩ => ⟨S1x6144, .f32⟩
  | .hbm, ⟨7, _⟩ => ⟨S1x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S32x256x1024, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x256x3072, .f32⟩
  | .hbm, ⟨35, _⟩ => ⟨S32x256x3x16x64, .f32⟩
  | .hbm, ⟨36, _⟩ => ⟨S3x32x16x256x64, .f32⟩
  | .hbm, ⟨37, _⟩ => ⟨S1x32x16x256x64, .f32⟩
  | .hbm, ⟨38, _⟩ => ⟨S32x16x256x64, .f32⟩
  | .hbm, ⟨39, _⟩ => ⟨S1x32x16x256x64, .f32⟩
  | .hbm, ⟨40, _⟩ => ⟨S32x16x256x64, .f32⟩
  | .hbm, ⟨41, _⟩ => ⟨S1x32x16x256x64, .f32⟩
  | .hbm, ⟨42, _⟩ => ⟨S32x16x256x64, .f32⟩
  | .hbm, ⟨43, _⟩ => ⟨S_, .f32⟩
  | .hbm, ⟨44, _⟩ => ⟨S32x16x256x64, .f32⟩
  | .hbm, ⟨45, _⟩ => ⟨S32x16x256x64, .f32⟩
  | .hbm, ⟨46, _⟩ => ⟨S32x16x256x64, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel3.lean ====
abbrev S32x256x1024 : Shape := ⟨3, ![32, 256, 1024]⟩
abbrev S2x4096x1024 : Shape := ⟨3, ![2, 4096, 1024]⟩
abbrev S1024 : Shape := ⟨1, ![1024]⟩
abbrev S8x6144 : Shape := ⟨2, ![8, 6144]⟩
abbrev S1024x3072 : Shape := ⟨2, ![1024, 3072]⟩
abbrev S8192x1024 : Shape := ⟨2, ![8192, 1024]⟩
abbrev S8x6x1024 : Shape := ⟨3, ![8, 6, 1024]⟩
abbrev S6x8x1024 : Shape := ⟨3, ![6, 8, 1024]⟩
abbrev S48x1x1024 : Shape := ⟨3, ![48, 1, 1024]⟩
abbrev S1x1024 : Shape := ⟨2, ![1, 1024]⟩
abbrev S16384x3072 : Shape := ⟨2, ![16384, 3072]⟩
abbrev S512x1024 : Shape := ⟨2, ![512, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S2x4096x1024, .f32⟩
  | .hbm, ⟨2, _⟩ => ⟨S1024, .f32⟩
  | .hbm, ⟨3, _⟩ => ⟨S8x6144, .f32⟩
  | .hbm, ⟨4, _⟩ => ⟨S1024x3072, .f32⟩
  | .hbm, ⟨5, _⟩ => ⟨S8192x1024, .f32⟩
  | .hbm, ⟨6, _⟩ => ⟨S8192x1024, .f32⟩
  | .hbm, ⟨7, _⟩ => ⟨S8x6x1024, .f32⟩
  | .hbm, ⟨8, _⟩ => ⟨S6x8x1024, .f32⟩
  | .hbm, ⟨9, _⟩ => ⟨S48x1x1024, .f32⟩
  | .hbm, ⟨10, _⟩ => ⟨S1024x3072, .bf16⟩
  | .hbm, ⟨11, _⟩ => ⟨S1x1024, .f32⟩
  | .hbm, ⟨12, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x3072, .bf16⟩
  | .local _ .vmem, ⟨10, _⟩ => ⟨S512x3072, .f32⟩
  | .local _ .vmem, ⟨11, _⟩ => ⟨S512x3072, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c8_i32_8 : BitVec 32 := 8#32
  let v22 : BitVec 32 := Scalar.addi c8_i32_8 v21
  let c0_i32_9 : BitVec 32 := 0#32
  let c0_i32_10 : BitVec 32 := 0#32
  let c0_i32_11 : BitVec 32 := 0#32
  ![v22.toNat, c0_i32_9.toNat, c0_i32_10.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let v22 : BitVec 32 := Scalar.addi c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32x256x1024 : Shape := ⟨3, ![32, 256, 1024]⟩
abbrev S2x4096x1024 : Shape := ⟨3, ![2, 4096, 1024]⟩
abbrev S1024 : Shape := ⟨1, ![1024]⟩
abbrev S8x6144 : Shape := ⟨2, ![8, 6144]⟩
abbrev S1024x3072 : Shape := ⟨2, ![1024, 3072]⟩
abbrev S1x6144 : Shape := ⟨2, ![1, 6144]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S2x6144 : Shape := ⟨2, ![2, 6144]⟩
abbrev S2x1024 : Shape := ⟨2, ![2, 1024]⟩
abbrev S2x1x1024 : Shape := ⟨3, ![2, 1, 1024]⟩
abbrev S2x4096 : Shape := ⟨2, ![2, 4096]⟩
abbrev S2x4096x1 : Shape := ⟨3, ![2, 4096, 1]⟩
abbrev S2x4096x3072 : Shape := ⟨3, ![2, 4096, 3072]⟩
abbrev S8192x3072 : Shape := ⟨2, ![8192, 3072]⟩
abbrev S16384x3072 : Shape := ⟨2, ![16384, 3072]⟩

abbrev nBuf : Space → Nat
  | .hbm => 66
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x4096x1024, .f32⟩
  | .hbm, ⟨2, _⟩ => ⟨S1024, .f32⟩
  | .hbm, ⟨3, _⟩ => ⟨S8x6144, .f32⟩
  | .hbm, ⟨4, _⟩ => ⟨S1024x3072, .f32⟩
  | .hbm, ⟨5, _⟩ => ⟨S1x6144, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S32x256x1024, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x3072, .f32⟩
  | .hbm, ⟨34, _⟩ => ⟨S2x6144, .f32⟩
  | .hbm, ⟨35, _⟩ => ⟨S2x1024, .f32⟩
  | .hbm, ⟨36, _⟩ => ⟨S2x1x1024, .f32⟩
  | .hbm, ⟨37, _⟩ => ⟨S2x1024, .f32⟩
  | .hbm, ⟨38, _⟩ => ⟨S2x1x1024, .f32⟩
  | .hbm, ⟨39, _⟩ => ⟨S2x4096x1024, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x1, .f32⟩
  | .hbm, ⟨50, _⟩ => ⟨S2x4096x1024, .f32⟩
  | .hbm, ⟨51, _⟩ => ⟨S2x4096x1024, .f32⟩
  | .hbm, ⟨52, _⟩ => ⟨S1x1x1024, .f32⟩
  | .hbm, ⟨53, _⟩ => ⟨S2x4096x1024, .f32⟩
  | .hbm, ⟨54, _⟩ => ⟨S2x4096x1024, .f32⟩
  | .hbm, ⟨55, _⟩ => ⟨S_, .f32⟩
  | .hbm, ⟨56, _⟩ => ⟨S2x1x1024, .f32⟩
  | .hbm, ⟨57, _⟩ => ⟨S2x1x1024, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S2x4096x1024, .f32⟩
  | .hbm, ⟨62, _⟩ => ⟨S2x4096x3072, .f32⟩
  | .hbm, ⟨63, _⟩ => ⟨S8192x3072, .f32⟩
  | .hbm, ⟨64, _⟩ => ⟨S8192x3072, .f32⟩
  | .hbm, ⟨65, _⟩ => ⟨S16384x3072, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Kernel4.lean ====
abbrev S32x256x1024 : Shape := ⟨3, ![32, 256, 1024]⟩
abbrev S2x4096x1024 : Shape := ⟨3, ![2, 4096, 1024]⟩
abbrev S1024x1024 : Shape := ⟨2, ![1024, 1024]⟩
abbrev S8x6144 : Shape := ⟨2, ![8, 6144]⟩
abbrev S8192x1024 : Shape := ⟨2, ![8192, 1024]⟩
abbrev S8x6x1024 : Shape := ⟨3, ![8, 6, 1024]⟩
abbrev S6x8x1024 : Shape := ⟨3, ![6, 8, 1024]⟩
abbrev S48x1x1024 : Shape := ⟨3, ![48, 1, 1024]⟩
abbrev S16384x1024 : Shape := ⟨2, ![16384, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 17
  | .vmem => 13
  | .smem => 0
  | _ => 0

abbrev bufTy : (tb : Table) → Fin (tcTables nBuf tb) → BufTy
  | .hbm, ⟨0, _⟩ => ⟨S32x256x1024, .f32⟩
  | .hbm, ⟨1, _⟩ => ⟨S2x4096x1024, .f32⟩
  | .hbm, ⟨2, _⟩ => ⟨S1024x1024, .f32⟩
  | .hbm, ⟨3, _⟩ => ⟨S32x256x1024, .f32⟩
  | .hbm, ⟨4, _⟩ => ⟨S2x4096x1024, .f32⟩
  | .hbm, ⟨5, _⟩ => ⟨S8x6144, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S1024x1024, .bf16⟩
  | .hbm, ⟨11, _⟩ => ⟨S8192x1024, .f32⟩
  | .hbm, ⟨12, _⟩ => ⟨S8192x1024, .f32⟩
  | .hbm, ⟨13, _⟩ => ⟨S8x6x1024, .f32⟩
  | .hbm, ⟨14, _⟩ => ⟨S6x8x1024, .f32⟩
  | .hbm, ⟨15, _⟩ => ⟨S48x1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_5 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 1 := Scalar.cmpi .slt v0 c16_i32
  let c16_i32_0 : BitVec 32 := 16#32
  let v2 : BitVec 32 := Scalar.subi v0 c16_i32_0
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c16_i32_8 : BitVec 32 := 16#32
  let v22 : BitVec 32 := Scalar.addi c16_i32_8 v21
  let c0_i32_9 : BitVec 32 := 0#32
  let c0_i32_10 : BitVec 32 := 0#32
  let c0_i32_11 : BitVec 32 := 0#32
  ![v22.toNat, c0_i32_9.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32x256x1024 : Shape := ⟨3, ![32, 256, 1024]⟩
abbrev S2x4096x1024 : Shape := ⟨3, ![2, 4096, 1024]⟩
abbrev S1024x1024 : Shape := ⟨2, ![1024, 1024]⟩
abbrev S8x6144 : Shape := ⟨2, ![8, 6144]⟩
abbrev S8x1024 : Shape := ⟨2, ![8, 1024]⟩
abbrev S8x1x1024 : Shape := ⟨3, ![8, 1, 1024]⟩
abbrev S1x1x1024 : Shape := ⟨3, ![1, 1, 1024]⟩
abbrev S2x1x1024 : Shape := ⟨3, ![2, 1, 1024]⟩
abbrev S8192x1024 : Shape := ⟨2, ![8192, 1024]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x4096x1024, .f32⟩
  | .hbm, ⟨2, _⟩ => ⟨S1024x1024, .f32⟩
  | .hbm, ⟨3, _⟩ => ⟨S32x256x1024, .f32⟩
  | .hbm, ⟨4, _⟩ => ⟨S2x4096x1024, .f32⟩
  | .hbm, ⟨5, _⟩ => ⟨S8x6144, .f32⟩
  | .hbm, ⟨6, _⟩ => ⟨S8x1024, .f32⟩
  | .hbm, ⟨7, _⟩ => ⟨S8x1x1024, .f32⟩
  | .hbm, ⟨8, _⟩ => ⟨S1x1x1024, .f32⟩
  | .hbm, ⟨9, _⟩ => ⟨S32x256x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S8192x1024, .f32⟩
  | .hbm, ⟨19, _⟩ => ⟨S8192x1024, .f32⟩
  | .hbm, ⟨20, _⟩ => ⟨S16384x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S81920x1024 : Shape := ⟨2, ![81920, 1024]⟩
abbrev S160 : Shape := ⟨1, ![160]⟩
abbrev S1 : Shape := ⟨1, ![1]⟩
abbrev S2x32x1024x1024 : Shape := ⟨4, ![2, 32, 1024, 1024]⟩
abbrev S2x32x1024 : Shape := ⟨3, ![2, 32, 1024]⟩
abbrev S655360x128 : Shape := ⟨2, ![655360, 128]⟩
abbrev S2x32x1x1024 : Shape := ⟨4, ![2, 32, 1, 1024]⟩
abbrev S4096x128 : Shape := ⟨2, ![4096, 128]⟩
abbrev S1x1x1x1024 : Shape := ⟨4, ![1, 1, 1, 1024]⟩
abbrev S2x3x1024x1024 : Shape := ⟨4, ![2, 3, 1024, 1024]⟩
abbrev S1024x1024 : Shape := ⟨2, ![1024, 1024]⟩
abbrev S2 : Shape := ⟨1, ![2]⟩
abbrev S_ : Shape := ⟨0, ![]⟩
abbrev S1x1x1024x1024 : Shape := ⟨4, ![1, 1, 1024, 1024]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 12
  | .vmem => 14
  | .smem => 4
  | _ => 0

abbrev bufTy : (tb : Table) → Fin (tcTables nBuf tb) → BufTy
  | .hbm, ⟨0, _⟩ => ⟨S81920x1024, .f32⟩
  | .hbm, ⟨1, _⟩ => ⟨S2x32x1024x1024, .f32⟩
  | .hbm, ⟨2, _⟩ => ⟨S2x32x1024, .f32⟩
  | .hbm, ⟨3, _⟩ => ⟨S2x32x1024x1024, .f32⟩
  | .hbm, ⟨4, _⟩ => ⟨S2x32x1024, .f32⟩
  | .hbm, ⟨5, _⟩ => ⟨S2x32x1024x1024, .f32⟩
  | .hbm, ⟨6, _⟩ => ⟨S2x32x1024, .f32⟩
  | .hbm, ⟨7, _⟩ => ⟨S655360x128, .f32⟩
  | .hbm, ⟨8, _⟩ => ⟨S2x32x1x1024, .f32⟩
  | .hbm, ⟨9, _⟩ => ⟨S2x32x1x1024, .f32⟩
  | .hbm, ⟨10, _⟩ => ⟨S2x32x1x1024, .f32⟩
  | .hbm, ⟨11, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S4096x128, .f32⟩
  | .local _ .vmem, ⟨9, _⟩ => ⟨S4096x128, .f32⟩
  | .local _ .vmem, ⟨10, _⟩ => ⟨S2x3x1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32_0 : BitVec 32 := 0#32
  let v5 : BitVec 32 := Scalar.maxsi v4 c0_i32_0
  let v6 : Index := Scalar.indexCast v5
  ![v6.toNat]
def k0_off3 (v27 : BitVec 32) : Fin 1 → Nat :=
  ![v27.toNat]
def k0_cond1 (i : grid0.Coords) (v0 : BitVec 32) : BitVec 1 :=
  let arg0 : BitVec 32 := BitVec.ofNat 32 (i 0).val
  let c0_i32_1 : BitVec 32 := 0#32
  let v12 : BitVec 1 := Scalar.cmpi .eq arg0 c0_i32_1
  let c0_i32_2 : BitVec 32 := 0#32
  let v13 : BitVec 1 := Scalar.cmpi .sgt v0 c0_i32_2
  let v14 : BitVec 1 := Scalar.andi v12 v13
  let v15 : BitVec 32 := Scalar.extui v14
  let c0_i32_3 : BitVec 32 := 0#32
  let v16 : BitVec 1 := Scalar.cmpi .ne v15 c0_i32_3
  v16

def k0_off4 (v27 : BitVec 32) : Fin 4 → Nat :=
  let c0_i32_11 : BitVec 32 := 0#32
  let c0_i32_12 : BitVec 32 := 0#32
  let c0_i32_13 : BitVec 32 := 0#32
  ![v27.toNat, 0, 0, 0]
def k0_off5 (v26 : BitVec 32) : Fin 4 → Nat :=
  let c0_i32_10 : BitVec 32 := 0#32
  let c0_i32_14 : BitVec 32 := 0#32
  let c0_i32_15 : BitVec 32 := 0#32
  ![0, v26.toNat, 0, 0]

def k0_chk2 (i : grid0.Coords) (v0 : BitVec 32) (v26 : BitVec 32) : Prop :=
  (∀ (k0_h1 : k0_cond1 i v0 = 1#1), ∀ a, (k0_off5 v26) a + S1x1x1024x1024.size a ≤ S2x32x1024x1024.size a)
theorem k0_off5_inb : ∀ (i : grid0.Coords) (v0 : BitVec 32) (v26 : BitVec 32) (k0_hw2 : k0_chk2 i v0 v26), ∀ (k0_h1 : k0_cond1 i v0 = 1#1), ∀ a, (k0_off5 v26) a + S1x1x1024x1024.size a ≤ S2x32x1024x1024.size a := fun i v0 v26 k0_hw2 k0_h1 => k0_hw2 k0_h1

def k0_off6 (v27 : BitVec 32) : Fin 1 → Nat :=
  ![v27.toNat]
def k0_off7 (v27 : BitVec 32) : Fin 4 → Nat :=
  let c1_i32_17 : BitVec 32 := 1#32
  let c0_i32_18 : BitVec 32 := 0#32
  let c0_i32_19 : BitVec 32 := 0#32
  ![v27.toNat, 1, 0, 0]
def k0_off8 (v27 : BitVec 32) : Fin 4 → Nat :=
  let c2_i32 : BitVec 32 := 2#32
  let c0_i32_23 : BitVec 32 := 0#32
  let c0_i32_24 : BitVec 32 := 0#32
  ![v27.toNat, 2, 0, 0]

def k0_chk1 (i : grid0.Coords) (v0 : BitVec 32) (v27 : BitVec 32) : Prop :=
  (∀ (k0_h1 : k0_cond1 i v0 = 1#1), ∀ a, (k0_off3 v27) a + S1.size a ≤ S2.size a) ∧
  (∀ (k0_h1 : k0_cond1 i v0 = 1#1), ∀ a, (k0_off4 v27) a + S1x1x1024x1024.size a ≤ S2x3x1024x1024.size a) ∧
  (∀ (k0_h1 : k0_cond1 i v0 = 1#1), ∀ a, (k0_off6 v27) a + S1.size a ≤ S2.size a) ∧
  (∀ (k0_h1 : k0_cond1 i v0 = 1#1), ∀ a, (k0_off7 v27) a + S1x1x1024x1024.size a ≤ S2x3x1024x1024.size a) ∧
  (∀ (k0_h1 : k0_cond1 i v0 = 1#1), ∀ a, (k0_off8 v27) a + S1x1x1024x1024.size a ≤ S2x3x1024x1024.size a)
theorem k0_off3_inb : ∀ (i : grid0.Coords) (v0 : BitVec 32) (v27 : BitVec 32) (k0_hw1 : k0_chk1 i v0 v27), ∀ (k0_h1 : k0_cond1 i v0 = 1#1), ∀ a, (k0_off3 v27) a + S1.size a ≤ S2.size a := fun i v0 v27 k0_hw1 k0_h1 => k0_hw1.1 k0_h1
theorem k0_off4_inb : ∀ (i : grid0.Coords) (v0 : BitVec 32) (v27 : BitVec 32) (k0_hw1 : k0_chk1 i v0 v27), ∀ (k0_h1 : k0_cond1 i v0 = 1#1), ∀ a, (k0_off4 v27) a + S1x1x1024x1024.size a ≤ S2x3x1024x1024.size a := fun i v0 v27 k0_hw1 k0_h1 => k0_hw1.2.1 k0_h1
theorem k0_off6_inb : ∀ (i : grid0.Coords) (v0 : BitVec 32) (v27 : BitVec 32) (k0_hw1 : k0_chk1 i v0 v27), ∀ (k0_h1 : k0_cond1 i v0 = 1#1), ∀ a, (k0_off6 v27) a + S1.size a ≤ S2.size a := fun i v0 v27 k0_hw1 k0_h1 => k0_hw1.2.2.1 k0_h1
theorem k0_off7_inb : ∀ (i : grid0.Coords) (v0 : BitVec 32) (v27 : BitVec 32) (k0_hw1 : k0_chk1 i v0 v27), ∀ (k0_h1 : k0_cond1 i v0 = 1#1), ∀ a, (k0_off7 v27) a + S1x1x1024x1024.size a ≤ S2x3x1024x1024.size a := fun i v0 v27 k0_hw1 k0_h1 => k0_hw1.2.2.2.1 k0_h1
theorem k0_off8_inb : ∀ (i : grid0.Coords) (v0 : BitVec 32) (v27 : BitVec 32) (k0_hw1 : k0_chk1 i v0 v27), ∀ (k0_h1 : k0_cond1 i v0 = 1#1), ∀ a, (k0_off8 v27) a + S1x1x1024x1024.size a ≤ S2x3x1024x1024.size a := fun i v0 v27 k0_hw1 k0_h1 => k0_hw1.2.2.2.2 k0_h1

def k0_off9 (i : grid0.Coords) : Fin 1 → Nat :=
  let arg0 : BitVec 32 := BitVec.ofNat 32 (i 0).val
  let v26 : Index := Scalar.indexCast arg0
  ![v26.toNat]
def k0_off10 (v27 : BitVec 32) : Fin 1 → Nat :=
  ![v27.toNat]
def k0_cond2 (i : grid0.Coords) (v0 : BitVec 32) (v3 : BitVec 32) (v7 : BitVec 32) : BitVec 1 :=
  let arg0 : BitVec 32 := BitVec.ofNat 32 (i 0).val
  let v10 : BitVec 1 := Scalar.cmpi .slt arg0 v0
  let c0_i32 : BitVec 32 := 0#32
  let v1 : BitVec 1 := Scalar.cmpi .eq arg0 c0_i32
  let v8 : BitVec 1 := Scalar.cmpi .ne v3 v7
  let v9 : BitVec 1 := Scalar.ori v1 v8
  let v11 : BitVec 1 := Scalar.andi v10 v9
  let v17 : BitVec 32 := Scalar.extui v11
  let c0_i32_4 : BitVec 32 := 0#32
  let v18 : BitVec 1 := Scalar.cmpi .ne v17 c0_i32_4
  v18

def k0_off11 (v27 : BitVec 32) : Fin 4 → Nat :=
  let c0_i32_9 : BitVec 32 := 0#32
  let c0_i32_10 : BitVec 32 := 0#32
  let c0_i32_11 : BitVec 32 := 0#32
  ![v27.toNat, 0, 0, 0]
def k0_off12 (v29 : BitVec 32) : Fin 4 → Nat :=
  let c0_i32_8 : BitVec 32 := 0#32
  let c0_i32_12 : BitVec 32 := 0#32
  let c0_i32_13 : BitVec 32 := 0#32
  ![0, v29.toNat, 0, 0]

def k0_chk4 (i : grid0.Coords) (v0 : BitVec 32) (v3 : BitVec 32) (v7 : BitVec 32) (v29 : BitVec 32) : Prop :=
  (∀ (k0_h2 : k0_cond2 i v0 v3 v7 = 1#1), ∀ a, (k0_off12 v29) a + S1x1x1024x1024.size a ≤ S2x32x1024x1024.size a)
theorem k0_off12_inb : ∀ (i : grid0.Coords) (v0 : BitVec 32) (v3 : BitVec 32) (v7 : BitVec 32) (v29 : BitVec 32) (k0_hw4 : k0_chk4 i v0 v3 v7 v29), ∀ (k0_h2 : k0_cond2 i v0 v3 v7 = 1#1), ∀ a, (k0_off12 v29) a + S1x1x1024x1024.size a ≤ S2x32x1024x1024.size a := fun i v0 v3 v7 v29 k0_hw4 k0_h2 => k0_hw4 k0_h2

def k0_off13 (v27 : BitVec 32) : Fin 1 → Nat :=
  ![v27.toNat]
def k0_off14 (v27 : BitVec 32) : Fin 4 → Nat :=
  let c1_i32_15 : BitVec 32 := 1#32
  let c0_i32_16 : BitVec 32 := 0#32
  let c0_i32_17 : BitVec 32 := 0#32
  ![v27.toNat, 1, 0, 0]
def k0_off15 (v27 : BitVec 32) : Fin 4 → Nat :=
  let c2_i32 : BitVec 32 := 2#32
  let c0_i32_21 : BitVec 32 := 0#32
  let c0_i32_22 : BitVec 32 := 0#32
  ![v27.toNat, 2, 0, 0]
def k0_off16 (v27 : BitVec 32) : Fin 4 → Nat :=
  let v48 : Index := Scalar.indexCast v27
  let c0_25 : Index := 0#32
  let c0_26 : Index := 0#32
  let c0_27 : Index := 0#32
  ![v48.toNat, 0, 0, 0]
def k0_off17 (v27 : BitVec 32) : Fin 4 → Nat :=
  let v55 : Index := Scalar.indexCast v27
  let c1 : Index := 1#32
  let c0_30 : Index := 0#32
  let c0_31 : Index := 0#32
  ![v55.toNat, 1, 0, 0]
def k0_off18 (v27 : BitVec 32) : Fin 4 → Nat :=
  let v62 : Index := Scalar.indexCast v27
  let c2 : Index := 2#32
  let c0_34 : Index := 0#32
  let c0_35 : Index := 0#32
  ![v62.toNat, 2, 0, 0]

def k0_chk3 (i : grid0.Coords) (v0 : BitVec 32) (v3 : BitVec 32) (v7 : BitVec 32) (v27 : BitVec 32) : Prop :=
  (∀ (k0_h2 : k0_cond2 i v0 v3 v7 = 1#1), ∀ a, (k0_off10 v27) a + S1.size a ≤ S2.size a) ∧
  (∀ (k0_h2 : k0_cond2 i v0 v3 v7 = 1#1), ∀ a, (k0_off11 v27) a + S1x1x1024x1024.size a ≤ S2x3x1024x1024.size a) ∧
  (∀ (k0_h2 : k0_cond2 i v0 v3 v7 = 1#1), ∀ a, (k0_off13 v27) a + S1.size a ≤ S2.size a) ∧
  (∀ (k0_h2 : k0_cond2 i v0 v3 v7 = 1#1), ∀ a, (k0_off14 v27) a + S1x1x1024x1024.size a ≤ S2x3x1024x1024.size a) ∧
  (∀ (k0_h2 : k0_cond2 i v0 v3 v7 = 1#1), ∀ a, (k0_off15 v27) a + S1x1x1024x1024.size a ≤ S2x3x1024x1024.size a) ∧
  (∀ (k0_h2 : k0_cond2 i v0 v3 v7 = 1#1), ∀ a, (k0_off16 v27) a + S1x1x1024x1024.size a ≤ S2x3x1024x1024.size a) ∧
  (∀ (k0_h2 : k0_cond2 i v0 v3 v7 = 1#1), ∀ a, (k0_off17 v27) a + S1x1x1024x1024.size a ≤ S2x3x1024x1024.size a) ∧
  (∀ (k0_h2 : k0_cond2 i v0 v3 v7 = 1#1), ∀ a, (k0_off18 v27) a + S1x1x1024x1024.size a ≤ S2x3x1024x1024.size a)
theorem k0_off10_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off10 v27) a + S1.size a ≤ S2.size a := fun i v0 v3 v7 v27 k0_hw3 k0_h2 => k0_hw3.1 k0_h2
theorem k0_off11_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off11 v27) a + S1x1x1024x1024.size a ≤ S2x3x1024x1024.size a := fun i v0 v3 v7 v27 k0_hw3 k0_h2 => k0_hw3.2.1 k0_h2
theorem k0_off13_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off13 v27) a + S1.size a ≤ S2.size a := fun i v0 v3 v7 v27 k0_hw3 k0_h2 => k0_hw3.2.2.1 k0_h2
theorem k0_off14_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off14 v27) a + S1x1x1024x1024.size a ≤ S2x3x1024x1024.size a := fun i v0 v3 v7 v27 k0_hw3 k0_h2 => k0_hw3.2.2.2.1 k0_h2
theorem k0_off15_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off15 v27) a + S1x1x1024x1024.size a ≤ S2x3x1024x1024.size a := fun i v0 v3 v7 v27 k0_hw3 k0_h2 => k0_hw3.2.2.2.2.1 k0_h2
theorem k0_off16_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off16 v27) a + S1x1x1024x1024.size a ≤ S2x3x1024x1024.size a := fun i v0 v3 v7 v27 k0_hw3 k0_h2 => k0_hw3.2.2.2.2.2.1 k0_h2
theorem k0_off17_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off17 v27) a + S1x1x1024x1024.size a ≤ S2x3x1024x1024.size a := fun i v0 v3 v7 v27 k0_hw3 k0_h2 => k0_hw3.2.2.2.2.2.2.1 k0_h2
theorem k0_off18_inb : ∀ (i : grid0.Coords) (v0 : BitVec 32) (v3 : BitVec 32) (v7 : BitVec 32) (v27 : BitVec 32) (k0_hw3 : k0_chk3 i v0 v3 v7 v27), ∀ (k0_h2 : k0_cond2 i v0 v3 v7 = 1#1), ∀ a, (k0_off18 v27) a + S1x1x1024x1024.size a ≤ S2x3x1024x1024.size a := fun i v0 v3 v7 v27 k0_hw3 k0_h2 => k0_hw3.2.2.2.2.2.2.2 k0_h2

def k0_off19 (i : grid0.Coords) : Fin 1 → Nat :=
  let arg0 : BitVec 32 := BitVec.ofNat 32 (i 0).val
  let v69 : Index := Scalar.indexCast arg0
  ![v69.toNat]
def k0_off20 (v27 : BitVec 32) : Fin 1 → Nat :=
  let c1_i32_40 : BitVec 32 := 1#32
  let v74 : BitVec 32 := Scalar.subi c1_i32_40 v27
  ![v74.toNat]
def k0_cond3 (v70 : BitVec 32) : BitVec 1 :=
  let c0_i32_38 : BitVec 32 := 0#32
  let v71 : BitVec 1 := Scalar.cmpi .sge v70 c0_i32_38
  let v72 : BitVec 32 := Scalar.extui v71
  let c0_i32_39 : BitVec 32 := 0#32
  let v73 : BitVec 1 := Scalar.cmpi .ne v72 c0_i32_39
  v73

def k0_off21 (v27 : BitVec 32) : Fin 4 → Nat :=
  let c1_i32_40 : BitVec 32 := 1#32
  let v74 : BitVec 32 := Scalar.subi c1_i32_40 v27
  let c0_i32_42 : BitVec 32 := 0#32
  let c0_i32_43 : BitVec 32 := 0#32
  let c0_i32_44 : BitVec 32 := 0#32
  ![v74.toNat, 0, 0, 0]
def k0_off22 (v70 : BitVec 32) : Fin 4 → Nat :=
  let c0_i32_41 : BitVec 32 := 0#32
  let c0_i32_45 : BitVec 32 := 0#32
  let c0_i32_46 : BitVec 32 := 0#32
  ![0, v70.toNat, 0, 0]
def k0_off23 (v27 : BitVec 32) : Fin 4 → Nat :=
  let c1_i32_40 : BitVec 32 := 1#32
  let v74 : BitVec 32 := Scalar.subi c1_i32_40 v27
  let c1_i32_48 : BitVec 32 := 1#32
  let c0_i32_49 : BitVec 32 := 0#32
  let c0_i32_50 : BitVec 32 := 0#32
  ![v74.toNat, 1, 0, 0]
def k0_off24 (v27 : BitVec 32) : Fin 4 → Nat :=
  let c1_i32_40 : BitVec 32 := 1#32
  let v74 : BitVec 32 := Scalar.subi c1_i32_40 v27
  let c2_i32_54 : BitVec 32 := 2#32
  let c0_i32_55 : BitVec 32 := 0#32
  let c0_i32_56 : BitVec 32 := 0#32
  ![v74.toNat, 2, 0, 0]

def k0_chk5 (i : grid0.Coords) (v0 : BitVec 32) (v3 : BitVec 32) (v7 : BitVec 32) (v27 : BitVec 32) (v70 : BitVec 32) : Prop :=
  (∀ (k0_h2 : k0_cond2 i v0 v3 v7 = 1#1), ∀ (k0_h3 : k0_cond3 v70 = 1#1), ∀ a, (k0_off20 v27) a + S1.size a ≤ S2.size a) ∧
  (∀ (k0_h2 : k0_cond2 i v0 v3 v7 = 1#1), ∀ (k0_h3 : k0_cond3 v70 = 1#1), ∀ a, (k0_off21 v27) a + S1x1x1024x1024.size a ≤ S2x3x1024x1024.size a) ∧
  (∀ (k0_h2 : k0_cond2 i v0 v3 v7 = 1#1), ∀ (k0_h3 : k0_cond3 v70 = 1#1), ∀ a, (k0_off22 v70) a + S1x1x1024x1024.size a ≤ S2x32x1024x1024.size a) ∧
  (∀ (k0_h2 : k0_cond2 i v0 v3 v7 = 1#1), ∀ (k0_h3 : k0_cond3 v70 = 1#1), ∀ a, (k0_off23 v27) a + S1x1x1024x1024.size a ≤ S2x3x1024x1024.size a) ∧
  (∀ (k0_h2 : k0_cond2 i v0 v3 v7 = 1#1), ∀ (k0_h3 : k0_cond3 v70 = 1#1), ∀ a, (k0_off24 v27) a + S1x1x1024x1024.size a ≤ S2x3x1024x1024.size a)
theorem k0_off20_inb : ∀ (i : grid0.Coords) (v0 : BitVec 32) (v3 : BitVec 32) (v7 : BitVec 32) (v27 : BitVec 32) (v70 : BitVec 32) (k0_hw5 : k0_chk5 i v0 v3 v7 v27 v70), ∀ (k0_h2 : k0_cond2 i v0 v3 v7 = 1#1), ∀ (k0_h3 : k0_cond3 v70 = 1#1), ∀ a, (k0_off20 v27) a + S1.size a ≤ S2.size a := fun i v0 v3 v7 v27 v70 k0_hw5 k0_h2 k0_h3 => k0_hw5.1 k0_h2 k0_h3
theorem k0_off21_inb : ∀ (i : grid0.Coords) (v0 : BitVec 32) (v3 : BitVec 32) (v7 : BitVec 32) (v27 : BitVec 32) (v70 : BitVec 32) (k0_hw5 : k0_chk5 i v0 v3 v7 v27 v70), ∀ (k0_h2 : k0_cond2 i v0 v3 v7 = 1#1), ∀ (k0_h3 : k0_cond3 v70 = 1#1), ∀ a, (k0_off21 v27) a + S1x1x1024x1024.size a ≤ S2x3x1024x1024.size a := fun i v0 v3 v7 v27 v70 k0_hw5 k0_h2 k0_h3 => k0_hw5.2.1 k0_h2 k0_h3
theorem k0_off22_inb : ∀ (i : grid0.Coords) (v0 : BitVec 32) (v3 : BitVec 32) (v7 : BitVec 32) (v27 : BitVec 32) (v70 : BitVec 32) (k0_hw5 : k0_chk5 i v0 v3 v7 v27 v70), ∀ (k0_h2 : k0_cond2 i v0 v3 v7 = 1#1), ∀ (k0_h3 : k0_cond3 v70 = 1#1), ∀ a, (k0_off22 v70) a + S1x1x1024x1024.size a ≤ S2x32x1024x1024.size a := fun i v0 v3 v7 v27 v70 k0_hw5 k0_h2 k0_h3 => k0_hw5.2.2.1 k0_h2 k0_h3
theorem k0_off23_inb : ∀ (i : grid0.Coords) (v0 : BitVec 32) (v3 : BitVec 32) (v7 : BitVec 32) (v27 : BitVec 32) (v70 : BitVec 32) (k0_hw5 : k0_chk5 i v0 v3 v7 v27 v70), ∀ (k0_h2 : k0_cond2 i v0 v3 v7 = 1#1), ∀ (k0_h3 : k0_cond3 v70 = 1#1), ∀ a, (k0_off23 v27) a + S1x1x1024x1024.size a ≤ S2x3x1024x1024.size a := fun i v0 v3 v7 v27 v70 k0_hw5 k0_h2 k0_h3 => k0_hw5.2.2.2.1 k0_h2 k0_h3
theorem k0_off24_inb : ∀ (i : grid0.Coords) (v0 : BitVec 32) (v3 : BitVec 32) (v7 : BitVec 32) (v27 : BitVec 32) (v70 : BitVec 32) (k0_hw5 : k0_chk5 i v0 v3 v7 v27 v70), ∀ (k0_h2 : k0_cond2 i v0 v3 v7 = 1#1), ∀ (k0_h3 : k0_cond3 v70 = 1#1), ∀ a, (k0_off24 v27) a + S1x1x1024x1024.size a ≤ S2x3x1024x1024.size a := fun i v0 v3 v7 v27 v70 k0_hw5 k0_h2 k0_h3 => k0_hw5.2.2.2.2 k0_h2 k0_h3

def k0_cond4 (i : grid0.Coords) (v0 : BitVec 32) : BitVec 1 :=
  let arg0 : BitVec 32 := BitVec.ofNat 32 (i 0).val
  let v19 : BitVec 1 := Scalar.cmpi .slt arg0 v0
  let v20 : BitVec 32 := Scalar.extui v19
  let c0_i32_5 : BitVec 32 := 0#32
  let v21 : BitVec 1 := Scalar.cmpi .ne v20 c0_i32_5
  v21

def k0_cond5 (i : grid0.Coords) (v22 : BitVec 32) : BitVec 1 :=
  let arg0 : BitVec 32 := BitVec.ofNat 32 (i 0).val
  let v23 : BitVec 1 := Scalar.cmpi .sge arg0 v22
  let v24 : BitVec 32 := Scalar.extui v23
  let c0_i32_7 : BitVec 32 := 0#32
  let v25 : BitVec 1 := Scalar.cmpi .ne v24 c0_i32_7
  v25

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S81920x1024 : Shape := ⟨2, ![81920, 1024]⟩
abbrev S160 : Shape := ⟨1, ![160]⟩
abbrev S1 : Shape := ⟨1, ![1]⟩
abbrev S2x32x1024x1024 : Shape := ⟨4, ![2, 32, 1024, 1024]⟩
abbrev S2x32x1024 : Shape := ⟨3, ![2, 32, 1024]⟩
abbrev S160x512x1024 : Shape := ⟨3, ![160, 512, 1024]⟩
abbrev S1x32x1024x1024 : Shape := ⟨4, ![1, 32, 1024, 1024]⟩
abbrev S32x1024x1024 : Shape := ⟨3, ![32, 1024, 1024]⟩
abbrev S160x1 : Shape := ⟨2, ![160, 1]⟩
abbrev S160x1024x1024 : Shape := ⟨3, ![160, 1024, 1024]⟩
abbrev S1x32x1024 : Shape := ⟨3, ![1, 32, 1024]⟩
abbrev S32x1024 : Shape := ⟨2, ![32, 1024]⟩
abbrev S160x1024 : Shape := ⟨2, ![160, 1024]⟩
abbrev S160x1x1024 : Shape := ⟨3, ![160, 1, 1024]⟩
abbrev S_ : Shape := ⟨0, ![]⟩
abbrev S160x1x1 : Shape := ⟨3, ![160, 1, 1]⟩
abbrev S655360x128 : Shape := ⟨2, ![655360, 128]⟩

abbrev nBuf : Space → Nat
  | .hbm => 86
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S160, .i32⟩
  | .hbm, ⟨2, _⟩ => ⟨S1, .i32⟩
  | .hbm, ⟨3, _⟩ => ⟨S160, .i32⟩
  | .hbm, ⟨4, _⟩ => ⟨S160, .i32⟩
  | .hbm, ⟨5, _⟩ => ⟨S2x32x1024x1024, .f32⟩
  | .hbm, ⟨6, _⟩ => ⟨S2x32x1024, .f32⟩
  | .hbm, ⟨7, _⟩ => ⟨S2x32x1024x1024, .f32⟩
  | .hbm, ⟨8, _⟩ => ⟨S2x32x1024, .f32⟩
  | .hbm, ⟨9, _⟩ => ⟨S2x32x1024x1024, .f32⟩
  | .hbm, ⟨10, _⟩ => ⟨S2x32x1024, .f32⟩
  | .hbm, ⟨11, _⟩ => ⟨S160x512x1024, .f32⟩
  | .hbm, ⟨12, _⟩ => ⟨S1x32x1024x1024, .f32⟩
  | .hbm, ⟨13, _⟩ => ⟨S32x1024x1024, .f32⟩
  | .hbm, ⟨14, _⟩ => ⟨S160x1, .i32⟩
  | .hbm, ⟨15, _⟩ => ⟨S160x1024x1024, .f32⟩
  | .hbm, ⟨16, _⟩ => ⟨S160x512x1024, .f32⟩
  | .hbm, ⟨17, _⟩ => ⟨S1x32x1024, .f32⟩
  | .hbm, ⟨18, _⟩ => ⟨S32x1024, .f32⟩
  | .hbm, ⟨19, _⟩ => ⟨S160x1, .i32⟩
  | .hbm, ⟨20, _⟩ => ⟨S160x1024, .f32⟩
  | .hbm, ⟨21, _⟩ => ⟨S160x1x1024, .f32⟩
  | .hbm, ⟨22, _⟩ => ⟨S160x512x1024, .f32⟩
  | .hbm, ⟨23, _⟩ => ⟨S160x512x1024, .f32⟩
  | .hbm, ⟨24, _⟩ => ⟨S_, .f32⟩
  | .hbm, ⟨25, _⟩ => ⟨S160x512x1024, .f32⟩
  | .hbm, ⟨26, _⟩ => ⟨S160x512x1024, .f32⟩
  | .hbm, ⟨27, _⟩ => ⟨S1x32x1024x1024, .f32⟩
  | .hbm, ⟨28, _⟩ => ⟨S32x1024x1024, .f32⟩
  | .hbm, ⟨29, _⟩ => ⟨S160x1, .i32⟩
  | .hbm, ⟨30, _⟩ => ⟨S160x1024x1024, .f32⟩
  | .hbm, ⟨31, _⟩ => ⟨S160x512x1024, .f32⟩
  | .hbm, ⟨32, _⟩ => ⟨S1x32x1024, .f32⟩
  | .hbm, ⟨33, _⟩ => ⟨S32x1024, .f32⟩
  | .hbm, ⟨34, _⟩ => ⟨S160x1, .i32⟩
  | .hbm, ⟨35, _⟩ => ⟨S160x1024, .f32⟩
  | .hbm, ⟨36, _⟩ => ⟨S160x1x1024, .f32⟩
  | .hbm, ⟨37, _⟩ => ⟨S160x512x1024, .f32⟩
  | .hbm, ⟨38, _⟩ => ⟨S160x512x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S160x512x1024, .f32⟩
  | .hbm, ⟨43, _⟩ => ⟨S160x512x1024, .f32⟩
  | .hbm, ⟨44, _⟩ => ⟨S_, .f32⟩
  | .hbm, ⟨45, _⟩ => ⟨S160x512x1024, .f32⟩
  | .hbm, ⟨46, _⟩ => ⟨S160x512x1024, .f32⟩
  | .hbm, ⟨47, _⟩ => ⟨S_, .f32⟩
  | .hbm, ⟨48, _⟩ => ⟨S160x512x1024, .f32⟩
  | .hbm, ⟨49, _⟩ => ⟨S160x512x1024, .f32⟩
  | .hbm, ⟨50, _⟩ => ⟨S160x512x1024, .f32⟩
  | .hbm, ⟨51, _⟩ => ⟨S160x512x1024, .f32⟩
  | .hbm, ⟨52, _⟩ => ⟨S_, .f32⟩
  | .hbm, ⟨53, _⟩ => ⟨S160x512x1024, .f32⟩
  | .hbm, ⟨54, _⟩ => ⟨S160x512x1024, .f32⟩
  | .hbm, ⟨55, _⟩ => ⟨S_, .f32⟩
  | .hbm, ⟨56, _⟩ => ⟨S160x512x1024, .f32⟩
  | .hbm, ⟨57, _⟩ => ⟨S160x512x1024, .f32⟩
  | .hbm, ⟨58, _⟩ => ⟨S160x512x1024, .f32⟩
  | .hbm, ⟨59, _⟩ => ⟨S_, .f32⟩
  | .hbm, ⟨60, _⟩ => ⟨S160x512x1024, .f32⟩
  | .hbm, ⟨61, _⟩ => ⟨S160x512x1024, .f32⟩
  | .hbm, ⟨62, _⟩ => ⟨S160x512x1024, .f32⟩
  | .hbm, ⟨63, _⟩ => ⟨S1x32x1024x1024, .f32⟩
  | .hbm, ⟨64, _⟩ => ⟨S32x1024x1024, .f32⟩
  | .hbm, ⟨65, _⟩ => ⟨S160x1, .i32⟩
  | .hbm, ⟨66, _⟩ => ⟨S160x1024x1024, .f32⟩
  | .hbm, ⟨67, _⟩ => ⟨S160x512x1024, .f32⟩
  | .hbm, ⟨68, _⟩ => ⟨S1x32x1024, .f32⟩
  | .hbm, ⟨69, _⟩ => ⟨S32x1024, .f32⟩
  | .hbm, ⟨70, _⟩ => ⟨S160x1, .i32⟩
  | .hbm, ⟨71, _⟩ => ⟨S160x1024, .f32⟩
  | .hbm, ⟨72, _⟩ => ⟨S160x1x1024, .f32⟩
  | .hbm, ⟨73, _⟩ => ⟨S160x512x1024, .f32⟩
  | .hbm, ⟨74, _⟩ => ⟨S160x512x1024, .f32⟩
  | .hbm, ⟨75, _⟩ => ⟨S160, .i32⟩
  | .hbm, ⟨76, _⟩ => ⟨S160x1x1, .i32⟩
  | .hbm, ⟨77, _⟩ => ⟨S_, .i32⟩
  | .hbm, ⟨78, _⟩ => ⟨S160x1x1, .i32⟩
  | .hbm, ⟨79, _⟩ => ⟨S160x1x1, .i1⟩
  | .hbm, ⟨80, _⟩ => ⟨S_, .f32⟩
  | .hbm, ⟨81, _⟩ => ⟨S_, .f32⟩
  | .hbm, ⟨82, _⟩ => ⟨S160x512x1024, .i1⟩
  | .hbm, ⟨83, _⟩ => ⟨S160x512x1024, .f32⟩
  | .hbm, ⟨84, _⟩ => ⟨S160x512x1024, .f32⟩
  | .hbm, ⟨85, _⟩ => ⟨S655360x128, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call3_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_cst_1 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call5_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call6_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]
-- ==== Proof.FfnKit.lean ====
module

public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The output window is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_7 reads0_4 hreads0_4 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_expert_ffn (grid0.coords t) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (Memref.whole main_arg5) (Memref.isWhole_whole _) (spec0_1.stage ((cfg0 a).slots t 1)) (hstage0_1 (((cfg0 a).slots t 1).cast nbuf0_1)) (Memref.whole main_arg7) (Memref.isWhole_whole _) (spec0_2.stage ((cfg0 a).slots t 2)) (hstage0_2 (((cfg0 a).slots t 2).cast nbuf0_2)) (Memref.whole main_arg9) (Memref.isWhole_whole _) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

variable (m : (ℓ : Loc nD τ sig) → Buf (Elt F) ℓ) (ρ : Dev nD → PrngReg)

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _
abbrev tbM0_2 : Memref sig .tc .smem S160 .i32 := Memref.whole main_arg3
abbrev htbM0_2 : tbM0_2.IsWhole := Memref.isWhole_whole _
abbrev tbM0_3 : Memref sig .tc .smem S160 .i32 := Memref.whole main_arg4
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel7Ideal`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-- One staging buffer of output window 4, through which its contents are stated (`View.read_writes_of_cover`: the
    choice does not matter). -/
abbrev VO0_4 : View sig .tc .vmem S4096x128 .f32 := (Memref.whole cc0_stg4_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2x3x1024x1024 .f32 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S1024x1024 .bf16 := Memref.whole cc0_scratch3
/-- The operands left in HBM that the body copies into scratch itself, whole. -/
abbrev hbM0_0 : Memref sig .tc .hbm S2x32x1024x1024 .f32 := Memref.whole main_arg5
abbrev hbM0_1 : Memref sig .tc .hbm S2x32x1024x1024 .f32 := Memref.whole main_arg7
abbrev hbM0_2 : Memref sig .tc .hbm S2x32x1024x1024 .f32 := Memref.whole main_arg9
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 10, SemLoc.dma 11] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg5, main_arg7, main_arg9}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg7) ∗ hbPt0 c hbM0_2 (V m c main_arg9)) := by
  rw [BI.bigSep_eq_bigSepL_of_eq [main_arg5, main_arg7, main_arg9] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg5) ∗ hbPt0 c hbM0_1 (V m c main_arg7) ∗ hbPt0 c hbM0_2 (V m c main_arg9))) := by
  rw [Pipeline.ΦD_eq, scopedRest0_eq, ownSems00_eq, hbmPts0_eq]; simp only [scM0_0, scM0_1, scM0_2, scM0_3, owns_whole]; try rfl

end Cert.Ffn

end
-- ==== Proof.FfnRing.lean ====
module

public import proofs.«01_k».proof.Proof.FfnKit
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot and the expert a table word names. -/
def slw (w : BitVec 32) : Fin 2 := ⟨w.toNat % 2, Nat.mod_lt _ (by decide)⟩
def exw (w : BitVec 32) : Fin 32 := ⟨w.toNat % 32, Nat.mod_lt _ (by decide)⟩
/-- The slot that is not `s`. -/
def oth (s : Fin 2) : Fin 2 := ⟨1 - s.val, by omega⟩

theorem inbW (s : Fin 2) (w : Fin 3) : ∀ a, (![s.val, w.val, 0, 0] : Fin 4 → Nat) a + S1x1x1024x1024.size a ≤ S2x3x1024x1024.size a := by
  have := s.isLt; have := w.isLt; intro a; fin_cases a <;> simp <;> omega
theorem inbC (s : Fin 2) : ∀ a, (![s.val] : Fin 1 → Nat) a + S1.size a ≤ S2.size a := by
  have := s.isLt; intro a; fin_cases a <;> simp <;> omega
theorem inbS (e : Fin 32) : ∀ a, (![0, e.val, 0, 0] : Fin 4 → Nat) a + S1x1x1024x1024.size a ≤ S2x32x1024x1024.size a := by
  have := e.isLt; intro a; fin_cases a <;> simp <;> omega

/-- Matrix 0 of slot `s`, and expert `e`'s matrix 0 in HBM. -/
def win0 (s : Fin 2) : Memref sig .tc .vmem S1024x1024 .f32 :=
  (scM0_0.slice (Rect.unit (s := S2x3x1024x1024) ![s.val, 0, 0, 0] S1x1x1024x1024.size (inbW s 0)) (fun _ => rfl)).squeeze S1024x1024 squeezes_S1x1x1024x1024_S1024x1024
def src0 (e : Fin 32) : Memref sig .tc .hbm S1024x1024 .f32 :=
  (hbM0_0.slice (Rect.unit (s := S2x32x1024x1024) ![0, e.val, 0, 0] S1x1x1024x1024.size (inbS e)) (fun _ => rfl)).squeeze S1024x1024 squeezes_S1x1x1024x1024_S1024x1024

/-- Matrix 1 of slot `s`, and expert `e`'s matrix 1 in HBM. -/
def win1 (s : Fin 2) : Memref sig .tc .vmem S1024x1024 .f32 :=
  (scM0_0.slice (Rect.unit (s := S2x3x1024x1024) ![s.val, 1, 0, 0] S1x1x1024x1024.size (inbW s 1)) (fun _ => rfl)).squeeze S1024x1024 squeezes_S1x1x1024x1024_S1024x1024
def src1 (e : Fin 32) : Memref sig .tc .hbm S1024x1024 .f32 :=
  (hbM0_1.slice (Rect.unit (s := S2x32x1024x1024) ![0, e.val, 0, 0] S1x1x1024x1024.size (inbS e)) (fun _ => rfl)).squeeze S1024x1024 squeezes_S1x1x1024x1024_S1024x1024

/-- Matrix 2 of slot `s`, and expert `e`'s matrix 2 in HBM. -/
def win2 (s : Fin 2) : Memref sig .tc .vmem S1024x1024 .f32 :=
  (scM0_0.slice (Rect.unit (s := S2x3x1024x1024) ![s.val, 2, 0, 0] S1x1x1024x1024.size (inbW s 2)) (fun _ => rfl)).squeeze S1024x1024 squeezes_S1x1x1024x1024_S1024x1024
def src2 (e : Fin 32) : Memref sig .tc .hbm S1024x1024 .f32 :=
  (hbM0_2.slice (Rect.unit (s := S2x32x1024x1024) ![0, e.val, 0, 0] S1x1x1024x1024.size (inbS e)) (fun _ => rfl)).squeeze S1024x1024 squeezes_S1x1x1024x1024_S1024x1024

/-- Slot `s`'s counter. -/
def cellA (s : Fin 2) : DmaSems sig S_ := (cc0_scratch4.slice (Rect.unit (s := S2) ![s.val] S1.size (inbC s))).squeeze S_ squeezes_S1_S_
abbrev cellR (s : Fin 2) : SemLoc sig := SemLoc.dma (cellA s).sem
theorem cellR_0 : cellR 0 = SemLoc.dma 10 := by decide
theorem cellR_1 : cellR 1 = SemLoc.dma 11 := by decide

section Ring
variable (c : Dev nD) (W0 : HbBuf0 (F := F) c hbM0_0) (W1 : HbBuf0 (F := F) c hbM0_1) (W2 : HbBuf0 (F := F) c hbM0_2)
/-- The share of each weight array lent to slot `s`. -/
abbrev qs (s : Fin 2) : PosShare TreeShare := if s.val = 0 then fullShare.left else fullShare.right

abbrev winP0 (s : Fin 2) (e : HbBuf0 (F := F) c scM0_0) : sProp 𝕄 := (win0 s).view.loc (c : Thread nD τ) ↦[(win0 s).view.set]{fullShare} e
abbrev srcP0 (s : Fin 2) (e : Fin 32) : sProp 𝕄 := (src0 e).view.loc (c : Thread nD τ) ↦[(src0 e).view.set]{qs s} W0
def restP0 (s : Fin 2) (e : Fin 32) : sProp 𝕄 := ((c : Thread nD τ).loc main_arg5) ↦[Finset.univ \ (src0 e).view.set]{qs s} W0
abbrev wholeP0 (s : Fin 2) : sProp 𝕄 := ((c : Thread nD τ).loc main_arg5) ↦[Finset.univ]{qs s} W0
/-- Matrix 0 of slot `s` once expert `e`'s has landed in it. -/
abbrev landed0 (s : Fin 2) (e : Fin 32) : HbBuf0 (F := F) c scM0_0 :=
  (win0 s).view.writes (Elt F) (win0 s).view.junk [⟨Rect.whole S1024x1024, ReadAs.same.apply ((src0 e).view.read (Elt F) W0)⟩]
theorem src0_split (s : Fin 2) (e : Fin 32) : wholeP0 (F := F) c W0 s ⊣⊢ iprop(srcP0 c W0 s e ∗ restP0 c W0 s e) := by
  unfold restP0; exact pointsTo_split_subset (Finset.subset_univ _)
theorem whole0_split : (hbPt0 c hbM0_0 W0 : sProp 𝕄) ⊣⊢ iprop(wholeP0 c W0 0 ∗ wholeP0 c W0 1) :=
  pointsTo_share (PosShare.mem_left_op_right fullShare)

abbrev winP1 (s : Fin 2) (e : HbBuf0 (F := F) c scM0_0) : sProp 𝕄 := (win1 s).view.loc (c : Thread nD τ) ↦[(win1 s).view.set]{fullShare} e
abbrev srcP1 (s : Fin 2) (e : Fin 32) : sProp 𝕄 := (src1 e).view.loc (c : Thread nD τ) ↦[(src1 e).view.set]{qs s} W1
def restP1 (s : Fin 2) (e : Fin 32) : sProp 𝕄 := ((c : Thread nD τ).loc main_arg7) ↦[Finset.univ \ (src1 e).view.set]{qs s} W1
abbrev wholeP1 (s : Fin 2) : sProp 𝕄 := ((c : Thread nD τ).loc main_arg7) ↦[Finset.univ]{qs s} W1
/-- Matrix 1 of slot `s` once expert `e`'s has landed in it. -/
abbrev landed1 (s : Fin 2) (e : Fin 32) : HbBuf0 (F := F) c scM0_0 :=
  (win1 s).view.writes (Elt F) (win1 s).view.junk [⟨Rect.whole S1024x1024, ReadAs.same.apply ((src1 e).view.read (Elt F) W1)⟩]
theorem src1_split (s : Fin 2) (e : Fin 32) : wholeP1 (F := F) c W1 s ⊣⊢ iprop(srcP1 c W1 s e ∗ restP1 c W1 s e) := by
  unfold restP1; exact pointsTo_split_subset (Finset.subset_univ _)
theorem whole1_split : (hbPt0 c hbM0_1 W1 : sProp 𝕄) ⊣⊢ iprop(wholeP1 c W1 0 ∗ wholeP1 c W1 1) :=
  pointsTo_share (PosShare.mem_left_op_right fullShare)

abbrev winP2 (s : Fin 2) (e : HbBuf0 (F := F) c scM0_0) : sProp 𝕄 := (win2 s).view.loc (c : Thread nD τ) ↦[(win2 s).view.set]{fullShare} e
abbrev srcP2 (s : Fin 2) (e : Fin 32) : sProp 𝕄 := (src2 e).view.loc (c : Thread nD τ) ↦[(src2 e).view.set]{qs s} W2
def restP2 (s : Fin 2) (e : Fin 32) : sProp 𝕄 := ((c : Thread nD τ).loc main_arg9) ↦[Finset.univ \ (src2 e).view.set]{qs s} W2
abbrev wholeP2 (s : Fin 2) : sProp 𝕄 := ((c : Thread nD τ).loc main_arg9) ↦[Finset.univ]{qs s} W2
/-- Matrix 2 of slot `s` once expert `e`'s has landed in it. -/
abbrev landed2 (s : Fin 2) (e : Fin 32) : HbBuf0 (F := F) c scM0_0 :=
  (win2 s).view.writes (Elt F) (win2 s).view.junk [⟨Rect.whole S1024x1024, ReadAs.same.apply ((src2 e).view.read (Elt F) W2)⟩]
theorem src2_split (s : Fin 2) (e : Fin 32) : wholeP2 (F := F) c W2 s ⊣⊢ iprop(srcP2 c W2 s e ∗ restP2 c W2 s e) := by
  unfold restP2; exact pointsTo_split_subset (Finset.subset_univ _)
theorem whole2_split : (hbPt0 c hbM0_2 W2 : sProp 𝕄) ⊣⊢ iprop(wholeP2 c W2 0 ∗ wholeP2 c W2 1) :=
  pointsTo_share (PosShare.mem_left_op_right fullShare)

abbrev winsP (s : Fin 2) (f : Fin 3 → HbBuf0 (F := F) c scM0_0) : sProp 𝕄 := iprop(winP0 c s (f 0) ∗ winP1 c s (f 1) ∗ winP2 c s (f 2))
abbrev wholesP (s : Fin 2) : sProp 𝕄 := iprop(wholeP0 c W0 s ∗ wholeP1 c W1 s ∗ wholeP2 c W2 s)
abbrev restsP (s : Fin 2) (e : Fin 32) : sProp 𝕄 := iprop(restP0 c W0 s e ∗ restP1 c W1 s e ∗ restP2 c W2 s e)
abbrev cellP (s : Fin 2) : sProp 𝕄 := semVal ((c : Thread nD τ), cellR s) 0
abbrev landed (s : Fin 2) (e : Fin 32) : Fin 3 → HbBuf0 (F := F) c scM0_0 := ![landed0 c W0 s e, landed1 c W1 s e, landed2 c W2 s e]
/-- What each of the three copies hands back: its matrix landed, and the elements it read. -/
abbrev winD (s : Fin 2) (e : Fin 32) : Fin 3 → sProp 𝕄 :=
  ![iprop(winP0 c s (landed0 c W0 s e) ∗ srcP0 c W0 s e), iprop(winP1 c s (landed1 c W1 s e) ∗ srcP1 c W1 s e), iprop(winP2 c s (landed2 c W2 s e) ∗ srcP2 c W2 s e)]
/-- How much one copy adds to its slot's counter. -/
abbrev NN : ℕ := (win0 0).view.amount (cellR 0)
theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem storable_winD (s : Fin 2) (e : Fin 32) : ∀ w, Storable (upEmb : UEmb _ 𝕄) (winD (F := F) c W0 W1 W2 s e w) := by
  intro w; fin_cases w <;> exact @Storable.sep _ _ _ _ _ _ _ _ (storable_pt _ _ _ _) (storable_pt _ _ _ _)
/-- The three copies of expert `e`'s matrices into slot `s` under way. -/
abbrev flightB (s : Fin 2) (e : Fin 32) : sProp 𝕄 :=
  Transfers.Batch countersEmb (c : Thread nD τ) (cellR s) default NN (winD c W0 W1 W2 s e) 3 0
abbrev flightP (s : Fin 2) (e : Fin 32) : sProp 𝕄 := iprop(flightB c W0 W1 W2 s e ∗ restsP c W0 W1 W2 s e)
/-- Slot `s` with no copy under way. -/
abbrev freeP (s : Fin 2) : sProp 𝕄 := iprop(cellP c s ∗ (∃ f, winsP c s f) ∗ wholesP c W0 W1 W2 s)
omit [FloatOps F] in
theorem cellP_0 : cellP (F := F) c 0 = semVal ((c : Thread nD τ), SemLoc.dma 10) 0 := congrArg (fun x => (semVal ((c : Thread nD τ), x) 0 : sProp 𝕄)) cellR_0
omit [FloatOps F] in
theorem cellP_1 : cellP (F := F) c 1 = semVal ((c : Thread nD τ), SemLoc.dma 11) 0 := congrArg (fun x => (semVal ((c : Thread nD τ), x) 0 : sProp 𝕄)) cellR_1
end Ring

abbrev winOff (i : Fin 2 × Fin 3) : Fin 4 → Nat := ![i.1.val, i.2.val, 0, 0]
theorem inbW' (i : Fin 2 × Fin 3) : ∀ a, winOff i a + S1x1x1024x1024.size a ≤ S2x3x1024x1024.size a := inbW i.1 i.2
abbrev winSet (i : Fin 2 × Fin 3) : Finset S2x3x1024x1024.Idx := (Rect.unit (s := S2x3x1024x1024) (winOff i) S1x1x1024x1024.size (inbW' i)).set

theorem winSet_eq0 (s : Fin 2) : (win0 s).view.set = winSet (s, 0) := by
  simp only [win0, Memref.view_squeeze, View.set_reshape]; exact View.set_slice_whole _ _

theorem winSet_eq1 (s : Fin 2) : (win1 s).view.set = winSet (s, 1) := by
  simp only [win1, Memref.view_squeeze, View.set_reshape]; exact View.set_slice_whole _ _

theorem winSet_eq2 (s : Fin 2) : (win2 s).view.set = winSet (s, 2) := by
  simp only [win2, Memref.view_squeeze, View.set_reshape]; exact View.set_slice_whole _ _

def winIx (i : Fin 2 × Fin 3) : Fin 4 → ℕ := ![i.1.val, i.2.val, 0, 0]
def winUn (v : Fin 4 → ℕ) : Fin 2 × Fin 3 := (Fin.ofNat 2 (v 0), Fin.ofNat 3 (v 1))
theorem winUn_left : ∀ i : Fin 2 × Fin 3, winUn (winIx i) = i := by decide +kernel
theorem wins_disjoint (i i' : Fin 2 × Fin 3) (h : i ≠ i') : Disjoint (winSet i) (winSet i') :=
  Ring.boxes_disjoint (s := S2x3x1024x1024) S1x1x1024x1024.size winOff inbW' winIx
    (fun i a => by fin_cases a <;> simp [winOff, winIx] <;> omega) winUn winUn_left i i' h
/-- The elements of the weight buffer outside the six matrices, at some contents. -/
abbrev spareSet : Finset S2x3x1024x1024.Idx := Finset.univ \ Finset.univ.biUnion winSet
abbrev spareP (c : Dev nD) : sProp 𝕄 := iprop(∃ f : Buf (Elt F) ((c : Thread nD τ).loc cc0_scratch0), ((c : Thread nD τ).loc cc0_scratch0) ↦[spareSet]{fullShare} f)

section InOut
variable (c : Dev nD) (W0 : HbBuf0 (F := F) c hbM0_0) (W1 : HbBuf0 (F := F) c hbM0_1) (W2 : HbBuf0 (F := F) c hbM0_2)
/-- Matrix `i.2` of slot `i.1` at contents `e`. -/
abbrev winAt (i : Fin 2 × Fin 3) (e : HbBuf0 (F := F) c scM0_0) : sProp 𝕄 := (![winP0 c i.1 e, winP1 c i.1 e, winP2 c i.1 e] : Fin 3 → sProp 𝕄) i.2
theorem winAt_eq (i : Fin 2 × Fin 3) (e : HbBuf0 (F := F) c scM0_0) : winAt (F := F) c i e = (((c : Thread nD τ).loc cc0_scratch0) ↦[winSet i]{fullShare} e : sProp 𝕄) := by
  obtain ⟨s, w⟩ := i
  fin_cases w
  · show winP0 (F := F) c s e = _; unfold winP0; rw [winSet_eq0]; rfl
  · show winP1 (F := F) c s e = _; unfold winP1; rw [winSet_eq1]; rfl
  · show winP2 (F := F) c s e = _; unfold winP2; rw [winSet_eq2]; rfl
theorem bigSep_two {M : Type _} [URA M] (P : Fin 2 → sProp M) : bigSep Finset.univ P = iprop(P 0 ∗ P 1) := by
  rw [BI.bigSep_eq_bigSepL_of_eq [0, 1] (by decide) (by decide)]; rfl
theorem wins_eq : (bigSep Finset.univ (fun i : Fin 2 × Fin 3 => iprop(∃ e, winAt (F := F) c i e)) : sProp 𝕄) = iprop((∃ f, winsP (F := F) c 0 f) ∗ ∃ f, winsP (F := F) c 1 f) := by
  rw [BI.bigSep_univ_prod, bigSep_two]
  have e : ∀ j : Fin 2, (bigSep Finset.univ (fun w : Fin 3 => iprop(∃ e, winAt (F := F) c (j, w) e)) : sProp 𝕄) = iprop(∃ f, winsP (F := F) c j f) := fun j => by
    rw [← Ring.bigSep_exists_pi_eq]
    refine congrArg _ (funext fun f => ?_)
    rw [BI.bigSep_eq_bigSepL_of_eq [0, 1, 2] (by decide) (by decide)]; rfl
  rw [e 0, e 1]
theorem winsP_tuple (s : Fin 2) (a0 a1 a2 : HbBuf0 (F := F) c scM0_0) : winsP (F := F) c s ![a0, a1, a2] = iprop(winP0 c s a0 ∗ winP1 c s a1 ∗ winP2 c s a2) := rfl
theorem winsP_landed (s : Fin 2) (e : Fin 32) : iprop(winP0 c s (landed0 c W0 s e) ∗ winP1 c s (landed1 c W1 s e) ∗ winP2 c s (landed2 c W2 s e)) ⊢ winsP (F := F) c s (landed c W0 W1 W2 s e) :=
  Entails.of_eq (winsP_tuple c s (landed0 c W0 s e) (landed1 c W1 s e) (landed2 c W2 s e)).symm
set_option maxHeartbeats 1000000 in
theorem wins_in : iprop(∃ d, owns (c : Thread nD τ) scM0_0 fullShare d) ⊢ (iprop(((∃ f, winsP (F := F) c 0 f) ∗ ∃ f, winsP (F := F) c 1 f) ∗ spareP c) : sProp 𝕄) := by
  simp only [scM0_0, owns_whole]
  rw [← wins_eq c]
  exact Ring.pieces_split_spare (U := Pipeline.UD sig nD τ) (ℓ := (c : Thread nD τ).loc cc0_scratch0) (q := fullShare) winSet wins_disjoint
    (winAt (F := F) c) (winAt_eq c)
set_option maxHeartbeats 1000000 in
theorem wins_out : (iprop(((∃ f, winsP (F := F) c 0 f) ∗ ∃ f, winsP (F := F) c 1 f) ∗ spareP c) : sProp 𝕄) ⊢ iprop(∃ d, owns (c : Thread nD τ) scM0_0 fullShare d) := by
  simp only [scM0_0, owns_whole]
  rw [← wins_eq c]
  exact Ring.pieces_join_spare (U := Pipeline.UD sig nD τ) (ℓ := (c : Thread nD τ).loc cc0_scratch0) (q := fullShare) winSet wins_disjoint
    (winAt (F := F) c) (winAt_eq c)
/-- What the launch hands over, the weight buffer, the two counters at zero and the weight arrays, is both slots free; -/
theorem ring_in :
    iprop((∃ d, owns (c : Thread nD τ) scM0_0 fullShare d) ∗ (semVal ((c : Thread nD τ), SemLoc.dma 10) 0 ∗ semVal ((c : Thread nD τ), SemLoc.dma 11) 0) ∗ hbPt0 c hbM0_0 W0 ∗ hbPt0 c hbM0_1 W1 ∗ hbPt0 c hbM0_2 W2)
      ⊢ iprop((freeP c W0 W1 W2 0 ∗ freeP c W0 W1 W2 1) ∗ spareP c) := by
  rw [← cellP_0 c, ← cellP_1 c]
  iintro ⟨HS, ⟨H0, H1⟩, HR0, HR1, HR2⟩
  ihave HS' := (wins_in (F := F) c) $$ HS
  icases HS' with ⟨⟨HS0, HS1⟩, HSp⟩
  ihave HR0' := (whole0_split (F := F) c W0).1 $$ HR0
  icases HR0' with ⟨A0, A1⟩
  ihave HR1' := (whole1_split (F := F) c W1).1 $$ HR1
  icases HR1' with ⟨B0, B1⟩
  ihave HR2' := (whole2_split (F := F) c W2).1 $$ HR2
  icases HR2' with ⟨C0, C1⟩
  isplitr [HSp]
  · isplitl [H0 HS0 A0 B0 C0]
    · isplitl [H0]; · iexact H0
      isplitl [HS0]; · iexact HS0
      isplitl [A0]; · iexact A0
      isplitl [B0]; · iexact B0
      iexact C0
    · isplitl [H1]; · iexact H1
      isplitl [HS1]; · iexact HS1
      isplitl [A1]; · iexact A1
      isplitl [B1]; · iexact B1
      iexact C1
  iexact HSp
/-- and back. -/
theorem ring_out :
    iprop((freeP c W0 W1 W2 0 ∗ freeP c W0 W1 W2 1) ∗ spareP c)
      ⊢ iprop((∃ d, owns (c : Thread nD τ) scM0_0 fullShare d) ∗ (semVal ((c : Thread nD τ), SemLoc.dma 10) 0 ∗ semVal ((c : Thread nD τ), SemLoc.dma 11) 0) ∗ hbPt0 c hbM0_0 W0 ∗ hbPt0 c hbM0_1 W1 ∗ hbPt0 c hbM0_2 W2) := by
  rw [← cellP_0 c, ← cellP_1 c]
  iintro ⟨⟨⟨H0, HS0, A0, B0, C0⟩, ⟨H1, HS1, A1, B1, C1⟩⟩, HSp⟩
  isplitl [HS0 HS1 HSp]
  · iapply (wins_out (F := F) c); isplitl [HS0 HS1]
    · isplitl [HS0]; · iexact HS0
      iexact HS1
    iexact HSp
  isplitl [H0 H1]
  · isplitl [H0]; · iexact H0
    iexact H1
  isplitl [A0 A1]
  · iapply (whole0_split (F := F) c W0).2; isplitl [A0]; · iexact A0
    iexact A1
  isplitl [B0 B1]
  · iapply (whole1_split (F := F) c W1).2; isplitl [B0]; · iexact B0
    iexact B1
  · iapply (whole2_split (F := F) c W2).2; isplitl [C0]; · iexact C0
    iexact C1
end InOut

section Canon

/-- The word of a table at an offset, as the body reads it. -/
abbrev wAt (c : Dev nD) (M : Memref sig .tc .smem S160 .i32) (T : TbBuf0 (F := F) c M) (o : Fin 1 → Nat) (ho : ∀ a, o a + S1.size a ≤ S160.size a) : BitVec 32 :=
  View.readAt (Elt F) M.view (Rect.unit (s := S160) o S1.size ho).toLoadRect T (Shape.Idx.first (numel1_S1.symm ▸ Nat.one_pos))
abbrev wNa (c : Dev nD) (T : TbBuf0 (F := F) c tbM0_1) : BitVec 32 :=
  View.readAt (Elt F) tbM0_1.view (Rect.unit (s := S1) ![0] S1.size inb_S1_S1_0).toLoadRect T (Shape.Idx.first (numel1_S1.symm ▸ Nat.one_pos))

theorem toNat_zero : (0#32 : BitVec 32).toNat = 0 := rfl
theorem toNat_sub_one {w : BitVec 32} (h : w.toNat < 2) : (Scalar.subi 1#32 w).toNat = 1 - w.toNat := by
  have : Scalar.subi 1#32 w = 1#32 - w := rfl
  rw [this, BitVec.toNat_sub]; simp; omega

theorem coff3 (w : BitVec 32) (h : w.toNat < 2) : k0_off3 w = ![(slw w).val] := by
  have e : (slw w).val = w.toNat := Nat.mod_eq_of_lt h
  have e' : (oth (slw w)).val = 1 - w.toNat := by show 1 - (slw w).val = _; rw [e]
  have e2 := toNat_sub_one h
  funext a; fin_cases a; simp [k0_off3, e, e', e2]
@[sl_canon] theorem canon3 (w : BitVec 32) (h : w.toNat < 2) (hi) :
    (cc0_scratch4.slice (Rect.unit (s := S2) (k0_off3 w) S1.size hi)).squeeze S_ squeezes_S1_S_ = cellA (slw w) :=
  congrArg (fun A : DmaSems sig S1 => A.squeeze S_ squeezes_S1_S_) (SemArray.slice_unit_congr _ (coff3 w h) _ _)
@[sl_canon] theorem canon3' (w : BitVec 32) (h : w.toNat < 2) (hi) :
    (cc0_scratch4.slice (Rect.unit (s := S2) (k0_off3 w) ![1] hi)).squeeze S_ squeezes_S1_S_ = cellA (slw w) :=
  canon3 w h hi

theorem coff4 (w : BitVec 32) (h : w.toNat < 2) : k0_off4 w = ![(slw w).val, 0, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off4, e, e', e2]
@[sl_canon] theorem canon4 (w : BitVec 32) (h : w.toNat < 2) (hi) :
    (scM0_0.slice (Rect.unit (s := S2x3x1024x1024) (k0_off4 w) S1x1x1024x1024.size hi) (fun _ => rfl)).squeeze S1024x1024 squeezes_S1x1x1024x1024_S1024x1024 = win0 (slw w) :=
  congrArg (fun M : Memref sig .tc .vmem S1x1x1024x1024 .f32 => M.squeeze S1024x1024 squeezes_S1x1x1024x1024_S1024x1024) (Memref.slice_unit_congr _ (coff4 w h) _ _ (fun _ => rfl) (fun _ => rfl))
@[sl_canon] theorem canon4' (w : BitVec 32) (h : w.toNat < 2) (hi) :
    (scM0_0.slice (Rect.unit (s := S2x3x1024x1024) (k0_off4 w) ![1, 1, 1024, 1024] hi) (fun _ => rfl)).squeeze S1024x1024 squeezes_S1x1x1024x1024_S1024x1024 = win0 (slw w) :=
  canon4 w h hi

theorem coff5 (w : BitVec 32) (h : w.toNat < 32) : k0_off5 w = ![0, (exw w).val, 0, 0] := by
  have e : (exw w).val = w.toNat := Nat.mod_eq_of_lt h
  funext a; fin_cases a <;> simp [k0_off5, e]

@[sl_canon] theorem canon5_0 (w : BitVec 32) (h : w.toNat < 32) (hi) :
    (hbM0_0.slice (Rect.unit (s := S2x32x1024x1024) (k0_off5 w) S1x1x1024x1024.size hi) (fun _ => rfl)).squeeze S1024x1024 squeezes_S1x1x1024x1024_S1024x1024 = src0 (exw w) :=
  congrArg (fun M : Memref sig .tc .hbm S1x1x1024x1024 .f32 => M.squeeze S1024x1024 squeezes_S1x1x1024x1024_S1024x1024) (Memref.slice_unit_congr _ (coff5 w h) _ _ (fun _ => rfl) (fun _ => rfl))
@[sl_canon] theorem canon5_0' (w : BitVec 32) (h : w.toNat < 32) (hi) :
    (hbM0_0.slice (Rect.unit (s := S2x32x1024x1024) (k0_off5 w) ![1, 1, 1024, 1024] hi) (fun _ => rfl)).squeeze S1024x1024 squeezes_S1x1x1024x1024_S1024x1024 = src0 (exw w) :=
  canon5_0 w h hi

@[sl_canon] theorem canon5_1 (w : BitVec 32) (h : w.toNat < 32) (hi) :
    (hbM0_1.slice (Rect.unit (s := S2x32x1024x1024) (k0_off5 w) S1x1x1024x1024.size hi) (fun _ => rfl)).squeeze S1024x1024 squeezes_S1x1x1024x1024_S1024x1024 = src1 (exw w) :=
  congrArg (fun M : Memref sig .tc .hbm S1x1x1024x1024 .f32 => M.squeeze S1024x1024 squeezes_S1x1x1024x1024_S1024x1024) (Memref.slice_unit_congr _ (coff5 w h) _ _ (fun _ => rfl) (fun _ => rfl))
@[sl_canon] theorem canon5_1' (w : BitVec 32) (h : w.toNat < 32) (hi) :
    (hbM0_1.slice (Rect.unit (s := S2x32x1024x1024) (k0_off5 w) ![1, 1, 1024, 1024] hi) (fun _ => rfl)).squeeze S1024x1024 squeezes_S1x1x1024x1024_S1024x1024 = src1 (exw w) :=
  canon5_1 w h hi

@[sl_canon] theorem canon5_2 (w : BitVec 32) (h : w.toNat < 32) (hi) :
    (hbM0_2.slice (Rect.unit (s := S2x32x1024x1024) (k0_off5 w) S1x1x1024x1024.size hi) (fun _ => rfl)).squeeze S1024x1024 squeezes_S1x1x1024x1024_S1024x1024 = src2 (exw w) :=
  congrArg (fun M : Memref sig .tc .hbm S1x1x1024x1024 .f32 => M.squeeze S1024x1024 squeezes_S1x1x1024x1024_S1024x1024) (Memref.slice_unit_congr _ (coff5 w h) _ _ (fun _ => rfl) (fun _ => rfl))
@[sl_canon] theorem canon5_2' (w : BitVec 32) (h : w.toNat < 32) (hi) :
    (hbM0_2.slice (Rect.unit (s := S2x32x1024x1024) (k0_off5 w) ![1, 1, 1024, 1024] hi) (fun _ => rfl)).squeeze S1024x1024 squeezes_S1x1x1024x1024_S1024x1024 = src2 (exw w) :=
  canon5_2 w h hi

theorem coff6 (w : BitVec 32) (h : w.toNat < 2) : k0_off6 w = ![(slw w).val] := by
  have e : (slw w).val = w.toNat := Nat.mod_eq_of_lt h
  have e' : (oth (slw w)).val = 1 - w.toNat := by show 1 - (slw w).val = _; rw [e]
  have e2 := toNat_sub_one h
  funext a; fin_cases a; simp [k0_off6, e, e', e2]
@[sl_canon] theorem canon6 (w : BitVec 32) (h : w.toNat < 2) (hi) :
    (cc0_scratch4.slice (Rect.unit (s := S2) (k0_off6 w) S1.size hi)).squeeze S_ squeezes_S1_S_ = cellA (slw w) :=
  congrArg (fun A : DmaSems sig S1 => A.squeeze S_ squeezes_S1_S_) (SemArray.slice_unit_congr _ (coff6 w h) _ _)
@[sl_canon] theorem canon6' (w : BitVec 32) (h : w.toNat < 2) (hi) :
    (cc0_scratch4.slice (Rect.unit (s := S2) (k0_off6 w) ![1] hi)).squeeze S_ squeezes_S1_S_ = cellA (slw w) :=
  canon6 w h hi

theorem coff7 (w : BitVec 32) (h : w.toNat < 2) : k0_off7 w = ![(slw w).val, 1, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off7, e, e', e2]
@[sl_canon] theorem canon7 (w : BitVec 32) (h : w.toNat < 2) (hi) :
    (scM0_0.slice (Rect.unit (s := S2x3x1024x1024) (k0_off7 w) S1x1x1024x1024.size hi) (fun _ => rfl)).squeeze S1024x1024 squeezes_S1x1x1024x1024_S1024x1024 = win1 (slw w) :=
  congrArg (fun M : Memref sig .tc .vmem S1x1x1024x1024 .f32 => M.squeeze S1024x1024 squeezes_S1x1x1024x1024_S1024x1024) (Memref.slice_unit_congr _ (coff7 w h) _ _ (fun _ => rfl) (fun _ => rfl))
@[sl_canon] theorem canon7' (w : BitVec 32) (h : w.toNat < 2) (hi) :
    (scM0_0.slice (Rect.unit (s := S2x3x1024x1024) (k0_off7 w) ![1, 1, 1024, 1024] hi) (fun _ => rfl)).squeeze S1024x1024 squeezes_S1x1x1024x1024_S1024x1024 = win1 (slw w) :=
  canon7 w h hi

theorem coff8 (w : BitVec 32) (h : w.toNat < 2) : k0_off8 w = ![(slw w).val, 2, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off8, e, e', e2]
@[sl_canon] theorem canon8 (w : BitVec 32) (h : w.toNat < 2) (hi) :
    (scM0_0.slice (Rect.unit (s := S2x3x1024x1024) (k0_off8 w) S1x1x1024x1024.size hi) (fun _ => rfl)).squeeze S1024x1024 squeezes_S1x1x1024x1024_S1024x1024 = win2 (slw w) :=
  congrArg (fun M : Memref sig .tc .vmem S1x1x1024x1024 .f32 => M.squeeze S1024x1024 squeezes_S1x1x1024x1024_S1024x1024) (Memref.slice_unit_congr _ (coff8 w h) _ _ (fun _ => rfl) (fun _ => rfl))
@[sl_canon] theorem canon8' (w : BitVec 32) (h : w.toNat < 2) (hi) :
    (scM0_0.slice (Rect.unit (s := S2x3x1024x1024) (k0_off8 w) ![1, 1, 1024, 1024] hi) (fun _ => rfl)).squeeze S1024x1024 squeezes_S1x1x1024x1024_S1024x1024 = win2 (slw w) :=
  canon8 w h hi

theorem coff10 (w : BitVec 32) (h : w.toNat < 2) : k0_off10 w = ![(slw w).val] := by
  have e : (slw w).val = w.toNat := Nat.mod_eq_of_lt h
  have e' : (oth (slw w)).val = 1 - w.toNat := by show 1 - (slw w).val = _; rw [e]
  have e2 := toNat_sub_one h
  funext a; fin_cases a; simp [k0_off10, e, e', e2]
@[sl_canon] theorem canon10 (w : BitVec 32) (h : w.toNat < 2) (hi) :
    (cc0_scratch4.slice (Rect.unit (s := S2) (k0_off10 w) S1.size hi)).squeeze S_ squeezes_S1_S_ = cellA (slw w) :=
  congrArg (fun A : DmaSems sig S1 => A.squeeze S_ squeezes_S1_S_) (SemArray.slice_unit_congr _ (coff10 w h) _ _)
@[sl_canon] theorem canon10' (w : BitVec 32) (h : w.toNat < 2) (hi) :
    (cc0_scratch4.slice (Rect.unit (s := S2) (k0_off10 w) ![1] hi)).squeeze S_ squeezes_S1_S_ = cellA (slw w) :=
  canon10 w h hi

theorem coff11 (w : BitVec 32) (h : w.toNat < 2) : k0_off11 w = ![(slw w).val, 0, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off11, e, e', e2]
@[sl_canon] theorem canon11 (w : BitVec 32) (h : w.toNat < 2) (hi) :
    (scM0_0.slice (Rect.unit (s := S2x3x1024x1024) (k0_off11 w) S1x1x1024x1024.size hi) (fun _ => rfl)).squeeze S1024x1024 squeezes_S1x1x1024x1024_S1024x1024 = win0 (slw w) :=
  congrArg (fun M : Memref sig .tc .vmem S1x1x1024x1024 .f32 => M.squeeze S1024x1024 squeezes_S1x1x1024x1024_S1024x1024) (Memref.slice_unit_congr _ (coff11 w h) _ _ (fun _ => rfl) (fun _ => rfl))
@[sl_canon] theorem canon11' (w : BitVec 32) (h : w.toNat < 2) (hi) :
    (scM0_0.slice (Rect.unit (s := S2x3x1024x1024) (k0_off11 w) ![1, 1, 1024, 1024] hi) (fun _ => rfl)).squeeze S1024x1024 squeezes_S1x1x1024x1024_S1024x1024 = win0 (slw w) :=
  canon11 w h hi

theorem coff12 (w : BitVec 32) (h : w.toNat < 32) : k0_off12 w = ![0, (exw w).val, 0, 0] := by
  have e : (exw w).val = w.toNat := Nat.mod_eq_of_lt h
  funext a; fin_cases a <;> simp [k0_off12, e]

@[sl_canon] theorem canon12_0 (w : BitVec 32) (h : w.toNat < 32) (hi) :
    (hbM0_0.slice (Rect.unit (s := S2x32x1024x1024) (k0_off12 w) S1x1x1024x1024.size hi) (fun _ => rfl)).squeeze S1024x1024 squeezes_S1x1x1024x1024_S1024x1024 = src0 (exw w) :=
  congrArg (fun M : Memref sig .tc .hbm S1x1x1024x1024 .f32 => M.squeeze S1024x1024 squeezes_S1x1x1024x1024_S1024x1024) (Memref.slice_unit_congr _ (coff12 w h) _ _ (fun _ => rfl) (fun _ => rfl))
@[sl_canon] theorem canon12_0' (w : BitVec 32) (h : w.toNat < 32) (hi) :
    (hbM0_0.slice (Rect.unit (s := S2x32x1024x1024) (k0_off12 w) ![1, 1, 1024, 1024] hi) (fun _ => rfl)).squeeze S1024x1024 squeezes_S1x1x1024x1024_S1024x1024 = src0 (exw w) :=
  canon12_0 w h hi

@[sl_canon] theorem canon12_1 (w : BitVec 32) (h : w.toNat < 32) (hi) :
    (hbM0_1.slice (Rect.unit (s := S2x32x1024x1024) (k0_off12 w) S1x1x1024x1024.size hi) (fun _ => rfl)).squeeze S1024x1024 squeezes_S1x1x1024x1024_S1024x1024 = src1 (exw w) :=
  congrArg (fun M : Memref sig .tc .hbm S1x1x1024x1024 .f32 => M.squeeze S1024x1024 squeezes_S1x1x1024x1024_S1024x1024) (Memref.slice_unit_congr _ (coff12 w h) _ _ (fun _ => rfl) (fun _ => rfl))
@[sl_canon] theorem canon12_1' (w : BitVec 32) (h : w.toNat < 32) (hi) :
    (hbM0_1.slice (Rect.unit (s := S2x32x1024x1024) (k0_off12 w) ![1, 1, 1024, 1024] hi) (fun _ => rfl)).squeeze S1024x1024 squeezes_S1x1x1024x1024_S1024x1024 = src1 (exw w) :=
  canon12_1 w h hi

@[sl_canon] theorem canon12_2 (w : BitVec 32) (h : w.toNat < 32) (hi) :
    (hbM0_2.slice (Rect.unit (s := S2x32x1024x1024) (k0_off12 w) S1x1x1024x1024.size hi) (fun _ => rfl)).squeeze S1024x1024 squeezes_S1x1x1024x1024_S1024x1024 = src2 (exw w) :=
  congrArg (fun M : Memref sig .tc .hbm S1x1x1024x1024 .f32 => M.squeeze S1024x1024 squeezes_S1x1x1024x1024_S1024x1024) (Memref.slice_unit_congr _ (coff12 w h) _ _ (fun _ => rfl) (fun _ => rfl))
@[sl_canon] theorem canon12_2' (w : BitVec 32) (h : w.toNat < 32) (hi) :
    (hbM0_2.slice (Rect.unit (s := S2x32x1024x1024) (k0_off12 w) ![1, 1, 1024, 1024] hi) (fun _ => rfl)).squeeze S1024x1024 squeezes_S1x1x1024x1024_S1024x1024 = src2 (exw w) :=
  canon12_2 w h hi

theorem coff13 (w : BitVec 32) (h : w.toNat < 2) : k0_off13 w = ![(slw w).val] := by
  have e : (slw w).val = w.toNat := Nat.mod_eq_of_lt h
  have e' : (oth (slw w)).val = 1 - w.toNat := by show 1 - (slw w).val = _; rw [e]
  have e2 := toNat_sub_one h
  funext a; fin_cases a; simp [k0_off13, e, e', e2]
@[sl_canon] theorem canon13 (w : BitVec 32) (h : w.toNat < 2) (hi) :
    (cc0_scratch4.slice (Rect.unit (s := S2) (k0_off13 w) S1.size hi)).squeeze S_ squeezes_S1_S_ = cellA (slw w) :=
  congrArg (fun A : DmaSems sig S1 => A.squeeze S_ squeezes_S1_S_) (SemArray.slice_unit_congr _ (coff13 w h) _ _)
@[sl_canon] theorem canon13' (w : BitVec 32) (h : w.toNat < 2) (hi) :
    (cc0_scratch4.slice (Rect.unit (s := S2) (k0_off13 w) ![1] hi)).squeeze S_ squeezes_S1_S_ = cellA (slw w) :=
  canon13 w h hi

theorem coff14 (w : BitVec 32) (h : w.toNat < 2) : k0_off14 w = ![(slw w).val, 1, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off14, e, e', e2]
@[sl_canon] theorem canon14 (w : BitVec 32) (h : w.toNat < 2) (hi) :
    (scM0_0.slice (Rect.unit (s := S2x3x1024x1024) (k0_off14 w) S1x1x1024x1024.size hi) (fun _ => rfl)).squeeze S1024x1024 squeezes_S1x1x1024x1024_S1024x1024 = win1 (slw w) :=
  congrArg (fun M : Memref sig .tc .vmem S1x1x1024x1024 .f32 => M.squeeze S1024x1024 squeezes_S1x1x1024x1024_S1024x1024) (Memref.slice_unit_congr _ (coff14 w h) _ _ (fun _ => rfl) (fun _ => rfl))
@[sl_canon] theorem canon14' (w : BitVec 32) (h : w.toNat < 2) (hi) :
    (scM0_0.slice (Rect.unit (s := S2x3x1024x1024) (k0_off14 w) ![1, 1, 1024, 1024] hi) (fun _ => rfl)).squeeze S1024x1024 squeezes_S1x1x1024x1024_S1024x1024 = win1 (slw w) :=
  canon14 w h hi

theorem coff15 (w : BitVec 32) (h : w.toNat < 2) : k0_off15 w = ![(slw w).val, 2, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off15, e, e', e2]
@[sl_canon] theorem canon15 (w : BitVec 32) (h : w.toNat < 2) (hi) :
    (scM0_0.slice (Rect.unit (s := S2x3x1024x1024) (k0_off15 w) S1x1x1024x1024.size hi) (fun _ => rfl)).squeeze S1024x1024 squeezes_S1x1x1024x1024_S1024x1024 = win2 (slw w) :=
  congrArg (fun M : Memref sig .tc .vmem S1x1x1024x1024 .f32 => M.squeeze S1024x1024 squeezes_S1x1x1024x1024_S1024x1024) (Memref.slice_unit_congr _ (coff15 w h) _ _ (fun _ => rfl) (fun _ => rfl))
@[sl_canon] theorem canon15' (w : BitVec 32) (h : w.toNat < 2) (hi) :
    (scM0_0.slice (Rect.unit (s := S2x3x1024x1024) (k0_off15 w) ![1, 1, 1024, 1024] hi) (fun _ => rfl)).squeeze S1024x1024 squeezes_S1x1x1024x1024_S1024x1024 = win2 (slw w) :=
  canon15 w h hi

theorem coff20 (w : BitVec 32) (h : w.toNat < 2) : k0_off20 w = ![(oth (slw w)).val] := by
  have e : (slw w).val = w.toNat := Nat.mod_eq_of_lt h
  have e' : (oth (slw w)).val = 1 - w.toNat := by show 1 - (slw w).val = _; rw [e]
  have e2 := toNat_sub_one h
  funext a; fin_cases a; simp [k0_off20, e, e', e2]
@[sl_canon] theorem canon20 (w : BitVec 32) (h : w.toNat < 2) (hi) :
    (cc0_scratch4.slice (Rect.unit (s := S2) (k0_off20 w) S1.size hi)).squeeze S_ squeezes_S1_S_ = cellA (oth (slw w)) :=
  congrArg (fun A : DmaSems sig S1 => A.squeeze S_ squeezes_S1_S_) (SemArray.slice_unit_congr _ (coff20 w h) _ _)
@[sl_canon] theorem canon20' (w : BitVec 32) (h : w.toNat < 2) (hi) :
    (cc0_scratch4.slice (Rect.unit (s := S2) (k0_off20 w) ![1] hi)).squeeze S_ squeezes_S1_S_ = cellA (oth (slw w)) :=
  canon20 w h hi

theorem coff21 (w : BitVec 32) (h : w.toNat < 2) : k0_off21 w = ![(oth (slw w)).val, 0, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off21, e, e', e2]
@[sl_canon] theorem canon21 (w : BitVec 32) (h : w.toNat < 2) (hi) :
    (scM0_0.slice (Rect.unit (s := S2x3x1024x1024) (k0_off21 w) S1x1x1024x1024.size hi) (fun _ => rfl)).squeeze S1024x1024 squeezes_S1x1x1024x1024_S1024x1024 = win0 (oth (slw w)) :=
  congrArg (fun M : Memref sig .tc .vmem S1x1x1024x1024 .f32 => M.squeeze S1024x1024 squeezes_S1x1x1024x1024_S1024x1024) (Memref.slice_unit_congr _ (coff21 w h) _ _ (fun _ => rfl) (fun _ => rfl))
@[sl_canon] theorem canon21' (w : BitVec 32) (h : w.toNat < 2) (hi) :
    (scM0_0.slice (Rect.unit (s := S2x3x1024x1024) (k0_off21 w) ![1, 1, 1024, 1024] hi) (fun _ => rfl)).squeeze S1024x1024 squeezes_S1x1x1024x1024_S1024x1024 = win0 (oth (slw w)) :=
  canon21 w h hi

theorem coff22 (w : BitVec 32) (h : w.toNat < 32) : k0_off22 w = ![0, (exw w).val, 0, 0] := by
  have e : (exw w).val = w.toNat := Nat.mod_eq_of_lt h
  funext a; fin_cases a <;> simp [k0_off22, e]

@[sl_canon] theorem canon22_0 (w : BitVec 32) (h : w.toNat < 32) (hi) :
    (hbM0_0.slice (Rect.unit (s := S2x32x1024x1024) (k0_off22 w) S1x1x1024x1024.size hi) (fun _ => rfl)).squeeze S1024x1024 squeezes_S1x1x1024x1024_S1024x1024 = src0 (exw w) :=
  congrArg (fun M : Memref sig .tc .hbm S1x1x1024x1024 .f32 => M.squeeze S1024x1024 squeezes_S1x1x1024x1024_S1024x1024) (Memref.slice_unit_congr _ (coff22 w h) _ _ (fun _ => rfl) (fun _ => rfl))
@[sl_canon] theorem canon22_0' (w : BitVec 32) (h : w.toNat < 32) (hi) :
    (hbM0_0.slice (Rect.unit (s := S2x32x1024x1024) (k0_off22 w) ![1, 1, 1024, 1024] hi) (fun _ => rfl)).squeeze S1024x1024 squeezes_S1x1x1024x1024_S1024x1024 = src0 (exw w) :=
  canon22_0 w h hi

@[sl_canon] theorem canon22_1 (w : BitVec 32) (h : w.toNat < 32) (hi) :
    (hbM0_1.slice (Rect.unit (s := S2x32x1024x1024) (k0_off22 w) S1x1x1024x1024.size hi) (fun _ => rfl)).squeeze S1024x1024 squeezes_S1x1x1024x1024_S1024x1024 = src1 (exw w) :=
  congrArg (fun M : Memref sig .tc .hbm S1x1x1024x1024 .f32 => M.squeeze S1024x1024 squeezes_S1x1x1024x1024_S1024x1024) (Memref.slice_unit_congr _ (coff22 w h) _ _ (fun _ => rfl) (fun _ => rfl))
@[sl_canon] theorem canon22_1' (w : BitVec 32) (h : w.toNat < 32) (hi) :
    (hbM0_1.slice (Rect.unit (s := S2x32x1024x1024) (k0_off22 w) ![1, 1, 1024, 1024] hi) (fun _ => rfl)).squeeze S1024x1024 squeezes_S1x1x1024x1024_S1024x1024 = src1 (exw w) :=
  canon22_1 w h hi

@[sl_canon] theorem canon22_2 (w : BitVec 32) (h : w.toNat < 32) (hi) :
    (hbM0_2.slice (Rect.unit (s := S2x32x1024x1024) (k0_off22 w) S1x1x1024x1024.size hi) (fun _ => rfl)).squeeze S1024x1024 squeezes_S1x1x1024x1024_S1024x1024 = src2 (exw w) :=
  congrArg (fun M : Memref sig .tc .hbm S1x1x1024x1024 .f32 => M.squeeze S1024x1024 squeezes_S1x1x1024x1024_S1024x1024) (Memref.slice_unit_congr _ (coff22 w h) _ _ (fun _ => rfl) (fun _ => rfl))
@[sl_canon] theorem canon22_2' (w : BitVec 32) (h : w.toNat < 32) (hi) :
    (hbM0_2.slice (Rect.unit (s := S2x32x1024x1024) (k0_off22 w) ![1, 1, 1024, 1024] hi) (fun _ => rfl)).squeeze S1024x1024 squeezes_S1x1x1024x1024_S1024x1024 = src2 (exw w) :=
  canon22_2 w h hi

theorem coff23 (w : BitVec 32) (h : w.toNat < 2) : k0_off23 w = ![(oth (slw w)).val, 1, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off23, e, e', e2]
@[sl_canon] theorem canon23 (w : BitVec 32) (h : w.toNat < 2) (hi) :
    (scM0_0.slice (Rect.unit (s := S2x3x1024x1024) (k0_off23 w) S1x1x1024x1024.size hi) (fun _ => rfl)).squeeze S1024x1024 squeezes_S1x1x1024x1024_S1024x1024 = win1 (oth (slw w)) :=
  congrArg (fun M : Memref sig .tc .vmem S1x1x1024x1024 .f32 => M.squeeze S1024x1024 squeezes_S1x1x1024x1024_S1024x1024) (Memref.slice_unit_congr _ (coff23 w h) _ _ (fun _ => rfl) (fun _ => rfl))
@[sl_canon] theorem canon23' (w : BitVec 32) (h : w.toNat < 2) (hi) :
    (scM0_0.slice (Rect.unit (s := S2x3x1024x1024) (k0_off23 w) ![1, 1, 1024, 1024] hi) (fun _ => rfl)).squeeze S1024x1024 squeezes_S1x1x1024x1024_S1024x1024 = win1 (oth (slw w)) :=
  canon23 w h hi

theorem coff24 (w : BitVec 32) (h : w.toNat < 2) : k0_off24 w = ![(oth (slw w)).val, 2, 0, 0] := by
  have e : (slw w).val = w.toNat := Nat.mod_eq_of_lt h
  have e' : (oth (slw w)).val = 1 - w.toNat := by show 1 - (slw w).val = _; rw [e]
  have e2 := toNat_sub_one h
  funext a; fin_cases a <;> simp [k0_off24, e, e', e2]
@[sl_canon] theorem canon24 (w : BitVec 32) (h : w.toNat < 2) (hi) :
    (scM0_0.slice (Rect.unit (s := S2x3x1024x1024) (k0_off24 w) S1x1x1024x1024.size hi) (fun _ => rfl)).squeeze S1024x1024 squeezes_S1x1x1024x1024_S1024x1024 = win2 (oth (slw w)) :=
  congrArg (fun M : Memref sig .tc .vmem S1x1x1024x1024 .f32 => M.squeeze S1024x1024 squeezes_S1x1x1024x1024_S1024x1024) (Memref.slice_unit_congr _ (coff24 w h) _ _ (fun _ => rfl) (fun _ => rfl))
@[sl_canon] theorem canon24' (w : BitVec 32) (h : w.toNat < 2) (hi) :
    (scM0_0.slice (Rect.unit (s := S2x3x1024x1024) (k0_off24 w) ![1, 1, 1024, 1024] hi) (fun _ => rfl)).squeeze S1024x1024 squeezes_S1x1x1024x1024_S1024x1024 = win2 (oth (slw w)) :=
  canon24 w h hi

theorem coff16 (w : BitVec 32) [hw : Fact (w.toNat < 2)] : k0_off16 w = ![(slw w).val, 0, 0, 0] := by
  have e : (slw w).val = w.toNat := Nat.mod_eq_of_lt hw.out
  funext a; fin_cases a <;> simp [k0_off16, e, Scalar.indexCast]
theorem inb16 (w : BitVec 32) [hw : Fact (w.toNat < 2)] : ∀ a, k0_off16 w a + S1x1x1024x1024.size a ≤ S2x3x1024x1024.size a := by
  rw [coff16]; exact inbW _ 0
instance (priority := high) closedOff16 (w : BitVec 32) [hw : Fact (w.toNat < 2)] : ClosedOff (k0_off16 w) := ⟨![(slw w).val, 0, 0, 0], coff16 w⟩

theorem coff17 (w : BitVec 32) [hw : Fact (w.toNat < 2)] : k0_off17 w = ![(slw w).val, 1, 0, 0] := by
  have e : (slw w).val = w.toNat := Nat.mod_eq_of_lt hw.out
  funext a; fin_cases a <;> simp [k0_off17, e, Scalar.indexCast]
theorem inb17 (w : BitVec 32) [hw : Fact (w.toNat < 2)] : ∀ a, k0_off17 w a + S1x1x1024x1024.size a ≤ S2x3x1024x1024.size a := by
  rw [coff17]; exact inbW _ 1
instance (priority := high) closedOff17 (w : BitVec 32) [hw : Fact (w.toNat < 2)] : ClosedOff (k0_off17 w) := ⟨![(slw w).val, 1, 0, 0], coff17 w⟩

theorem coff18 (w : BitVec 32) [hw : Fact (w.toNat < 2)] : k0_off18 w = ![(slw w).val, 2, 0, 0] := by
  have e : (slw w).val = w.toNat := Nat.mod_eq_of_lt hw.out
  funext a; fin_cases a <;> simp [k0_off18, e, Scalar.indexCast]
theorem inb18 (w : BitVec 32) [hw : Fact (w.toNat < 2)] : ∀ a, k0_off18 w a + S1x1x1024x1024.size a ≤ S2x3x1024x1024.size a := by
  rw [coff18]; exact inbW _ 2
instance (priority := high) closedOff18 (w : BitVec 32) [hw : Fact (w.toNat < 2)] : ClosedOff (k0_off18 w) := ⟨![(slw w).val, 2, 0, 0], coff18 w⟩

end Canon

end Cert.Ffn

end
-- ==== Proof.FfnTail.lean ====
module

public import proofs.«01_k».proof.Proof.FfnRing
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The body from the block's computation on: the block's rows when the block is active, zeros when it is not. -/
noncomputable def tailP (i : grid0.Coords) (arg1 : Memref sig .tc .smem S160 .i32) (harg1 : arg1.IsWhole) (arg2 : Memref sig .tc .smem S1 .i32) (harg2 : arg2.IsWhole) (arg3 : Memref sig .tc .smem S160 .i32) (harg3 : arg3.IsWhole) (arg4 : Memref sig .tc .smem S160 .i32) (harg4 : arg4.IsWhole) (arg5 : Memref sig .tc .vmem S4096x128 .f32) (harg5 : arg5.IsWhole) (arg6 : Memref sig .tc .hbm S2x32x1024x1024 .f32) (harg6 : arg6.IsWhole) (arg7 : Memref sig .tc .vmem S1x1x1x1024 .f32) (harg7 : arg7.IsWhole) (arg8 : Memref sig .tc .hbm S2x32x1024x1024 .f32) (harg8 : arg8.IsWhole) (arg9 : Memref sig .tc .vmem S1x1x1x1024 .f32) (harg9 : arg9.IsWhole) (arg10 : Memref sig .tc .hbm S2x32x1024x1024 .f32) (harg10 : arg10.IsWhole) (arg11 : Memref sig .tc .vmem S1x1x1x1024 .f32) (harg11 : arg11.IsWhole) (arg12 : Memref sig .tc .vmem S4096x128 .f32) (harg12 : arg12.IsWhole) (arg13 : Memref sig .tc .vmem S2x3x1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : DmaSems sig S2) (v0 : Elt F .i32) :
    Prog (TpuEff nD τ sig (Elt F) Λ₀ .tc) PUnit := do
  let arg0 : BitVec 32 := BitVec.ofNat 32 (i 0).val
  if k0_h4 : k0_cond4 i v0 = 1#1 then do
    let ⟨v51, v53, v54⟩ : Σ' (v51 : FVec F S512x1024 .f32) (v53 : FVec F S512x1024 .f32), Vec F S1x1x1x1024 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
    let ⟨v75, v86⟩ : Σ' (v75 : FVec F S512x1024 .f32), FVec F S512x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v51 v53 v54
    let v87 : Vec F S512x128 .f32 ← Prog.lift (.load arg12 (⟨![5, 0], S512x128.size, ![8, 1], inb_S4096x128_S512x128_5_0_s_8_1⟩ : LoadRect S4096x128) (View.loadsAt_vmem h_S512x128))
    Prog.lift (.store arg12 ⟨(⟨![5, 0], S512x128.size, ![8, 1], inb_S4096x128_S512x128_5_0_s_8_1⟩ : LoadRect S4096x128), spos_8_1⟩ v86 Finset.univ (View.stores_vmem_bits_univ h_S512x128 rfl) (.inl rfl))
    let v89 : Vec F S512x128 .f32 ← Prog.lift (.load arg12 (⟨![6, 0], S512x128.size, ![8, 1], inb_S4096x128_S512x128_6_0_s_8_1⟩ : LoadRect S4096x128) (View.loadsAt_vmem h_S512x128))
    Prog.lift (.store arg12 ⟨(⟨![6, 0], S512x128.size, ![8, 1], inb_S4096x128_S512x128_6_0_s_8_1⟩ : LoadRect S4096x128), spos_8_1⟩ (k0_pay3 v75) Finset.univ (View.stores_vmem_bits_univ h_S512x128 rfl) (.inl rfl))
    let v91 : Vec F S512x128 .f32 ← Prog.lift (.load arg12 (⟨![7, 0], S512x128.size, ![8, 1], inb_S4096x128_S512x128_7_0_s_8_1⟩ : LoadRect S4096x128) (View.loadsAt_vmem h_S512x128))
    Prog.lift (.store arg12 ⟨(⟨![7, 0], S512x128.size, ![8, 1], inb_S4096x128_S512x128_7_0_s_8_1⟩ : LoadRect S4096x128), spos_8_1⟩ (k0_pay4 v75) Finset.univ (View.stores_vmem_bits_univ h_S512x128 rfl) (.inl rfl))
    pure ⟨⟩
  else do
    pure ⟨⟩
  let v22 : Elt F .i32 ← smemLoad arg2 (Rect.unit (s := S1) ![0] S1.size inb_S1_S1_0) numel1_S1 rfl
  if k0_h5 : k0_cond5 i v22 = 1#1 then do
    let v27 : Vec F S4096x128 .f32 ← Prog.lift (.load arg12 (Rect.unit (s := S4096x128) ![0, 0] S4096x128.size inb_S4096x128_S4096x128_0_0).toLoadRect (View.loadsAt_vmem h_S4096x128))
    Prog.lift (.store arg12 (Rect.unit (s := S4096x128) ![0, 0] S4096x128.size inb_S4096x128_S4096x128_0_0) (k0_pay5 (F := F)) Finset.univ (View.stores_vmem_bits_univ h_S4096x128 rfl) (.inl rfl))
    pure ⟨⟩
  else do
    pure ⟨⟩
  pure ⟨⟩

set_option maxHeartbeats 1000000 in
noncomputable def tailOn (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (v0 : Elt F .i32) (T1 : TbBuf0 (F := F) c tbM0_1) (hc4 : k0_cond4 (grid0.coords t) v0 = 1#1) (hc5 : ¬ k0_cond5 (grid0.coords t) (wNa c T1) = 1#1)
    (x0 : Vec F S4096x128 .f32) (x1 : Vec F S1x1x1x1024 .f32) (x2 : Vec F S1x1x1x1024 .f32) (x3 : Vec F S1x1x1x1024 .f32) (g u d : Vec F S1024x1024 .bf16) :
    { L : List (View.Piece (Elt F) S4096x128 .f32) //
      ∀ (W : Waits sig Unit) (K : PUnit → sProp 𝕄),
        iprop(owns (c : Thread nD τ) arg5 fullShare x0 ∗ owns (c : Thread nD τ) arg7 fullShare x1 ∗ owns (c : Thread nD τ) arg9 fullShare x2 ∗ owns (c : Thread nD τ) arg11 fullShare x3 ∗ (∃ d, owns (c : Thread nD τ) arg12 fullShare d) ∗ owns (c : Thread nD τ) arg14 fullShare g ∗ owns (c : Thread nD τ) arg15 fullShare u ∗ owns (c : Thread nD τ) arg16 fullShare d ∗ tbPt0 c tbM0_1 T1 ∗ owes (c : Thread nD τ) 0 W
            ∗ (iprop(owns (c : Thread nD τ) arg5 fullShare x0 ∗ owns (c : Thread nD τ) arg7 fullShare x1 ∗ owns (c : Thread nD τ) arg9 fullShare x2 ∗ owns (c : Thread nD τ) arg11 fullShare x3 ∗ (∃ f, arg12.view.loc (c : Thread nD τ) ↦[arg12.view.set]{fullShare} arg12.view.writes (Elt F) f L) ∗ owns (c : Thread nD τ) arg14 fullShare g ∗ owns (c : Thread nD τ) arg15 fullShare u ∗ owns (c : Thread nD τ) arg16 fullShare d ∗ tbPt0 c tbM0_1 T1 ∗ owes (c : Thread nD τ) 0 W) -∗ K ⟨⟩))
          ⊢ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 v0) K } := by
  refine ⟨?_, fun W K => ?run⟩
  case run =>
    unfold tailP
    simp only [k0_part2_eq_skeleton, k0_part3_eq_skeleton]
    unfold owns tbPt0
    iintro ⟨⟨%f0, %hf0, H0⟩, ⟨%f1, %hf1, H1⟩, ⟨%f2, %hf2, H2⟩, ⟨%f3, %hf3, H3⟩, ⟨%d4, %f4, -, H4⟩, ⟨%fs1, %hs1, HS1⟩, ⟨%fs2, %hs2, HS2⟩, ⟨%fs3, %hs3, HS3⟩, HT1, HW, Hk⟩
    obtain rfl := harg5.eq_unread hf0; obtain rfl := harg7.eq_unread hf1; obtain rfl := harg9.eq_unread hf2; obtain rfl := harg11.eq_unread hf3
    obtain rfl := harg14.eq_unread hs1; obtain rfl := harg15.eq_unread hs2; obtain rfl := harg16.eq_unread hs3
    sl_exec (disch := first | exact hc4 | exact hc5)
    sl_step
    iapply Hk
    isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [H3]
    · iexists _; isplitr; · ipureintro; exact harg11.read_unread _
      iexact H3
    isplitl [H4]; · iexists _; iexact H4
    isplitl [HS1]
    · iexists _; isplitr; · ipureintro; exact harg14.read_unread _
      iexact HS1
    isplitl [HS2]
    · iexists _; isplitr; · ipureintro; exact harg15.read_unread _
      iexact HS2
    isplitl [HS3]
    · iexists _; isplitr; · ipureintro; exact harg16.read_unread _
      iexact HS3
    isplitl [HT1]; · iexact HT1
    iexact HW

set_option maxHeartbeats 1000000 in
noncomputable def tailOff (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (v0 : Elt F .i32) (T1 : TbBuf0 (F := F) c tbM0_1) (hc4 : ¬ k0_cond4 (grid0.coords t) v0 = 1#1) (hc5 : k0_cond5 (grid0.coords t) (wNa c T1) = 1#1)
    (x0 : Vec F S4096x128 .f32) (x1 : Vec F S1x1x1x1024 .f32) (x2 : Vec F S1x1x1x1024 .f32) (x3 : Vec F S1x1x1x1024 .f32) (g u d : Vec F S1024x1024 .bf16) :
    { L : List (View.Piece (Elt F) S4096x128 .f32) //
      ∀ (W : Waits sig Unit) (K : PUnit → sProp 𝕄),
        iprop(owns (c : Thread nD τ) arg5 fullShare x0 ∗ owns (c : Thread nD τ) arg7 fullShare x1 ∗ owns (c : Thread nD τ) arg9 fullShare x2 ∗ owns (c : Thread nD τ) arg11 fullShare x3 ∗ (∃ d, owns (c : Thread nD τ) arg12 fullShare d) ∗ owns (c : Thread nD τ) arg14 fullShare g ∗ owns (c : Thread nD τ) arg15 fullShare u ∗ owns (c : Thread nD τ) arg16 fullShare d ∗ tbPt0 c tbM0_1 T1 ∗ owes (c : Thread nD τ) 0 W
            ∗ (iprop(owns (c : Thread nD τ) arg5 fullShare x0 ∗ owns (c : Thread nD τ) arg7 fullShare x1 ∗ owns (c : Thread nD τ) arg9 fullShare x2 ∗ owns (c : Thread nD τ) arg11 fullShare x3 ∗ (∃ f, arg12.view.loc (c : Thread nD τ) ↦[arg12.view.set]{fullShare} arg12.view.writes (Elt F) f L) ∗ owns (c : Thread nD τ) arg14 fullShare g ∗ owns (c : Thread nD τ) arg15 fullShare u ∗ owns (c : Thread nD τ) arg16 fullShare d ∗ tbPt0 c tbM0_1 T1 ∗ owes (c : Thread nD τ) 0 W) -∗ K ⟨⟩))
          ⊢ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 v0) K } := by
  refine ⟨?_, fun W K => ?run⟩
  case run =>
    unfold tailP
    simp only [k0_part2_eq_skeleton, k0_part3_eq_skeleton]
    unfold owns tbPt0
    iintro ⟨⟨%f0, %hf0, H0⟩, ⟨%f1, %hf1, H1⟩, ⟨%f2, %hf2, H2⟩, ⟨%f3, %hf3, H3⟩, ⟨%d4, %f4, -, H4⟩, ⟨%fs1, %hs1, HS1⟩, ⟨%fs2, %hs2, HS2⟩, ⟨%fs3, %hs3, HS3⟩, HT1, HW, Hk⟩
    obtain rfl := harg5.eq_unread hf0; obtain rfl := harg7.eq_unread hf1; obtain rfl := harg9.eq_unread hf2; obtain rfl := harg11.eq_unread hf3
    obtain rfl := harg14.eq_unread hs1; obtain rfl := harg15.eq_unread hs2; obtain rfl := harg16.eq_unread hs3
    sl_exec (disch := first | exact hc4 | exact hc5)
    sl_step
    iapply Hk
    isplitl [H0]
    · iexists _; isplitr; · ipureintro; exact harg5.read_unread _
      iexact H0
    isplitl [H1]
    · iexists _; isplitr; · ipureintro; exact harg7.read_unread _
      iexact H1
    isplitl [H2]
    · iexists _; isplitr; · ipureintro; exact harg9.read_unread _
      iexact H2
    isplitl [H3]
    · iexists _; isplitr; · ipureintro; exact harg11.read_unread _
      iexact H3
    isplitl [H4]; · iexists _; iexact H4
    isplitl [HS1]
    · iexists _; isplitr; · ipureintro; exact harg14.read_unread _
      iexact HS1
    isplitl [HS2]
    · iexists _; isplitr; · ipureintro; exact harg15.read_unread _
      iexact HS2
    isplitl [HS3]
    · iexists _; isplitr; · ipureintro; exact harg16.read_unread _
      iexact HS3
    isplitl [HT1]; · iexact HT1
    iexact HW

end Cert.Ffn

end
-- ==== Proof.FfnMid.lean ====
module

public import proofs.«01_k».proof.Proof.FfnTail
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body from the fetch on. -/
noncomputable def midP (i : grid0.Coords) (arg1 : Memref sig .tc .smem S160 .i32) (harg1 : arg1.IsWhole) (arg2 : Memref sig .tc .smem S1 .i32) (harg2 : arg2.IsWhole) (arg3 : Memref sig .tc .smem S160 .i32) (harg3 : arg3.IsWhole) (arg4 : Memref sig .tc .smem S160 .i32) (harg4 : arg4.IsWhole) (arg5 : Memref sig .tc .vmem S4096x128 .f32) (harg5 : arg5.IsWhole) (arg6 : Memref sig .tc .hbm S2x32x1024x1024 .f32) (harg6 : arg6.IsWhole) (arg7 : Memref sig .tc .vmem S1x1x1x1024 .f32) (harg7 : arg7.IsWhole) (arg8 : Memref sig .tc .hbm S2x32x1024x1024 .f32) (harg8 : arg8.IsWhole) (arg9 : Memref sig .tc .vmem S1x1x1x1024 .f32) (harg9 : arg9.IsWhole) (arg10 : Memref sig .tc .hbm S2x32x1024x1024 .f32) (harg10 : arg10.IsWhole) (arg11 : Memref sig .tc .vmem S1x1x1x1024 .f32) (harg11 : arg11.IsWhole) (arg12 : Memref sig .tc .vmem S4096x128 .f32) (harg12 : arg12.IsWhole) (arg13 : Memref sig .tc .vmem S2x3x1024x1024 .f32) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : DmaSems sig S2) (v0 v3 v7 : Elt F .i32) :
    Prog (TpuEff nD τ sig (Elt F) Λ₀ .tc) PUnit := do
  let arg0 : BitVec 32 := BitVec.ofNat 32 (i 0).val
  if k0_h2 : k0_cond2 i v0 v3 v7 = 1#1 then do
    let ⟨v27, k0_hw3⟩ : Σ' (v27 : Elt F .i32), k0_chk3 i v0 v3 v7 v27 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg0 v0 v3 v7 k0_h2
    let v56 : Vec F S1x1x1024x1024 .f32 ← Prog.lift (.load arg13 (Rect.unit (s := S2x3x1024x1024) (k0_off17 v27) S1x1x1024x1024.size (k0_off17_inb i v0 v3 v7 v27 k0_hw3 k0_h2)).toLoadRect (View.loadsAt_vmem h_S1x1x1024x1024))
    let v59 : Vec F S1024x1024 .bf16 ← Prog.lift (.load arg15 (Rect.unit (s := S1024x1024) ![0, 0] S1024x1024.size inb_S1024x1024_S1024x1024_0_0).toLoadRect (View.loadsAt_vmem h_S1024x1024))
    Prog.lift (.store arg15 (Rect.unit (s := S1024x1024) ![0, 0] S1024x1024.size inb_S1024x1024_S1024x1024_0_0) (k0_pay1 v56) Finset.univ (View.stores_vmem h_S1024x1024 (harg15.storeExact_slice rfl _ packedbf16_S1024x1024_S1024x1024_0_0) (fun _ => rfl)) (.inl rfl))
    let v63 : Vec F S1x1x1024x1024 .f32 ← Prog.lift (.load arg13 (Rect.unit (s := S2x3x1024x1024) (k0_off18 v27) S1x1x1024x1024.size (k0_off18_inb i v0 v3 v7 v27 k0_hw3 k0_h2)).toLoadRect (View.loadsAt_vmem h_S1x1x1024x1024))
    let v66 : Vec F S1024x1024 .bf16 ← Prog.lift (.load arg16 (Rect.unit (s := S1024x1024) ![0, 0] S1024x1024.size inb_S1024x1024_S1024x1024_0_0).toLoadRect (View.loadsAt_vmem h_S1024x1024))
    Prog.lift (.store arg16 (Rect.unit (s := S1024x1024) ![0, 0] S1024x1024.size inb_S1024x1024_S1024x1024_0_0) (k0_pay2 v63) Finset.univ (View.stores_vmem h_S1024x1024 (harg16.storeExact_slice rfl _ packedbf16_S1024x1024_S1024x1024_0_0) (fun _ => rfl)) (.inl rfl))
    let v70 : Elt F .i32 ← smemLoad arg4 (Rect.unit (s := S160) (k0_off19 i) S1.size (k0_off19_inb i)) numel1_S1 rfl
    have k0_hw5 : k0_chk5 i v0 v3 v7 v27 v70 := (← Prog.lift (TpuEff.assume (k0_chk5 i v0 v3 v7 v27 v70) (k0_chk5.dec i v0 v3 v7 v27 v70))).down
    if k0_h3 : k0_cond3 v70 = 1#1 then do
      let v75 : DmaSems sig S1 := arg17.slice (Rect.unit (s := S2) (k0_off20 v27) S1.size (k0_off20_inb i v0 v3 v7 v27 v70 k0_hw5 k0_h2 k0_h3))
      let v76 : DmaSems sig S_ := v75.squeeze S_ squeezes_S1_S_
      let v77 : Memref sig .tc .vmem S1x1x1024x1024 .f32 := arg13.slice (Rect.unit (s := S2x3x1024x1024) (k0_off21 v27) S1x1x1024x1024.size (k0_off21_inb i v0 v3 v7 v27 v70 k0_hw5 k0_h2 k0_h3)) (fun _ => rfl)
      let v78 : Memref sig .tc .vmem S1024x1024 .f32 := v77.squeeze S1024x1024 squeezes_S1x1x1024x1024_S1024x1024
      let v79 : Memref sig .tc .hbm S1x1x1024x1024 .f32 := arg6.slice (Rect.unit (s := S2x32x1024x1024) (k0_off22 v70) S1x1x1024x1024.size (k0_off22_inb i v0 v3 v7 v27 v70 k0_hw5 k0_h2 k0_h3)) (fun _ => rfl)
      let v80 : Memref sig .tc .hbm S1024x1024 .f32 := v79.squeeze S1024x1024 squeezes_S1x1x1024x1024_S1024x1024
      Prog.lift (.enqueueDma v80 (.here v78) (.dma v76.sem) ((View.wordExact_bits rfl).reshape _ _) ((View.wordExact_bits rfl).reshape _ _) ⟨Or.inl rfl, trivial⟩)
      let v81 : DmaSems sig S1 := arg17.slice (Rect.unit (s := S2) (k0_off20 v27) S1.size (k0_off20_inb i v0 v3 v7 v27 v70 k0_hw5 k0_h2 k0_h3))
      let v82 : DmaSems sig S_ := v81.squeeze S_ squeezes_S1_S_
      let v83 : Memref sig .tc .vmem S1x1x1024x1024 .f32 := arg13.slice (Rect.unit (s := S2x3x1024x1024) (k0_off23 v27) S1x1x1024x1024.size (k0_off23_inb i v0 v3 v7 v27 v70 k0_hw5 k0_h2 k0_h3)) (fun _ => rfl)
      let v84 : Memref sig .tc .vmem S1024x1024 .f32 := v83.squeeze S1024x1024 squeezes_S1x1x1024x1024_S1024x1024
      let v85 : Memref sig .tc .hbm S1x1x1024x1024 .f32 := arg8.slice (Rect.unit (s := S2x32x1024x1024) (k0_off22 v70) S1x1x1024x1024.size (k0_off22_inb i v0 v3 v7 v27 v70 k0_hw5 k0_h2 k0_h3)) (fun _ => rfl)
      let v86 : Memref sig .tc .hbm S1024x1024 .f32 := v85.squeeze S1024x1024 squeezes_S1x1x1024x1024_S1024x1024
      Prog.lift (.enqueueDma v86 (.here v84) (.dma v82.sem) ((View.wordExact_bits rfl).reshape _ _) ((View.wordExact_bits rfl).reshape _ _) ⟨Or.inl rfl, trivial⟩)
      let v87 : DmaSems sig S1 := arg17.slice (Rect.unit (s := S2) (k0_off20 v27) S1.size (k0_off20_inb i v0 v3 v7 v27 v70 k0_hw5 k0_h2 k0_h3))
      let v88 : DmaSems sig S_ := v87.squeeze S_ squeezes_S1_S_
      let v89 : Memref sig .tc .vmem S1x1x1024x1024 .f32 := arg13.slice (Rect.unit (s := S2x3x1024x1024) (k0_off24 v27) S1x1x1024x1024.size (k0_off24_inb i v0 v3 v7 v27 v70 k0_hw5 k0_h2 k0_h3)) (fun _ => rfl)
      let v90 : Memref sig .tc .vmem S1024x1024 .f32 := v89.squeeze S1024x1024 squeezes_S1x1x1024x1024_S1024x1024
      let v91 : Memref sig .tc .hbm S1x1x1024x1024 .f32 := arg10.slice (Rect.unit (s := S2x32x1024x1024) (k0_off22 v70) S1x1x1024x1024.size (k0_off22_inb i v0 v3 v7 v27 v70 k0_hw5 k0_h2 k0_h3)) (fun _ => rfl)
      let v92 : Memref sig .tc .hbm S1024x1024 .f32 := v91.squeeze S1024x1024 squeezes_S1x1x1024x1024_S1024x1024
      Prog.lift (.enqueueDma v92 (.here v90) (.dma v88.sem) ((View.wordExact_bits rfl).reshape _ _) ((View.wordExact_bits rfl).reshape _ _) ⟨Or.inl rfl, trivial⟩)
      pure ⟨⟩
    else do
      pure ⟨⟩
    pure ⟨⟩
  else do
    pure ⟨⟩
  if k0_h4 : k0_cond4 i v0 = 1#1 then do
    let ⟨v51, v53, v54⟩ : Σ' (v51 : FVec F S512x1024 .f32) (v53 : FVec F S512x1024 .f32), Vec F S1x1x1x1024 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17
    let ⟨v75, v86⟩ : Σ' (v75 : FVec F S512x1024 .f32), FVec F S512x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v51 v53 v54
    let v87 : Vec F S512x128 .f32 ← Prog.lift (.load arg12 (⟨![5, 0], S512x128.size, ![8, 1], inb_S4096x128_S512x128_5_0_s_8_1⟩ : LoadRect S4096x128) (View.loadsAt_vmem h_S512x128))
    Prog.lift (.store arg12 ⟨(⟨![5, 0], S512x128.size, ![8, 1], inb_S4096x128_S512x128_5_0_s_8_1⟩ : LoadRect S4096x128), spos_8_1⟩ v86 Finset.univ (View.stores_vmem_bits_univ h_S512x128 rfl) (.inl rfl))
    let v89 : Vec F S512x128 .f32 ← Prog.lift (.load arg12 (⟨![6, 0], S512x128.size, ![8, 1], inb_S4096x128_S512x128_6_0_s_8_1⟩ : LoadRect S4096x128) (View.loadsAt_vmem h_S512x128))
    Prog.lift (.store arg12 ⟨(⟨![6, 0], S512x128.size, ![8, 1], inb_S4096x128_S512x128_6_0_s_8_1⟩ : LoadRect S4096x128), spos_8_1⟩ (k0_pay3 v75) Finset.univ (View.stores_vmem_bits_univ h_S512x128 rfl) (.inl rfl))
    let v91 : Vec F S512x128 .f32 ← Prog.lift (.load arg12 (⟨![7, 0], S512x128.size, ![8, 1], inb_S4096x128_S512x128_7_0_s_8_1⟩ : LoadRect S4096x128) (View.loadsAt_vmem h_S512x128))
    Prog.lift (.store arg12 ⟨(⟨![7, 0], S512x128.size, ![8, 1], inb_S4096x128_S512x128_7_0_s_8_1⟩ : LoadRect S4096x128), spos_8_1⟩ (k0_pay4 v75) Finset.univ (View.stores_vmem_bits_univ h_S512x128 rfl) (.inl rfl))
    pure ⟨⟩
  else do
    pure ⟨⟩
  let v22 : Elt F .i32 ← smemLoad arg2 (Rect.unit (s := S1) ![0] S1.size inb_S1_S1_0) numel1_S1 rfl
  if k0_h5 : k0_cond5 i v22 = 1#1 then do
    let v27 : Vec F S4096x128 .f32 ← Prog.lift (.load arg12 (Rect.unit (s := S4096x128) ![0, 0] S4096x128.size inb_S4096x128_S4096x128_0_0).toLoadRect (View.loadsAt_vmem h_S4096x128))
    Prog.lift (.store arg12 (Rect.unit (s := S4096x128) ![0, 0] S4096x128.size inb_S4096x128_S4096x128_0_0) (k0_pay5 (F := F)) Finset.univ (View.stores_vmem_bits_univ h_S4096x128 rfl) (.inl rfl))
    pure ⟨⟩
  else do
    pure ⟨⟩
  pure ⟨⟩

set_option maxHeartbeats 1000000 in
/-- A point past the first issues nothing on the way to the fetch. -/
theorem toMid (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (T0 : TbBuf0 (F := F) c tbM0_0) (T1 : TbBuf0 (F := F) c tbM0_1) (T2 : TbBuf0 (F := F) c tbM0_2) (T3 : TbBuf0 (F := F) c tbM0_3) (W0 : HbBuf0 (F := F) c hbM0_0) (W1 : HbBuf0 (F := F) c hbM0_1) (W2 : HbBuf0 (F := F) c hbM0_2) (na be pb : BitVec 32) (hna : wNa c T1 = na) (hbe : wAt c tbM0_0 T0 (k0_off1 (grid0.coords t)) (k0_off1_inb _) = be) (hpb : wAt c tbM0_0 T0 (k0_off2 (grid0.coords t)) (k0_off2_inb _) = pb)
    (hc1 : ¬ k0_cond1 (grid0.coords t) na = 1#1) (W : Waits sig Unit) (K : PUnit → sProp 𝕄) :
    iprop((tbPt0 c tbM0_0 T0 ∗ tbPt0 c tbM0_1 T1 ∗ tbPt0 c tbM0_2 T2 ∗ tbPt0 c tbM0_3 T3) ∗ owes (c : Thread nD τ) 0 W ∗ (iprop((tbPt0 c tbM0_0 T0 ∗ tbPt0 c tbM0_1 T1 ∗ tbPt0 c tbM0_2 T2 ∗ tbPt0 c tbM0_3 T3) ∗ owes (c : Thread nD τ) 0 W) -∗ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na be pb) K)) ⊢ wp frame (wpE (defs₀ (F := F)) Variants.none c none) Set.univ (cc0_moe_expert_ffn (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4) K := by
  simp only [cc0_moe_expert_ffn_eq_skeleton]; unfold cc0_moe_expert_ffn_skel
  unfold tbPt0 midP
  iintro ⟨⟨HT0, HT1, HT2, HT3⟩, HW, Hk⟩
  subst hna hpb hbe
  unfold wAt wNa at *
  set_option sl_exec.stopBefore "k0_cond1" in sl_exec
  unfold toMid.sl.r toMid.sl.r_1 toMid.sl.r_2
  set_option sl_exec.stopBefore "k0_cond2" in sl_exec (disch := first | sl_exact hc1)
  iapply Hk
  isplitl [HT0 HT1 HT2 HT3]
  · isplitl [HT0]; · iexact HT0
    isplitl [HT1]; · iexact HT1
    isplitl [HT2]; · iexact HT2
    iexact HT3
  iexact HW

set_option maxHeartbeats 2000000 in
/-- The first point starts the fetch of the first block's expert. -/
theorem toMidFirst (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (T0 : TbBuf0 (F := F) c tbM0_0) (T1 : TbBuf0 (F := F) c tbM0_1) (T2 : TbBuf0 (F := F) c tbM0_2) (T3 : TbBuf0 (F := F) c tbM0_3) (W0 : HbBuf0 (F := F) c hbM0_0) (W1 : HbBuf0 (F := F) c hbM0_1) (W2 : HbBuf0 (F := F) c hbM0_2) (na be pb : BitVec 32) (hna : wNa c T1 = na) (hbe : wAt c tbM0_0 T0 (k0_off1 (grid0.coords t)) (k0_off1_inb _) = be) (hpb : wAt c tbM0_0 T0 (k0_off2 (grid0.coords t)) (k0_off2_inb _) = pb)
    (e0 s0 : BitVec 32) (he0 : wAt c tbM0_0 T0 ![0] inb_S160_S1_0 = e0) (hs0 : wAt c tbM0_2 T2 ![0] inb_S160_S1_0 = s0) [hs02 : Fact (s0.toNat < 2)] (he32 : e0.toNat < 32)
    (hc1 : k0_cond1 (grid0.coords t) na = 1#1) (hk2 : k0_chk2 (grid0.coords t) na e0) (hk1 : k0_chk1 (grid0.coords t) na s0) (W : Waits sig Unit) (K : PUnit → sProp 𝕄) :
    iprop((tbPt0 c tbM0_0 T0 ∗ tbPt0 c tbM0_1 T1 ∗ tbPt0 c tbM0_2 T2 ∗ tbPt0 c tbM0_3 T3) ∗ freeP c W0 W1 W2 (slw s0) ∗ owes (c : Thread nD τ) 0 W ∗ (iprop((tbPt0 c tbM0_0 T0 ∗ tbPt0 c tbM0_1 T1 ∗ tbPt0 c tbM0_2 T2 ∗ tbPt0 c tbM0_3 T3) ∗ flightP c W0 W1 W2 (slw s0) (exw e0) ∗ owes (c : Thread nD τ) 0 W) -∗ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na be pb) K)) ⊢ wp frame (wpE (defs₀ (F := F)) Variants.none c none) Set.univ (cc0_moe_expert_ffn (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4) K := by
  have hs2 : s0.toNat < 2 := hs02.out
  simp only [cc0_moe_expert_ffn_eq_skeleton]; unfold cc0_moe_expert_ffn_skel
  unfold tbPt0 midP
  iintro ⟨⟨HT0, HT1, HT2, HT3⟩, ⟨Hc, ⟨%fw, Hw0, Hw1, Hw2⟩, HW0, HW1, HW2⟩, HW, Hk⟩
  ihave X0 := (src0_split c W0 (slw s0) (exw e0)).1 $$ HW0
  icases X0 with ⟨HX0, HQ0⟩
  ihave X1 := (src1_split c W1 (slw s0) (exw e0)).1 $$ HW1
  icases X1 with ⟨HX1, HQ1⟩
  ihave X2 := (src2_split c W2 (slw s0) (exw e0)).1 $$ HW2
  icases X2 with ⟨HX2, HQ2⟩
  have hD := storable_winD (F := F) c W0 W1 W2 (slw s0) (exw e0)
  imod (Transfers.batch_alloc' (Lvl := ℕ) countersEmb (c : Thread nD τ) default NN (winD c W0 W1 W2 (slw s0) (exw e0)) (sm := cellR (slw s0)) (E := Set.univ)) $$ Hc with HB
  clear hD
  subst hna hpb hbe he0 hs0
  unfold wAt wNa at *
  set_option sl_exec.stopBefore "k0_cond1" in sl_exec
  unfold toMidFirst.sl.r toMidFirst.sl.r_1 toMidFirst.sl.r_2
  sl_exec (disch := first | sl_exact hc1 | sl_exact hk2 | sl_exact hk1)
  unfold toMidFirst.sl.r_3 toMidFirst.sl.r_4
  set_option sl_exec.stopBefore "k0_cond2" in sl_exec (disch := first | sl_exact hc1)
  iapply Hk
  isplitl [HT0 HT1 HT2 HT3]
  · isplitl [HT0]; · iexact HT0
    isplitl [HT1]; · iexact HT1
    isplitl [HT2]; · iexact HT2
    iexact HT3
  isplitr [HW]
  · isplitl [HB]; · iexact HB
    isplitl [HQ0]; · iexact HQ0
    isplitl [HQ1]; · iexact HQ1
    iexact HQ2
  iexact HW

set_option maxHeartbeats 1000000 in
/-- A point that fetches nothing. -/
theorem midSkip (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (T0 : TbBuf0 (F := F) c tbM0_0) (T1 : TbBuf0 (F := F) c tbM0_1) (T2 : TbBuf0 (F := F) c tbM0_2) (T3 : TbBuf0 (F := F) c tbM0_3) (W0 : HbBuf0 (F := F) c hbM0_0) (W1 : HbBuf0 (F := F) c hbM0_1) (W2 : HbBuf0 (F := F) c hbM0_2) (na be pb : BitVec 32)
    (hc2 : ¬ k0_cond2 (grid0.coords t) na be pb = 1#1) (W : Waits sig Unit) (K : PUnit → sProp 𝕄) :
    iprop((tbPt0 c tbM0_0 T0 ∗ tbPt0 c tbM0_1 T1 ∗ tbPt0 c tbM0_2 T2 ∗ tbPt0 c tbM0_3 T3) ∗ owes (c : Thread nD τ) 0 W ∗ (iprop((tbPt0 c tbM0_0 T0 ∗ tbPt0 c tbM0_1 T1 ∗ tbPt0 c tbM0_2 T2 ∗ tbPt0 c tbM0_3 T3) ∗ owes (c : Thread nD τ) 0 W) -∗ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na) K)) ⊢ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na be pb) K := by
  unfold tbPt0 midP tailP
  iintro ⟨⟨HT0, HT1, HT2, HT3⟩, HW, Hk⟩
  set_option sl_exec.stopBefore "k0_cond4" in sl_exec (disch := first | sl_exact hc2)
  iapply Hk
  isplitl [HT0 HT1 HT2 HT3]
  · isplitl [HT0]; · iexact HT0
    isplitl [HT1]; · iexact HT1
    isplitl [HT2]; · iexact HT2
    iexact HT3
  iexact HW

end Cert.Ffn

end
-- ==== Proof.FfnFetch.lean ====
module

public import proofs.«01_k».proof.Proof.FfnMid
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A store of the whole block is what is read back. -/
theorem rd_whole {κ : Kind} {sp : Space} {e : EltTy} (v : View sig κ sp S1024x1024 e) (f : v.ty.Contents (Elt F)) (inb) (w) (L) :
    v.read (Elt F) (v.writes (Elt F) f (⟨Rect.unit (s := S1024x1024) ![0, 0] S1024x1024.size inb, w⟩ :: L)) = w :=
  funext fun y => View.read_writes_cons_unit_of_mem (off' := ![0, 0]) v f inb w L y y rfl (by intro a; fin_cases a <;> simp)

set_option maxHeartbeats 2000000 in
/-- The fetch of an expert with none to start after it. -/
theorem midLast (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (T0 : TbBuf0 (F := F) c tbM0_0) (T1 : TbBuf0 (F := F) c tbM0_1) (T2 : TbBuf0 (F := F) c tbM0_2) (T3 : TbBuf0 (F := F) c tbM0_3) (W0 : HbBuf0 (F := F) c hbM0_0) (W1 : HbBuf0 (F := F) c hbM0_1) (W2 : HbBuf0 (F := F) c hbM0_2) (na be pb : BitVec 32) (sw nx b2 : BitVec 32) (hsw : wAt c tbM0_2 T2 (k0_off9 (grid0.coords t)) (k0_off9_inb _) = sw) (hb2 : wAt c tbM0_0 T0 (k0_off9 (grid0.coords t)) (k0_off9_inb _) = b2) (hnx : wAt c tbM0_3 T3 (k0_off19 (grid0.coords t)) (k0_off19_inb _) = nx) [hs2 : Fact (sw.toNat < 2)] (hb32 : b2.toNat < 32)
    (hc2 : k0_cond2 (grid0.coords t) na be pb = 1#1) (hc3 : ¬ k0_cond3 nx = 1#1)
    (hk3 : k0_chk3 (grid0.coords t) na be pb sw) (hk4 : k0_chk4 (grid0.coords t) na be pb b2) (hk5 : k0_chk5 (grid0.coords t) na be pb sw nx) (W : Waits sig Unit) (K : PUnit → sProp 𝕄) :
    iprop((tbPt0 c tbM0_0 T0 ∗ tbPt0 c tbM0_1 T1 ∗ tbPt0 c tbM0_2 T2 ∗ tbPt0 c tbM0_3 T3) ∗ ((∃ d, owns (c : Thread nD τ) arg14 fullShare d) ∗ (∃ d, owns (c : Thread nD τ) arg15 fullShare d) ∗ (∃ d, owns (c : Thread nD τ) arg16 fullShare d)) ∗ flightP c W0 W1 W2 (slw sw) (exw b2) ∗ freeP c W0 W1 W2 (oth (slw sw)) ∗ owes (c : Thread nD τ) 0 W
      ∗ (iprop((tbPt0 c tbM0_0 T0 ∗ tbPt0 c tbM0_1 T1 ∗ tbPt0 c tbM0_2 T2 ∗ tbPt0 c tbM0_3 T3) ∗ (owns (c : Thread nD τ) arg14 fullShare (k0_pay6 (View.readAt (Elt F) scM0_0.view (Rect.unit (s := S2x3x1024x1024) (k0_off16 sw) S1x1x1024x1024.size (inb16 sw)).toLoadRect (landed0 c W0 (slw sw) (exw b2)))) ∗ owns (c : Thread nD τ) arg15 fullShare (k0_pay1 (View.readAt (Elt F) scM0_0.view (Rect.unit (s := S2x3x1024x1024) (k0_off17 sw) S1x1x1024x1024.size (inb17 sw)).toLoadRect (landed1 c W1 (slw sw) (exw b2)))) ∗ owns (c : Thread nD τ) arg16 fullShare (k0_pay2 (View.readAt (Elt F) scM0_0.view (Rect.unit (s := S2x3x1024x1024) (k0_off18 sw) S1x1x1024x1024.size (inb18 sw)).toLoadRect (landed2 c W2 (slw sw) (exw b2))))) ∗ (freeP c W0 W1 W2 (slw sw) ∗ freeP c W0 W1 W2 (oth (slw sw))) ∗ (∃ W', owes (c : Thread nD τ) 0 W')) -∗ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na) K)) ⊢ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na be pb) K := by
  have hs2 : sw.toNat < 2 := hs2.out
  unfold midP
  simp only [k0_part1_eq_skeleton]
  unfold tbPt0 tailP owns
  iintro ⟨⟨HT0, HT1, HT2, HT3⟩, ⟨⟨%d1, %fs1, -, HS1⟩, ⟨%d2, %fs2, -, HS2⟩, ⟨%d3, %fs3, -, HS3⟩⟩, ⟨HF, HR0, HR1, HR2⟩, ⟨Hc, ⟨%fw, Hw0, Hw1, Hw2⟩, HW0, HW1, HW2⟩, HW, Hk⟩
  subst hsw hnx hb2
  unfold wAt at *
  sl_exec (disch := first | sl_exact hc2 | sl_exact hk3 | sl_exact hk4)
  unfold midLast.sl.r midLast.sl.r_1
  sl_exec (disch := first | sl_exact hc2)
  unfold midLast.sl.r_2
  set_option sl_exec.stopBefore "k0_cond3" in sl_exec (disch := first | sl_exact hk5)
  unfold midLast.sl.r_3
  set_option sl_exec.stopBefore "k0_cond4" in sl_exec (disch := first | sl_exact hc3)
  iapply Hk
  isplitl [HT0 HT1 HT2 HT3]
  · isplitl [HT0]; · iexact HT0
    isplitl [HT1]; · iexact HT1
    isplitl [HT2]; · iexact HT2
    iexact HT3
  isplitl [HS1 HS2 HS3]
  · isplitl [HS1]
    · iexists _; isplitr; swap; · iexact HS1
      ipureintro; exact rd_whole (F := F) _ _ _ _ _
    isplitl [HS2]
    · iexists _; isplitr; swap; · iexact HS2
      ipureintro; exact rd_whole (F := F) _ _ _ _ _
    iexists _; isplitr; swap; · iexact HS3
    ipureintro; exact rd_whole (F := F) _ _ _ _ _
  isplitl [HF HF_dst0 HF_dst1 HF_dst2 HF_src0 HF_src1 HF_src2 HR0 HR1 HR2 Hc Hw0 Hw1 Hw2 HW0 HW1 HW2]
  · isplitr [Hc Hw0 Hw1 Hw2 HW0 HW1 HW2]; swap
    · isplitl [Hc]; · iexact Hc
      isplitl [Hw0 Hw1 Hw2]
      · iexists fw; isplitl [Hw0]; · iexact Hw0
        isplitl [Hw1]; · iexact Hw1
        iexact Hw2
      isplitl [HW0]; · iexact HW0
      isplitl [HW1]; · iexact HW1
      iexact HW2
    isplitl [HF]; · iexact HF
    isplitl [HF_dst0 HF_dst1 HF_dst2]
    · iexists (landed c W0 W1 W2 (slw _) (exw _))
      iapply (winsP_landed c W0 W1 W2 (slw _) (exw _))
      isplitl [HF_dst0]; · iexact HF_dst0
      isplitl [HF_dst1]; · iexact HF_dst1
      iexact HF_dst2
    isplitl [HF_src0 HR0]
    · iapply (src0_split c W0 (slw _) (exw _)).2; isplitl [HF_src0]; · iexact HF_src0
      iexact HR0
    isplitl [HF_src1 HR1]
    · iapply (src1_split c W1 (slw _) (exw _)).2; isplitl [HF_src1]; · iexact HF_src1
      iexact HR1
    iapply (src2_split c W2 (slw _) (exw _)).2; isplitl [HF_src2]; · iexact HF_src2
    iexact HR2
  iexists _; iexact HW

set_option maxHeartbeats 2000000 in
/-- The fetch of an expert, and the start of the next one's. -/
theorem midNext (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (T0 : TbBuf0 (F := F) c tbM0_0) (T1 : TbBuf0 (F := F) c tbM0_1) (T2 : TbBuf0 (F := F) c tbM0_2) (T3 : TbBuf0 (F := F) c tbM0_3) (W0 : HbBuf0 (F := F) c hbM0_0) (W1 : HbBuf0 (F := F) c hbM0_1) (W2 : HbBuf0 (F := F) c hbM0_2) (na be pb : BitVec 32) (sw nx b2 : BitVec 32) (hsw : wAt c tbM0_2 T2 (k0_off9 (grid0.coords t)) (k0_off9_inb _) = sw) (hb2 : wAt c tbM0_0 T0 (k0_off9 (grid0.coords t)) (k0_off9_inb _) = b2) (hnx : wAt c tbM0_3 T3 (k0_off19 (grid0.coords t)) (k0_off19_inb _) = nx) [hs2 : Fact (sw.toNat < 2)] (hb32 : b2.toNat < 32)
    (hc2 : k0_cond2 (grid0.coords t) na be pb = 1#1) (hc3 : k0_cond3 nx = 1#1) (hx32 : nx.toNat < 32)
    (hk3 : k0_chk3 (grid0.coords t) na be pb sw) (hk4 : k0_chk4 (grid0.coords t) na be pb b2) (hk5 : k0_chk5 (grid0.coords t) na be pb sw nx) (W : Waits sig Unit) (K : PUnit → sProp 𝕄) :
    iprop((tbPt0 c tbM0_0 T0 ∗ tbPt0 c tbM0_1 T1 ∗ tbPt0 c tbM0_2 T2 ∗ tbPt0 c tbM0_3 T3) ∗ ((∃ d, owns (c : Thread nD τ) arg14 fullShare d) ∗ (∃ d, owns (c : Thread nD τ) arg15 fullShare d) ∗ (∃ d, owns (c : Thread nD τ) arg16 fullShare d)) ∗ flightP c W0 W1 W2 (slw sw) (exw b2) ∗ freeP c W0 W1 W2 (oth (slw sw)) ∗ owes (c : Thread nD τ) 0 W
      ∗ (iprop((tbPt0 c tbM0_0 T0 ∗ tbPt0 c tbM0_1 T1 ∗ tbPt0 c tbM0_2 T2 ∗ tbPt0 c tbM0_3 T3) ∗ (owns (c : Thread nD τ) arg14 fullShare (k0_pay6 (View.readAt (Elt F) scM0_0.view (Rect.unit (s := S2x3x1024x1024) (k0_off16 sw) S1x1x1024x1024.size (inb16 sw)).toLoadRect (landed0 c W0 (slw sw) (exw b2)))) ∗ owns (c : Thread nD τ) arg15 fullShare (k0_pay1 (View.readAt (Elt F) scM0_0.view (Rect.unit (s := S2x3x1024x1024) (k0_off17 sw) S1x1x1024x1024.size (inb17 sw)).toLoadRect (landed1 c W1 (slw sw) (exw b2)))) ∗ owns (c : Thread nD τ) arg16 fullShare (k0_pay2 (View.readAt (Elt F) scM0_0.view (Rect.unit (s := S2x3x1024x1024) (k0_off18 sw) S1x1x1024x1024.size (inb18 sw)).toLoadRect (landed2 c W2 (slw sw) (exw b2))))) ∗ (flightP c W0 W1 W2 (oth (slw sw)) (exw nx) ∗ freeP c W0 W1 W2 (slw sw)) ∗ (∃ W', owes (c : Thread nD τ) 0 W')) -∗ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na) K)) ⊢ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 na be pb) K := by
  have hs2 : sw.toNat < 2 := hs2.out
  unfold midP
  simp only [k0_part1_eq_skeleton]
  unfold tbPt0 tailP owns
  iintro ⟨⟨HT0, HT1, HT2, HT3⟩, ⟨⟨%d1, %fs1, -, HS1⟩, ⟨%d2, %fs2, -, HS2⟩, ⟨%d3, %fs3, -, HS3⟩⟩, ⟨HF, HR0, HR1, HR2⟩, ⟨Hc, ⟨%fw, Hw0, Hw1, Hw2⟩, HW0, HW1, HW2⟩, HW, Hk⟩
  ihave X0 := (src0_split c W0 (oth (slw sw)) (exw nx)).1 $$ HW0
  icases X0 with ⟨HX0, HQ0⟩
  ihave X1 := (src1_split c W1 (oth (slw sw)) (exw nx)).1 $$ HW1
  icases X1 with ⟨HX1, HQ1⟩
  ihave X2 := (src2_split c W2 (oth (slw sw)) (exw nx)).1 $$ HW2
  icases X2 with ⟨HX2, HQ2⟩
  have hD := storable_winD (F := F) c W0 W1 W2 (oth (slw sw)) (exw nx)
  imod (Transfers.batch_alloc' (Lvl := ℕ) countersEmb (c : Thread nD τ) default NN (winD c W0 W1 W2 (oth (slw sw)) (exw nx)) (sm := cellR (oth (slw sw))) (E := Set.univ)) $$ Hc with HB
  clear hD
  subst hsw hnx hb2
  unfold wAt at *
  sl_exec (disch := first | sl_exact hc2 | sl_exact hk3 | sl_exact hk4)
  unfold midNext.sl.r midNext.sl.r_1
  sl_exec (disch := first | sl_exact hc2)
  unfold midNext.sl.r_2
  set_option sl_exec.stopBefore "k0_cond3" in sl_exec (disch := first | sl_exact hk5)
  unfold midNext.sl.r_3
  set_option sl_exec.stopBefore "k0_cond4" in sl_exec (disch := first | sl_exact hc3)
  iapply Hk
  isplitl [HT0 HT1 HT2 HT3]
  · isplitl [HT0]; · iexact HT0
    isplitl [HT1]; · iexact HT1
    isplitl [HT2]; · iexact HT2
    iexact HT3
  isplitl [HS1 HS2 HS3]
  · isplitl [HS1]
    · iexists _; isplitr; swap; · iexact HS1
      ipureintro; exact rd_whole (F := F) _ _ _ _ _
    isplitl [HS2]
    · iexists _; isplitr; swap; · iexact HS2
      ipureintro; exact rd_whole (F := F) _ _ _ _ _
    iexists _; isplitr; swap; · iexact HS3
    ipureintro; exact rd_whole (F := F) _ _ _ _ _
  isplitl [HF HF_dst0 HF_dst1 HF_dst2 HF_src0 HF_src1 HF_src2 HR0 HR1 HR2 HB HQ0 HQ1 HQ2]
  · isplitl [HB HQ0 HQ1 HQ2]
    · isplitl [HB]; · iexact HB
      isplitl [HQ0]; · iexact HQ0
      isplitl [HQ1]; · iexact HQ1
      iexact HQ2
    isplitl [HF]; · iexact HF
    isplitl [HF_dst0 HF_dst1 HF_dst2]
    · iexists (landed c W0 W1 W2 (slw _) (exw _))
      iapply (winsP_landed c W0 W1 W2 (slw _) (exw _))
      isplitl [HF_dst0]; · iexact HF_dst0
      isplitl [HF_dst1]; · iexact HF_dst1
      iexact HF_dst2
    isplitl [HF_src0 HR0]
    · iapply (src0_split c W0 (slw _) (exw _)).2; isplitl [HF_src0]; · iexact HF_src0
      iexact HR0
    isplitl [HF_src1 HR1]
    · iapply (src1_split c W1 (slw _) (exw _)).2; isplitl [HF_src1]; · iexact HF_src1
      iexact HR1
    iapply (src2_split c W2 (slw _) (exw _)).2; isplitl [HF_src2]; · iexact HF_src2
    iexact HR2
  iexists _; iexact HW

end Cert.Ffn

end
-- ==== Proof.FfnTab.lean ====
/- The routing tables' precondition read: what it says of each block's expert, slot and upcoming expert. -/
module

public import proofs.«01_k».proof.Pre_tables
public import Idealize.ShloMosaic.Lib.Pointwise
public import Idealize.ShloMosaic.Lib.WordCmp
public import Idealize.ShloMosaic.Lib.Pipeline.Value

@[expose] public section
set_option maxRecDepth 16384

noncomputable section
namespace Cert.Ffn
open Idealize.ShloMosaic.WordCmp Idealize.ShloMosaic Cert.Pre_tables Cert.Pre_tables.Facts

/-- Block `k`'s expert `e k`, slot `s k` and upcoming expert `x k`, and the number `n` of blocks in use. -/
structure Tab (e s x : Fin 160 → BitVec 32) (n : BitVec 32) : Prop where
  pos : 1 ≤ n.toNat
  le : n.toNat ≤ 160
  expert : ∀ k, (e k).toNat < 32
  slot : ∀ k, (s k).toNat < 2
  step : ∀ (k : Fin 160) (h : k.val + 1 < 160), k.val + 1 < n.toNat →
    (e ⟨k.val + 1, h⟩ = e k ∧ s ⟨k.val + 1, h⟩ = s k ∧ x ⟨k.val + 1, h⟩ = x k)
      ∨ (e ⟨k.val + 1, h⟩ ≠ e k ∧ s ⟨k.val + 1, h⟩ = 1#32 - s k ∧ x k = e ⟨k.val + 1, h⟩)
  last : ∀ k : Fin 160, k.val + 1 = n.toNat → x k = 4294967295#32

theorem and1 (a b : BitVec 1) : IntOp.andi a b = 1#1 ↔ a = 1#1 ∧ b = 1#1 := by revert a b; decide
theorem or1 (a b : BitVec 1) : IntOp.ori a b = 1#1 ↔ a = 1#1 ∨ b = 1#1 := by revert a b; decide

variable {F : FTy → Type} [FloatOps F]

theorem tab_of_pre [Facts] (x0 : FVec F S81920x1024 .f32) (a1 : IVec S160 32) (a2 : IVec S1 32) (a3 a4 : IVec S160 32)
    (x5 : FVec F S2x32x1024x1024 .f32) (x6 : FVec F S2x32x1024 .f32) (x7 : FVec F S2x32x1024x1024 .f32) (x8 : FVec F S2x32x1024 .f32)
    (x9 : FVec F S2x32x1024x1024 .f32) (x10 : FVec F S2x32x1024 .f32)
    (h : fn (F := F) x0 a1 a2 a3 a4 x5 x6 x7 x8 x9 x10 = fun _ => 1#1) :
    Tab (fun k => a1 (ix1 k)) (fun k => a3 (ix1 k)) (fun k => a4 (ix1 k)) (a2 (ix1 0)) := by
  have key : ∀ k : Fin 160, _ := fun k => congrFun h (ix1 k)
  unfold fn fn_part1 fn_part2 at key
  simp only [pointwise, and1, or1] at key
  simp only [cmpi_sge_eq, cmpi_sle_eq, cmpi_slt_eq, cmpi_eq_eq, cmpi_ne_eq, ofBool_decide_eq_one_iff] at key
  have nx : ∀ (a : IVec S160 32) (k : Fin 160) (h : k.val + 1 < 160) (hp : ∀ h', (![1] : Fin 1 → Nat) 0 + k.val < 160),
      (if hlt : k.val < 159 then a (ix1 ⟨(![1] : Fin 1 → Nat) 0 + k.val, hp hlt⟩) else a (ix1 0)) = a (ix1 ⟨k.val + 1, h⟩) := fun a k h hp => by
    rw [dif_pos (show k.val < 159 by omega)]
    exact congrArg (fun j => a (ix1 j)) (Fin.ext (Nat.add_comm 1 k.val))
  have hn : 1 ≤ (a2 (ix1 0)).toNat ∧ (a2 (ix1 0)).toNat ≤ 160 := by
    obtain ⟨⟨⟨⟨⟨⟨h1, h2⟩, -⟩, -⟩, -⟩, -⟩, -⟩ := key 0
    have e1 : (1#32 : BitVec 32).toInt = 1 := by decide
    have e2 : (160#32 : BitVec 32).toInt = 160 := by decide
    rw [e1] at h1; rw [e2] at h2
    rw [BitVec.toInt_eq_toNat_cond] at h1 h2
    split at h1 <;> omega
  have hk1 : ∀ k : Fin 160, IntOp.addi (BitVec.ofNat 32 k.val) 1#32 = BitVec.ofNat 32 (k.val + 1) := fun k => by
    show BitVec.ofNat 32 k.val + 1#32 = _
    rw [BitVec.ofNat_add]
  refine ⟨hn.1, hn.2, fun k => ?_, fun k => ?_, fun k h1 h2 => ?_, fun k h1 => ?_⟩
  · obtain ⟨⟨⟨⟨⟨⟨-, -⟩, h1⟩, h2⟩, -⟩, -⟩, -⟩ := key k
    have e1 : (0#32 : BitVec 32).toInt = 0 := by decide
    have e2 : (32#32 : BitVec 32).toInt = 32 := by decide
    rw [e1] at h1; rw [e2] at h2
    rw [BitVec.toInt_eq_toNat_cond] at h1 h2
    show (a1 (ix1 k)).toNat < 32
    split at h1 <;> omega
  · obtain ⟨⟨⟨-, h1⟩, -⟩, -⟩ := key k
    show (a3 (ix1 k)).toNat < 2
    rcases h1 with h1 | h1 <;> rw [h1] <;> decide
  · obtain ⟨⟨-, h3⟩, -⟩ := key k
    have hk := k.isLt
    rw [hk1, nx a1 k h1, nx a3 k h1, nx a4 k h1] at h3
    rcases h3 with (h3 | ⟨⟨h4, h5⟩, h6⟩) | ⟨⟨h4, h5⟩, h6⟩
    · exfalso
      rw [toInt_ofNat_of_lt (by omega), BitVec.toInt_eq_toNat_cond] at h3
      have := hn.2
      split at h3 <;> omega
    · exact .inl ⟨h4, h5, h6⟩
    · exact .inr ⟨h4, h5, h6⟩
  · obtain ⟨-, h3⟩ := key k
    rw [hk1] at h3
    rcases h3 with h3 | h3
    · exact absurd (BitVec.eq_of_toNat_eq (by rw [toNat_ofNat_of_lt (by have := k.isLt; omega)]; exact h1)) h3
    · exact h3

end Cert.Ffn

end
-- ==== Proof.FfnWords.lean ====
module

public import proofs.«01_k».proof.Proof.FfnFetch
public import proofs.«01_k».proof.Proof.FfnTab
public import Idealize.ShloMosaic.Lib.Pointwise
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

section Words
theorem co_lt (i : grid0.Coords) : (i 0).val < 160 := (i 0).isLt
theorem coord_val : ∀ t : Fin grid0.N, (grid0.coords t 0).val = t.val := by decide +kernel
theorem off1_eq (i : grid0.Coords) : k0_off1 i = ![(i 0).val] := by
  have h := co_lt i
  unfold k0_off1; funext a; fin_cases a
  exact toNat_ofNat_of_lt (w := 32) (by omega)
theorem coff1 : ∀ t : Fin grid0.N, k0_off1 (grid0.coords t) = ![t.val] := by decide +kernel
theorem coff2 : ∀ t : Fin grid0.N, k0_off2 (grid0.coords t) = ![t.val - 1] := by decide +kernel
theorem coff9 : ∀ t : Fin grid0.N, k0_off9 (grid0.coords t) = ![t.val] := by decide +kernel
theorem coff19 : ∀ t : Fin grid0.N, k0_off19 (grid0.coords t) = ![t.val] := by decide +kernel

theorem ne_ext : ∀ b : BitVec 1, Scalar.cmpi .ne (Scalar.extui b : BitVec 32) 0#32 = 1#1 ↔ b = 1#1 := by decide

theorem i0 : (0#32 : BitVec 32).toInt = 0 := by decide

theorem cond1_iff (t : Fin grid0.N) (n : BitVec 32) (h1 : 1 ≤ n.toNat) (h2 : n.toNat ≤ 160) : k0_cond1 (grid0.coords t) n = 1#1 ↔ t.val = 0 := by
  have ht : t.val < 160 := t.isLt
  have hn : n.toInt = n.toNat := toInt_eq_toNat_of_lt_half (by omega)
  show Scalar.cmpi .ne (Scalar.extui (IntOp.andi (IntOp.cmpi .eq (BitVec.ofNat 32 (grid0.coords t 0).val) 0#32) (IntOp.cmpi .sgt n 0#32)) : BitVec 32) 0#32 = 1#1 ↔ _
  rw [ne_ext, and1, cmpi_eq_eq, cmpi_sgt_eq, ofBool_decide_eq_one_iff, ofBool_decide_eq_one_iff, i0, hn, coord_val, ofNat_eq_ofNat_iff (by omega) (by omega)]
  omega
theorem cond2_iff (t : Fin grid0.N) (n a b : BitVec 32) (h2 : n.toNat ≤ 160) : k0_cond2 (grid0.coords t) n a b = 1#1 ↔ t.val < n.toNat ∧ (t.val = 0 ∨ a ≠ b) := by
  have ht : t.val < 160 := t.isLt
  have hn : n.toInt = n.toNat := toInt_eq_toNat_of_lt_half (by omega)
  show Scalar.cmpi .ne (Scalar.extui (IntOp.andi (IntOp.cmpi .slt (BitVec.ofNat 32 (grid0.coords t 0).val) n) (IntOp.ori (IntOp.cmpi .eq (BitVec.ofNat 32 (grid0.coords t 0).val) 0#32) (IntOp.cmpi .ne a b))) : BitVec 32) 0#32 = 1#1 ↔ _
  rw [ne_ext, and1, or1, cmpi_slt_eq, cmpi_eq_eq, cmpi_ne_eq, ofBool_decide_eq_one_iff, ofBool_decide_eq_one_iff, ofBool_decide_eq_one_iff, hn, coord_val, ofNat_eq_ofNat_iff (by omega) (by omega), toInt_ofNat_of_lt (by omega)]
  simp
theorem cond3_iff (x : BitVec 32) : k0_cond3 x = 1#1 ↔ 0 ≤ x.toInt := by
  show Scalar.cmpi .ne (Scalar.extui (IntOp.cmpi .sge x 0#32) : BitVec 32) 0#32 = 1#1 ↔ _
  rw [ne_ext, cmpi_sge_eq, ofBool_decide_eq_one_iff, i0]
theorem cond4_iff (t : Fin grid0.N) (n : BitVec 32) (h2 : n.toNat ≤ 160) : k0_cond4 (grid0.coords t) n = 1#1 ↔ t.val < n.toNat := by
  have ht : t.val < 160 := t.isLt
  have hn : n.toInt = n.toNat := toInt_eq_toNat_of_lt_half (by omega)
  show Scalar.cmpi .ne (Scalar.extui (IntOp.cmpi .slt (BitVec.ofNat 32 (grid0.coords t 0).val) n) : BitVec 32) 0#32 = 1#1 ↔ _
  rw [ne_ext, cmpi_slt_eq, ofBool_decide_eq_one_iff, hn, coord_val, toInt_ofNat_of_lt (by omega)]
  simp
theorem cond5_iff (t : Fin grid0.N) (n : BitVec 32) (h2 : n.toNat ≤ 160) : k0_cond5 (grid0.coords t) n = 1#1 ↔ n.toNat ≤ t.val := by
  have ht : t.val < 160 := t.isLt
  have hn : n.toInt = n.toNat := toInt_eq_toNat_of_lt_half (by omega)
  show Scalar.cmpi .ne (Scalar.extui (IntOp.cmpi .sge (BitVec.ofNat 32 (grid0.coords t 0).val) n) : BitVec 32) 0#32 = 1#1 ↔ _
  rw [ne_ext, cmpi_sge_eq, ofBool_decide_eq_one_iff, hn, coord_val, toInt_ofNat_of_lt (by omega)]
  simp

theorem chk1_of (i : grid0.Coords) (n w : BitVec 32) (h : w.toNat < 2) : k0_chk1 i n w :=
  ⟨fun _ a => by rw [coff3 w h]; exact inbC _ a, fun _ a => by rw [coff4 w h]; exact inbW _ 0 a, fun _ a => by rw [coff6 w h]; exact inbC _ a,
    fun _ a => by rw [coff7 w h]; exact inbW _ 1 a, fun _ a => by rw [coff8 w h]; exact inbW _ 2 a⟩
theorem chk2_of (i : grid0.Coords) (n w : BitVec 32) (h : w.toNat < 32) : k0_chk2 i n w := fun _ a => by rw [coff5 w h]; exact inbS _ a
theorem chk4_of (i : grid0.Coords) (n a b w : BitVec 32) (h : w.toNat < 32) : k0_chk4 i n a b w := fun _ a => by rw [coff12 w h]; exact inbS _ a
theorem chk3_of (i : grid0.Coords) (n a b w : BitVec 32) [hf : Fact (w.toNat < 2)] : k0_chk3 i n a b w := by
  have h : w.toNat < 2 := hf.out
  exact ⟨fun _ a => by rw [coff10 w h]; exact inbC _ a, fun _ a => by rw [coff11 w h]; exact inbW _ 0 a, fun _ a => by rw [coff13 w h]; exact inbC _ a,
    fun _ a => by rw [coff14 w h]; exact inbW _ 1 a, fun _ a => by rw [coff15 w h]; exact inbW _ 2 a, fun _ => inb16 w, fun _ => inb17 w, fun _ => inb18 w⟩
theorem chk5_of (i : grid0.Coords) (n a b w x : BitVec 32) (h : w.toNat < 2) (hx : k0_cond3 x = 1#1 → x.toNat < 32) : k0_chk5 i n a b w x :=
  ⟨fun _ _ a => by rw [coff20 w h]; exact inbC _ a, fun _ _ a => by rw [coff21 w h]; exact inbW _ 0 a, fun _ h3 a => by rw [coff22 x (hx h3)]; exact inbS _ a,
    fun _ _ a => by rw [coff23 w h]; exact inbW _ 1 a, fun _ _ a => by rw [coff24 w h]; exact inbW _ 2 a⟩

theorem wAt0 (c : Dev nD) (T : TbBuf0 (F := F) c tbM0_0) (o) (ho) (k : Fin 160) (h : o = ![k.val]) : wAt c tbM0_0 T o ho = (show S160.Idx → BitVec 32 from T) (ix1 k) := by
  subst h; exact congrArg T (funext fun a => Fin.ext (by fin_cases a; exact Nat.add_zero _))
theorem wAt2 (c : Dev nD) (T : TbBuf0 (F := F) c tbM0_2) (o) (ho) (k : Fin 160) (h : o = ![k.val]) : wAt c tbM0_2 T o ho = (show S160.Idx → BitVec 32 from T) (ix1 k) := by
  subst h; exact congrArg T (funext fun a => Fin.ext (by fin_cases a; exact Nat.add_zero _))
theorem wAt3 (c : Dev nD) (T : TbBuf0 (F := F) c tbM0_3) (o) (ho) (k : Fin 160) (h : o = ![k.val]) : wAt c tbM0_3 T o ho = (show S160.Idx → BitVec 32 from T) (ix1 k) := by
  subst h; exact congrArg T (funext fun a => Fin.ext (by fin_cases a; exact Nat.add_zero _))
theorem wNa1 (c : Dev nD) (T : TbBuf0 (F := F) c tbM0_1) : wNa c T = (show S1.Idx → BitVec 32 from T) (ix1 0) :=
  congrArg T (funext fun a => Fin.ext (by fin_cases a; rfl))
end Words

section Tables
variable (m : (ℓ : Loc nD τ sig) → Buf (Elt F) ℓ)
/-- The tables at launch: the block's expert, slot and upcoming expert, and the number of blocks in use. -/
def eW (k : Fin 160) : BitVec 32 := (show S160.Idx → BitVec 32 from tbl m 0) (ix1 k)
def nW : BitVec 32 := (show S1.Idx → BitVec 32 from tbl m 1) (ix1 0)
def sW (k : Fin 160) : BitVec 32 := (show S160.Idx → BitVec 32 from tbl m 2) (ix1 k)
def xW (k : Fin 160) : BitVec 32 := (show S160.Idx → BitVec 32 from tbl m 3) (ix1 k)
abbrev TabM : Prop := Tab (eW m) (sW m) (xW m) (nW m)

theorem at0 (i : grid0.Coords) (o) (ho) (h : o = ![(i 0).val]) : (tbl m).at 0 (Rect.unit (s := S160) o S1.size ho) numel1_S1 = eW m ⟨(i 0).val, co_lt i⟩ := by
  subst h; exact congrArg (tbl m 0) (funext fun a => Fin.ext (by fin_cases a; exact Nat.add_zero _))
theorem at1 : (tbl m).at 1 (Rect.unit (s := S1) ![0] S1.size inb_S1_S1_0) numel1_S1 = nW m :=
  congrArg (tbl m 1) (funext fun a => Fin.ext (by fin_cases a; rfl))

theorem tr0 (hT : TabM m) (i : grid0.Coords) : cc0_transform_0 inb_S1_S1_0 numel1_S1 (tbl m) i = ![min (i 0).val ((nW m).toNat - 1), 0] := by
  have h1 := hT.pos; have h2 := hT.le; have h3 := co_lt i
  have e1 : (Scalar.subi (nW m) 1#32).toNat = (nW m).toNat - 1 := by
    show (nW m - 1#32).toNat = _
    rw [BitVec.toNat_sub]; simp; omega
  have e2 : (Scalar.minsi (BitVec.ofNat 32 (i 0).val) (Scalar.subi (nW m) 1#32)).toNat = min (i 0).val ((nW m).toNat - 1) := by
    have e3 : (Scalar.subi (nW m) 1#32).toInt = (((nW m).toNat - 1 : ℕ) : Int) := by rw [toInt_eq_toNat_of_lt_half (by omega), e1]
    have e4 : (BitVec.ofNat 32 (i 0).val).toInt = (((i 0).val : ℕ) : Int) := toInt_ofNat_of_lt (by omega)
    show (if BitVec.slt _ _ then _ else _ : BitVec 32).toNat = _
    rw [BitVec.slt, e3, e4]
    split
    · rename_i h; simp at h; rw [toNat_ofNat_of_lt (by omega)]; omega
    · rename_i h; simp at h; rw [e1]; omega
  exact (congrArg (fun w : BitVec 32 => ![(Scalar.minsi (BitVec.ofNat 32 (i 0).val) (Scalar.subi w 1#32)).toNat, 0]) (at1 m)).trans (congrArg (fun w : ℕ => ![w, 0]) e2)
theorem tr2 (i : grid0.Coords) : cc0_transform_2 k0_off1_inb numel1_S1 (tbl m) i = ![0, (eW m ⟨(i 0).val, co_lt i⟩).toNat, 0, 0] := by
  exact congrArg (fun w : BitVec 32 => ![0, w.toNat, 0, 0]) (at0 m i _ (k0_off1_inb i) (off1_eq i))
theorem tr4 (i : grid0.Coords) : cc0_transform_4 k0_off1_inb numel1_S1 (tbl m) i = ![0, (eW m ⟨(i 0).val, co_lt i⟩).toNat, 0, 0] := by
  exact congrArg (fun w : BitVec 32 => ![0, w.toNat, 0, 0]) (at0 m i _ (k0_off1_inb i) (off1_eq i))
theorem tr6 (i : grid0.Coords) : cc0_transform_6 k0_off1_inb numel1_S1 (tbl m) i = ![0, (eW m ⟨(i 0).val, co_lt i⟩).toNat, 0, 0] := by
  exact congrArg (fun w : BitVec 32 => ![0, w.toNat, 0, 0]) (at0 m i _ (k0_off1_inb i) (off1_eq i))
/-- The tables the precondition admits keep every block inside its array. -/
theorem ok_of (hT : TabM m) : Ok m := by
  have h1 := hT.pos; have h2 := hT.le
  refine ⟨fun i => ⟨fun a => ?_, .inl rfl⟩, fun i => ⟨fun a => ?_, .inl rfl⟩, fun i => ⟨fun a => ?_, .inl rfl⟩, fun i => ⟨fun a => ?_, .inl rfl⟩⟩
  · rw [tr0 m hT]; have := co_lt i; fin_cases a <;> simp <;> omega
  · rw [tr2]; have hk : (eW m (i 0)).toNat < 32 := hT.expert _; fin_cases a <;> simp <;> omega
  · rw [tr4]; have hk : (eW m (i 0)).toNat < 32 := hT.expert _; fin_cases a <;> simp <;> omega
  · rw [tr6]; have hk : (eW m (i 0)).toNat < 32 := hT.expert _; fin_cases a <;> simp <;> omega
end Tables

section Chain
variable {e s x : Fin 160 → BitVec 32} {n : BitVec 32}
/-- An active block's upcoming expert is one of the experts, or there is none. -/
theorem Tab.next (h : Tab e s x n) : ∀ (d : ℕ) (k : Fin 160), k.val + 1 + d = n.toNat → x k = 4294967295#32 ∨ (x k).toNat < 32
  | 0, k, hk => .inl (h.last k hk)
  | d + 1, k, hk => by
    have hle := h.le
    have hlt : k.val + 1 < 160 := by omega
    rcases h.step k hlt (by omega) with ⟨-, -, h3⟩ | ⟨-, -, h3⟩
    · rw [← h3]; exact Tab.next h d _ (by show k.val + 1 + 1 + d = _; omega)
    · rw [h3]; exact .inr (h.expert _)
theorem Tab.next' (h : Tab e s x n) (k : Fin 160) (hk : k.val < n.toNat) (h3 : k0_cond3 (x k) = 1#1) : (x k).toNat < 32 := by
  rcases h.next (n.toNat - (k.val + 1)) k (by omega) with hx | hx
  · rw [hx] at h3; exact absurd h3 (by decide)
  · exact hx
theorem Tab.none (h : Tab e s x n) (k : Fin 160) (h3 : ¬ k0_cond3 (x k) = 1#1) : ¬ (x k).toNat < 32 := fun hx =>
  h3 ((cond3_iff _).2 (by rw [toInt_eq_toNat_of_lt_half (by omega)]; omega))
end Chain

end Cert.Ffn

end
-- ==== Proof.FfnStep.lean ====
module

public import proofs.«01_k».proof.Proof.FfnWords
public import proofs.«01_k».proof.Proof.FfnTab
public import Idealize.ShloMosaic.Lib.Pointwise
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

section Landed
variable (c : Dev nD) (W0 : HbBuf0 (F := F) c hbM0_0) (W1 : HbBuf0 (F := F) c hbM0_1) (W2 : HbBuf0 (F := F) c hbM0_2)
omit [FloatOps F] in
theorem cast_inj {s t : Shape} {α : Type} (x y : s.Idx → α) (h : s.ShapeCasts t) (h' : t.ShapeCasts s) (e : shapeCast t x h = shapeCast t y h) : x = y := by
  rw [← shapeCast_shapeCast x h h', e, shapeCast_shapeCast]
theorem casts_4 : S1x1x1024x1024.ShapeCasts S1024x1024 := by decide +kernel
theorem casts_2 : S1024x1024.ShapeCasts S1x1x1024x1024 := by decide +kernel
theorem read_landed {κ : Kind} {sp : Space} (v : View sig κ sp S1024x1024 .f32) (f : v.ty.Contents (Elt F)) (w : S1024x1024.Idx → Elt F .f32) :
    v.read (Elt F) (v.writes (Elt F) f [⟨Rect.whole S1024x1024, w⟩]) = w := by
  funext y
  have e : (Rect.whole S1024x1024).emb y = y := Rect.emb_eq_of_coords _ _ _ (fun a => by show (y a).val = 0 + 1 * (y a).val; omega)
  have h := View.read_writes_cons_emb v f (Rect.whole S1024x1024) w [] y
  rw [e] at h; exact h

/-- Expert `e`'s matrix 0, as the copy reads it. -/
def mat0 (e : Fin 32) : Vec F S1x1x1024x1024 .f32 :=
  View.readAt (Elt F) hbM0_0.view (Rect.unit (s := S2x32x1024x1024) ![0, e.val, 0, 0] S1x1x1024x1024.size (inbS e)).toLoadRect W0
theorem land0 (s : Fin 2) (e : Fin 32) (o) (ho) (h : o = ![s.val, 0, 0, 0]) :
    View.readAt (Elt F) scM0_0.view (Rect.unit (s := S2x3x1024x1024) o S1x1x1024x1024.size ho).toLoadRect (landed0 c W0 s e) = mat0 c W0 e := by
  subst h
  have h1 : (win0 s).view.read (Elt F) (landed0 c W0 s e) = (src0 e).view.read (Elt F) W0 := read_landed _ _ _
  have a : (win0 s).view.read (Elt F) (landed0 c W0 s e) = shapeCast S1024x1024 (View.readAt (Elt F) scM0_0.view (Rect.unit (s := S2x3x1024x1024) ![s.val, 0, 0, 0] S1x1x1024x1024.size ho).toLoadRect (landed0 c W0 s e)) casts_4 := rfl
  have b : (src0 e).view.read (Elt F) W0 = shapeCast S1024x1024 (mat0 c W0 e) casts_4 := rfl
  exact cast_inj _ _ casts_4 casts_2 (a.symm.trans (h1.trans b))

/-- Expert `e`'s matrix 1, as the copy reads it. -/
def mat1 (e : Fin 32) : Vec F S1x1x1024x1024 .f32 :=
  View.readAt (Elt F) hbM0_1.view (Rect.unit (s := S2x32x1024x1024) ![0, e.val, 0, 0] S1x1x1024x1024.size (inbS e)).toLoadRect W1
theorem land1 (s : Fin 2) (e : Fin 32) (o) (ho) (h : o = ![s.val, 1, 0, 0]) :
    View.readAt (Elt F) scM0_0.view (Rect.unit (s := S2x3x1024x1024) o S1x1x1024x1024.size ho).toLoadRect (landed1 c W1 s e) = mat1 c W1 e := by
  subst h
  have h1 : (win1 s).view.read (Elt F) (landed1 c W1 s e) = (src1 e).view.read (Elt F) W1 := read_landed _ _ _
  have a : (win1 s).view.read (Elt F) (landed1 c W1 s e) = shapeCast S1024x1024 (View.readAt (Elt F) scM0_0.view (Rect.unit (s := S2x3x1024x1024) ![s.val, 1, 0, 0] S1x1x1024x1024.size ho).toLoadRect (landed1 c W1 s e)) casts_4 := rfl
  have b : (src1 e).view.read (Elt F) W1 = shapeCast S1024x1024 (mat1 c W1 e) casts_4 := rfl
  exact cast_inj _ _ casts_4 casts_2 (a.symm.trans (h1.trans b))

/-- Expert `e`'s matrix 2, as the copy reads it. -/
def mat2 (e : Fin 32) : Vec F S1x1x1024x1024 .f32 :=
  View.readAt (Elt F) hbM0_2.view (Rect.unit (s := S2x32x1024x1024) ![0, e.val, 0, 0] S1x1x1024x1024.size (inbS e)).toLoadRect W2
theorem land2 (s : Fin 2) (e : Fin 32) (o) (ho) (h : o = ![s.val, 2, 0, 0]) :
    View.readAt (Elt F) scM0_0.view (Rect.unit (s := S2x3x1024x1024) o S1x1x1024x1024.size ho).toLoadRect (landed2 c W2 s e) = mat2 c W2 e := by
  subst h
  have h1 : (win2 s).view.read (Elt F) (landed2 c W2 s e) = (src2 e).view.read (Elt F) W2 := read_landed _ _ _
  have a : (win2 s).view.read (Elt F) (landed2 c W2 s e) = shapeCast S1024x1024 (View.readAt (Elt F) scM0_0.view (Rect.unit (s := S2x3x1024x1024) ![s.val, 2, 0, 0] S1x1x1024x1024.size ho).toLoadRect (landed2 c W2 s e)) casts_4 := rfl
  have b : (src2 e).view.read (Elt F) W2 = shapeCast S1024x1024 (mat2 c W2 e) casts_4 := rfl
  exact cast_inj _ _ casts_4 casts_2 (a.symm.trans (h1.trans b))

/-- The weights of expert `e` as the body keeps them. -/
def G0 (e : Fin 32) : Vec F S1024x1024 .bf16 := k0_pay6 (mat0 c W0 e)
def G1 (e : Fin 32) : Vec F S1024x1024 .bf16 := k0_pay1 (mat1 c W1 e)
def G2 (e : Fin 32) : Vec F S1024x1024 .bf16 := k0_pay2 (mat2 c W2 e)

theorem free_swap (s : Fin 2) : iprop(freeP c W0 W1 W2 s ∗ freeP c W0 W1 W2 (oth s)) ⊢ (iprop(freeP c W0 W1 W2 0 ∗ freeP c W0 W1 W2 1) : sProp 𝕄) := by
  obtain rfl | rfl : s = 0 ∨ s = 1 := by revert s; decide
  · exact .rfl
  · rw [show oth 1 = 0 from rfl]; iintro ⟨H1, H0⟩; isplitl [H0]; · iexact H0
    iexact H1
theorem free_back (s : Fin 2) : iprop(freeP c W0 W1 W2 0 ∗ freeP c W0 W1 W2 1) ⊢ (iprop(freeP c W0 W1 W2 s ∗ freeP c W0 W1 W2 (oth s)) : sProp 𝕄) := by
  obtain rfl | rfl : s = 0 ∨ s = 1 := by revert s; decide
  · exact .rfl
  · rw [show oth 1 = 0 from rfl]; iintro ⟨H0, H1⟩; isplitl [H1]; · iexact H1
    iexact H0
end Landed

section Step
variable (m : (ℓ : Loc nD τ sig) → Buf (Elt F) ℓ)
def kk (k : ℕ) : Fin 160 := ⟨k % 160, Nat.mod_lt _ (by decide)⟩
theorem kk_val (k : Fin 160) : kk k.val = k := Fin.ext (Nat.mod_eq_of_lt k.isLt)
abbrev tabsP (c : Dev nD) : sProp 𝕄 := iprop(tbPt0 c tbM0_0 (tbl m 0) ∗ tbPt0 c tbM0_1 (tbl m 1) ∗ tbPt0 c tbM0_2 (tbl m 2) ∗ tbPt0 c tbM0_3 (tbl m 3))
abbrev freeM (c : Dev nD) (s : Fin 2) : sProp 𝕄 := freeP c (V m c main_arg5) (V m c main_arg7) (V m c main_arg9) s
abbrev flightM (c : Dev nD) (s : Fin 2) (e : Fin 32) : sProp 𝕄 := flightP c (V m c main_arg5) (V m c main_arg7) (V m c main_arg9) s e
/-- The copies under way before point `t`: the upcoming expert's, into the slot the block before does not use. -/
def ringM (c : Dev nD) (t : ℕ) : sProp 𝕄 :=
  if 1 ≤ t ∧ t ≤ (nW m).toNat ∧ (xW m (kk (t - 1))).toNat < 32 then
    iprop(flightM m c (oth (slw (sW m (kk (t - 1))))) (exw (xW m (kk (t - 1)))) ∗ freeM m c (slw (sW m (kk (t - 1)))))
  else iprop(freeM m c 0 ∗ freeM m c 1)
abbrev keptM (c : Dev nD) (e : Fin 32) (arg14 arg15 arg16 : Memref sig .tc .vmem S1024x1024 .bf16) : sProp 𝕄 :=
  iprop(owns (c : Thread nD τ) arg14 fullShare (G0 c (V m c main_arg5) e) ∗ owns (c : Thread nD τ) arg15 fullShare (G1 c (V m c main_arg7) e) ∗ owns (c : Thread nD τ) arg16 fullShare (G2 c (V m c main_arg9) e))
abbrev someM (c : Dev nD) (arg14 arg15 arg16 : Memref sig .tc .vmem S1024x1024 .bf16) : sProp 𝕄 :=
  iprop((∃ d, owns (c : Thread nD τ) arg14 fullShare d) ∗ (∃ d, owns (c : Thread nD τ) arg15 fullShare d) ∗ (∃ d, owns (c : Thread nD τ) arg16 fullShare d))
/-- What the three kept matrices hold before point `t`: the weights of the expert of the block before. -/
def scrM (c : Dev nD) (t : ℕ) (arg14 arg15 arg16 : Memref sig .tc .vmem S1024x1024 .bf16) : sProp 𝕄 :=
  if 1 ≤ t ∧ t ≤ (nW m).toNat then keptM m c (exw (eW m (kk (t - 1)))) arg14 arg15 arg16 else someM c arg14 arg15 arg16
theorem scr_some (c : Dev nD) (t : ℕ) (arg14 arg15 arg16 : Memref sig .tc .vmem S1024x1024 .bf16) : scrM m c t arg14 arg15 arg16 ⊢ someM c arg14 arg15 arg16 := by
  unfold scrM; split
  · iintro ⟨H0, H1, H2⟩
    isplitl [H0]; · iexists _; iexact H0
    isplitl [H1]; · iexists _; iexact H1
    iexists _; iexact H2
  · exact .rfl

theorem slot_oth (w : BitVec 32) (h : w.toNat < 2) : slw (1#32 - w) = oth (slw w) := by
  have : w = 0#32 ∨ w = 1#32 := by
    have h' : w.toNat = 0 ∨ w.toNat = 1 := by omega
    rcases h' with h' | h'
    · exact .inl (BitVec.eq_of_toNat_eq h')
    · exact .inr (BitVec.eq_of_toNat_eq h')
  rcases this with rfl | rfl <;> rfl
theorem oth_oth (s : Fin 2) : oth (oth s) = s := by revert s; decide

set_option maxHeartbeats 1000000 in
/-- A fetch: the block's expert lands and is kept, and the upcoming expert's copies start when there is one. -/
theorem midFetch (hT : TabM m) (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (hn : t.val < (nW m).toNat) (be pb : BitVec 32)
    (hc2 : k0_cond2 (grid0.coords t) (nW m) be pb = 1#1) (W : Waits sig Unit) (K : PUnit → sProp 𝕄) :
    iprop(tabsP m c ∗ someM c arg14 arg15 arg16 ∗ (flightM m c (slw (sW m (kk t.val))) (exw (eW m (kk t.val))) ∗ freeM m c (oth (slw (sW m (kk t.val))))) ∗ owes (c : Thread nD τ) 0 W
      ∗ (iprop(tabsP m c ∗ scrM m c (t.val + 1) arg14 arg15 arg16 ∗ ringM m c (t.val + 1) ∗ (∃ W', owes (c : Thread nD τ) 0 W')) -∗ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 (nW m)) K))
      ⊢ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 (nW m) be pb) K := by
  have ht : t.val < 160 := t.isLt
  have hk : (kk t.val).val = t.val := Nat.mod_eq_of_lt ht
  haveI hs : Fact ((sW m (kk t.val)).toNat < 2) := ⟨hT.slot _⟩
  have hsw : wAt c tbM0_2 (tbl m 2) (k0_off9 (grid0.coords t)) (k0_off9_inb _) = sW m (kk t.val) := wAt2 c _ _ _ _ (by rw [hk]; exact coff9 t)
  have hb2 : wAt c tbM0_0 (tbl m 0) (k0_off9 (grid0.coords t)) (k0_off9_inb _) = eW m (kk t.val) := wAt0 c _ _ _ _ (by rw [hk]; exact coff9 t)
  have hnx : wAt c tbM0_3 (tbl m 3) (k0_off19 (grid0.coords t)) (k0_off19_inb _) = xW m (kk t.val) := wAt3 c _ _ _ _ (by rw [hk]; exact coff19 t)
  have hS : scrM m c (t.val + 1) arg14 arg15 arg16 = keptM m c (exw (eW m (kk t.val))) arg14 arg15 arg16 := by
    unfold scrM; rw [if_pos ⟨by omega, by omega⟩, Nat.add_sub_cancel]
  have l0 := land0 c (V m c main_arg5) (slw (sW m (kk t.val))) (exw (eW m (kk t.val))) _ (inb16 (sW m (kk t.val))) (coff16 _)
  have l1 := land1 c (V m c main_arg7) (slw (sW m (kk t.val))) (exw (eW m (kk t.val))) _ (inb17 (sW m (kk t.val))) (coff17 _)
  have l2 := land2 c (V m c main_arg9) (slw (sW m (kk t.val))) (exw (eW m (kk t.val))) _ (inb18 (sW m (kk t.val))) (coff18 _)
  by_cases h3 : k0_cond3 (xW m (kk t.val)) = 1#1
  · have hx := hT.next' _ (by rw [hk]; exact hn) h3
    have hR : ringM m c (t.val + 1) = iprop(flightM m c (oth (slw (sW m (kk t.val)))) (exw (xW m (kk t.val))) ∗ freeM m c (slw (sW m (kk t.val)))) := by
      unfold ringM; simp only [Nat.add_sub_cancel]; rw [if_pos ⟨by omega, by omega, hx⟩]
    have M := midNext c t arg5 harg5 arg7 harg7 arg9 harg9 arg11 harg11 arg12 harg12 arg14 harg14 arg15 harg15 arg16 harg16 (tbl m 0) (tbl m 1) (tbl m 2) (tbl m 3) (V m c main_arg5) (V m c main_arg7) (V m c main_arg9) (nW m) be pb _ _ _ hsw hb2 hnx (hT.expert _) hc2 h3 hx
      (chk3_of _ _ _ _ _) (chk4_of _ _ _ _ _ (hT.expert _)) (chk5_of _ _ _ _ _ _ hs.out fun _ => hx) W K
    rw [l0, l1, l2] at M
    rw [hS, hR]
    refine .trans ?_ M
    iintro ⟨HT, HS, ⟨HF, HE⟩, HW, Hk⟩
    isplitl [HT]; · iexact HT
    isplitl [HS]; · iexact HS
    isplitl [HF]; · iexact HF
    isplitl [HE]; · iexact HE
    isplitl [HW]; · iexact HW
    iexact Hk
  · have hR : ringM m c (t.val + 1) = iprop(freeM m c 0 ∗ freeM m c 1) := by
      unfold ringM; simp only [Nat.add_sub_cancel]; rw [if_neg (fun h => hT.none _ h3 h.2.2)]
    have M := midLast c t arg5 harg5 arg7 harg7 arg9 harg9 arg11 harg11 arg12 harg12 arg14 harg14 arg15 harg15 arg16 harg16 (tbl m 0) (tbl m 1) (tbl m 2) (tbl m 3) (V m c main_arg5) (V m c main_arg7) (V m c main_arg9) (nW m) be pb _ _ _ hsw hb2 hnx (hT.expert _) hc2 h3
      (chk3_of _ _ _ _ _) (chk4_of _ _ _ _ _ (hT.expert _)) (chk5_of _ _ _ _ _ _ hs.out fun h => absurd h h3) W K
    rw [l0, l1, l2] at M
    rw [hS, hR]
    refine .trans ?_ M
    iintro ⟨HT, HS, ⟨HF, HE⟩, HW, Hk⟩
    isplitl [HT]; · iexact HT
    isplitl [HS]; · iexact HS
    isplitl [HF]; · iexact HF
    isplitl [HE]; · iexact HE
    isplitl [HW]; · iexact HW
    iintro ⟨HT, HS, HR, HW⟩
    iapply Hk
    isplitl [HT]; · iexact HT
    isplitl [HS]; · iexact HS
    isplitl [HR]
    · iapply (free_swap c (V m c main_arg5) (V m c main_arg7) (V m c main_arg9) _); iexact HR
    iexact HW

set_option maxHeartbeats 1000000 in
/-- The body up to the block's computation: the invariant moves on one point. -/
theorem toTail (hT : TabM m) (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (W : Waits sig Unit) (K : PUnit → sProp 𝕄) :
    iprop(tabsP m c ∗ scrM m c t.val arg14 arg15 arg16 ∗ ringM m c t.val ∗ owes (c : Thread nD τ) 0 W
      ∗ (iprop(tabsP m c ∗ scrM m c (t.val + 1) arg14 arg15 arg16 ∗ ringM m c (t.val + 1) ∗ (∃ W', owes (c : Thread nD τ) 0 W')) -∗ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 (nW m)) K))
      ⊢ wp frame (wpE (defs₀ (F := F)) Variants.none c none) Set.univ (cc0_moe_expert_ffn (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4) K := by
  have ht : t.val < 160 := t.isLt
  have hp := hT.pos; have hle := hT.le
  have hk : (kk t.val).val = t.val := Nat.mod_eq_of_lt ht
  have hk1 : (kk (t.val - 1)).val = t.val - 1 := Nat.mod_eq_of_lt (by omega)
  have hna : wNa c (tbl m 1) = nW m := wNa1 c _
  have hbe : wAt c tbM0_0 (tbl m 0) (k0_off1 (grid0.coords t)) (k0_off1_inb _) = eW m (kk t.val) := wAt0 c _ _ _ _ (by rw [hk]; exact coff1 t)
  have hpb : wAt c tbM0_0 (tbl m 0) (k0_off2 (grid0.coords t)) (k0_off2_inb _) = eW m (kk (t.val - 1)) := wAt0 c _ _ _ _ (by rw [hk1]; exact coff2 t)
  by_cases h0 : t.val = 0
  · have he0 : wAt c tbM0_0 (tbl m 0) ![0] inb_S160_S1_0 = eW m (kk t.val) := wAt0 c _ _ _ _ (by rw [hk, h0])
    have hs0 : wAt c tbM0_2 (tbl m 2) ![0] inb_S160_S1_0 = sW m (kk t.val) := wAt2 c _ _ _ _ (by rw [hk, h0])
    haveI hs : Fact ((sW m (kk t.val)).toNat < 2) := ⟨hT.slot _⟩
    have hc2 := (cond2_iff t (nW m) (eW m (kk t.val)) (eW m (kk (t.val - 1))) hle).2 ⟨by omega, .inl h0⟩
    have hR : ringM m c t.val = iprop(freeM m c 0 ∗ freeM m c 1) := by
      unfold ringM; rw [if_neg (fun h => by omega)]
    rw [hR]
    refine .trans ?_ (toMidFirst c t arg5 harg5 arg7 harg7 arg9 harg9 arg11 harg11 arg12 harg12 arg14 harg14 arg15 harg15 arg16 harg16 (tbl m 0) (tbl m 1) (tbl m 2) (tbl m 3) (V m c main_arg5) (V m c main_arg7) (V m c main_arg9) _ _ _ hna hbe hpb _ _ he0 hs0 (hT.expert _)
      ((cond1_iff t _ hp hle).2 h0) (chk2_of _ _ _ (hT.expert _)) (chk1_of _ _ _ hs.out) W K)
    iintro ⟨HT, HS, HR, HW, Hk⟩
    ihave HR' := (free_back c (V m c main_arg5) (V m c main_arg7) (V m c main_arg9) (slw (sW m (kk t.val)))) $$ HR
    icases HR' with ⟨HA, HB⟩
    isplitl [HT]; · iexact HT
    isplitl [HA]; · iexact HA
    isplitl [HW]; · iexact HW
    iintro ⟨HT, HF, HW⟩
    iapply (midFetch m hT c t arg5 harg5 arg7 harg7 arg9 harg9 arg11 harg11 arg12 harg12 arg14 harg14 arg15 harg15 arg16 harg16 (by omega) _ _ hc2 W K)
    isplitl [HT]; · iexact HT
    isplitl [HS]; · iapply (scr_some m c _ _ _ _); iexact HS
    isplitl [HF HB]
    · isplitl [HF]; · iexact HF
      iexact HB
    isplitl [HW]; · iexact HW
    iexact Hk
  · refine .trans ?_ (toMid c t arg5 harg5 arg7 harg7 arg9 harg9 arg11 harg11 arg12 harg12 arg14 harg14 arg15 harg15 arg16 harg16 (tbl m 0) (tbl m 1) (tbl m 2) (tbl m 3) (V m c main_arg5) (V m c main_arg7) (V m c main_arg9) _ _ _ hna hbe hpb
      (fun h => h0 ((cond1_iff t _ hp hle).1 h)) W K)
    iintro ⟨HT, HS, HR, HW, Hk⟩
    isplitl [HT]; · iexact HT
    isplitl [HW]; · iexact HW
    iintro ⟨HT, HW⟩
    -- a point that fetches nothing
    have skip : ∀ (hc2 : ¬ k0_cond2 (grid0.coords t) (nW m) (eW m (kk t.val)) (eW m (kk (t.val - 1))) = 1#1) (hS : scrM m c t.val arg14 arg15 arg16 ⊢ scrM m c (t.val + 1) arg14 arg15 arg16) (hR : ringM m c t.val ⊢ ringM m c (t.val + 1)),
        iprop(tabsP m c ∗ scrM m c t.val arg14 arg15 arg16 ∗ ringM m c t.val ∗ owes (c : Thread nD τ) 0 W
          ∗ (iprop(tabsP m c ∗ scrM m c (t.val + 1) arg14 arg15 arg16 ∗ ringM m c (t.val + 1) ∗ (∃ W', owes (c : Thread nD τ) 0 W')) -∗ wp frame (wpE (defs₀ (F := F)) Variants.none c none) Set.univ (tailP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 (nW m)) K))
          ⊢ wp frame (wpE (defs₀ (F := F)) Variants.none c none) Set.univ (midP (grid0.coords t) tbM0_0 htbM0_0 tbM0_1 htbM0_1 tbM0_2 htbM0_2 tbM0_3 htbM0_3 arg5 harg5 hbM0_0 (Memref.isWhole_whole _) arg7 harg7 hbM0_1 (Memref.isWhole_whole _) arg9 harg9 hbM0_2 (Memref.isWhole_whole _) arg11 harg11 arg12 harg12 scM0_0 (Memref.isWhole_whole _) arg14 harg14 arg15 harg15 arg16 harg16 cc0_scratch4 (nW m) (eW m (kk t.val)) (eW m (kk (t.val - 1)))) K := fun hc2 hS hR => by
      refine .trans ?_ (midSkip c t arg5 harg5 arg7 harg7 arg9 harg9 arg11 harg11 arg12 harg12 arg14 harg14 arg15 harg15 arg16 harg16 (tbl m 0) (tbl m 1) (tbl m 2) (tbl m 3) (V m c main_arg5) (V m c main_arg7) (V m c main_arg9) _ _ _ hc2 W K)
      iintro ⟨HT, HS, HR, HW, Hk⟩
      isplitl [HT]; · iexact HT
      isplitl [HW]; · iexact HW
      iintro ⟨HT, HW⟩
      iapply Hk
      isplitl [HT]; · iexact HT
      isplitl [HS]; · iapply hS; iexact HS
      isplitl [HR]; · iapply hR; iexact HR
      iexists _; iexact HW
    by_cases hn : t.val < (nW m).toNat
    · have e1 : (⟨(kk (t.val - 1)).val + 1, by rw [hk1]; omega⟩ : Fin 160) = kk t.val := Fin.ext (by rw [hk]; show (kk (t.val - 1)).val + 1 = _; rw [hk1]; omega)
      have st := hT.step (kk (t.val - 1)) (by rw [hk1]; omega) (by rw [hk1]; omega)
      rw [e1] at st
      rcases st with ⟨ea, sa, xa⟩ | ⟨ea, sa, xa⟩
      · iapply (skip (fun h => ((cond2_iff t _ _ _ hle).1 h).2.elim h0 fun h => h ea) (Entails.of_eq (by
            unfold scrM; simp only [Nat.add_sub_cancel]; rw [if_pos ⟨by omega, by omega⟩, if_pos ⟨by omega, by omega⟩, ea])) (Entails.of_eq (by
            unfold ringM; simp only [Nat.add_sub_cancel]; rw [sa, xa]
            exact if_congr (by constructor <;> rintro ⟨a, b, d⟩ <;> exact ⟨by omega, by omega, d⟩) rfl rfl)))
        isplitl [HT]; · iexact HT
        isplitl [HS]; · iexact HS
        isplitl [HR]; · iexact HR
        isplitl [HW]; · iexact HW
        iexact Hk
      · have hc2 := (cond2_iff t (nW m) (eW m (kk t.val)) (eW m (kk (t.val - 1))) hle).2 ⟨hn, .inr ea⟩
        have hR : ringM m c t.val = iprop(flightM m c (slw (sW m (kk t.val))) (exw (eW m (kk t.val))) ∗ freeM m c (oth (slw (sW m (kk t.val))))) := by
          unfold ringM
          rw [if_pos ⟨by omega, by omega, by rw [xa]; exact hT.expert _⟩, xa, sa, slot_oth _ (hT.slot _), oth_oth]
        ihave HR := (Entails.of_eq hR) $$ HR
        iapply (midFetch m hT c t arg5 harg5 arg7 harg7 arg9 harg9 arg11 harg11 arg12 harg12 arg14 harg14 arg15 harg15 arg16 harg16 hn _ _ hc2 W K)
        isplitl [HT]; · iexact HT
        isplitl [HS]; · iapply (scr_some m c _ _ _ _); iexact HS
        isplitl [HR]; · iexact HR
        isplitl [HW]; · iexact HW
        iexact Hk
    · have hR : ringM m c t.val = ringM m c (t.val + 1) := by
        have a1 : ringM m c (t.val + 1) = iprop(freeM m c 0 ∗ freeM m c 1) := by unfold ringM; rw [if_neg (fun h => by omega)]
        rw [a1]; unfold ringM
        rw [if_neg]
        rintro ⟨-, h2, h3⟩
        rw [hT.last (kk (t.val - 1)) (by rw [hk1]; omega)] at h3
        exact absurd h3 (by decide)
      have hS : scrM m c t.val arg14 arg15 arg16 ⊢ scrM m c (t.val + 1) arg14 arg15 arg16 := by
        have a1 : scrM m c (t.val + 1) arg14 arg15 arg16 = someM c arg14 arg15 arg16 := by unfold scrM; rw [if_neg (fun h => by omega)]
        rw [a1]; exact scr_some m c _ _ _ _
      iapply (skip (fun h => hn ((cond2_iff t _ _ _ hle).1 h).1) hS (Entails.of_eq hR))
      isplitl [HT]; · iexact HT
      isplitl [HS]; · iexact HS
      isplitl [HR]; · iexact HR
      isplitl [HW]; · iexact HW
      iexact Hk
end Step

end Cert.Ffn

end
-- ==== Proof.FfnOut.lean ====
/- What a point leaves in the output block: the block's rows, or zeros. -/
module

public import proofs.«01_k».proof.Proof.FfnStep
public import proofs.«01_k».proof.Proof.FfnTab
public import Idealize.ShloMosaic.Lib.Pointwise
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.VecWindow
public import Idealize.ShloMosaic.Lib.Pipeline.Value
public import Idealize.ShloMosaic.Lib.Tactic
public import Idealize.ShloMosaic.Lib.WholeRead
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

/-- A load of the block of rows. -/
def ld (x : Vec F S4096x128 .f32) (B : LoadRect S4096x128) : B.shape.Idx → Elt F .f32 := fun y => x (B.idx y)
/-- The 512 rows of 1024 a block computes, from its rows, its three biases and the three matrices kept. -/
def res (x0 : Vec F S4096x128 .f32) (x1 x2 x3 : Vec F S1x1x1x1024 .f32) (g u d : Vec F S1024x1024 .bf16) : FVec F S512x1024 .f32 :=
  k0_pay10 (k0_pay8 (ld x0 ⟨![0, 0], S512x128.size, ![8, 1], inb_S4096x128_S512x128_0_0_s_8_1⟩) (ld x0 ⟨![1, 0], S512x128.size, ![8, 1], inb_S4096x128_S512x128_1_0_s_8_1⟩) (ld x0 ⟨![2, 0], S512x128.size, ![8, 1], inb_S4096x128_S512x128_2_0_s_8_1⟩) (ld x0 ⟨![3, 0], S512x128.size, ![8, 1], inb_S4096x128_S512x128_3_0_s_8_1⟩) (ld x0 ⟨![4, 0], S512x128.size, ![8, 1], inb_S4096x128_S512x128_4_0_s_8_1⟩) (ld x0 ⟨![5, 0], S512x128.size, ![8, 1], inb_S4096x128_S512x128_5_0_s_8_1⟩) (ld x0 ⟨![6, 0], S512x128.size, ![8, 1], inb_S4096x128_S512x128_6_0_s_8_1⟩) (ld x0 ⟨![7, 0], S512x128.size, ![8, 1], inb_S4096x128_S512x128_7_0_s_8_1⟩) g x1) (k0_pay9 (ld x0 ⟨![0, 0], S512x128.size, ![8, 1], inb_S4096x128_S512x128_0_0_s_8_1⟩) (ld x0 ⟨![1, 0], S512x128.size, ![8, 1], inb_S4096x128_S512x128_1_0_s_8_1⟩) (ld x0 ⟨![2, 0], S512x128.size, ![8, 1], inb_S4096x128_S512x128_2_0_s_8_1⟩) (ld x0 ⟨![3, 0], S512x128.size, ![8, 1], inb_S4096x128_S512x128_3_0_s_8_1⟩) (ld x0 ⟨![4, 0], S512x128.size, ![8, 1], inb_S4096x128_S512x128_4_0_s_8_1⟩) (ld x0 ⟨![5, 0], S512x128.size, ![8, 1], inb_S4096x128_S512x128_5_0_s_8_1⟩) (ld x0 ⟨![6, 0], S512x128.size, ![8, 1], inb_S4096x128_S512x128_6_0_s_8_1⟩) (ld x0 ⟨![7, 0], S512x128.size, ![8, 1], inb_S4096x128_S512x128_7_0_s_8_1⟩) u) x2 d x3
/-- Those rows laid out 128 to a row, as the output block holds them. -/
def spread (v : FVec F S512x1024 .f32) : Vec F S4096x128 .f32 := fun y =>
  v (ix2 ⟨(y 0).val / 8, by have : (y 0).val < 4096 := (y 0).isLt; omega⟩ ⟨128 * ((y 0).val % 8) + (y 1).val, by have : (y 1).val < 128 := (y 1).isLt; omega⟩)

theorem spread_piece (v : FVec F S512x1024 .f32) (k : ℕ) (hk : k < 8) (inb) (spos) (hs) (x : S512x128.Idx) :
    extractStridedSlice S512x128 ![0, 128 * k] v hs x = spread v (Rect.emb (s := S4096x128) ⟨⟨![k, 0], S512x128.size, ![8, 1], inb⟩, spos⟩ x) := by
  have h0 : (x 0).val < 512 := (x 0).isLt
  have h1 : (x 1).val < 128 := (x 1).isLt
  refine congrArg v (funext fun a => Fin.ext ?_)
  fin_cases a
  · show 0 + (x 0).val = (k + 8 * (x 0).val) / 8
    omega
  · show 128 * k + (x 1).val = 128 * ((k + 8 * (x 0).val) % 8) + (0 + 1 * (x 1).val)
    omega

theorem whole_ld {S : Shape} {e : EltTy} {sp : Space} (M : Memref sig .tc sp S e) (h : M.IsWhole) (X : S.Idx → Elt F e) (off : Fin S.rank → ℕ) (ho : ∀ a, off a = 0) (inb) :
    View.readAt (Elt F) M.view (Rect.unit (s := S) off S.size inb).toLoadRect (h.unread X) = X := by
  funext y
  rw [h.readAt_unread]
  refine congrArg X (funext fun a => Fin.ext ?_)
  show off a + 1 * (y a).val = _
  rw [ho a]; omega

set_option maxHeartbeats 4000000 in
theorem on_read (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (v0 : Elt F .i32) (T1 : TbBuf0 (F := F) c tbM0_1) (hc4 : k0_cond4 (grid0.coords t) v0 = 1#1) (hc5 : ¬ k0_cond5 (grid0.coords t) (wNa c T1) = 1#1)
    (x0 : Vec F S4096x128 .f32) (x1 : Vec F S1x1x1x1024 .f32) (x2 : Vec F S1x1x1x1024 .f32) (x3 : Vec F S1x1x1x1024 .f32) (g u d : Vec F S1024x1024 .bf16) (v : View sig .tc .vmem S4096x128 .f32) (f) :
    v.read (Elt F) (v.writes (Elt F) f (tailOn c t arg5 harg5 arg7 harg7 arg9 harg9 arg11 harg11 arg12 harg12 arg14 harg14 arg15 harg15 arg16 harg16 v0 T1 hc4 hc5 x0 x1 x2 x3 g u d).1) = spread (res x0 x1 x2 x3 g u d) := by
  have r4 : ∀ (S : Shape) (M : Memref sig .tc .vmem S .f32) (h : M.IsWhole) (X : S.Idx → Elt F .f32) (B : LoadRect S), View.readAt (Elt F) M.view B (h.unread X) = fun y => X (B.idx y) :=
    fun S M h X B => funext fun y => h.readAt_unread X B y
  have hv : tailOn.sl.r_3 c arg5 harg5 arg7 harg7 arg9 harg9 arg11 harg11 arg14 harg14 arg15 harg15 arg16 harg16 x0 x1 x2 x3 g u d = res x0 x1 x2 x3 g u d := by
    unfold tailOn.sl.r_3 tailOn.sl.r tailOn.sl.r_1 tailOn.sl.r_2 res ld
    simp only [← r4 S4096x128 arg5 harg5 x0]
    have b1 := whole_ld arg7 harg7 x1 ![0, 0, 0, 0] (by intro a; fin_cases a <;> rfl) inb_S1x1x1x1024_S1x1x1x1024_0_0_0_0
    have b2 := whole_ld arg9 harg9 x2 ![0, 0, 0, 0] (by intro a; fin_cases a <;> rfl) inb_S1x1x1x1024_S1x1x1x1024_0_0_0_0
    have b3 := whole_ld arg11 harg11 x3 ![0, 0, 0, 0] (by intro a; fin_cases a <;> rfl) inb_S1x1x1x1024_S1x1x1x1024_0_0_0_0
    have m1 := whole_ld arg14 harg14 g ![0, 0] (by intro a; fin_cases a <;> rfl) inb_S1024x1024_S1024x1024_0_0
    have m2 := whole_ld arg15 harg15 u ![0, 0] (by intro a; fin_cases a <;> rfl) inb_S1024x1024_S1024x1024_0_0
    have m3 := whole_ld arg16 harg16 d ![0, 0] (by intro a; fin_cases a <;> rfl) inb_S1024x1024_S1024x1024_0_0
    exact congr (congr (congr (congr (congr rfl (congr (congr rfl m1) b1)) (congr rfl m2)) b2) m3) b3
  rw [← hv]
  funext y
  refine View.read_writes_apply_of_pieces v f (spread (tailOn.sl.r_3 c arg5 harg5 arg7 harg7 arg9 harg9 arg11 harg11 arg14 harg14 arg15 harg15 arg16 harg16 x0 x1 x2 x3 g u d)) _ ?_ y ?_
  · unfold tailOn
    intro p hp
    simp only [List.mem_cons, List.not_mem_nil, _root_.or_false] at hp
    rcases hp with rfl | rfl | rfl | rfl | rfl | rfl | rfl | rfl
    · intro x; have h := spread_piece (tailOn.sl.r_3 c arg5 harg5 arg7 harg7 arg9 harg9 arg11 harg11 arg14 harg14 arg15 harg15 arg16 harg16 x0 x1 x2 x3 g u d) 7 (by decide) inb_S4096x128_S512x128_7_0_s_8_1 spos_8_1 slices_S512x1024_o0_896_S512x128 x; exact h
    · intro x; have h := spread_piece (tailOn.sl.r_3 c arg5 harg5 arg7 harg7 arg9 harg9 arg11 harg11 arg14 harg14 arg15 harg15 arg16 harg16 x0 x1 x2 x3 g u d) 6 (by decide) inb_S4096x128_S512x128_6_0_s_8_1 spos_8_1 slices_S512x1024_o0_768_S512x128 x; exact h
    · intro x; have h := spread_piece (tailOn.sl.r_3 c arg5 harg5 arg7 harg7 arg9 harg9 arg11 harg11 arg14 harg14 arg15 harg15 arg16 harg16 x0 x1 x2 x3 g u d) 5 (by decide) inb_S4096x128_S512x128_5_0_s_8_1 spos_8_1 slices_S512x1024_o0_640_S512x128 x; exact h
    · intro x; have h := spread_piece (tailOn.sl.r_3 c arg5 harg5 arg7 harg7 arg9 harg9 arg11 harg11 arg14 harg14 arg15 harg15 arg16 harg16 x0 x1 x2 x3 g u d) 4 (by decide) inb_S4096x128_S512x128_4_0_s_8_1 spos_8_1 slices_S512x1024_o0_512_S512x128 x; exact h
    · intro x; have h := spread_piece (tailOn.sl.r_3 c arg5 harg5 arg7 harg7 arg9 harg9 arg11 harg11 arg14 harg14 arg15 harg15 arg16 harg16 x0 x1 x2 x3 g u d) 3 (by decide) inb_S4096x128_S512x128_3_0_s_8_1 spos_8_1 slices_S512x1024_o0_384_S512x128 x; exact h
    · intro x; have h := spread_piece (tailOn.sl.r_3 c arg5 harg5 arg7 harg7 arg9 harg9 arg11 harg11 arg14 harg14 arg15 harg15 arg16 harg16 x0 x1 x2 x3 g u d) 2 (by decide) inb_S4096x128_S512x128_2_0_s_8_1 spos_8_1 slices_S512x1024_o0_256_S512x128 x; exact h
    · intro x; have h := spread_piece (tailOn.sl.r_3 c arg5 harg5 arg7 harg7 arg9 harg9 arg11 harg11 arg14 harg14 arg15 harg15 arg16 harg16 x0 x1 x2 x3 g u d) 1 (by decide) inb_S4096x128_S512x128_1_0_s_8_1 spos_8_1 slices_S512x1024_o0_128_S512x128 x; exact h
    · intro x; have h := spread_piece (tailOn.sl.r_3 c arg5 harg5 arg7 harg7 arg9 harg9 arg11 harg11 arg14 harg14 arg15 harg15 arg16 harg16 x0 x1 x2 x3 g u d) 0 (by decide) inb_S4096x128_S512x128_0_0_s_8_1 spos_8_1 slices_S512x1024_o0_0_S512x128 x; exact h
  · have h0 : (y 0).val < 4096 := (y 0).isLt
    have at' : ∀ (k : ℕ) (inb) (spos), (y 0).val % 8 = k → y ∈ (⟨⟨![k, 0], S512x128.size, ![8, 1], inb⟩, spos⟩ : Rect S4096x128).set := fun k inb spos h => by
      refine (LoadRect.mem_set _).mpr fun a => ?_
      fin_cases a
      · exact ⟨(y 0).val / 8, show (y 0).val / 8 < 512 by omega, show (y 0).val = k + 8 * ((y 0).val / 8) by omega⟩
      · exact ⟨(y 1).val, (y 1).isLt, show (y 1).val = 0 + 1 * (y 1).val by omega⟩
    unfold tailOn
    have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    simp only [List.mem_cons, List.not_mem_nil, _root_.or_false, exists_eq_or_imp, exists_eq_left]
    rcases h8 with h | h | h | h | h | h | h | h
    · iterate 7 right
      exact at' _ _ spos_8_1 h
    · iterate 6 right
      left; exact at' _ _ spos_8_1 h
    · iterate 5 right
      left; exact at' _ _ spos_8_1 h
    · iterate 4 right
      left; exact at' _ _ spos_8_1 h
    · iterate 3 right
      left; exact at' _ _ spos_8_1 h
    · iterate 2 right
      left; exact at' _ _ spos_8_1 h
    · right; left; exact at' _ _ spos_8_1 h
    · left; exact at' _ _ spos_8_1 h

theorem off_read (c : Dev nD) (t : Fin grid0.N) (arg5 : Memref sig .tc .vmem S4096x128 .f32) (harg5 : arg5.IsWhole) (arg7 : Memref sig .tc .vmem S1x1x1x1024 .f32) (harg7 : arg7.IsWhole) (arg9 : Memref sig .tc .vmem S1x1x1x1024 .f32) (harg9 : arg9.IsWhole) (arg11 : Memref sig .tc .vmem S1x1x1x1024 .f32) (harg11 : arg11.IsWhole) (arg12 : Memref sig .tc .vmem S4096x128 .f32) (harg12 : arg12.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (v0 : Elt F .i32) (T1 : TbBuf0 (F := F) c tbM0_1) (hc4 : ¬ k0_cond4 (grid0.coords t) v0 = 1#1) (hc5 : k0_cond5 (grid0.coords t) (wNa c T1) = 1#1)
    (x0 : Vec F S4096x128 .f32) (x1 : Vec F S1x1x1x1024 .f32) (x2 : Vec F S1x1x1x1024 .f32) (x3 : Vec F S1x1x1x1024 .f32) (g u d : Vec F S1024x1024 .bf16) (v : View sig .tc .vmem S4096x128 .f32) (f) :
    v.read (Elt F) (v.writes (Elt F) f (tailOff c t arg5 harg5 arg7 harg7 arg9 harg9 arg11 harg11 arg12 harg12 arg14 harg14 arg15 harg15 arg16 harg16 v0 T1 hc4 hc5 x0 x1 x2 x3 g u d).1) = k0_pay5 (F := F) :=
  View.read_writes_full v f inb_S4096x128_S4096x128_0_0 _ []

end Cert.Ffn

end
-- ==== Proof.FfnFrame.lean ====
/- The experts' kernel run whole: what each output block ends with, the body at every point, and the frame. -/
module

public import proofs.«01_k».proof.Proof.FfnStep
public import proofs.«01_k».proof.Proof.FfnOut
public import proofs.«01_k».proof.Proof.FfnTab
public import Idealize.ShloMosaic.Lib.Pointwise
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.VecWindow
public import Idealize.ShloMosaic.Lib.Pipeline.Value
public import Idealize.ShloMosaic.Lib.Tactic
public import Idealize.ShloMosaic.Lib.Claim
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What point `t` leaves in the output block: the block's rows when it is in use, and zeros otherwise. -/
def outB (hO : Ok m) (c : Dev nD) (t : Fin (cfgM m hO).N) : Vec F S4096x128 .f32 :=
  if t.val < (nW m).toNat then
    spread (res (iblk m hO c 0 t) (iblk m hO c 1 t) (iblk m hO c 2 t) (iblk m hO c 3 t) (G0 c (V m c main_arg5) (exw (eW m (kk t.val)))) (G1 c (V m c main_arg7) (exw (eW m (kk t.val)))) (G2 c (V m c main_arg9) (exw (eW m (kk t.val)))))
  else k0_pay5 (F := F)

/-- The invariant before point `k`. -/
def PhiR (c : Dev nD) (k : ℕ) : sProp 𝕄 :=
  iprop(scrM m c k scM0_1 scM0_2 scM0_3 ∗ (∃ r, prngReg c r) ∗ (ringM m c k ∗ spareP (F := F) c) ∗ tabsP m c)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outB m hO c t
  Φ t := PhiR m c t.val
  q _ := fullShare
  owed _ := 0

theorem A_eq (hO : Ok m) (c : Dev nD) (w : Fin (cfgM m hO).W) : (dats m hO 0 c).A w = V m c (Pipeline.arrRef spec0 w) := by
  dsimp only [dats]
theorem PhiR_castSucc (hO : Ok m) (c : Dev nD) (t : Fin (cfgM m hO).N) : (dats m hO 0 c).Φ t.castSucc = PhiR m c t.val := by
  dsimp only [dats]; simp only [Fin.val_castSucc]
theorem PhiR_succ (hO : Ok m) (c : Dev nD) (t : Fin (cfgM m hO).N) : (dats m hO 0 c).Φ t.succ = PhiR m c (t.val + 1) := by
  dsimp only [dats]; simp only [Fin.val_succ]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outB m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
/-- The body at any point, from the invariant before it to the invariant after it. -/
theorem sound_body (hT : TabM m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [after0_0, after0_1, after0_2, after0_3, after0_4, PhiR_castSucc m hO c t, PhiR_succ m hO c t]
  unfold Dat.owesAt Pipeline.owesWithin
  rw [show (dats m hO 0 c).owed t.castSucc = 0 from rfl, show (dats m hO 0 c).owed t.succ = 0 from rfl]
  unfold PhiR
  iintro ⟨⟨HS, Hg, ⟨HR, HSp⟩, HT⟩, ⟨%W, -, HW⟩, ⟨%d0, H0⟩, ⟨%d1, H1⟩, ⟨%d2, H2⟩, ⟨%d3, H3⟩, ⟨%d4, H4⟩⟩
  iapply (toTail m hT c t (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) scM0_2 (Memref.isWhole_whole _) scM0_3 (Memref.isWhole_whole _) W _)
  isplitl [HT]; · iexact HT
  isplitl [HS]; · iexact HS
  isplitl [HR]; · iexact HR
  isplitl [HW]; · iexact HW
  iintro ⟨⟨HT0, HT1, HT2, HT3⟩, HS, HR, ⟨%W', HW⟩⟩
  have hna : wNa c (tbl m 1) = nW m := wNa1 c _
  by_cases hn : t.val < (nW m).toNat
  · have h4 : k0_cond4 (grid0.coords t) (nW m) = 1#1 := (cond4_iff t _ hT.le).2 hn
    have h5 : ¬ k0_cond5 (grid0.coords t) (wNa c (tbl m 1)) = 1#1 := by
      rw [hna]; exact fun h => absurd ((cond5_iff t _ hT.le).1 h) (by omega)
    have hS : scrM m c (t.val + 1) scM0_1 scM0_2 scM0_3 = keptM m c (exw (eW m (kk t.val))) scM0_1 scM0_2 scM0_3 := by
      unfold scrM; rw [if_pos ⟨by omega, by omega⟩, Nat.add_sub_cancel]
    rw [show outB m hO c t = _ from if_pos hn]
    ihave HS := (Entails.of_eq hS) $$ HS
    icases HS with ⟨HA14, HA15, HA16⟩
    iapply ((tailOn c t (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) scM0_2 (Memref.isWhole_whole _) scM0_3 (Memref.isWhole_whole _) (nW m) (tbl m 1) h4 h5 (iblk m hO c 0 t) (iblk m hO c 1 t) (iblk m hO c 2 t) (iblk m hO c 3 t) _ _ _).2 W' _)
    isplitl [H0]; · iexact H0
    isplitl [H1]; · iexact H1
    isplitl [H2]; · iexact H2
    isplitl [H3]; · iexact H3
    isplitl [H4]; · iexists _; iexact H4
    isplitl [HA14]; · iexact HA14
    isplitl [HA15]; · iexact HA15
    isplitl [HA16]; · iexact HA16
    isplitl [HT1]; · iexact HT1
    isplitl [HW]; · iexact HW
    iintro ⟨H0, H1, H2, H3, ⟨%e4, H4⟩, HA14, HA15, HA16, HT1, HW⟩
    isplitl [HA14 HA15 HA16 Hg HR HSp HT0 HT1 HT2 HT3]
    · isplitl [HA14 HA15 HA16]
      ·
        iapply (Entails.of_eq hS.symm)
        unfold keptM
        isplitl [HA14]; · iexact HA14
        isplitl [HA15]; · iexact HA15
        iexact HA16
      isplitl [Hg]; · iexact Hg
      isplitl [HR HSp]
      · isplitl [HR]; · iexact HR
        iexact HSp
      isplitl [HT0]; · iexact HT0
      isplitl [HT1]; · iexact HT1
      isplitl [HT2]; · iexact HT2
      iexact HT3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    unfold owns; iexists _; isplitr
    swap; · iexact H4
    ipureintro; exact on_read c t (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) scM0_2 (Memref.isWhole_whole _) scM0_3 (Memref.isWhole_whole _) (nW m) (tbl m 1) h4 h5 (iblk m hO c 0 t) (iblk m hO c 1 t) (iblk m hO c 2 t) (iblk m hO c 3 t) _ _ _ _ _
  · have h4 : ¬ k0_cond4 (grid0.coords t) (nW m) = 1#1 := fun h => hn ((cond4_iff t _ hT.le).1 h)
    have h5 : k0_cond5 (grid0.coords t) (wNa c (tbl m 1)) = 1#1 := by
      rw [hna]; exact (cond5_iff t _ hT.le).2 (by omega)
    have hS : scrM m c (t.val + 1) scM0_1 scM0_2 scM0_3 = someM c scM0_1 scM0_2 scM0_3 := by
      unfold scrM; rw [if_neg (by omega)]
    rw [show outB m hO c t = _ from if_neg hn]
    ihave HS := (Entails.of_eq hS) $$ HS
    icases HS with ⟨⟨%g14, HA14⟩, ⟨%g15, HA15⟩, ⟨%g16, HA16⟩⟩
    iapply ((tailOff c t (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) scM0_2 (Memref.isWhole_whole _) scM0_3 (Memref.isWhole_whole _) (nW m) (tbl m 1) h4 h5 (iblk m hO c 0 t) (iblk m hO c 1 t) (iblk m hO c 2 t) (iblk m hO c 3 t) g14 g15 g16).2 W' _)
    isplitl [H0]; · iexact H0
    isplitl [H1]; · iexact H1
    isplitl [H2]; · iexact H2
    isplitl [H3]; · iexact H3
    isplitl [H4]; · iexists _; iexact H4
    isplitl [HA14]; · iexact HA14
    isplitl [HA15]; · iexact HA15
    isplitl [HA16]; · iexact HA16
    isplitl [HT1]; · iexact HT1
    isplitl [HW]; · iexact HW
    iintro ⟨H0, H1, H2, H3, ⟨%e4, H4⟩, HA14, HA15, HA16, HT1, HW⟩
    isplitl [HA14 HA15 HA16 Hg HR HSp HT0 HT1 HT2 HT3]
    · isplitl [HA14 HA15 HA16]
      ·
        iapply (Entails.of_eq hS.symm)
        unfold someM
        isplitl [HA14]; · iexists _; iexact HA14
        isplitl [HA15]; · iexists _; iexact HA15
        iexists _; iexact HA16
      isplitl [Hg]; · iexact Hg
      isplitl [HR HSp]
      · isplitl [HR]; · iexact HR
        iexact HSp
      isplitl [HT0]; · iexact HT0
      isplitl [HT1]; · iexact HT1
      isplitl [HT2]; · iexact HT2
      iexact HT3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    unfold owns; iexists _; isplitr
    swap; · iexact H4
    ipureintro; exact off_read c t (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) scM0_2 (Memref.isWhole_whole _) scM0_3 (Memref.isWhole_whole _) (nW m) (tbl m 1) h4 h5 (iblk m hO c 0 t) (iblk m hO c 1 t) (iblk m hO c 2 t) (iblk m hO c 3 t) _ _ _ _ _

end Cert.Ffn

end
-- ==== Proof.FfnRun.lean ====
/- The experts' kernel run whole: the launch, and the frame. -/
module

public import proofs.«01_k».proof.Proof.FfnStep
public import proofs.«01_k».proof.Proof.FfnFrame
public import proofs.«01_k».proof.Proof.FfnTab
public import Idealize.ShloMosaic.Lib.Pointwise
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.FrameBody
public import Idealize.ShloMosaic.Lib.Ring
public import Idealize.ShloMosaic.Lib.Ring.WriteBehind
public import Idealize.ShloMosaic.Lib.Batch
public import Idealize.ShloMosaic.Lib.WritesUnit
public import Idealize.ShloMosaic.Lib.VecWindow
public import Idealize.ShloMosaic.Lib.Pipeline.Value
public import Idealize.ShloMosaic.Lib.Tactic
public import Idealize.ShloMosaic.Lib.Claim
public import Idealize.ShloMosaic.Lib.WordCmp

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 400000 in
theorem body_obligation (hT : TabM m) (hO : Ok m) (c : Dev nD) : BodyObligation (dats (F := F) m hO 0 c) (defs₀ (F := F)) Variants.none () Set.univ := fun t => by
  rw [bigSep_W0, bigSep_W0, defs₀_row m hO]
  refine triple_restated (sound_body m hT hO c t) rfl ?_ fun _ => ?_
  · exact .rfl
  · unfold bodyPost
    have hf : ((cfgM m hO).win 4).flush t = true := flush0_4 (adm m hO) t
    refine sep_mono .rfl (sep_mono .rfl (sep_mono .rfl (sep_mono .rfl (sep_mono .rfl (sep_mono .rfl ?_)))))
    dsimp only
    split
    · split
      · rename_i h
        exact absurd (hf.symm.trans h) (by decide)
      · exact .rfl
    · exact .rfl

/-- The launch's resources are the invariant before the first point, -/
theorem hin (hO : Ok m) (c : Dev nD) : iprop(Pipeline.ΦD osem0 spec0 H0 (V m) c ∗ Pipeline.ΦT pre0 (tbl m) c) ⊢ (dats m hO 0 c).Φ 0 := by
  rw [PhiD0_eq, PhiT0_eq, show (dats m hO 0 c).Φ 0 = PhiR m c 0 from rfl]
  have hS : scrM m c 0 scM0_1 scM0_2 scM0_3 = someM c scM0_1 scM0_2 scM0_3 := by unfold scrM; rw [if_neg (by omega)]
  have hR : ringM m c 0 = iprop(freeM m c 0 ∗ freeM m c 1) := by unfold ringM; rw [if_neg (by omega)]
  unfold PhiR
  rw [hS, hR]
  unfold someM
  iintro ⟨⟨⟨HS0, HS1, HS2, HS3⟩, Hg, Hq, Hh⟩, HT⟩
  isplitl [HS1 HS2 HS3]
  · isplitl [HS1]; · iexact HS1
    isplitl [HS2]; · iexact HS2
    iexact HS3
  isplitl [Hg]; · iexact Hg
  isplitl [HS0 Hq Hh]
  · iapply (ring_in c (V m c main_arg5) (V m c main_arg7) (V m c main_arg9))
    isplitl [HS0]; · iexact HS0
    isplitl [Hq]; · iexact Hq
    iexact Hh
  iexact HT
/-- and after the last point they are handed back. -/
theorem hout (hT : TabM m) (hO : Ok m) (c : Dev nD) : (dats m hO 0 c).Φ (Fin.last _) ⊢ Pipeline.ΦD osem0 spec0 H0 (V m) c := by
  rw [PhiD0_eq, show (dats m hO 0 c).Φ (Fin.last _) = PhiR m c 160 from rfl]
  have hle := hT.le
  have hR : ringM m c 160 = iprop(freeM m c 0 ∗ freeM m c 1) := by
    unfold ringM; rw [if_neg]
    rintro ⟨-, h1, h2⟩
    have : xW m (kk (160 - 1)) = 4294967295#32 := hT.last _ (show (160 - 1) % 160 + 1 = (nW m).toNat by omega)
    rw [this] at h2
    exact absurd h2 (by decide)
  unfold PhiR
  rw [hR]
  iintro ⟨HS, Hg, HR, -⟩
  ihave HS := (scr_some m c 160 scM0_1 scM0_2 scM0_3) $$ HS
  icases HS with ⟨HS1, HS2, HS3⟩
  ihave HR := (ring_out c (V m c main_arg5) (V m c main_arg7) (V m c main_arg9)) $$ HR
  icases HR with ⟨HS0, Hq, Hh⟩
  isplitl [HS0 HS1 HS2 HS3]
  · isplitl [HS0]; · iexact HS0
    isplitl [HS1]; · iexact HS1
    isplitl [HS2]; · iexact HS2
    iexact HS3
  isplitl [Hg]; · iexact Hg
  isplitl [Hq]; · iexact Hq
  iexact Hh

set_option backward.isDefEq.respectTransparency.types false in
/-- The kernel's program run whole, under what the precondition says of the tables. -/
theorem run_main (hT : TabM m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hT hO c).loose) (hshare := fun c => (dats m hO 0 c).share_full fun _ => rfl)
    (howed := fun _ _ => rfl) (V := V m) (hmain := hmain m Variants.none) (hA := A_eq m hO) (hpf := V_pre m)
    (hin := hin m hO) (hout := hout m hT hO)

/-- The arguments and the counters end unchanged. -/
theorem frame_main (hT : TabM m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (ok_of m hT) (dats m (ok_of m hT)) (A_eq m (ok_of m hT)) ((θ_run defs _ _).mono (fun _ h => h.1) (run_main m ρ hT (ok_of m hT)))) ((θ_run defs _ _).mono (fun _ h => h.2) (run_main m ρ hT (ok_of m hT)))

end Cert.Ffn

end
-- ==== Proof.FfnRef.lean ====
/- The reference's experts, row by row. -/
module

public import proofs.«01_k».proof.Proof.Gen.Reference5Ideal.Read
public import Idealize.ShloMosaic.Lib.Pointwise
public import Idealize.ShloMosaic.Lib.WordCmp

@[expose] public section
set_option maxRecDepth 16384

noncomputable section
namespace Cert.Ffn.Ref
open Idealize.ShloMosaic Cert.Reference5Ideal Cert.Reference5Ideal.Gen Cert.Reference5Ideal.Read Idealize.ShloMosaic.WordCmp

/-- One row through a matrix and its bias. -/
def affine (x : Fin 1024 → EReal) (w : Fin 1024 → Fin 1024 → EReal) (b : Fin 1024 → EReal) (k : Fin 1024) : EReal :=
  ∑ q : Fin 1024, x q * w q k + b k
/-- The clipped gate times its sigmoid times one more than the clipped value. -/
def act (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)
/-- One row through an expert. -/
def expert (x : Fin 1024 → EReal) (wg : Fin 1024 → Fin 1024 → EReal) (bg : Fin 1024 → EReal) (wu : Fin 1024 → Fin 1024 → EReal) (bu : Fin 1024 → EReal)
    (wd : Fin 1024 → Fin 1024 → EReal) (bd : Fin 1024 → EReal) (j : Fin 1024) : EReal :=
  affine (fun k => act (affine x wg bg k) (affine x wu bu k)) wd bd j

theorem zero_bits : Ideal.ofBits .f32 0x00000000#32 = 0 := Ideal.ofBits_zero_f32
theorem one_bits : Ideal.ofBits .f32 0x3F800000#32 = 1 := Ideal.ofBits_one_f32

variable (x0 : S81920x1024.Idx → EReal) (x1 : S160.Idx → BitVec 32) (x2 : S1.Idx → BitVec 32)
  (x5 x7 x9 : S2x32x1024x1024.Idx → EReal) (x6 x8 x10 : S2x32x1024.Idx → EReal)

theorem clip_word (w : BitVec 32) (e : Fin 32) (h : w = BitVec.ofNat 32 e.val) : min w.toInt.toNat 31 = e.val := by
  have he := e.isLt
  have h1 : w.toNat = e.val := by rw [h]; exact toNat_ofNat_of_lt (by omega)
  rw [toInt_eq_toNat_of_lt_half (by omega), h1]; omega

/-- A matrix looked up by expert. -/
theorem pick3 (x : S32x1024x1024.Idx → EReal) (idx : S160x1.Idx → BitVec 32) (b : Fin 160) (q k : Fin 1024) (e : Fin 32)
    (h : idx (ix2 b 0) = BitVec.ofNat 32 e.val) :
    Host.gather gather_S32x1024x1024_S160x1_S160x1024x1024_12_0_n_n_0_1_110241024 x idx (ix3 b q k) = x (ix3 e q k) := by
  unfold Host.gather
  refine congrArg x (funext fun a => Fin.ext ?_)
  match a with
  | ⟨0, _⟩ =>
    refine Eq.trans ?_ (clip_word _ e h)
    show min (idx _).toInt.toNat 31 + 0 + 0 = _
    refine congrArg (fun y => min (idx y).toInt.toNat 31) (funext fun a => Fin.ext ?_)
    match a with
    | ⟨0, _⟩ => rfl
    | ⟨1, _⟩ => rfl
  | ⟨1, _⟩ => exact Nat.zero_add q.val
  | ⟨2, _⟩ => exact Nat.zero_add k.val
/-- A bias row looked up by expert. -/
theorem pick2 (x : S32x1024.Idx → EReal) (idx : S160x1.Idx → BitVec 32) (b : Fin 160) (k : Fin 1024) (e : Fin 32)
    (h : idx (ix2 b 0) = BitVec.ofNat 32 e.val) :
    Host.gather gather_S32x1024_S160x1_S160x1024_1_0_n_n_0_1_11024 x idx (ix2 b k) = x (ix2 e k) := by
  unfold Host.gather
  refine congrArg x (funext fun a => Fin.ext ?_)
  match a with
  | ⟨0, _⟩ =>
    refine Eq.trans ?_ (clip_word _ e h)
    show min (idx _).toInt.toNat 31 + 0 + 0 = _
    refine congrArg (fun y => min (idx y).toInt.toNat 31) (funext fun a => Fin.ext ?_)
    match a with
    | ⟨0, _⟩ => rfl
    | ⟨1, _⟩ => rfl
  | ⟨1, _⟩ => exact Nat.zero_add k.val

theorem look (b : Fin 160) : broadcastInDim S160x1 ![0] bcast_S160_S160x1_0 x1 (ix2 b 0) = x1 (ix1 b) := by
  pointwise

/-- Layer 0's matrix of expert `e`. -/
theorem layer3 (x : S2x32x1024x1024.Idx → EReal) (e : Fin 32) (q k : Fin 1024) :
    shapeCast S32x1024x1024 (extractStridedSlice S1x32x1024x1024 ![0, 0, 0, 0] x slices_S2x32x1024x1024_S1x32x1024x1024_0_0_0_0)
      shapeCasts_S1x32x1024x1024_S32x1024x1024 (ix3 e q k) = x (ix4 0 e q k) := by
  pointwise
theorem layer2 (x : S2x32x1024.Idx → EReal) (e : Fin 32) (k : Fin 1024) :
    shapeCast S32x1024 (extractStridedSlice S1x32x1024 ![0, 0, 0] x slices_S2x32x1024_S1x32x1024_0_0_0)
      shapeCasts_S1x32x1024_S32x1024 (ix2 e k) = x (ix3 0 e k) := by
  pointwise

theorem gate_at (b : Fin 160) (i : Fin 512) (k : Fin 1024) (e : Fin 32) (h : x1 (ix1 b) = BitVec.ofNat 32 e.val) :
    val_main_v12 (F := Ideal) x0 x1 x5 x6 (ix3 b i k)
      = min (affine (fun q => x0 (ix2 ⟨b.val * 512 + i.val, by omega⟩ q)) (fun q k => x5 (ix4 0 e q k)) (fun k => x6 (ix3 0 e k)) k) (Ideal.ofBits .f32 0x40E00000#32) := by
  unfold val_main_v12 val_main_v11 val_main_v10 val_main_v9 val_main_v8 val_main_v7 val_main_v6 val_main_v5 val_main_v4 val_main_v3 val_main_v2 val_main_v1 val_main_v0
  pointwise
  have h3 : val_main_call0_v0 (F := Ideal) x1 (ix2 b 0) = BitVec.ofNat 32 e.val := (look x1 b).trans h
  have h2 : val_main_call1_v0 (F := Ideal) x1 (ix2 b 0) = BitVec.ofNat 32 e.val := (look x1 b).trans h
  rw [pick2 _ _ b k e h2, layer2]
  refine congrArg (fun s => min (s + _) _) (Finset.sum_congr rfl fun q _ => ?_)
  rw [pick3 _ _ b q k e h3, layer3]
theorem up_at (b : Fin 160) (i : Fin 512) (k : Fin 1024) (e : Fin 32) (h : x1 (ix1 b) = BitVec.ofNat 32 e.val) :
    val_main_v23 (F := Ideal) x0 x1 x7 x8 (ix3 b i k)
      = min (Ideal.ofBits .f32 0x40E00000#32) (max (Ideal.ofBits .f32 0xC0E00000#32) (affine (fun q => x0 (ix2 ⟨b.val * 512 + i.val, by omega⟩ q)) (fun q k => x7 (ix4 0 e q k)) (fun k => x8 (ix3 0 e k)) k)) := by
  unfold val_main_v23 val_main_call4_v4 val_main_call4_v3 val_main_call4_v2 val_main_call4_v1 val_main_call4_v0 val_main_v22 val_main_v21 val_main_v20 val_main_v19 val_main_v18 val_main_v17 val_main_v16 val_main_v15 val_main_v14 val_main_v13 val_main_v0
  pointwise
  have h3 : val_main_call2_v0 (F := Ideal) x1 (ix2 b 0) = BitVec.ofNat 32 e.val := (look x1 b).trans h
  have h2 : val_main_call3_v0 (F := Ideal) x1 (ix2 b 0) = BitVec.ofNat 32 e.val := (look x1 b).trans h
  rw [pick2 _ _ b k e h2, layer2]
  refine congrArg (fun s => min _ (max _ (s + _))) (Finset.sum_congr rfl fun q _ => ?_)
  rw [pick3 _ _ b q k e h3, layer3]
theorem mid_at (b : Fin 160) (i : Fin 512) (k : Fin 1024) (e : Fin 32) (h : x1 (ix1 b) = BitVec.ofNat 32 e.val) :
    val_main_v35 (F := Ideal) x0 x1 x5 x6 x7 x8 (ix3 b i k)
      = act (affine (fun q => x0 (ix2 ⟨b.val * 512 + i.val, by omega⟩ q)) (fun q k => x5 (ix4 0 e q k)) (fun k => x6 (ix3 0 e k)) k)
          (affine (fun q => x0 (ix2 ⟨b.val * 512 + i.val, by omega⟩ q)) (fun q k => x7 (ix4 0 e q k)) (fun k => x8 (ix3 0 e k)) k) := by
  unfold val_main_v35 val_main_v34 val_main_v33 val_main_v32 val_main_v31 val_main_v30 val_main_v29 val_main_v28 val_main_v27 val_main_v26 val_main_v25 val_main_v24
  pointwise
  rw [gate_at x0 x1 x5 x6 b i k e h, up_at x0 x1 x7 x8 b i k e h]
  unfold act Ideal.logistic
  rw [show val_main_cst_4 (F := Ideal) ix0 = 1 from one_bits, show val_main_cst_5 (F := Ideal) ix0 = 1 from one_bits, show val_main_cst_3 (F := Ideal) ix0 = 1 from one_bits]
  rfl
/-- A row of a used block is its expert's. -/
theorem row_at (b : Fin 160) (i : Fin 512) (j : Fin 1024) (e : Fin 32) (h : x1 (ix1 b) = BitVec.ofNat 32 e.val) :
    val_main_v45 (F := Ideal) x0 x1 x5 x6 x7 x8 x9 x10 (ix3 b i j)
      = expert (fun q => x0 (ix2 ⟨b.val * 512 + i.val, by omega⟩ q)) (fun q k => x5 (ix4 0 e q k)) (fun k => x6 (ix3 0 e k))
          (fun q k => x7 (ix4 0 e q k)) (fun k => x8 (ix3 0 e k)) (fun q k => x9 (ix4 0 e q k)) (fun k => x10 (ix3 0 e k)) j := by
  unfold val_main_v45 val_main_v44 val_main_v43 val_main_v42 val_main_v41 val_main_v40 val_main_v39 val_main_v38 val_main_v37 val_main_v36
  pointwise
  have h3 : val_main_call5_v0 (F := Ideal) x1 (ix2 b 0) = BitVec.ofNat 32 e.val := (look x1 b).trans h
  have h2 : val_main_call6_v0 (F := Ideal) x1 (ix2 b 0) = BitVec.ofNat 32 e.val := (look x1 b).trans h
  rw [pick2 _ _ b j e h2, layer2]
  refine congrArg (fun s => s + _) (Finset.sum_congr rfl fun q _ => ?_)
  rw [pick3 _ _ b q j e h3, layer3, mid_at x0 x1 x5 x7 x6 x8 b i q e h]
/-- The whole result, zero past the blocks in use. -/
theorem ref_at (b : Fin 160) (i : Fin 512) (j : Fin 1024) (e : Fin 32) (h : x1 (ix1 b) = BitVec.ofNat 32 e.val) (hn : (x2 (ix1 0)).toNat ≤ 160) :
    val_main_v51 (F := Ideal) x0 x1 x2 x5 x6 x7 x8 x9 x10 (ix3 b i j)
      = if b.val < (x2 (ix1 0)).toNat then expert (fun q => x0 (ix2 ⟨b.val * 512 + i.val, by omega⟩ q)) (fun q k => x5 (ix4 0 e q k)) (fun k => x6 (ix3 0 e k))
          (fun q k => x7 (ix4 0 e q k)) (fun k => x8 (ix3 0 e k)) (fun q k => x9 (ix4 0 e q k)) (fun k => x10 (ix3 0 e k)) j
        else 0 := by
  have hr := row_at x0 x1 x5 x7 x9 x6 x8 x10 b i j e h
  unfold val_main_v51 val_main_call7_v1 val_main_call7_v2 val_main_call7_v0 val_main_v50 val_main_v49 val_main_v48 val_main_v47 val_main_v46
  pointwise
  rw [hr, cmpi_slt_eq, toInt_eq_toNat_of_lt_half (show (BitVec.ofNat 32 b.val).toNat < 2 ^ 31 by rw [toNat_ofNat_of_lt (by omega)]; omega),
    toInt_eq_toNat_of_lt_half (show (x2 (ix1 0)).toNat < 2 ^ 31 by omega), toNat_ofNat_of_lt (w := 32) (by omega)]
  have hz : (id (val_main_cst_6 (F := Ideal)) ix0 : EReal) = 0 := zero_bits
  rw [hz]
  by_cases hb : b.val < (x2 (ix1 0)).toNat
  · rw [if_pos hb, decide_eq_true (by exact_mod_cast hb)]; rfl
  · rw [if_neg hb, decide_eq_false (by exact_mod_cast hb)]; rfl

end Cert.Ffn.Ref
end
end
-- ==== Proof.FfnVal.lean ====
/- The experts' rows the kernel computes, entry by entry. -/
module

public import proofs.«01_k».proof.Proof.FfnOut
public import proofs.«01_k».proof.Proof.FfnRef

@[expose] public section
set_option maxRecDepth 16384

noncomputable section
namespace Cert.Ffn
open Cert.Kernel5Ideal Cert.Kernel5Ideal.Gen Cert.Ffn.Ref
open Idealize.ShloMosaic

variable (x0 : Vec Ideal S4096x128 .f32)

theorem ld_at (k : ℕ) (inb) (r : Fin 512) (l : ℕ) (hl : l < 128) (q : Fin 1024) (hk : q.val / 128 = k) (hq : q.val % 128 = l) :
    ld x0 ⟨![k, 0], S512x128.size, ![8, 1], inb⟩ (ix2 r ⟨l, hl⟩) = x0 (ix2 ⟨8 * r.val + q.val / 128, by omega⟩ ⟨q.val % 128, by omega⟩) := by
  refine congrArg x0 (funext fun a => Fin.ext ?_)
  fin_cases a
  · show k + 8 * r.val = 8 * r.val + q.val / 128
    omega
  · show 0 + 1 * l = q.val % 128
    omega

/-- Row `r` of the block as the body joins it. -/
theorem rows_at (r : Fin 512) (q : Fin 1024) :
    k0_pay7 (ld x0 ⟨![0, 0], S512x128.size, ![8, 1], inb_S4096x128_S512x128_0_0_s_8_1⟩) (ld x0 ⟨![1, 0], S512x128.size, ![8, 1], inb_S4096x128_S512x128_1_0_s_8_1⟩) (ld x0 ⟨![2, 0], S512x128.size, ![8, 1], inb_S4096x128_S512x128_2_0_s_8_1⟩) (ld x0 ⟨![3, 0], S512x128.size, ![8, 1], inb_S4096x128_S512x128_3_0_s_8_1⟩) (ld x0 ⟨![4, 0], S512x128.size, ![8, 1], inb_S4096x128_S512x128_4_0_s_8_1⟩) (ld x0 ⟨![5, 0], S512x128.size, ![8, 1], inb_S4096x128_S512x128_5_0_s_8_1⟩) (ld x0 ⟨![6, 0], S512x128.size, ![8, 1], inb_S4096x128_S512x128_6_0_s_8_1⟩) (ld x0 ⟨![7, 0], S512x128.size, ![8, 1], inb_S4096x128_S512x128_7_0_s_8_1⟩) (ix2 r q)
      = x0 (ix2 ⟨8 * r.val + q.val / 128, by omega⟩ ⟨q.val % 128, by omega⟩) := by
  have hq := q.isLt
  unfold k0_pay7
  pointwise
  repeat' split
  all_goals exact ld_at x0 _ _ r _ _ q (by omega) (by omega)

theorem pay8_at (v26 v28 v30 v32 v34 v36 v38 v40 : Vec Ideal S512x128 .f32) (g : Vec Ideal S1024x1024 .bf16) (x1 : Vec Ideal S1x1x1x1024 .f32) (r : Fin 512) (k : Fin 1024)
    (X : Fin 1024 → EReal) (hX : ∀ q, k0_pay7 v26 v28 v30 v32 v34 v36 v38 v40 (ix2 r q) = X q) :
    k0_pay8 v26 v28 v30 v32 v34 v36 v38 v40 g x1 (ix2 r k)
      = min (affine X (fun q k => g (ix2 q k)) (fun k => x1 (ix4 0 0 0 k)) k) (Ideal.ofBits .f32 0x40E00000#32) := by
  obtain rfl : (fun q => k0_pay7 v26 v28 v30 v32 v34 v36 v38 v40 (ix2 r q)) = X := funext hX
  clear hX
  unfold k0_pay8
  generalize k0_pay7 v26 v28 v30 v32 v34 v36 v38 v40 = Y
  pointwise
  rfl
theorem pay9_at (v26 v28 v30 v32 v34 v36 v38 v40 : Vec Ideal S512x128 .f32) (g : Vec Ideal S1024x1024 .bf16) (x1 : Vec Ideal S1x1x1x1024 .f32) (r : Fin 512) (k : Fin 1024)
    (X : Fin 1024 → EReal) (hX : ∀ q, k0_pay7 v26 v28 v30 v32 v34 v36 v38 v40 (ix2 r q) = X q) :
    k0_pay9 v26 v28 v30 v32 v34 v36 v38 v40 g (ix2 r k) + x1 (ix4 0 0 0 k)
      = affine X (fun q k => g (ix2 q k)) (fun k => x1 (ix4 0 0 0 k)) k := by
  obtain rfl : (fun q => k0_pay7 v26 v28 v30 v32 v34 v36 v38 v40 (ix2 r q)) = X := funext hX
  clear hX
  unfold k0_pay9
  generalize k0_pay7 v26 v28 v30 v32 v34 v36 v38 v40 = Y
  pointwise
  rfl
theorem pay10_at (v51 v53 : FVec Ideal S512x1024 .f32) (b : Vec Ideal S1x1x1x1024 .f32) (d : Vec Ideal S1024x1024 .bf16) (bd : Vec Ideal S1x1x1x1024 .f32) (r : Fin 512) (j : Fin 1024) :
    k0_pay10 v51 v53 b d bd (ix2 r j)
      = affine (fun k => v51 (ix2 r k) * Ideal.logistic (Ideal.ofBits .f32 0x3FD9DB23#32 * v51 (ix2 r k))
          * (min (Ideal.ofBits .f32 0x40E00000#32) (max (Ideal.ofBits .f32 0xC0E00000#32) (v53 (ix2 r k) + b (ix4 0 0 0 k))) + 1))
          (fun q k => d (ix2 q k)) (fun k => bd (ix4 0 0 0 k)) j := by
  unfold k0_pay10
  pointwise
  rfl

/-- One row the block computes. -/
theorem res_at (x1 x2 x3 : Vec Ideal S1x1x1x1024 .f32) (g u d : Vec Ideal S1024x1024 .bf16) (r : Fin 512) (j : Fin 1024) :
    res x0 x1 x2 x3 g u d (ix2 r j)
      = expert (fun q => x0 (ix2 ⟨8 * r.val + q.val / 128, by omega⟩ ⟨q.val % 128, by omega⟩)) (fun q k => g (ix2 q k)) (fun k => x1 (ix4 0 0 0 k))
          (fun q k => u (ix2 q k)) (fun k => x2 (ix4 0 0 0 k)) (fun q k => d (ix2 q k)) (fun k => x3 (ix4 0 0 0 k)) j := by
  unfold res
  refine (pay10_at _ _ _ _ _ r j).trans (congrArg (fun f => affine f _ _ j) (funext fun k => ?_))
  have h8 := pay8_at _ _ _ _ _ _ _ _ g x1 r k _ (rows_at x0 r)
  have h9 := pay9_at _ _ _ _ _ _ _ _ u x2 r k _ (rows_at x0 r)
  exact congrArg₂ (fun a b : EReal => a * Ideal.logistic (Ideal.ofBits .f32 0x3FD9DB23#32 * a)
    * (min (Ideal.ofBits .f32 0x40E00000#32) (max (Ideal.ofBits .f32 0xC0E00000#32) b) + 1)) h8 h9

/-- The zeros left past the blocks in use. -/
theorem zeros_at (y : S4096x128.Idx) : (k0_pay5 (F := Ideal)) y = 0 := by
  unfold k0_pay5
  exact zero_bits
end Cert.Ffn
end
end
-- ==== Proof.FfnArr.lean ====
/- The experts' result array, from the arguments. -/
module

public import proofs.«01_k».proof.Proof.FfnRun
public import proofs.«01_k».proof.Proof.FfnVal

@[expose] public section
set_option maxRecDepth 16384

noncomputable section
namespace Cert.Ffn
open Cert.Kernel5Ideal Cert.Kernel5Ideal.Gen Cert.Ffn.Ref
open Idealize.ShloMosaic Idealize.ShloMosaic.TcCoe Idealize.SL.Sem
open Idealize.ShloMosaic.Pipeline (Dat Cfg Window)

theorem eq_ix2' {n0 n1 : ℕ} (z : (⟨2, ![n0, n1]⟩ : Shape).Idx) (a : Fin n0) (b : Fin n1) (h0 : (z 0).val = a.val) (h1 : (z 1).val = b.val) : z = ix2 a b :=
  funext fun x => Fin.ext (by fin_cases x; exacts [h0, h1])

variable (m : (ℓ : Loc nD τ sig) → Buf (Elt Ideal) ℓ) (ρ : Dev nD → PrngReg) (c : Dev nD)

theorem v_0 : V m c main_v0 = shapeCast S655360x128 (m ((c : Thread nD τ).loc main_arg0)) shapeCasts_S81920x1024_S655360x128 := by
  unfold V; rw [hostOps0]; after_results; rfl
theorem v_1 : V m c main_v1 = shapeCast S2x32x1x1024 (m ((c : Thread nD τ).loc main_arg6)) shapeCasts_S2x32x1024_S2x32x1x1024 := by
  unfold V; rw [hostOps0]; after_results; rfl
theorem v_2 : V m c main_v2 = shapeCast S2x32x1x1024 (m ((c : Thread nD τ).loc main_arg8)) shapeCasts_S2x32x1024_S2x32x1x1024 := by
  unfold V; rw [hostOps0]; after_results; rfl
theorem v_3 : V m c main_v3 = shapeCast S2x32x1x1024 (m ((c : Thread nD τ).loc main_arg10)) shapeCasts_S2x32x1024_S2x32x1x1024 := by
  unfold V; rw [hostOps0]; after_results; rfl

theorem flat_rows (x : S81920x1024.Idx → EReal) (R : Fin 655360) (l : Fin 128) (a : Fin 81920) (q : Fin 1024) (h : R.val * 128 + l.val = a.val * 1024 + q.val) :
    shapeCast S655360x128 x shapeCasts_S81920x1024_S655360x128 (ix2 R l) = x (ix2 a q) :=
  shapeCast_apply _ _ _ _ (by
    rw [Shape.rowMajor_val_two, Shape.rowMajor_val_two]
    show a.val * 1024 + q.val = R.val * 128 + l.val
    omega)
theorem flat_bias (x : S2x32x1024.Idx → EReal) (e : Fin 32) (k : Fin 1024) :
    shapeCast S2x32x1x1024 x shapeCasts_S2x32x1024_S2x32x1x1024 (ix4 0 e 0 k) = x (ix3 0 e k) :=
  shapeCast_apply _ _ _ _ (by
    rw [Shape.rowMajor_val_three, Shape.rowMajor_val_four]
    show (0 * 32 + e.val) * 1024 + k.val = ((0 * 32 + e.val) * 1 + 0) * 1024 + k.val
    omega)

variable (hT : TabM m)

theorem exw_val (w : BitVec 32) (h : w.toNat < 32) : (exw w).val = w.toNat := by
  unfold exw; simp [h]

theorem iblk_0 (t : Fin (cfgM m (ok_of m hT)).N) (ht : t.val < (nW m).toNat) (r : Fin 4096) (l : Fin 128) :
    iblk m (ok_of m hT) c 0 t (ix2 r l) = V m c main_v0 (ix2 ⟨4096 * t.val + r.val, by have : t.val < 160 := t.isLt; omega⟩ l) := by
  show V m c main_v0 ((((cfgM m (ok_of m hT)).win 0).rect t).emb (ix2 r l)) = _
  refine congrArg (V m c main_v0) (funext fun a => Fin.ext ?_)
  refine (((cfgM m (ok_of m hT)).win 0).rect_emb_val t (ix2 r l) a).trans ?_
  have e := congrFun (tr0 m hT (grid0.coords t)) a
  rw [coord_val t] at e
  refine (congrArg (fun z => z * _ + _) e).trans ?_
  fin_cases a
  · show min t.val ((nW m).toNat - 1) * 4096 + r.val = 4096 * t.val + r.val
    rw [min_eq_left (by omega)]; omega
  · show 0 * 128 + l.val = l.val
    omega
theorem iblk_1 (t : Fin (cfgM m (ok_of m hT)).N) (k : Fin 1024) :
    iblk m (ok_of m hT) c 1 t (ix4 0 0 0 k) = V m c main_v1 (ix4 0 (exw (eW m (kk t.val))) 0 k) := by
  show V m c main_v1 ((((cfgM m (ok_of m hT)).win 1).rect t).emb (ix4 0 0 0 k)) = _
  refine congrArg (V m c main_v1) (funext fun a => Fin.ext ?_)
  refine (((cfgM m (ok_of m hT)).win 1).rect_emb_val t (ix4 0 0 0 k) a).trans ?_
  have e := congrFun (tr2 m (grid0.coords t)) a
  have hk : (⟨(grid0.coords t 0).val, co_lt (grid0.coords t)⟩ : Fin 160) = kk t.val := (Fin.ext (coord_val t)).trans (kk_val ⟨t.val, t.isLt⟩).symm
  rw [hk] at e
  refine (congrArg (fun z => z * _ + _) e).trans ?_
  have he := exw_val _ (hT.expert (kk t.val))
  fin_cases a
  · rfl
  · show (eW m (kk t.val)).toNat * 1 + 0 = (exw _).val
    omega
  · rfl
  · show 0 * 1024 + k.val = k.val
    omega
theorem iblk_2 (t : Fin (cfgM m (ok_of m hT)).N) (k : Fin 1024) :
    iblk m (ok_of m hT) c 2 t (ix4 0 0 0 k) = V m c main_v2 (ix4 0 (exw (eW m (kk t.val))) 0 k) := by
  show V m c main_v2 ((((cfgM m (ok_of m hT)).win 2).rect t).emb (ix4 0 0 0 k)) = _
  refine congrArg (V m c main_v2) (funext fun a => Fin.ext ?_)
  refine (((cfgM m (ok_of m hT)).win 2).rect_emb_val t (ix4 0 0 0 k) a).trans ?_
  have e := congrFun (tr4 m (grid0.coords t)) a
  have hk : (⟨(grid0.coords t 0).val, co_lt (grid0.coords t)⟩ : Fin 160) = kk t.val := (Fin.ext (coord_val t)).trans (kk_val ⟨t.val, t.isLt⟩).symm
  rw [hk] at e
  refine (congrArg (fun z => z * _ + _) e).trans ?_
  have he := exw_val _ (hT.expert (kk t.val))
  fin_cases a
  · rfl
  · show (eW m (kk t.val)).toNat * 1 + 0 = (exw _).val
    omega
  · rfl
  · show 0 * 1024 + k.val = k.val
    omega
theorem iblk_3 (t : Fin (cfgM m (ok_of m hT)).N) (k : Fin 1024) :
    iblk m (ok_of m hT) c 3 t (ix4 0 0 0 k) = V m c main_v3 (ix4 0 (exw (eW m (kk t.val))) 0 k) := by
  show V m c main_v3 ((((cfgM m (ok_of m hT)).win 3).rect t).emb (ix4 0 0 0 k)) = _
  refine congrArg (V m c main_v3) (funext fun a => Fin.ext ?_)
  refine (((cfgM m (ok_of m hT)).win 3).rect_emb_val t (ix4 0 0 0 k) a).trans ?_
  have e := congrFun (tr6 m (grid0.coords t)) a
  have hk : (⟨(grid0.coords t 0).val, co_lt (grid0.coords t)⟩ : Fin 160) = kk t.val := (Fin.ext (coord_val t)).trans (kk_val ⟨t.val, t.isLt⟩).symm
  rw [hk] at e
  refine (congrArg (fun z => z * _ + _) e).trans ?_
  have he := exw_val _ (hT.expert (kk t.val))
  fin_cases a
  · rfl
  · show (eW m (kk t.val)).toNat * 1 + 0 = (exw _).val
    omega
  · rfl
  · show 0 * 1024 + k.val = k.val
    omega

theorem mat_idx (e : Fin 32) (q k : Fin 1024) (x : S2x32x1024x1024.Idx → EReal) :
    x ((Rect.unit (s := S2x32x1024x1024) ![0, e.val, 0, 0] S1x1x1024x1024.size (inbS e)).toLoadRect.idx (ix4 0 0 q k)) = x (ix4 0 e q k) := by
  refine congrArg x (funext fun a => Fin.ext ?_)
  fin_cases a
  · rfl
  · show e.val + 1 * 0 = e.val
    omega
  · show 0 + 1 * q.val = q.val
    omega
  · show 0 + 1 * k.val = k.val
    omega
theorem G0_at (x : S2x32x1024x1024.Idx → EReal) (e : Fin 32) (q k : Fin 1024) : G0 (F := Ideal) c x e (ix2 q k) = x (ix4 0 e q k) := by
  unfold G0 k0_pay6 mat0
  pointwise
  exact mat_idx e q k x
theorem G1_at (x : S2x32x1024x1024.Idx → EReal) (e : Fin 32) (q k : Fin 1024) : G1 (F := Ideal) c x e (ix2 q k) = x (ix4 0 e q k) := by
  unfold G1 k0_pay1 mat1
  pointwise
  exact mat_idx e q k x
theorem G2_at (x : S2x32x1024x1024.Idx → EReal) (e : Fin 32) (q k : Fin 1024) : G2 (F := Ideal) c x e (ix2 q k) = x (ix4 0 e q k) := by
  unfold G2 k0_pay2 mat2
  pointwise
  exact mat_idx e q k x

/-- Entry `j` of row `i` of block `b`. -/
def rowAt (b : Fin 160) (i : Fin 512) (j : Fin 1024) : EReal :=
  if b.val < (nW m).toNat then
    expert (fun q => (m ((c : Thread nD τ).loc main_arg0) : S81920x1024.Idx → EReal) (ix2 ⟨b.val * 512 + i.val, by omega⟩ q))
      (fun q k => (m ((c : Thread nD τ).loc main_arg5) : S2x32x1024x1024.Idx → EReal) (ix4 0 (exw (eW m b)) q k))
      (fun k => (m ((c : Thread nD τ).loc main_arg6) : S2x32x1024.Idx → EReal) (ix3 0 (exw (eW m b)) k))
      (fun q k => (m ((c : Thread nD τ).loc main_arg7) : S2x32x1024x1024.Idx → EReal) (ix4 0 (exw (eW m b)) q k))
      (fun k => (m ((c : Thread nD τ).loc main_arg8) : S2x32x1024.Idx → EReal) (ix3 0 (exw (eW m b)) k))
      (fun q k => (m ((c : Thread nD τ).loc main_arg9) : S2x32x1024x1024.Idx → EReal) (ix4 0 (exw (eW m b)) q k))
      (fun k => (m ((c : Thread nD τ).loc main_arg10) : S2x32x1024.Idx → EReal) (ix3 0 (exw (eW m b)) k)) j
  else 0

/-- The whole result. -/
def outG : S655360x128.Idx → EReal := fun y =>
  rowAt m c ⟨(y 0).val / 4096, by have : (y 0).val < 655360 := (y 0).isLt; omega⟩ ⟨(y 0).val % 4096 / 8, by omega⟩
    ⟨128 * ((y 0).val % 8) + (y 1).val, by have : (y 1).val < 128 := (y 1).isLt; omega⟩

theorem out_at (t : Fin (cfgM m (ok_of m hT)).N) (r : Fin 4096) (l : Fin 128) :
    outB m (ok_of m hT) c t (ix2 r l) = rowAt m c ⟨t.val, t.isLt⟩ ⟨r.val / 8, by omega⟩ ⟨128 * (r.val % 8) + l.val, by omega⟩ := by
  unfold outB rowAt
  by_cases h : t.val < (nW m).toNat
  · have hk : kk t.val = ⟨t.val, t.isLt⟩ := kk_val ⟨t.val, t.isLt⟩
    simp only [if_pos h]
    refine (res_at _ _ _ _ _ _ _ ⟨r.val / 8, by omega⟩ ⟨128 * (r.val % 8) + l.val, by omega⟩).trans ?_
    simp only [G0_at, G1_at, G2_at, iblk_1, iblk_2, iblk_3, iblk_0 m c hT t h, v_0, v_1, v_2, v_3, flat_bias, V_main_arg5, V_main_arg7, V_main_arg9, hk]
    congr 1
    rotate_left
    · exact funext fun k => (iblk_1 m c hT t k).trans (by rw [v_1, flat_bias, hk])
    · exact funext fun k => (iblk_2 m c hT t k).trans (by rw [v_2, flat_bias, hk])
    · exact funext fun k => (iblk_3 m c hT t k).trans (by rw [v_3, flat_bias, hk])
    funext q
    exact flat_rows _ _ _ _ _ (by show (4096 * t.val + (8 * (r.val / 8) + q.val / 128)) * 128 + q.val % 128 = (t.val * 512 + r.val / 8) * 1024 + q.val; omega)
  · simp only [if_neg h]
    exact zeros_at _

theorem index_4 : ∀ t : Fin grid0.N, cc0_transform_7 (grid0.coords t) = ![t.val, 0] := by decide +kernel
theorem out_emb (t : Fin (cfgM m (ok_of m hT)).N) (y : S4096x128.Idx) (a : Fin 2) :
    ((((cfgM m (ok_of m hT)).win 4).rect t).emb y a).val = (![t.val, 0] : Fin 2 → ℕ) a * S4096x128.size a + (y a).val :=
  (((cfgM m (ok_of m hT)).win 4).rect_emb_val t y a).trans (congrArg (fun z => z * _ + _) (congrFun (index_4 t) a))

theorem outG_at (z : S655360x128.Idx) (t : Fin 160) (r : Fin 4096) (l : Fin 128) (h0 : (z 0).val = 4096 * t.val + r.val) (h1 : (z 1).val = l.val) :
    outG m c z = rowAt m c t ⟨r.val / 8, by omega⟩ ⟨128 * (r.val % 8) + l.val, by omega⟩ := by
  have hR : 4096 * t.val + r.val < 655360 := by have := t.isLt; omega
  refine (congrArg (outG m c) (show z = ix2 ⟨4096 * t.val + r.val, hR⟩ l from eq_ix2' _ _ _ h0 h1)).trans ?_
  exact congr (congr (congrArg (rowAt m c) (Fin.ext (by show (4096 * t.val + r.val) / 4096 = t.val; omega)))
    (Fin.ext (by show (4096 * t.val + r.val) % 4096 / 8 = r.val / 8; omega)))
    (Fin.ext (by show 128 * ((4096 * t.val + r.val) % 8) + l.val = 128 * (r.val % 8) + l.val; omega))

theorem block_eq (t : Fin (cfgM m (ok_of m hT)).N) (y : S4096x128.Idx) :
    outB m (ok_of m hT) c t y = outG m c ((((cfgM m (ok_of m hT)).win 4).rect t).emb y) := by
  have y0 : (y 0).val < 4096 := (y 0).isLt
  have y1 : (y 1).val < 128 := (y 1).isLt
  have ey : y = ix2 ⟨(y 0).val, y0⟩ ⟨(y 1).val, y1⟩ := eq_ix2 y
  refine (congrArg (outB m (ok_of m hT) c t) ey).trans ((out_at m c hT t ⟨(y 0).val, y0⟩ ⟨(y 1).val, y1⟩).trans (outG_at m c _ ⟨t.val, t.isLt⟩ ⟨(y 0).val, y0⟩ ⟨(y 1).val, y1⟩ ?_ ?_).symm)
  · exact (out_emb m hT t y 0).trans (by show t.val * 4096 + (y 0).val = 4096 * t.val + (y 0).val; omega)
  · exact (out_emb m hT t y 1).trans (by show 0 * 128 + (y 1).val = (y 1).val; omega)

theorem covered (i : S655360x128.Idx) : ∃ t : Fin (cfgM m (ok_of m hT)).N, ((cfgM m (ok_of m hT)).win 4).flush t = true ∧ i ∈ (((cfgM m (ok_of m hT)).win 4).blk t).view.set := by
  have i0 : (i 0).val < 655360 := (i 0).isLt
  have i1 : (i 1).val < 128 := (i 1).isLt
  refine ⟨⟨(i 0).val / 4096, by show _ < 160; omega⟩, flush0_4 (adm m (ok_of m hT)) _, ?_⟩
  refine Finset.mem_map.mpr ⟨(ix2 ⟨(i 0).val % 4096, by omega⟩ ⟨(i 1).val, i1⟩ : S4096x128.Idx), Finset.mem_univ _, ?_⟩
  refine funext fun a => Fin.ext ?_
  refine (out_emb m hT _ _ a).trans ?_
  fin_cases a
  · show (i 0).val / 4096 * 4096 + (i 0).val % 4096 = (i 0).val; omega
  · show 0 * 128 + (i 1).val = (i 1).val; omega

/-- The result array. -/
theorem arr_eq : (dats m (ok_of m hT) 0 c).arrAt 4 (cfgM m (ok_of m hT)).N = outG m c := by
  refine Dat.arrAt_eq_of_cover (dats m (ok_of m hT) 0 c) 4 _ (fun t hf => ?_) (fun i => ?_)
  · rw [show (dats m (ok_of m hT) 0 c).flushed 4 t = (dats m (ok_of m hT) 0 c).after 4 t from rfl, after0_4]
    funext y
    exact block_eq m c hT t y
  · exact covered m hT i

/-- The run ends with that array, its arguments as they were. -/
theorem run_val (hT : TabM m) : θ_run defs (onTc (τ := τ) (main (F := Ideal))) ⟨m, fun _ => 0, ρ⟩ (fun r => ∀ c : Dev nD,
      r.2.mem ((c.tc : Thread nD τ).loc main_v4) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
by
  have h1 := (θ_run defs _ _).mono (fun _ h => h.1) (run_main m ρ hT (ok_of m hT))
  have h2 := (θ_run defs _ _).mono (fun _ h => h.1) (frame_main m ρ hT)
  exact (θ_run defs _ _).mono (fun r h c => ⟨((h.1 c).1 4).trans (arr_eq m c hT), h.2 c⟩) (θ_run_and h1 h2)

/-- The array is the reference's, from equal arguments. -/
theorem ref_eq (hT : TabM m) (x0 : S81920x1024.Idx → EReal) (x1 : S160.Idx → BitVec 32) (x2 : S1.Idx → BitVec 32)
    (x5 x7 x9 : S2x32x1024x1024.Idx → EReal) (x6 x8 x10 : S2x32x1024.Idx → EReal)
    (h0 : m ((c : Thread nD τ).loc main_arg0) = x0) (h1 : m (((0 : Dev nD) : Thread nD τ).loc main_arg1) = x1) (h2 : m (((0 : Dev nD) : Thread nD τ).loc main_arg2) = x2)
    (h5 : m ((c : Thread nD τ).loc main_arg5) = x5) (h6 : m ((c : Thread nD τ).loc main_arg6) = x6) (h7 : m ((c : Thread nD τ).loc main_arg7) = x7)
    (h8 : m ((c : Thread nD τ).loc main_arg8) = x8) (h9 : m ((c : Thread nD τ).loc main_arg9) = x9) (h10 : m ((c : Thread nD τ).loc main_arg10) = x10) :
    Cert.Reference5Ideal.Read.val_main_v52 (F := Ideal) x0 x1 x2 x5 x6 x7 x8 x9 x10 = outG m c := by
  funext y
  have y0 : (y 0).val < 655360 := (y 0).isLt
  have y1 : (y 1).val < 128 := (y 1).isLt
  have e1 : ∀ k, eW m k = x1 (ix1 k) := fun k => (congrFun ((V_main_arg1 m 0).trans h1) (ix1 k) :)
  have e2 : nW m = x2 (ix1 0) := (congrFun ((V_main_arg2 m 0).trans h2) (ix1 0) :)
  unfold Cert.Reference5Ideal.Read.val_main_v52
  refine (shapeCast_apply _ _ y (ix3 (⟨(y 0).val / 4096, by omega⟩ : Fin 160) (⟨(y 0).val % 4096 / 8, by omega⟩ : Fin 512) (⟨128 * ((y 0).val % 8) + (y 1).val, by omega⟩ : Fin 1024)) (by
    rw [Shape.rowMajor_val_two, Shape.rowMajor_val_three]
    show ((y 0).val / 4096 * 512 + (y 0).val % 4096 / 8) * 1024 + (128 * ((y 0).val % 8) + (y 1).val) = (y 0).val * 128 + (y 1).val
    omega)).trans ?_
  unfold outG rowAt
  have hb : (y 0).val / 4096 < 160 := by omega
  have hx := hT.expert ⟨(y 0).val / 4096, hb⟩
  have hle := hT.le
  refine (ref_at x0 x1 x2 x5 x7 x9 x6 x8 x10 ⟨(y 0).val / 4096, hb⟩ _ _ (exw (eW m ⟨(y 0).val / 4096, hb⟩)) ?_ (by rw [← e2]; exact hle)).trans ?_
  · rw [exw_val _ hx, ← e1]
    exact BitVec.eq_of_toNat_eq (by simp)
  · rw [← e2, h0, h5, h6, h7, h8, h9, h10]

end Cert.Ffn
end
end
-- ==== Proof.FfnClaim.lean ====
/- The precondition on the tables, read of the words the kernel's launch takes. -/
module

public import proofs.«01_k».proof.Proof.FfnWords

@[expose] public section

namespace Cert.Ffn

open Idealize Idealize.ShloMosaic
open Cert.Kernel5Ideal Cert.Kernel5Ideal.Gen

variable {F : FTy → Type} [FloatOps F]

/-- The words of the launch's tables satisfy what the precondition says of the arguments. -/
theorem tabM_of [Cert.Pre_tables.Facts] (m : (ℓ : Loc nD τ sig) → Buf (Elt F) ℓ)
    (h : Cert.Pre_tables.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) (m (((0 : Dev nD).tc : Thread nD τ).loc main_arg8)) (m (((0 : Dev nD).tc : Thread nD τ).loc main_arg9)) (m (((0 : Dev nD).tc : Thread nD τ).loc main_arg10)) = fun _ => 1#1) : TabM m := by
  have t := tab_of_pre _ _ _ _ _ _ _ _ _ _ _ h
  have e1 : eW m = fun k => (show S160.Idx → BitVec 32 from m (((0 : Dev nD).tc : Thread nD τ).loc main_arg1)) (ix1 k) := funext fun k => (congrFun (V_main_arg1 m 0) (ix1 k) :)
  have e2 : nW m = (show S1.Idx → BitVec 32 from m (((0 : Dev nD).tc : Thread nD τ).loc main_arg2)) (ix1 0) := (congrFun (V_main_arg2 m 0) (ix1 0) :)
  have e3 : sW m = fun k => (show S160.Idx → BitVec 32 from m (((0 : Dev nD).tc : Thread nD τ).loc main_arg3)) (ix1 k) := funext fun k => (congrFun (V_main_arg3 m 0) (ix1 k) :)
  have e4 : xW m = fun k => (show S160.Idx → BitVec 32 from m (((0 : Dev nD).tc : Thread nD τ).loc main_arg4)) (ix1 k) := funext fun k => (congrFun (V_main_arg4 m 0) (ix1 k) :)
  show Tab (eW m) (sW m) (xW m) (nW m)
  rw [e1, e2, e3, e4]
  exact t

end Cert.Ffn

end
-- ==== Proof.FfnBits.lean ====
/- The frame of the experts' products as printed: the same run, read over bits. -/
module

public import proofs.«01_k».proof.Defs
public import proofs.«01_k».proof.Proof.Gen.Kernel5
public import proofs.«01_k».proof.Proof.Gen.Pre_tables
public import proofs.«01_k».proof.Proof.FfnRun
public import proofs.«01_k».proof.Proof.FfnClaim

@[expose] public section

namespace Cert.Ffn

open Idealize Idealize.ShloMosaic Idealize.SL.Sem

set_option maxHeartbeats 1000000

/-- The bodies are one text. -/
theorem same_labels : Cert.Kernel5.defs₀ (F := Bits) = Cert.Kernel5Ideal.defs₀ (F := Bits) := by
  unfold Cert.Kernel5.defs₀ Cert.Kernel5Ideal.defs₀
  refine congrArg (Defs.onTc (nD := Cert.Kernel5Ideal.nD) (τ := Cert.Kernel5Ideal.τ) (sig := Cert.Kernel5Ideal.sig) (Val := Elt Bits) (Λ := Cert.Kernel5Ideal.Λ₀)) ?_
  funext l a
  obtain rfl : l = (0 : Fin 1) := Subsingleton.elim (α := Fin 1) _ _
  obtain ⟨t, s⟩ := a
  rfl

/-- The host programs are one text. -/
theorem same_main : Cert.Kernel5.main (F := Bits) = Cert.Kernel5Ideal.main (F := Bits) := by
  unfold Cert.Kernel5.main Cert.Kernel5Ideal.main
  rfl

/-- The body tables are one text. -/
theorem same_defs : Cert.Kernel5.defs (F := Bits) = Cert.Kernel5Ideal.defs (F := Bits) := by
  unfold Cert.Kernel5.defs Cert.Kernel5Ideal.defs
  exact congrArg (Pipeline.defs (Cert.Kernel5Ideal.pcfgs (F := Bits))) same_labels

/-- The run of the experts' products, read over bits. -/
theorem ffn_frame_bits : Cert.quiescent_Kernel5 := by
  intro m ρ h
  have hT : Cert.Ffn.TabM (F := Bits) m := Cert.Ffn.tabM_of (F := Bits) m (h 0)
  have t := Cert.Ffn.frame_main (F := Bits) m ρ hT
  rw [← same_defs, ← same_main] at t
  exact t

end Cert.Ffn

end
-- ==== Proof.KerRun.lean ====
/- The run of the kernel's program with its result array named: the frame's launch once more, reading one buffer
   besides the arguments. -/
module

public import proofs.«01_k».proof.Proof.Gen.KernelIdeal.Frame

@[expose] public section

set_option maxRecDepth 16384

noncomputable section

namespace Cert.Nat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- From any memory with zero counters the program ends with its result array at the last boundary's contents and its
    arguments as launched. -/
theorem ker_run (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_v30) = W8 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v30 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩), funext fun g => hz g (.inr (no_unscoped g.2))⟩)

end Cert.Nat

end

end
-- ==== Proof.Softmax.lean ====
module

public import Idealize.ShloMosaic.PureOps.Ideal.Laws

@[expose] public section

/-!
Softmax over the extended reals, and two lists of keys that give one result: keys whose score is −∞ take no part.
-/

noncomputable section
namespace Cert.Nat
open Idealize.ShloMosaic

/-- The greatest of finitely many scores, from −∞. -/
def top {ι : Type} [Fintype ι] (s : ι → EReal) : EReal := Finset.univ.fold max ⊥ s

theorem top_eq_sup {ι : Type} [Fintype ι] (s : ι → EReal) : top s = Finset.univ.sup s := rfl

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_zero : Ideal.exp 0 = 1 := by
  show ((Real.exp 0 : ℝ) : EReal) = 1
  rw [Real.exp_zero]; rfl

theorem bot_sub_real {M : EReal} : (⊥ : EReal) - M = ⊥ := EReal.bot_sub M

theorem sum_ne_top {ι : Type} (t : Finset ι) (f : ι → EReal) (h0 : ∀ i, 0 ≤ f i) (h : ∀ i, f i ≠ ⊤) : ∑ i ∈ t, f i ≠ ⊤ := by
  classical
  induction t using Finset.induction_on with
  | empty => simp
  | insert a t ha ih =>
    rw [Finset.sum_insert ha]
    exact EReal.add_ne_top (h a) ih

/-- A sum of products by one nonnegative real factor. -/
theorem sum_mul_real {ι : Type} (t : Finset ι) (f : ι → EReal) (c : EReal) (h0 : 0 ≤ c) (h : c ≠ ⊤) :
    (∑ i ∈ t, f i) * c = ∑ i ∈ t, f i * c := by
  classical
  induction t using Finset.induction_on with
  | empty => simp
  | insert a t ha ih =>
    rw [Finset.sum_insert ha, Finset.sum_insert ha, ← ih]
    exact EReal.right_distrib_of_nonneg_of_ne_top h0 h _ _

/-- The two softmax sums over one family of keys: dividing the weighted sum, and weighting by the quotients. -/
theorem div_sum {ι : Type} [Fintype ι] (s v : ι → EReal) (hlt : ∀ i, s i ≠ ⊤) (k : ι) (hk : s k ≠ ⊥) :
    Ideal.div (∑ i, Ideal.exp (s i - top s) * v i) (∑ i, Ideal.exp (s i - top s))
      = ∑ i, Ideal.div (Ideal.exp (s i - top s)) (∑ i, Ideal.exp (s i - top s)) * v i := by
  have hM : top s ≠ ⊤ := by
    rw [top_eq_sup]
    obtain ⟨i, -, hi⟩ := Finset.exists_mem_eq_sup (Finset.univ : Finset ι) ⟨k, Finset.mem_univ k⟩ s
    rw [hi]; exact hlt i
  have hle : ∀ i, s i ≤ top s := fun i => by rw [top_eq_sup]; exact Finset.le_sup (Finset.mem_univ i)
  have hMb : top s ≠ ⊥ := fun h => hk (le_bot_iff.mp (h ▸ hle k))
  obtain ⟨i₀, -, hi₀⟩ := Finset.exists_mem_eq_sup (Finset.univ : Finset ι) ⟨k, Finset.mem_univ k⟩ s
  rw [← top_eq_sup] at hi₀
  have hnt : ∀ i, Ideal.exp (s i - top s) ≠ ⊤ := fun i => exp_ne_top (by
    rw [sub_eq_add_neg]
    exact EReal.add_ne_top (hlt i) (by rw [Ne, EReal.neg_eq_top_iff]; exact hMb))
  set L := ∑ i, Ideal.exp (s i - top s) with hL
  have hone : (1 : EReal) ≤ L := by
    have h1 : Ideal.exp (s i₀ - top s) = 1 := by
      rw [← hi₀, EReal.sub_self hM hMb, exp_zero]
    rw [← h1, hL]
    exact Finset.single_le_sum (f := fun i => Ideal.exp (s i - top s)) (fun i _ => exp_nonneg _) (Finset.mem_univ i₀)
  have hLt : L ≠ ⊤ := sum_ne_top _ _ (fun i => exp_nonneg _) hnt
  have hL0 : L ≠ 0 := fun h => by rw [h] at hone; exact absurd hone (by norm_num)
  have hdiv : ∀ x, Ideal.div x L = x * L⁻¹ := fun x => by unfold Ideal.div; rw [if_neg hL0]
  have hLi0 : 0 ≤ L⁻¹ := EReal.inv_nonneg_of_nonneg (le_trans zero_le_one hone)
  have hLit : L⁻¹ ≠ ⊤ := by
    lift L to ℝ using ⟨hLt, fun h => by rw [h] at hone; exact absurd (le_bot_iff.mp hone) (by decide)⟩ with l
    rw [← EReal.coe_inv]; exact EReal.coe_ne_top _
  rw [hdiv, sum_mul_real _ _ _ hLi0 hLit]
  refine Finset.sum_congr rfl fun i _ => ?_
  rw [hdiv, mul_assoc, mul_comm (v i), ← mul_assoc]

/-- Keys of score −∞ left out of a family change neither of the sums nor the greatest score. -/
theorem drop_masked {κ ι : Type} [Fintype κ] [Fintype ι] (e : κ → ι) (he : Function.Injective e) (s : ι → EReal) (v : ι → EReal)
    (hoff : ∀ i, i ∉ Set.range e → s i = ⊥) (hne : ∀ i, s i ≠ ⊤) (k : κ) (hk : s (e k) ≠ ⊥) :
    Ideal.div (∑ k, Ideal.exp (s (e k) - top (s ∘ e)) * v (e k)) (∑ k, Ideal.exp (s (e k) - top (s ∘ e)))
      = ∑ i, Ideal.div (Ideal.exp (s i - top s)) (∑ i, Ideal.exp (s i - top s)) * v i := by
  have hT : top (s ∘ e) = top s := by
    rw [top_eq_sup, top_eq_sup]
    apply le_antisymm
    · exact Finset.sup_le fun k _ => Finset.le_sup (f := s) (Finset.mem_univ (e k))
    · refine Finset.sup_le fun i _ => ?_
      by_cases h : i ∈ Set.range e
      · obtain ⟨k, rfl⟩ := h
        exact Finset.le_sup (f := s ∘ e) (Finset.mem_univ k)
      · rw [hoff i h]; exact bot_le
  rw [← div_sum s v hne (e k) hk, hT]
  have hz : ∀ i, i ∉ Set.range e → Ideal.exp (s i - top s) = 0 := fun i h => by
    rw [hoff i h, bot_sub_real]; rfl
  congr 1
  · exact Fintype.sum_of_injective e he _ _ (fun i h => by rw [hz i h, zero_mul]) (fun k => rfl)
  · exact Fintype.sum_of_injective e he _ _ hz (fun k => rfl)

end Cert.Nat
end
-- ==== Proof.Tile.lean ====
/- One tile of the attention kernel at an index: 256 queries of one head against 512 context keys and a band of 704
   local keys. -/
module

public import proofs.«01_k».proof.Proof.Gen.KernelIdeal.Skeleton
public import proofs.«01_k».proof.Proof.Softmax
public import Idealize.ShloMosaic.Lib.Pointwise

@[expose] public section
set_option maxRecDepth 16384

noncomputable section
namespace Cert.Nat
open Idealize.ShloMosaic Cert.KernelIdeal Cert.KernelIdeal.Gen

/-- The masked scores of one tile of 256 queries: context keys first, then the local ones with their bias. -/
def tileScores (v2 : FVec Ideal S512x64 .bf16) (v26 : Vec Ideal S1x1x256x64 .bf16) (v29 : Vec Ideal S1x1x704x64 .bf16) (v36 : Vec Ideal S1x1x256x704 .f32) : FVec Ideal S256x1216 .f32 :=
  have s : FVec Ideal S256x1216 .f32 := matmul dot_S256x64_S1216x64_S256x1216_1_1_0_0_n_n none (shapeCast S256x64 v26 shapeCasts_S1x1x256x64_S256x64 : FVec Ideal S256x64 .bf16)
    (concatenate S1216x64 0 [⟨S512x64, v2⟩, ⟨S704x64, (shapeCast S704x64 v29 shapeCasts_S1x1x704x64_S704x64 : FVec Ideal S704x64 .bf16)⟩] concatenates_S512x64_S704x64_S1216x64_d0)
    (constant S256x1216 .f32 0x00000000#32)
  concatenate S256x1216 1 [⟨S256x512, extractStridedSlice S256x512 ![0, 0] s slices_S256x1216_o0_0_S256x512⟩,
    ⟨S256x704, addf (extractStridedSlice S256x704 ![0, 512] s slices_S256x1216_o0_512_S256x704) (shapeCast S256x704 v36 shapeCasts_S1x1x256x704_S256x704 : FVec Ideal S256x704 .f32)⟩]
    concatenates_S256x512_S256x704_S256x1216_d1

/-- The softmax numerators of a tile, from its scores. -/
def tileExp (v39 : FVec Ideal S256x1216 .f32) : FVec Ideal S256x1216 .f32 :=
  exp (subf v39 (broadcastTo S256x1216 (shapeCast S256x1 (multiReduction .maximumf [1] S256 v39 0xFF800000#32 reduces_S256x1216_S256 (.inl rfl) rfl) shapeCasts_S256_S256x1) broadcasts_S256x1_S256x1216))

theorem pay6_eq (v2 : FVec Ideal S512x64 .bf16) (v26 : Vec Ideal S1x1x256x64 .bf16) (v29 : Vec Ideal S1x1x704x64 .bf16) (v36 : Vec Ideal S1x1x256x704 .f32) :
    k2_pay6 v2 v26 v29 v36 = tileExp (tileScores v2 v26 v29 v36) := rfl

set_option maxHeartbeats 2000000 in
theorem tileScores_apply (v2 : FVec Ideal S512x64 .bf16) (v26 : Vec Ideal S1x1x256x64 .bf16) (v29 : Vec Ideal S1x1x704x64 .bf16) (v36 : Vec Ideal S1x1x256x704 .f32) (r : Fin 256) (l : Fin 1216) :
    tileScores v2 v26 v29 v36 (ix2 r l)
      = if h : l.val < 512 then ∑ x : Fin 64, v26 (ix4 0 0 r x) * v2 (ix2 ⟨l.val, h⟩ x)
        else ∑ x : Fin 64, v26 (ix4 0 0 r x) * v29 (ix4 0 0 ⟨l.val - 512, by omega⟩ x) + v36 (ix4 0 0 r ⟨l.val - 512, by omega⟩) := by
  pointwise [tileScores]
  split
  · rfl
  · rfl

/-- The word a maximum starts from is −∞. -/
theorem ofBits_bot : Ideal.ofBits FTy.f32 4286578688#32 = (⊥ : EReal) := by
  simp [Ideal.ofBits, Ideal.ieee]

set_option maxHeartbeats 2000000 in
theorem tileExp_apply (v39 : FVec Ideal S256x1216 .f32) (r : Fin 256) (l : Fin 1216) :
    tileExp v39 (ix2 r l) = Ideal.exp (v39 (ix2 r l) - top fun x => v39 (ix2 r x)) := by
  pointwise [tileExp]
  unfold top
  rw [ofBits_bot]

/-- The softmax-weighted sum over a row of keys, the division after the sum. -/
def weighted {n : Nat} (s v : Fin n → EReal) : EReal :=
  Ideal.div (∑ k, Ideal.exp (s k - top s) * v k) (∑ k, Ideal.exp (s k - top s))

set_option maxHeartbeats 2000000 in
theorem pay7_apply (v5 : FVec Ideal S512x64 .bf16) (v44 : FVec Ideal S256x1216 .f32) (v46 : Vec Ideal S1x1x704x64 .bf16) (r : Fin 256) (l : Fin 64) :
    k2_pay7 v5 v44 v46 (ix2 r l)
      = Ideal.div (∑ x : Fin 1216, v44 (ix2 r x) * if h : x.val < 512 then v5 (ix2 ⟨x.val, h⟩ l) else v46 (ix4 0 0 ⟨x.val - 512, by omega⟩ l))
          (∑ x : Fin 1216, v44 (ix2 r x)) := by
  pointwise [k2_pay7]

end Cert.Nat
end
end
-- ==== Proof.RefSide.lean ====
/- The reference at an index: the softmax over all 4096 local keys, masked, and the 512 context keys. -/
module

public import proofs.«01_k».proof.Proof.Gen.ReferenceIdeal.Read
public import proofs.«01_k».proof.Proof.Tile
public import Idealize.ShloMosaic.Lib.Pointwise

@[expose] public section
set_option maxRecDepth 16384

noncomputable section
namespace Cert.Nat.Ref
open Idealize.ShloMosaic Idealize.ShloMosaic.TcCoe Cert.ReferenceIdeal Cert.ReferenceIdeal.Gen Cert.ReferenceIdeal.Read

variable (x0 x1 x2 : (⟨S2x16x4096x64, .f32⟩ : BufTy).Contents (Elt Ideal)) (x3 x4 : (⟨S2x1x16x512x64, .f32⟩ : BufTy).Contents (Elt Ideal))
  (x5 : (⟨S16x15x31, .f32⟩ : BufTy).Contents (Elt Ideal))

/-- The scores of a query row: the local keys, then the context keys. -/
def scoreR (b : Fin 2) (h : Fin 16) (q : Fin 4096) : Fin 4608 → EReal := fun i => val_main_v84 (F := Ideal) x0 x1 x3 x5 (ix4 b h q i)

/-- A maximum down the last of four axes, at an index. -/
theorem rowMax_at {n0 n1 n2 n3 : Nat} (z : (⟨4, ![n0, n1, n2, n3]⟩ : Shape).Idx → EReal) (init : S_.Idx → EReal)
    (h : (⟨4, ![n0, n1, n2, n3]⟩ : Shape).ReducesTo [3] ⟨3, ![n0, n1, n2]⟩) (hu : 0 < S_.numel) (a : Fin n0) (b : Fin n1) (c : Fin n2) :
    Host.reduce (max : EReal → EReal → EReal) z init h hu (ix3 a b c) = Finset.univ.fold max (init (Shape.Idx.first hu)) (fun k => z (ix4 a b c k)) := by
  rw [Host.reduce_eq_fold, Shape.ReducesTo.fold_fiber_r4_a3]
  rfl

theorem max_at (b : Fin 2) (h : Fin 16) (q : Fin 4096) :
    val_main_v87 (F := Ideal) x0 x1 x3 x5 (ix3 b h q) = top (scoreR x0 x1 x3 x5 b h q) := by
  rw [val_main_v87_apply, val_main_v86_apply, val_main_cst_17_apply]
  have e : val_main_v85 (F := Ideal) x0 x1 x3 x5 (ix3 b h q) = top (scoreR x0 x1 x3 x5 b h q) := by
    unfold val_main_v85 scoreR
    generalize val_main_v84 (F := Ideal) x0 x1 x3 x5 = z
    refine (rowMax_at (n0 := 2) (n1 := 16) (n2 := 4096) (n3 := 4608) z (val_main_cst_16 (F := Ideal)) _ _ b h q).trans ?_
    unfold top
    exact congrArg (fun w => Finset.univ.fold max w fun k => z (ix4 b h q k)) ofBits_bot
  rw [e]
  show max (Ideal.ofBits FTy.f32 4286578688#32) _ = _
  rw [ofBits_bot, max_eq_right bot_le]

theorem exp_at (b : Fin 2) (h : Fin 16) (q : Fin 4096) (i : Fin 4608) :
    val_main_v91 (F := Ideal) x0 x1 x3 x5 (ix4 b h q i) = Ideal.exp (scoreR x0 x1 x3 x5 b h q i - top (scoreR x0 x1 x3 x5 b h q)) := by
  rw [val_main_v91_apply, val_main_v90_apply, val_main_v89_apply, val_main_v88_apply]
  rw [show idx_main_v88 (idx_main_v89 (ix4 b h q i)) = ix3 b h q from eq_ix3 _, max_at]
  rfl

theorem soft_at (b : Fin 2) (h : Fin 16) (q : Fin 4096) (i : Fin 4608) :
    val_main_v95 (F := Ideal) x0 x1 x3 x5 (ix4 b h q i)
      = Ideal.div (Ideal.exp (scoreR x0 x1 x3 x5 b h q i - top (scoreR x0 x1 x3 x5 b h q)))
          (∑ j, Ideal.exp (scoreR x0 x1 x3 x5 b h q j - top (scoreR x0 x1 x3 x5 b h q))) := by
  rw [val_main_v95_apply, val_main_v94_apply, val_main_v93_apply, val_main_v92_apply, exp_at]
  refine congrArg (Ideal.div _) ?_
  rw [show val_main_cst_18 (F := Ideal) (Shape.Idx.first h_S_) = (0 : EReal) from Ideal.ofBits_zero_f32, zero_add]
  refine Finset.sum_congr rfl fun k _ => ?_
  rw [show idx_main_v92 (idx_main_v93 (idx_main_v94 (ix4 b h q i))) k = ix4 b h q k from eq_ix4 _, exp_at]

set_option maxHeartbeats 2000000 in
theorem out_at (b : Fin 2) (h : Fin 16) (q : Fin 4096) (d : Fin 64) :
    val_main_v103 (F := Ideal) x0 x1 x2 x3 x4 x5 (ix2 ⟨4096 * b.val + q.val, by omega⟩ ⟨64 * h.val + d.val, by omega⟩)
      = ∑ k : Fin 4096, val_main_v95 (F := Ideal) x0 x1 x3 x5 (ix4 b h q ⟨k.val, by omega⟩) * x2 (ix4 b h k d)
        + ∑ k : Fin 512, val_main_v95 (F := Ideal) x0 x1 x3 x5 (ix4 b h q ⟨4096 + k.val, by omega⟩) * x4 (ix5 b 0 h k d) := by
  unfold val_main_v103 val_main_v102 val_main_v101 val_main_v100 val_main_v99 val_main_v98 val_main_v97 val_main_v96 val_main_v1
  generalize val_main_v95 (F := Ideal) x0 x1 x3 x5 = z
  pointwise

/-- The gather down the second axis at an index: the table's entry at the start index, clamped. -/
theorem gather_at {w : Nat} (x : S16x465.Idx → EReal) (idx : IVec S64x64x64x64x1 w) (h : Fin 16) (a b c e : Fin 64) :
    Host.gather gather_S16x465_S64x64x64x64x1_S16x64x64x64x64_0_1_n_n_1_4_161 x idx (ix5 h a b c e)
      = x (ix2 h ⟨min (idx (ix5 a b c e 0)).toInt.toNat 464, by omega⟩) := by
  unfold Host.gather
  congr 1
  funext i
  refine Fin.ext ?_
  show (gather_S16x465_S64x64x64x64x1_S16x64x64x64x64_0_1_n_n_1_4_161).start (ix5 h a b c e) idx i + (gather_S16x465_S64x64x64x64x1_S16x64x64x64x64_0_1_n_n_1_4_161).batchCoord (ix5 h a b c e) i
      + (gather_S16x465_S64x64x64x64x1_S16x64x64x64x64_0_1_n_n_1_4_161).offCoord (ix5 h a b c e) i = _
  rw [GatherDims.batchCoord_eq_zero _ _ _ List.not_mem_nil]
  have h01 : i = 0 ∨ i = 1 := by
    match i with
    | ⟨0, _⟩ => exact Or.inl rfl
    | ⟨1, _⟩ => exact Or.inr rfl
  rcases h01 with rfl | rfl
  · unfold GatherDims.start
    rw [dif_neg (by decide)]
    simp only [Nat.zero_add]
    unfold GatherDims.offCoord
    rw [dif_pos (by decide)]
    rfl
  · rw [GatherDims.offCoord_eq_zero _ _ _ (fun h => ((GatherDims.mem_sKept _ _).mp h).1 (List.mem_singleton.mpr rfl))]
    unfold GatherDims.start
    rw [dif_pos (by decide)]
    simp only [Nat.add_zero]
    refine congrArg₂ min (congrArg (fun z => (idx z).toInt.toNat) ?_) rfl
    funext j; refine Fin.ext ?_
    match j with
    | ⟨0, _⟩ => rfl
    | ⟨1, _⟩ => rfl
    | ⟨2, _⟩ => rfl
    | ⟨3, _⟩ => rfl
    | ⟨4, _⟩ => rfl

end Cert.Nat.Ref
end
end
-- ==== Proof.RefScore.lean ====
module

public import proofs.«01_k».proof.Proof.RefSide

@[expose] public section
set_option maxRecDepth 16384

noncomputable section
namespace Cert.Nat.Ref
open Idealize.ShloMosaic Idealize.ShloMosaic.TcCoe Cert.ReferenceIdeal Cert.ReferenceIdeal.Gen Cert.ReferenceIdeal.Read

variable (x0 x1 x2 : (⟨S2x16x4096x64, .f32⟩ : BufTy).Contents (Elt Ideal)) (x3 x4 : (⟨S2x1x16x512x64, .f32⟩ : BufTy).Contents (Elt Ideal))
  (x5 : (⟨S16x15x31, .f32⟩ : BufTy).Contents (Elt Ideal))

/-- A number of the 64 × 64 image's axis as a 32-bit integer. -/
def num (a : Fin 64) : BitVec 32 := BitVec.ofNat 32 a.val

/-- Where a window of the neighbourhood starts, from half its length and the last start. -/
def start (half last : BitVec 32) (a : Fin 64) : BitVec 32 := IntOp.minsi (IntOp.maxsi (IntOp.subi (num a) half) 0#32) last

/-- Whether a place lies in a window. -/
def within (half last len : BitVec 32) (a c : Fin 64) : BitVec 1 :=
  IntOp.andi (IntOp.cmpi .sge (num c) (start half last a)) (IntOp.cmpi .slt (num c) (IntOp.addi (start half last a) len))

/-- The row of the bias table for two places. -/
def place (mid last : BitVec 32) (a c : Fin 64) : BitVec 32 := IntOp.minsi (IntOp.maxsi (IntOp.addi (IntOp.subi (num c) (num a)) mid) 0#32) last

theorem rows_at (a c : Fin 64) : val_main_v27 (F := Ideal) (ix2 a c) = within 4#32 56#32 8#32 a c := by
  simp only [val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply]
  rfl

theorem cols_at (a c : Fin 64) : val_main_v38 (F := Ideal) (ix2 a c) = within 8#32 48#32 16#32 a c := by
  simp only [val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply]
  rfl

theorem dRow_at (a c : Fin 64) : val_main_v49 (F := Ideal) (ix2 a c) = place 7#32 14#32 a c := by
  simp only [val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply]
  rfl

theorem dCol_at (a c : Fin 64) : val_main_v55 (F := Ideal) (ix2 a c) = place 15#32 30#32 a c := by
  simp only [val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply]
  rfl

theorem rows_eq : ∀ a c : Fin 64, within 4#32 56#32 8#32 a c = if min 56 (a.val - 4) ≤ c.val ∧ c.val < min 56 (a.val - 4) + 8 then 1#1 else 0#1 := by
  decide +kernel
theorem cols_eq : ∀ a c : Fin 64, within 8#32 48#32 16#32 a c = if min 48 (a.val - 8) ≤ c.val ∧ c.val < min 48 (a.val - 8) + 16 then 1#1 else 0#1 := by
  decide +kernel
theorem dRow_eq : ∀ a c : Fin 64, place 7#32 14#32 a c = BitVec.ofNat 32 (min 14 (c.val + 7 - a.val)) := by
  decide +kernel
theorem dCol_eq : ∀ a c : Fin 64, place 15#32 30#32 a c = BitVec.ofNat 32 (min 30 (c.val + 15 - a.val)) := by
  decide +kernel
theorem entry_eq : ∀ (i : Fin 15) (j : Fin 31), (IntOp.addi (IntOp.muli (BitVec.ofNat 32 i.val) 31#32) (BitVec.ofNat 32 j.val)).toInt.toNat = 31 * i.val + j.val := by
  decide +kernel

theorem entry_at (a b c e : Fin 64) : (val_main_v64 (F := Ideal) (ix5 a b c e 0)).toInt.toNat = 31 * min 14 (c.val + 7 - a.val) + min 30 (e.val + 15 - b.val) := by
  rw [show val_main_v64 (F := Ideal) (ix5 a b c e 0) = IntOp.addi (IntOp.muli (val_main_v49 (F := Ideal) (ix2 a c)) 31#32) (val_main_v55 (F := Ideal) (ix2 b e)) from by
    unfold val_main_v64 val_main_v62
    pointwise [val_main_v61, val_main_v60, val_main_v59, val_main_v58, val_main_v57, val_main_v56, val_main_c_13]]
  rw [dRow_at, dCol_at, dRow_eq, dCol_eq]
  exact entry_eq ⟨min 14 (c.val + 7 - a.val), by omega⟩ ⟨min 30 (e.val + 15 - b.val), by omega⟩

/-- The bias of two places of the image: the table's entry when the key lies in the query's window. -/
def biasR (h : Fin 16) (a b c e : Fin 64) : EReal :=
  if (min 56 (a.val - 4) ≤ c.val ∧ c.val < min 56 (a.val - 4) + 8) ∧ (min 48 (b.val - 8) ≤ e.val ∧ e.val < min 48 (b.val - 8) + 16)
  then x5 (ix3 h ⟨min 14 (c.val + 7 - a.val), by omega⟩ ⟨min 30 (e.val + 15 - b.val), by omega⟩) else ⊥

theorem select_ite {α : Type} (p q : Prop) [Decidable p] [Decidable q] (x y : α) :
    Scalar.select (IntOp.andi (if p then 1#1 else 0#1) (if q then 1#1 else 0#1)) x y = if p ∧ q then x else y := by
  by_cases hp : p <;> by_cases hq : q <;> simp [hp, hq, IntOp.andi, Scalar.select]

theorem bias_at (h : Fin 16) (a b c e : Fin 64) : val_main_v73 (F := Ideal) x5 (ix5 h a b c e) = biasR x5 h a b c e := by
  rw [val_main_v73_apply]
  rw [show val_main_v71 (F := Ideal) (ix5 h a b c e) = IntOp.andi (val_main_v27 (F := Ideal) (ix2 a c)) (val_main_v38 (F := Ideal) (ix2 b e)) from by
    unfold val_main_v71
    pointwise [val_main_v70, val_main_v69, val_main_v68, val_main_v67, val_main_v66]]
  rw [rows_at, cols_at, rows_eq, cols_eq, select_ite]
  unfold biasR
  refine if_congr Iff.rfl ?_ ?_
  · unfold val_main_v65
    rw [gather_at, val_main_v63_apply]
    refine congrArg x5 (funext fun z => Fin.ext ?_)
    have he := entry_at a b c e
    have hh := h.isLt
    match z with
    | ⟨0, _⟩ =>
      show (h.val * 465 + min (val_main_v64 (F := Ideal) (ix5 a b c e 0)).toInt.toNat 464) / 465 = h.val
      rw [he]; omega
    | ⟨1, _⟩ =>
      show (h.val * 465 + min (val_main_v64 (F := Ideal) (ix5 a b c e 0)).toInt.toNat 464) / 31 % 15 = min 14 (c.val + 7 - a.val)
      rw [he]; omega
    | ⟨2, _⟩ =>
      show (h.val * 465 + min (val_main_v64 (F := Ideal) (ix5 a b c e 0)).toInt.toNat 464) % 31 = min 30 (e.val + 15 - b.val)
      rw [he]; omega
  · rw [val_main_v72_apply]
    exact ofBits_bot

/-- The scale of the scores, one eighth, as the programs write it. -/
def eighth : EReal := Ideal.ofBits FTy.f32 0x3E000000#32

set_option maxHeartbeats 1000000 in
theorem local_at (b : Fin 2) (h : Fin 16) (q c : Fin 4096) :
    val_main_v80 (F := Ideal) x0 x1 x5 (ix4 b h q c)
      = (∑ x : Fin 64, x0 (ix4 b h q x) * x1 (ix4 b h c x)) * eighth
        + biasR x5 h ⟨q.val / 64, by omega⟩ ⟨q.val % 64, by omega⟩ ⟨c.val / 64, by omega⟩ ⟨c.val % 64, by omega⟩ := by
  rw [← bias_at]
  unfold val_main_v80
  generalize e : val_main_v73 (F := Ideal) x5 = z
  pointwise [val_main_v79, val_main_v78, val_main_v77, val_main_v76, val_main_v75, val_main_v74]
  rw [e]
  rfl

set_option maxHeartbeats 1000000 in
theorem ctx_at (b : Fin 2) (h : Fin 16) (q : Fin 4096) (c : Fin 512) :
    val_main_v83 (F := Ideal) x0 x3 (ix4 b h q c) = (∑ x : Fin 64, x0 (ix4 b h q x) * x3 (ix5 b 0 h c x)) * eighth := by
  unfold val_main_v83
  pointwise [val_main_v82, val_main_v81, val_main_v0]
  rfl

theorem score_local (b : Fin 2) (h : Fin 16) (q : Fin 4096) (c : Fin 4096) :
    scoreR x0 x1 x3 x5 b h q ⟨c.val, by omega⟩ = val_main_v80 (F := Ideal) x0 x1 x5 (ix4 b h q c) := by
  unfold scoreR val_main_v84
  generalize val_main_v80 (F := Ideal) x0 x1 x5 = y
  generalize val_main_v83 (F := Ideal) x0 x3 = z
  pointwise
theorem score_ctx (b : Fin 2) (h : Fin 16) (q : Fin 4096) (c : Fin 512) :
    scoreR x0 x1 x3 x5 b h q ⟨4096 + c.val, by omega⟩ = val_main_v83 (F := Ideal) x0 x3 (ix4 b h q c) := by
  unfold scoreR val_main_v84
  generalize val_main_v80 (F := Ideal) x0 x1 x5 = y
  generalize val_main_v83 (F := Ideal) x0 x3 = z
  pointwise

end Cert.Nat.Ref
end
end
-- ==== Proof.Trip.lean ====
/- The attention kernel's loop: what one trip stores, and what the whole loop leaves in the output block. -/
module

public import proofs.«01_k».proof.Proof.Gen.KernelIdeal.Frame
public import Idealize.ShloMosaic.Lib.WholeRead

@[expose] public section
set_option maxRecDepth 16384

noncomputable section
namespace Cert.Nat
open Idealize.ShloMosaic Cert.KernelIdeal Cert.KernelIdeal.Gen

/-- What a trip stores for the block's first head. -/
def tile0 (x0 x1 x2 : Vec Ideal S1x2x4096x64 .bf16) (x3 x4 : Vec Ideal S1x1x2x512x64 .f32) (x5 : Vec Ideal S2x3x256x704 .f32) (k : Fin k2_t1_loop.trips) : FVec Ideal S256x64 .bf16 :=
  k2_pay7 (k2_pay2 (View.ld x4 (Rect.unit (s := S1x1x2x512x64) ![0, 0, 0, 0, 0] S1x1x1x512x64.size inb_S1x1x2x512x64_S1x1x1x512x64_0_0_0_0_0)))
    (k2_pay6 (k2_pay1 (View.ld x3 (Rect.unit (s := S1x1x2x512x64) ![0, 0, 0, 0, 0] S1x1x1x512x64.size inb_S1x1x2x512x64_S1x1x1x512x64_0_0_0_0_0)))
      (View.ld x0 (Rect.unit (s := S1x2x4096x64) (k2_off1 k) S1x1x256x64.size (k2_off1_inb k)))
      (View.ld x1 (Rect.unit (s := S1x2x4096x64) (k2_off2 k) S1x1x704x64.size (k2_off2_inb k)))
      (View.ld x5 (Rect.unit (s := S2x3x256x704) (k2_off3 k) S1x1x256x704.size (k2_off3_inb k))))
    (View.ld x2 (Rect.unit (s := S1x2x4096x64) (k2_off2 k) S1x1x704x64.size (k2_off2_inb k)))

/-- What a trip stores for the block's second head. -/
def tile1 (x0 x1 x2 : Vec Ideal S1x2x4096x64 .bf16) (x3 x4 : Vec Ideal S1x1x2x512x64 .f32) (x5 : Vec Ideal S2x3x256x704 .f32) (k : Fin k2_t1_loop.trips) : FVec Ideal S256x64 .bf16 :=
  k2_pay7 (k2_pay4 (View.ld x4 (Rect.unit (s := S1x1x2x512x64) ![0, 0, 1, 0, 0] S1x1x1x512x64.size inb_S1x1x2x512x64_S1x1x1x512x64_0_0_1_0_0)))
    (k2_pay6 (k2_pay3 (View.ld x3 (Rect.unit (s := S1x1x2x512x64) ![0, 0, 1, 0, 0] S1x1x1x512x64.size inb_S1x1x2x512x64_S1x1x1x512x64_0_0_1_0_0)))
      (View.ld x0 (Rect.unit (s := S1x2x4096x64) (k2_off5 k) S1x1x256x64.size (k2_off5_inb k)))
      (View.ld x1 (Rect.unit (s := S1x2x4096x64) (k2_off6 k) S1x1x704x64.size (k2_off6_inb k)))
      (View.ld x5 (Rect.unit (s := S2x3x256x704) (k2_off7 k) S1x1x256x704.size (k2_off7_inb k))))
    (View.ld x2 (Rect.unit (s := S1x2x4096x64) (k2_off6 k) S1x1x704x64.size (k2_off6_inb k)))

/-- The pieces one trip writes. -/
def tripPieces (x0 x1 x2 : Vec Ideal S1x2x4096x64 .bf16) (x3 x4 : Vec Ideal S1x1x2x512x64 .f32) (x5 : Vec Ideal S2x3x256x704 .f32) (k : Fin k2_t1_loop.trips) :
    List (View.Piece (Elt Ideal) S4096x128 .bf16) :=
  [⟨Rect.unit (s := S4096x128) (k2_off8 k) S256x64.size (k2_off8_inb k), tile1 x0 x1 x2 x3 x4 x5 k⟩,
   ⟨Rect.unit (s := S4096x128) (k2_off4 k) S256x64.size (k2_off4_inb k), tile0 x0 x1 x2 x3 x4 x5 k⟩]

/-- A load through a whole memref held at `X` reads `X` under the rectangle. -/
theorem ld_of_whole {sp : Space} {S : Shape} {e : EltTy} {m : Memref sig .tc sp S e} (h : m.IsWhole) (X : S.Idx → Elt Ideal e) (r : Rect S) :
    View.readAt (Elt Ideal) m.view r.toLoadRect (h.unread X) = View.ld X r :=
  funext fun x => h.readAt_unread X r.toLoadRect x

set_option maxHeartbeats 1000000 in
/-- One trip's pieces, over the loads it makes. -/
theorem trip_loads (𝒱 : Variants) (bd : Option 𝒱.V) (c : Dev nD) (i : grid2.Coords) (arg2 : Memref sig .tc .vmem S1x2x4096x64 .bf16) (harg2 : arg2.IsWhole) (arg3 : Memref sig .tc .vmem S1x2x4096x64 .bf16) (harg3 : arg3.IsWhole) (arg4 : Memref sig .tc .vmem S1x2x4096x64 .bf16) (harg4 : arg4.IsWhole) (arg5 : Memref sig .tc .vmem S1x1x2x512x64 .f32) (harg5 : arg5.IsWhole) (arg6 : Memref sig .tc .vmem S1x1x2x512x64 .f32) (harg6 : arg6.IsWhole) (arg7 : Memref sig .tc .vmem S2x3x256x704 .f32) (harg7 : arg7.IsWhole) (arg8 : Memref sig .tc .vmem S4096x128 .bf16) (harg8 : arg8.IsWhole)
    (v0 v3 v6 v9 : Vec Ideal S1x1x1x512x64 .f32) (X_arg2 : BufTy.Contents (Elt Ideal) arg2.view.ty) (X_arg3 : BufTy.Contents (Elt Ideal) arg3.view.ty) (X_arg4 : BufTy.Contents (Elt Ideal) arg4.view.ty) (X_arg7 : BufTy.Contents (Elt Ideal) arg7.view.ty) (k : Fin k2_t1_loop.trips) :
    tripL_k2_t1 (F := Ideal) 𝒱 c bd i arg2 harg2 arg3 harg3 arg4 harg4 arg5 harg5 arg6 harg6 arg7 harg7 arg8 harg8 v0 v3 v6 v9 X_arg2 X_arg3 X_arg4 X_arg7 k
      = [⟨Rect.unit (s := S4096x128) (k2_off8 k) S256x64.size (k2_off8_inb k),
          k2_pay7 (k2_pay4 v9)
            (k2_pay6 (k2_pay3 v6)
              (View.readAt (Elt Ideal) arg2.view (Rect.unit (s := S1x2x4096x64) (k2_off5 k) S1x1x256x64.size (k2_off5_inb k)).toLoadRect X_arg2)
              (View.readAt (Elt Ideal) arg3.view (Rect.unit (s := S1x2x4096x64) (k2_off6 k) S1x1x704x64.size (k2_off6_inb k)).toLoadRect X_arg3)
              (View.readAt (Elt Ideal) arg7.view (Rect.unit (s := S2x3x256x704) (k2_off7 k) S1x1x256x704.size (k2_off7_inb k)).toLoadRect X_arg7))
            (View.readAt (Elt Ideal) arg4.view (Rect.unit (s := S1x2x4096x64) (k2_off6 k) S1x1x704x64.size (k2_off6_inb k)).toLoadRect X_arg4)⟩,
         ⟨Rect.unit (s := S4096x128) (k2_off4 k) S256x64.size (k2_off4_inb k),
          k2_pay7 (k2_pay2 v3)
            (k2_pay6 (k2_pay1 v0)
              (View.readAt (Elt Ideal) arg2.view (Rect.unit (s := S1x2x4096x64) (k2_off1 k) S1x1x256x64.size (k2_off1_inb k)).toLoadRect X_arg2)
              (View.readAt (Elt Ideal) arg3.view (Rect.unit (s := S1x2x4096x64) (k2_off2 k) S1x1x704x64.size (k2_off2_inb k)).toLoadRect X_arg3)
              (View.readAt (Elt Ideal) arg7.view (Rect.unit (s := S2x3x256x704) (k2_off3 k) S1x1x256x704.size (k2_off3_inb k)).toLoadRect X_arg7))
            (View.readAt (Elt Ideal) arg4.view (Rect.unit (s := S1x2x4096x64) (k2_off2 k) S1x1x704x64.size (k2_off2_inb k)).toLoadRect X_arg4)⟩] := by
  unfold tripL_k2_t1 trip_k2_t1
  dsimp only
  unfold k2_pay7 k2_pay6 k2_pay5
  dsimp only [trip_k2_t1.sl.r, trip_k2_t1.sl.arg9, trip_k2_t1.sl.cst_37, trip_k2_t1.sl.v13, trip_k2_t1.sl.v14, trip_k2_t1.sl.v15, trip_k2_t1.sl.v16, trip_k2_t1.sl.v17, trip_k2_t1.sl.v18, trip_k2_t1.sl.v19, trip_k2_t1.sl.v20, trip_k2_t1.sl.v21, trip_k2_t1.sl.v23, trip_k2_t1.sl.v25, trip_k2_t1.sl.v27, trip_k2_t1.sl.v28, trip_k2_t1.sl.v30, trip_k2_t1.sl.v31, trip_k2_t1.sl.v32, trip_k2_t1.sl.v33, trip_k2_t1.sl.v34, trip_k2_t1.sl.v35, trip_k2_t1.sl.v37, trip_k2_t1.sl.v38, trip_k2_t1.sl.v39, trip_k2_t1.sl.v40, trip_k2_t1.sl.v41, trip_k2_t1.sl.v42, trip_k2_t1.sl.v43, trip_k2_t1.sl.v44, trip_k2_t1.sl.v47, trip_k2_t1.sl.v48, trip_k2_t1.sl.v49, trip_k2_t1.sl.v50, trip_k2_t1.sl.v51, trip_k2_t1.sl.v52, trip_k2_t1.sl.v53, trip_k2_t1.sl.v54, trip_k2_t1.sl.v55, trip_k2_t1.sl.v60, trip_k2_t1.sl.v63, trip_k2_t1.sl.v64, trip_k2_t1.sl.v65, trip_k2_t1.sl.v66, trip_k2_t1.sl.v67, trip_k2_t1.sl.v70, trip_k2_t1.sl.v71, trip_k2_t1.sl.v72, trip_k2_t1.sl.v73, trip_k2_t1.sl.v74, trip_k2_t1.sl.v75, trip_k2_t1.sl.v76, trip_k2_t1.sl.v77, trip_k2_t1.sl.v80, trip_k2_t1.sl.v81, trip_k2_t1.sl.v82, trip_k2_t1.sl.v83, trip_k2_t1.sl.v84, trip_k2_t1.sl.v85, trip_k2_t1.sl.v86]
  rfl

theorem trip_eq (𝒱 : Variants) (bd : Option 𝒱.V) (c : Dev nD) (i : grid2.Coords) (arg2 : Memref sig .tc .vmem S1x2x4096x64 .bf16) (harg2 : arg2.IsWhole) (arg3 : Memref sig .tc .vmem S1x2x4096x64 .bf16) (harg3 : arg3.IsWhole) (arg4 : Memref sig .tc .vmem S1x2x4096x64 .bf16) (harg4 : arg4.IsWhole) (arg5 : Memref sig .tc .vmem S1x1x2x512x64 .f32) (harg5 : arg5.IsWhole) (arg6 : Memref sig .tc .vmem S1x1x2x512x64 .f32) (harg6 : arg6.IsWhole) (arg7 : Memref sig .tc .vmem S2x3x256x704 .f32) (harg7 : arg7.IsWhole) (arg8 : Memref sig .tc .vmem S4096x128 .bf16) (harg8 : arg8.IsWhole)
    (x0 : Vec Ideal S1x2x4096x64 .bf16) (x1 : Vec Ideal S1x2x4096x64 .bf16) (x2 : Vec Ideal S1x2x4096x64 .bf16) (x3 : Vec Ideal S1x1x2x512x64 .f32) (x4 : Vec Ideal S1x1x2x512x64 .f32) (x5 : Vec Ideal S2x3x256x704 .f32) (k : Fin k2_t1_loop.trips) :
    tripL_k2_t1 (F := Ideal) 𝒱 c bd i arg2 harg2 arg3 harg3 arg4 harg4 arg5 harg5 arg6 harg6 arg7 harg7 arg8 harg8
      (View.readAt (Elt Ideal) arg5.view (Rect.unit (s := S1x1x2x512x64) ![0, 0, 0, 0, 0] S1x1x1x512x64.size inb_S1x1x2x512x64_S1x1x1x512x64_0_0_0_0_0).toLoadRect (harg5.unread x3))
      (View.readAt (Elt Ideal) arg6.view (Rect.unit (s := S1x1x2x512x64) ![0, 0, 0, 0, 0] S1x1x1x512x64.size inb_S1x1x2x512x64_S1x1x1x512x64_0_0_0_0_0).toLoadRect (harg6.unread x4))
      (View.readAt (Elt Ideal) arg5.view (Rect.unit (s := S1x1x2x512x64) ![0, 0, 1, 0, 0] S1x1x1x512x64.size inb_S1x1x2x512x64_S1x1x1x512x64_0_0_1_0_0).toLoadRect (harg5.unread x3))
      (View.readAt (Elt Ideal) arg6.view (Rect.unit (s := S1x1x2x512x64) ![0, 0, 1, 0, 0] S1x1x1x512x64.size inb_S1x1x2x512x64_S1x1x1x512x64_0_0_1_0_0).toLoadRect (harg6.unread x4))
      (harg2.unread x0) (harg3.unread x1) (harg4.unread x2) (harg7.unread x5) k
      = tripPieces x0 x1 x2 x3 x4 x5 k := by
  rw [trip_loads, ld_of_whole harg5, ld_of_whole harg5, ld_of_whole harg6, ld_of_whole harg6]
  simp only [ld_of_whole harg2, ld_of_whole harg3, ld_of_whole harg4, ld_of_whole harg7]
  rfl

/-- Every piece of the loop is a piece of one of its trips. -/
theorem mem_pieces (c : Dev nD) (i : grid2.Coords) (arg2 : Memref sig .tc .vmem S1x2x4096x64 .bf16) (harg2 : arg2.IsWhole) (arg3 : Memref sig .tc .vmem S1x2x4096x64 .bf16) (harg3 : arg3.IsWhole) (arg4 : Memref sig .tc .vmem S1x2x4096x64 .bf16) (harg4 : arg4.IsWhole) (arg5 : Memref sig .tc .vmem S1x1x2x512x64 .f32) (harg5 : arg5.IsWhole) (arg6 : Memref sig .tc .vmem S1x1x2x512x64 .f32) (harg6 : arg6.IsWhole) (arg7 : Memref sig .tc .vmem S2x3x256x704 .f32) (harg7 : arg7.IsWhole) (arg8 : Memref sig .tc .vmem S4096x128 .bf16) (harg8 : arg8.IsWhole)
    (x0 : Vec Ideal S1x2x4096x64 .bf16) (x1 : Vec Ideal S1x2x4096x64 .bf16) (x2 : Vec Ideal S1x2x4096x64 .bf16) (x3 : Vec Ideal S1x1x2x512x64 .f32) (x4 : Vec Ideal S1x1x2x512x64 .f32) (x5 : Vec Ideal S2x3x256x704 .f32) (p : View.Piece (Elt Ideal) S4096x128 .bf16)
    (hp : p ∈ (kernelRun2_A (F := Ideal) c i arg2 harg2 arg3 harg3 arg4 harg4 arg5 harg5 arg6 harg6 arg7 harg7 arg8 harg8 x0 x1 x2 x3 x4 x5).1) : ∃ k, p ∈ tripPieces x0 x1 x2 x3 x4 x5 k := by
  unfold kernelRun2_A at hp
  dsimp only at hp
  generalize Scf.trips (0#32) (Scalar.addi 0#32 16#32) 1#32 = n at hp
  induction n with
  | zero => rw [pb_k2_t1.eq_1] at hp; exact absurd hp List.not_mem_nil
  | succ n ih =>
    rw [pb_k2_t1.eq_2] at hp
    unfold pb_k2_t1Step at hp
    split at hp
    · next h =>
      rcases List.mem_append.mp hp with h1 | h1
      · rw [trip_eq] at h1
        exact ⟨_, h1⟩
      · exact ih h1
    · exact ih hp

/-- The block a point leaves is `G` wherever every trip's tiles are. -/
theorem out_eq (c : Dev nD) (i : grid2.Coords) (arg2 : Memref sig .tc .vmem S1x2x4096x64 .bf16) (harg2 : arg2.IsWhole) (arg3 : Memref sig .tc .vmem S1x2x4096x64 .bf16) (harg3 : arg3.IsWhole) (arg4 : Memref sig .tc .vmem S1x2x4096x64 .bf16) (harg4 : arg4.IsWhole) (arg5 : Memref sig .tc .vmem S1x1x2x512x64 .f32) (harg5 : arg5.IsWhole) (arg6 : Memref sig .tc .vmem S1x1x2x512x64 .f32) (harg6 : arg6.IsWhole) (arg7 : Memref sig .tc .vmem S2x3x256x704 .f32) (harg7 : arg7.IsWhole) (arg8 : Memref sig .tc .vmem S4096x128 .bf16) (harg8 : arg8.IsWhole)
    (x0 : Vec Ideal S1x2x4096x64 .bf16) (x1 : Vec Ideal S1x2x4096x64 .bf16) (x2 : Vec Ideal S1x2x4096x64 .bf16) (x3 : Vec Ideal S1x1x2x512x64 .f32) (x4 : Vec Ideal S1x1x2x512x64 .f32) (x5 : Vec Ideal S2x3x256x704 .f32) (G : S4096x128.Idx → EReal)
    (h0 : ∀ k x, tile0 x0 x1 x2 x3 x4 x5 k x = G ((Rect.unit (s := S4096x128) (k2_off4 k) S256x64.size (k2_off4_inb k)).emb x))
    (h1 : ∀ k x, tile1 x0 x1 x2 x3 x4 x5 k x = G ((Rect.unit (s := S4096x128) (k2_off8 k) S256x64.size (k2_off8_inb k)).emb x)) :
    out2_A_6 (F := Ideal) c i arg2 harg2 arg3 harg3 arg4 harg4 arg5 harg5 arg6 harg6 arg7 harg7 arg8 harg8 x0 x1 x2 x3 x4 x5 = G := by
  funext y
  unfold out2_A_6
  rw [View.read_writes_eq_canon _ _ _ (cover2_A_6 c i arg2 harg2 arg3 harg3 arg4 harg4 arg5 harg5 arg6 harg6 arg7 harg7 arg8 harg8 x0 x1 x2 x3 x4 x5)]
  refine View.canon_apply_of_pieces (Val := Elt Ideal) (S := S4096x128) (e := .bf16) G _ (fun p hp x => ?_) y (cover2_A_6 c i arg2 harg2 arg3 harg3 arg4 harg4 arg5 harg5 arg6 harg6 arg7 harg7 arg8 harg8 x0 x1 x2 x3 x4 x5 y)
  obtain ⟨k, hk⟩ := mem_pieces c i arg2 harg2 arg3 harg3 arg4 harg4 arg5 harg5 arg6 harg6 arg7 harg7 arg8 harg8 x0 x1 x2 x3 x4 x5 p hp
  unfold tripPieces at hk
  rcases List.mem_cons.mp hk with rfl | hk
  · exact h1 k x
  · rcases List.mem_cons.mp hk with rfl | hk
    · exact h0 k x
    · exact absurd hk List.not_mem_nil

end Cert.Nat
end
end
-- ==== Proof.Block.lean ====
/- The block one grid point of the attention kernel leaves, as a function of the blocks it reads. -/
module

public import proofs.«01_k».proof.Proof.Tile
public import proofs.«01_k».proof.Proof.Trip

@[expose] public section
set_option maxRecDepth 16384

noncomputable section
namespace Cert.Nat
open Idealize.ShloMosaic Idealize.ShloMosaic.TcCoe Cert.KernelIdeal Cert.KernelIdeal.Gen

/-- The first local key of query tile `k`'s band. -/
def band (k : Nat) : Nat := 64 * min 53 (4 * k - 4)

theorem band_le (k : Nat) : band k + 704 ≤ 4096 := by unfold band; omega

/-- Which of the three bias tables query tile `k` reads. -/
def kase (k : Nat) : Fin 3 := if k = 0 then 0 else if k = 15 then 2 else 1

theorem off2_eq : ∀ k : Fin k2_t1_loop.trips, k2_off2 k = ![0, 0, 64 * min 53 (4 * k.val - 4), 0] := by decide +kernel
theorem off6_eq : ∀ k : Fin k2_t1_loop.trips, k2_off6 k = ![0, 1, 64 * min 53 (4 * k.val - 4), 0] := by decide +kernel

/-- A load through a unit rectangle at an index, the index in the loaded array named by the caller. -/
theorem ld_at {S : Shape} {e : EltTy} (X : S.Idx → Elt Ideal e) (off size : Fin S.rank → Nat) (inb : ∀ a, off a + size a ≤ S.size a)
    (i : (Rect.unit off size inb).shape.Idx) (j : S.Idx) (h : ∀ a : Fin S.rank, (j a).val = off a + (i a).val) :
    View.ld X (Rect.unit off size inb) i = X j := by
  rw [View.ld_unit]; exact extractStridedSlice_apply off X _ i j h

/-- A query row's scores against the context keys, then the keys of its band. -/
def scoreB (x0 x1 : Vec Ideal S1x2x4096x64 .bf16) (x3 : Vec Ideal S1x1x2x512x64 .f32) (x5 : Vec Ideal S2x3x256x704 .f32)
    (h : Fin 2) (row : Fin 4096) (l : Fin 1216) : EReal :=
  if hl : l.val < 512 then ∑ x : Fin 64, x0 (ix4 0 h row x) * x3 (ix5 0 0 h ⟨l.val, hl⟩ x)
  else ∑ x : Fin 64, x0 (ix4 0 h row x) * x1 (ix4 0 h ⟨band (row.val / 256) + (l.val - 512), by have := band_le (row.val / 256); omega⟩ x)
    + x5 (ix4 h (kase (row.val / 256)) ⟨row.val % 256, by omega⟩ ⟨l.val - 512, by omega⟩)

/-- The value rows beside them. -/
def valueB (x2 : Vec Ideal S1x2x4096x64 .bf16) (x4 : Vec Ideal S1x1x2x512x64 .f32)
    (h : Fin 2) (row : Fin 4096) (d : Fin 64) (l : Fin 1216) : EReal :=
  if hl : l.val < 512 then x4 (ix5 0 0 h ⟨l.val, hl⟩ d)
  else x2 (ix4 0 h ⟨band (row.val / 256) + (l.val - 512), by have := band_le (row.val / 256); omega⟩ d)

theorem pay1_apply (v : Vec Ideal S1x1x1x512x64 .f32) (l : Fin 512) (x : Fin 64) : k2_pay1 v (ix2 l x) = v (ix5 0 0 0 l x) := by
  pointwise [k2_pay1]
theorem pay2_apply (v : Vec Ideal S1x1x1x512x64 .f32) (l : Fin 512) (x : Fin 64) : k2_pay2 v (ix2 l x) = v (ix5 0 0 0 l x) := by
  pointwise [k2_pay2]
theorem pay3_apply (v : Vec Ideal S1x1x1x512x64 .f32) (l : Fin 512) (x : Fin 64) : k2_pay3 v (ix2 l x) = v (ix5 0 0 0 l x) := by
  pointwise [k2_pay3]
theorem pay4_apply (v : Vec Ideal S1x1x1x512x64 .f32) (l : Fin 512) (x : Fin 64) : k2_pay4 v (ix2 l x) = v (ix5 0 0 0 l x) := by
  pointwise [k2_pay4]

/-- A tile whose loads are the block's entries is the weighted sum of its rows. -/
theorem tile_of_loads (x0 x1 x2 : Vec Ideal S1x2x4096x64 .bf16) (x3 x4 : Vec Ideal S1x1x2x512x64 .f32) (x5 : Vec Ideal S2x3x256x704 .f32)
    (h : Fin 2) (k : Nat) (hk : k < 16) (r : Fin 256) (d : Fin 64)
    (vc kc : FVec Ideal S512x64 .bf16) (q : Vec Ideal S1x1x256x64 .bf16) (kl vl : Vec Ideal S1x1x704x64 .bf16) (b : Vec Ideal S1x1x256x704 .f32)
    (hvc : ∀ l x, vc (ix2 l x) = x4 (ix5 0 0 h l x)) (hkc : ∀ l x, kc (ix2 l x) = x3 (ix5 0 0 h l x))
    (hq : ∀ (r : Fin 256) x, q (ix4 0 0 r x) = x0 (ix4 0 h ⟨256 * k + r.val, by omega⟩ x))
    (hkl : ∀ (l : Fin 704) x, kl (ix4 0 0 l x) = x1 (ix4 0 h ⟨band k + l.val, by have := band_le k; omega⟩ x))
    (hvl : ∀ (l : Fin 704) x, vl (ix4 0 0 l x) = x2 (ix4 0 h ⟨band k + l.val, by have := band_le k; omega⟩ x))
    (hb : ∀ (r : Fin 256) (l : Fin 704), b (ix4 0 0 r l) = x5 (ix4 h (kase k) r l)) :
    k2_pay7 vc (k2_pay6 kc q kl b) vl (ix2 r d)
      = weighted (scoreB x0 x1 x3 x5 h ⟨256 * k + r.val, by omega⟩) (valueB x2 x4 h ⟨256 * k + r.val, by omega⟩ d) := by
  have e1 : (256 * k + r.val) / 256 = k := by omega
  have e2 : (256 * k + r.val) % 256 = r.val := by omega
  have hs : ∀ l : Fin 1216, tileScores kc q kl b (ix2 r l) = scoreB x0 x1 x3 x5 h ⟨256 * k + r.val, by omega⟩ l := by
    intro l
    rw [tileScores_apply]
    unfold scoreB
    split
    · exact Finset.sum_congr rfl fun x _ => by rw [hq, hkc]
    · simp only [hq, hkl, hb, e1, e2]
  have hv : ∀ l : Fin 1216, (if h : l.val < 512 then vc (ix2 ⟨l.val, h⟩ d) else vl (ix4 0 0 ⟨l.val - 512, by omega⟩ d))
      = valueB x2 x4 h ⟨256 * k + r.val, by omega⟩ d l := by
    intro l
    unfold valueB
    split
    · rw [hvc]
    · simp only [hvl, e1]
  rw [pay7_apply, pay6_eq]
  unfold weighted
  simp only [tileExp_apply, hs, hv]

/-- Trip numbers are below 16. -/
theorem trip_lt (k : Fin k2_t1_loop.trips) : k.val < 16 := Nat.lt_of_lt_of_le k.isLt k2_t1_abs.2.1

/-- The block a grid point leaves: row `row`, lane `64 h + d` holds head `h`'s weighted sum. -/
def blockOut (x0 x1 x2 : Vec Ideal S1x2x4096x64 .bf16) (x3 x4 : Vec Ideal S1x1x2x512x64 .f32) (x5 : Vec Ideal S2x3x256x704 .f32) : S4096x128.Idx → EReal :=
  fun y => weighted (scoreB x0 x1 x3 x5 ⟨(y 1).val / 64, by have : (y 1).val < 128 := (y 1).isLt; omega⟩ (y 0))
    (valueB x2 x4 ⟨(y 1).val / 64, by have : (y 1).val < 128 := (y 1).isLt; omega⟩ (y 0) ⟨(y 1).val % 64, by omega⟩)

theorem blockOut_at (x0 x1 x2 : Vec Ideal S1x2x4096x64 .bf16) (x3 x4 : Vec Ideal S1x1x2x512x64 .f32) (x5 : Vec Ideal S2x3x256x704 .f32)
    (y : S4096x128.Idx) (h : Fin 2) (row : Fin 4096) (d : Fin 64) (h0 : (y 0).val = row.val) (h1 : (y 1).val = 64 * h.val + d.val) :
    blockOut x0 x1 x2 x3 x4 x5 y = weighted (scoreB x0 x1 x3 x5 h row) (valueB x2 x4 h row d) := by
  unfold blockOut
  have a0 : (y 0 : Fin 4096) = row := Fin.ext h0
  have a1 : (⟨(y 1).val / 64, by have : (y 1).val < 128 := (y 1).isLt; omega⟩ : Fin 2) = h := Fin.ext (by show (y 1).val / 64 = h.val; omega)
  have a2 : (⟨(y 1).val % 64, by omega⟩ : Fin 64) = d := Fin.ext (by show (y 1).val % 64 = d.val; omega)
  rw [a1, a2]
  exact congrArg (fun r => weighted (scoreB x0 x1 x3 x5 h r) (valueB x2 x4 h r d)) a0

theorem tile0_eq (x0 x1 x2 : Vec Ideal S1x2x4096x64 .bf16) (x3 x4 : Vec Ideal S1x1x2x512x64 .f32) (x5 : Vec Ideal S2x3x256x704 .f32)
    (k : Fin k2_t1_loop.trips) (x : S256x64.Idx) :
    tile0 x0 x1 x2 x3 x4 x5 k x = blockOut x0 x1 x2 x3 x4 x5 ((Rect.unit (s := S4096x128) (k2_off4 k) S256x64.size (k2_off4_inb k)).emb x) := by
  have hk := trip_lt k
  rw [blockOut_at x0 x1 x2 x3 x4 x5 _ 0 ⟨256 * k.val + (x 0).val, by have : (x 0).val < 256 := (x 0).isLt; omega⟩ (x 1)
    (by show k2_off4 k 0 + 1 * (x 0).val = _; rw [congrFun (k2_off4_eq k) 0]; simp) (by show k2_off4 k 1 + 1 * (x 1).val = _; rw [congrFun (k2_off4_eq k) 1]; simp)]
  rw [eq_ix2 x]
  refine tile_of_loads x0 x1 x2 x3 x4 x5 0 k.val hk _ _ _ _ _ _ _ _ ?_ ?_ ?_ ?_ ?_ ?_
  · intro l x; rw [pay2_apply]; refine ld_at _ _ _ _ _ _ fun a => ?_; fin_cases a <;> simp
  · intro l x; rw [pay1_apply]; refine ld_at _ _ _ _ _ _ fun a => ?_; fin_cases a <;> simp
  · intro l x; refine ld_at _ _ _ _ _ _ fun a => ?_; rw [congrFun (k2_off1_eq k) a]; fin_cases a <;> simp
  · intro l x; refine ld_at _ _ _ _ _ _ fun a => ?_; rw [congrFun (off2_eq k) a]; fin_cases a <;> simp [band]
  · intro l x; refine ld_at _ _ _ _ _ _ fun a => ?_; rw [congrFun (off2_eq k) a]; fin_cases a <;> simp [band]
  · intro l x; refine ld_at _ _ _ _ _ _ fun a => ?_; rw [congrFun (k2_off3_eq k) a]; unfold kase; fin_cases a <;> simp <;> split_ifs <;> rfl

theorem tile1_eq (x0 x1 x2 : Vec Ideal S1x2x4096x64 .bf16) (x3 x4 : Vec Ideal S1x1x2x512x64 .f32) (x5 : Vec Ideal S2x3x256x704 .f32)
    (k : Fin k2_t1_loop.trips) (x : S256x64.Idx) :
    tile1 x0 x1 x2 x3 x4 x5 k x = blockOut x0 x1 x2 x3 x4 x5 ((Rect.unit (s := S4096x128) (k2_off8 k) S256x64.size (k2_off8_inb k)).emb x) := by
  have hk := trip_lt k
  rw [blockOut_at x0 x1 x2 x3 x4 x5 _ 1 ⟨256 * k.val + (x 0).val, by have : (x 0).val < 256 := (x 0).isLt; omega⟩ (x 1)
    (by show k2_off8 k 0 + 1 * (x 0).val = _; rw [congrFun (k2_off8_eq k) 0]; simp) (by show k2_off8 k 1 + 1 * (x 1).val = _; rw [congrFun (k2_off8_eq k) 1]; simp)]
  rw [eq_ix2 x]
  refine tile_of_loads x0 x1 x2 x3 x4 x5 1 k.val hk _ _ _ _ _ _ _ _ ?_ ?_ ?_ ?_ ?_ ?_
  · intro l x; rw [pay4_apply]; refine ld_at _ _ _ _ _ _ fun a => ?_; fin_cases a <;> simp
  · intro l x; rw [pay3_apply]; refine ld_at _ _ _ _ _ _ fun a => ?_; fin_cases a <;> simp
  · intro l x; refine ld_at _ _ _ _ _ _ fun a => ?_; rw [congrFun (k2_off5_eq k) a]; fin_cases a <;> simp
  · intro l x; refine ld_at _ _ _ _ _ _ fun a => ?_; rw [congrFun (off6_eq k) a]; fin_cases a <;> simp [band]
  · intro l x; refine ld_at _ _ _ _ _ _ fun a => ?_; rw [congrFun (off6_eq k) a]; fin_cases a <;> simp [band]
  · intro l x; refine ld_at _ _ _ _ _ _ fun a => ?_; rw [congrFun (k2_off7_eq k) a]; unfold kase; fin_cases a <;> simp <;> split_ifs <;> rfl

/-- What the kernel leaves at a grid point, from the blocks it reads there. -/
theorem outsAt_eq (V : (c : Dev nD) → (b : Ref sig .tc) → Buf (Elt Ideal) ((c : Thread nD τ).loc b)) (c : Dev nD) (t : Fin cfg2.N) :
    outsAt2 (F := Ideal) V c t = blockOut (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) :=
  out_eq _ _ _ _ _ _ _ _ _ _ _ _ _ _ _ _ _ _ _ _ _ _ _ (tile0_eq _ _ _ _ _ _) (tile1_eq _ _ _ _ _ _)

end Cert.Nat
end
end
-- ==== Proof.Assemble.lean ====
/- The bias tables the attention reads: for each head and each of three positions of the query rows, the relative
   positions' bias inside the window and −∞ outside it. -/
module

public import proofs.«01_k».proof.Proof.Block
public import Idealize.ShloMosaic.Lib.Pipeline.Value

@[expose] public section
set_option maxRecDepth 16384

noncomputable section
namespace Cert.Nat
open Idealize.ShloMosaic Idealize.ShloMosaic.TcCoe Cert.KernelIdeal Cert.KernelIdeal.Gen
open Idealize.ShloMosaic.Pipeline (Dat Window)

/-- Column `c` lies in the window of column `r`. -/
def colOk (r c : Nat) : Bool := decide (min 48 (r - 8) ≤ c ∧ c < min 48 (r - 8) + 16)

/-- The grid row of query row `b` in table `a`. -/
def qRow (a b : Nat) : Nat := (if a = 0 then 0 else if a = 1 then 4 else 60) + b
/-- The grid row of key row `c` in table `a`. -/
def kRow (a c : Nat) : Nat := (if a = 2 then 53 else 0) + c
/-- The row of the relative bias for query row `b` and key row `c` of table `a`; 15 outside the window. -/
def shift (a b c : Nat) : Nat :=
  if min 56 (qRow a b - 4) ≤ kRow a c ∧ kRow a c < min 56 (qRow a b - 4) + 8 then kRow a c + 7 - qRow a b else 15

/-- A table entry, from the head's relative biases by row offset. -/
def tableAt (x0 : S1x15x64x64.Idx → EReal) (a r l : Nat) : EReal :=
  if h : shift a (r / 64) (l / 64) < 15 ∧ colOk (r % 64) (l % 64) = true then
    x0 (ix4 0 ⟨shift a (r / 64) (l / 64), h.1⟩ ⟨r % 64, by omega⟩ ⟨l % 64, by omega⟩)
  else ⊥

/-- A tile of a table that lies outside the window. -/
def blankT : FVec Ideal S1x1x64x64 .f32 := shapeCast S1x1x64x64 (k1_pay3 (F := Ideal)) shapeCasts_S64x64_S1x1x64x64
/-- A tile of a table: the biases of one row offset, inside the columns' window. -/
def shownT (t : Vec Ideal S1x1x64x64 .f32) : FVec Ideal S1x1x64x64 .f32 :=
  shapeCast S1x1x64x64 (select k1_pay2 (shapeCast S64x64 t shapeCasts_S1x1x64x64_S64x64 : FVec Ideal S64x64 .f32) (k1_pay3 (F := Ideal))) shapeCasts_S64x64_S1x1x64x64

theorem masked_eq (x : S64x64.Idx) : k1_pay3 (F := Ideal) x = (⊥ : EReal) := rfl

theorem blankT_apply (x : S1x1x64x64.Idx) : blankT x = (⊥ : EReal) := rfl

theorem cols_eq : ∀ r c : Fin 64, k1_pay2 (ix2 r c) = if colOk r.val c.val = true then 1#1 else 0#1 := by
  have key : ∀ r c : Fin 64, (k1_pay2 (ix2 r c) = 1#1 ↔ colOk r.val c.val = true) := by
    intro r c
    unfold k1_pay2
    pointwise
    revert r c
    decide +kernel
  intro r c
  split
  · exact (key r c).2 ‹_›
  · rename_i h
    have h2 : k1_pay2 (ix2 r c) ≠ 1#1 := fun h' => h ((key r c).1 h')
    generalize k1_pay2 (ix2 r c) = z at h2
    revert z; decide

theorem shownT_apply (t : Vec Ideal S1x1x64x64 .f32) (r c : Fin 64) :
    shownT t (ix4 0 0 r c) = if colOk r.val c.val = true then t (ix4 0 0 r c) else (⊥ : EReal) := by
  have h : shownT t (ix4 0 0 r c) = if k1_pay2 (ix2 r c) = 1#1 then t (ix4 0 0 r c) else k1_pay3 (F := Ideal) (ix2 r c) := by
    pointwise [shownT]
    rfl
  rw [h, cols_eq, masked_eq]
  split <;> rfl

variable (x0 : Vec Ideal S1x15x64x64 .f32)

theorem tableAt_tile (a b c u w : Nat) (hu : u < 64) (hw : w < 64) (r l : Nat) (hr : r = 64 * b + u) (hl : l = 64 * c + w) :
    tableAt x0 a r l = if h : shift a b c < 15 ∧ colOk u w = true then x0 (ix4 0 ⟨shift a b c, h.1⟩ ⟨u, hu⟩ ⟨w, hw⟩) else (⊥ : EReal) := by
  obtain rfl : b = r / 64 := by omega
  obtain rfl : u = r % 64 := by omega
  obtain rfl : c = l / 64 := by omega
  obtain rfl : w = l % 64 := by omega
  rfl

theorem blank_at (a b c : Nat) (off : Fin S1x3x256x704.rank → Nat) (inb : ∀ d, off d + S1x1x64x64.size d ≤ S1x3x256x704.size d)
    (ho : off = ![0, a, 64 * b, 64 * c]) (hs : shift a b c = 15) (x : S1x1x64x64.Idx) :
    blankT x = tableAt x0 (((Rect.unit (s := S1x3x256x704) off S1x1x64x64.size inb).emb x) 1).val (((Rect.unit (s := S1x3x256x704) off S1x1x64x64.size inb).emb x) 2).val (((Rect.unit (s := S1x3x256x704) off S1x1x64x64.size inb).emb x) 3).val := by
  subst ho
  have x2 : (x 2).val < 64 := (x 2).isLt
  have x3 : (x 3).val < 64 := (x 3).isLt
  have x1 : (x 1).val < 1 := (x 1).isLt
  show (⊥ : EReal) = tableAt x0 (a + 1 * (x 1).val) (64 * b + 1 * (x 2).val) (64 * c + 1 * (x 3).val)
  rw [tableAt_tile x0 _ b c _ _ x2 x3 _ _ (by omega) (by omega), show a + 1 * (x 1).val = a by omega, dif_neg (by omega)]

theorem shown_at (a b c n : Nat) (off : Fin S1x3x256x704.rank → Nat) (inb : ∀ d, off d + S1x1x64x64.size d ≤ S1x3x256x704.size d)
    (offi : Fin S1x15x64x64.rank → Nat) (inbi : ∀ d, offi d + S1x1x64x64.size d ≤ S1x15x64x64.size d)
    (ho : off = ![0, a, 64 * b, 64 * c]) (hoi : offi = ![0, n, 0, 0]) (hs : shift a b c = n) (hn : n < 15) (x : S1x1x64x64.Idx) :
    shownT (View.ld (Val := Elt Ideal) (e' := .f32) x0 (Rect.unit (s := S1x15x64x64) offi S1x1x64x64.size inbi)) x = tableAt x0 (((Rect.unit (s := S1x3x256x704) off S1x1x64x64.size inb).emb x) 1).val (((Rect.unit (s := S1x3x256x704) off S1x1x64x64.size inb).emb x) 2).val (((Rect.unit (s := S1x3x256x704) off S1x1x64x64.size inb).emb x) 3).val := by
  subst ho; subst hoi
  have x2 : (x 2).val < 64 := (x 2).isLt
  have x3 : (x 3).val < 64 := (x 3).isLt
  have x1 : (x 1).val < 1 := (x 1).isLt
  show _ = tableAt x0 (a + 1 * (x 1).val) (64 * b + 1 * (x 2).val) (64 * c + 1 * (x 3).val)
  have hx : x = ix4 0 0 (x 2 : Fin 64) (x 3 : Fin 64) := by
    funext d; fin_cases d
    · exact Subsingleton.elim (α := Fin 1) _ _
    · exact Subsingleton.elim (α := Fin 1) _ _
    · rfl
    · rfl
  have hl : shownT (View.ld (Val := Elt Ideal) (e' := .f32) x0 (Rect.unit (s := S1x15x64x64) ![0, n, 0, 0] S1x1x64x64.size inbi)) x
      = if colOk (x 2).val (x 3).val = true then x0 (ix4 0 ⟨n, hn⟩ (x 2 : Fin 64) (x 3 : Fin 64)) else (⊥ : EReal) := by
    refine (congrArg _ hx).trans ((shownT_apply _ (x 2 : Fin 64) (x 3 : Fin 64)).trans ?_)
    refine if_congr Iff.rfl (ld_at x0 _ _ _ _ _ fun d => ?_) rfl
    fin_cases d <;> simp
  rw [hl]
  rw [tableAt_tile x0 _ b c _ _ x2 x3 _ _ (by omega) (by omega), show a + 1 * (x 1).val = a by omega]
  subst hs
  by_cases hc : colOk (x 2).val (x 3).val = true
  · rw [if_pos hc, dif_pos ⟨hn, hc⟩]; rfl
  · rw [if_neg hc, dif_neg (fun h => hc h.2)]

/-- What the table kernel leaves for one head. -/
theorem table_eq (y : S1x3x256x704.Idx) : out1_1 (F := Ideal) x0 y = tableAt x0 (y 1).val (y 2).val (y 3).val := by
  unfold out1_1
  refine View.canon_apply_of_pieces (Val := Elt Ideal) (S := S1x3x256x704) (e := .f32) (fun y => tableAt x0 (y 1).val (y 2).val (y 3).val) _ ?_ y (cover1_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  dsimp only
  refine List.forall_mem_cons.2 ⟨fun x => shown_at x0 2 3 10 7 _ inb_S1x3x256x704_S1x1x64x64_0_2_192_640 _ inb_S1x15x64x64_S1x1x64x64_0_7_0_0 rfl rfl (by decide) (by decide) x, ?_⟩
  refine List.forall_mem_cons.2 ⟨fun x => shown_at x0 2 3 9 6 _ inb_S1x3x256x704_S1x1x64x64_0_2_192_576 _ inb_S1x15x64x64_S1x1x64x64_0_6_0_0 rfl rfl (by decide) (by decide) x, ?_⟩
  refine List.forall_mem_cons.2 ⟨fun x => shown_at x0 2 3 8 5 _ inb_S1x3x256x704_S1x1x64x64_0_2_192_512 _ inb_S1x15x64x64_S1x1x64x64_0_5_0_0 rfl rfl (by decide) (by decide) x, ?_⟩
  refine List.forall_mem_cons.2 ⟨fun x => shown_at x0 2 3 7 4 _ inb_S1x3x256x704_S1x1x64x64_0_2_192_448 _ inb_S1x15x64x64_S1x1x64x64_0_4_0_0 rfl rfl (by decide) (by decide) x, ?_⟩
  refine List.forall_mem_cons.2 ⟨fun x => shown_at x0 2 3 6 3 _ inb_S1x3x256x704_S1x1x64x64_0_2_192_384 _ inb_S1x15x64x64_S1x1x64x64_0_3_0_0 rfl rfl (by decide) (by decide) x, ?_⟩
  refine List.forall_mem_cons.2 ⟨fun x => shown_at x0 2 3 5 2 _ inb_S1x3x256x704_S1x1x64x64_0_2_192_320 _ inb_S1x15x64x64_S1x1x64x64_0_2_0_0 rfl rfl (by decide) (by decide) x, ?_⟩
  refine List.forall_mem_cons.2 ⟨fun x => shown_at x0 2 3 4 1 _ inb_S1x3x256x704_S1x1x64x64_0_2_192_256 _ inb_S1x15x64x64_S1x1x64x64_0_1_0_0 rfl rfl (by decide) (by decide) x, ?_⟩
  refine List.forall_mem_cons.2 ⟨fun x => shown_at x0 2 3 3 0 _ inb_S1x3x256x704_S1x1x64x64_0_2_192_192 _ inb_S1x15x64x64_S1x1x64x64_0_0_0_0 rfl rfl (by decide) (by decide) x, ?_⟩
  refine List.forall_mem_cons.2 ⟨fun x => blank_at x0 2 3 2 _ inb_S1x3x256x704_S1x1x64x64_0_2_192_128 rfl (by decide) x, ?_⟩
  refine List.forall_mem_cons.2 ⟨fun x => blank_at x0 2 3 1 _ inb_S1x3x256x704_S1x1x64x64_0_2_192_64 rfl (by decide) x, ?_⟩
  refine List.forall_mem_cons.2 ⟨fun x => blank_at x0 2 3 0 _ inb_S1x3x256x704_S1x1x64x64_0_2_192_0 rfl (by decide) x, ?_⟩
  refine List.forall_mem_cons.2 ⟨fun x => shown_at x0 2 2 10 8 _ inb_S1x3x256x704_S1x1x64x64_0_2_128_640 _ inb_S1x15x64x64_S1x1x64x64_0_8_0_0 rfl rfl (by decide) (by decide) x, ?_⟩
  refine List.forall_mem_cons.2 ⟨fun x => shown_at x0 2 2 9 7 _ inb_S1x3x256x704_S1x1x64x64_0_2_128_576 _ inb_S1x15x64x64_S1x1x64x64_0_7_0_0 rfl rfl (by decide) (by decide) x, ?_⟩
  refine List.forall_mem_cons.2 ⟨fun x => shown_at x0 2 2 8 6 _ inb_S1x3x256x704_S1x1x64x64_0_2_128_512 _ inb_S1x15x64x64_S1x1x64x64_0_6_0_0 rfl rfl (by decide) (by decide) x, ?_⟩
  refine List.forall_mem_cons.2 ⟨fun x => shown_at x0 2 2 7 5 _ inb_S1x3x256x704_S1x1x64x64_0_2_128_448 _ inb_S1x15x64x64_S1x1x64x64_0_5_0_0 rfl rfl (by decide) (by decide) x, ?_⟩
  refine List.forall_mem_cons.2 ⟨fun x => shown_at x0 2 2 6 4 _ inb_S1x3x256x704_S1x1x64x64_0_2_128_384 _ inb_S1x15x64x64_S1x1x64x64_0_4_0_0 rfl rfl (by decide) (by decide) x, ?_⟩
  refine List.forall_mem_cons.2 ⟨fun x => shown_at x0 2 2 5 3 _ inb_S1x3x256x704_S1x1x64x64_0_2_128_320 _ inb_S1x15x64x64_S1x1x64x64_0_3_0_0 rfl rfl (by decide) (by decide) x, ?_⟩
  refine List.forall_mem_cons.2 ⟨fun x => shown_at x0 2 2 4 2 _ inb_S1x3x256x704_S1x1x64x64_0_2_128_256 _ inb_S1x15x64x64_S1x1x64x64_0_2_0_0 rfl rfl (by decide) (by decide) x, ?_⟩
  refine List.forall_mem_cons.2 ⟨fun x => shown_at x0 2 2 3 1 _ inb_S1x3x256x704_S1x1x64x64_0_2_128_192 _ inb_S1x15x64x64_S1x1x64x64_0_1_0_0 rfl rfl (by decide) (by decide) x, ?_⟩
  refine List.forall_mem_cons.2 ⟨fun x => blank_at x0 2 2 2 _ inb_S1x3x256x704_S1x1x64x64_0_2_128_128 rfl (by decide) x, ?_⟩
  refine List.forall_mem_cons.2 ⟨fun x => blank_at x0 2 2 1 _ inb_S1x3x256x704_S1x1x64x64_0_2_128_64 rfl (by decide) x, ?_⟩
  refine List.forall_mem_cons.2 ⟨fun x => blank_at x0 2 2 0 _ inb_S1x3x256x704_S1x1x64x64_0_2_128_0 rfl (by decide) x, ?_⟩
  refine List.forall_mem_cons.2 ⟨fun x => shown_at x0 2 1 10 9 _ inb_S1x3x256x704_S1x1x64x64_0_2_64_640 _ inb_S1x15x64x64_S1x1x64x64_0_9_0_0 rfl rfl (by decide) (by decide) x, ?_⟩
  refine List.forall_mem_cons.2 ⟨fun x => shown_at x0 2 1 9 8 _ inb_S1x3x256x704_S1x1x64x64_0_2_64_576 _ inb_S1x15x64x64_S1x1x64x64_0_8_0_0 rfl rfl (by decide) (by decide) x, ?_⟩
  refine List.forall_mem_cons.2 ⟨fun x => shown_at x0 2 1 8 7 _ inb_S1x3x256x704_S1x1x64x64_0_2_64_512 _ inb_S1x15x64x64_S1x1x64x64_0_7_0_0 rfl rfl (by decide) (by decide) x, ?_⟩
  refine List.forall_mem_cons.2 ⟨fun x => shown_at x0 2 1 7 6 _ inb_S1x3x256x704_S1x1x64x64_0_2_64_448 _ inb_S1x15x64x64_S1x1x64x64_0_6_0_0 rfl rfl (by decide) (by decide) x, ?_⟩
  refine List.forall_mem_cons.2 ⟨fun x => shown_at x0 2 1 6 5 _ inb_S1x3x256x704_S1x1x64x64_0_2_64_384 _ inb_S1x15x64x64_S1x1x64x64_0_5_0_0 rfl rfl (by decide) (by decide) x, ?_⟩
  refine List.forall_mem_cons.2 ⟨fun x => shown_at x0 2 1 5 4 _ inb_S1x3x256x704_S1x1x64x64_0_2_64_320 _ inb_S1x15x64x64_S1x1x64x64_0_4_0_0 rfl rfl (by decide) (by decide) x, ?_⟩
  refine List.forall_mem_cons.2 ⟨fun x => shown_at x0 2 1 4 3 _ inb_S1x3x256x704_S1x1x64x64_0_2_64_256 _ inb_S1x15x64x64_S1x1x64x64_0_3_0_0 rfl rfl (by decide) (by decide) x, ?_⟩
  refine List.forall_mem_cons.2 ⟨fun x => shown_at x0 2 1 3 2 _ inb_S1x3x256x704_S1x1x64x64_0_2_64_192 _ inb_S1x15x64x64_S1x1x64x64_0_2_0_0 rfl rfl (by decide) (by decide) x, ?_⟩
  refine List.forall_mem_cons.2 ⟨fun x => blank_at x0 2 1 2 _ inb_S1x3x256x704_S1x1x64x64_0_2_64_128 rfl (by decide) x, ?_⟩
  refine List.forall_mem_cons.2 ⟨fun x => blank_at x0 2 1 1 _ inb_S1x3x256x704_S1x1x64x64_0_2_64_64 rfl (by decide) x, ?_⟩
  refine List.forall_mem_cons.2 ⟨fun x => blank_at x0 2 1 0 _ inb_S1x3x256x704_S1x1x64x64_0_2_64_0 rfl (by decide) x, ?_⟩
  refine List.forall_mem_cons.2 ⟨fun x => shown_at x0 2 0 10 10 _ inb_S1x3x256x704_S1x1x64x64_0_2_0_640 _ inb_S1x15x64x64_S1x1x64x64_0_10_0_0 rfl rfl (by decide) (by decide) x, ?_⟩
  refine List.forall_mem_cons.2 ⟨fun x => shown_at x0 2 0 9 9 _ inb_S1x3x256x704_S1x1x64x64_0_2_0_576 _ inb_S1x15x64x64_S1x1x64x64_0_9_0_0 rfl rfl (by decide) (by decide) x, ?_⟩
  refine List.forall_mem_cons.2 ⟨fun x => shown_at x0 2 0 8 8 _ inb_S1x3x256x704_S1x1x64x64_0_2_0_512 _ inb_S1x15x64x64_S1x1x64x64_0_8_0_0 rfl rfl (by decide) (by decide) x, ?_⟩
  refine List.forall_mem_cons.2 ⟨fun x => shown_at x0 2 0 7 7 _ inb_S1x3x256x704_S1x1x64x64_0_2_0_448 _ inb_S1x15x64x64_S1x1x64x64_0_7_0_0 rfl rfl (by decide) (by decide) x, ?_⟩
  refine List.forall_mem_cons.2 ⟨fun x => shown_at x0 2 0 6 6 _ inb_S1x3x256x704_S1x1x64x64_0_2_0_384 _ inb_S1x15x64x64_S1x1x64x64_0_6_0_0 rfl rfl (by decide) (by decide) x, ?_⟩
  refine List.forall_mem_cons.2 ⟨fun x => shown_at x0 2 0 5 5 _ inb_S1x3x256x704_S1x1x64x64_0_2_0_320 _ inb_S1x15x64x64_S1x1x64x64_0_5_0_0 rfl rfl (by decide) (by decide) x, ?_⟩
  refine List.forall_mem_cons.2 ⟨fun x => shown_at x0 2 0 4 4 _ inb_S1x3x256x704_S1x1x64x64_0_2_0_256 _ inb_S1x15x64x64_S1x1x64x64_0_4_0_0 rfl rfl (by decide) (by decide) x, ?_⟩
  refine List.forall_mem_cons.2 ⟨fun x => shown_at x0 2 0 3 3 _ inb_S1x3x256x704_S1x1x64x64_0_2_0_192 _ inb_S1x15x64x64_S1x1x64x64_0_3_0_0 rfl rfl (by decide) (by decide) x, ?_⟩
  refine List.forall_mem_cons.2 ⟨fun x => blank_at x0 2 0 2 _ inb_S1x3x256x704_S1x1x64x64_0_2_0_128 rfl (by decide) x, ?_⟩
  refine List.forall_mem_cons.2 ⟨fun x => blank_at x0 2 0 1 _ inb_S1x3x256x704_S1x1x64x64_0_2_0_64 rfl (by decide) x, ?_⟩
  refine List.forall_mem_cons.2 ⟨fun x => blank_at x0 2 0 0 _ inb_S1x3x256x704_S1x1x64x64_0_2_0_0 rfl (by decide) x, ?_⟩
  refine List.forall_mem_cons.2 ⟨fun x => shown_at x0 1 3 10 10 _ inb_S1x3x256x704_S1x1x64x64_0_1_192_640 _ inb_S1x15x64x64_S1x1x64x64_0_10_0_0 rfl rfl (by decide) (by decide) x, ?_⟩
  refine List.forall_mem_cons.2 ⟨fun x => shown_at x0 1 3 9 9 _ inb_S1x3x256x704_S1x1x64x64_0_1_192_576 _ inb_S1x15x64x64_S1x1x64x64_0_9_0_0 rfl rfl (by decide) (by decide) x, ?_⟩
  refine List.forall_mem_cons.2 ⟨fun x => shown_at x0 1 3 8 8 _ inb_S1x3x256x704_S1x1x64x64_0_1_192_512 _ inb_S1x15x64x64_S1x1x64x64_0_8_0_0 rfl rfl (by decide) (by decide) x, ?_⟩
  refine List.forall_mem_cons.2 ⟨fun x => shown_at x0 1 3 7 7 _ inb_S1x3x256x704_S1x1x64x64_0_1_192_448 _ inb_S1x15x64x64_S1x1x64x64_0_7_0_0 rfl rfl (by decide) (by decide) x, ?_⟩
  refine List.forall_mem_cons.2 ⟨fun x => shown_at x0 1 3 6 6 _ inb_S1x3x256x704_S1x1x64x64_0_1_192_384 _ inb_S1x15x64x64_S1x1x64x64_0_6_0_0 rfl rfl (by decide) (by decide) x, ?_⟩
  refine List.forall_mem_cons.2 ⟨fun x => shown_at x0 1 3 5 5 _ inb_S1x3x256x704_S1x1x64x64_0_1_192_320 _ inb_S1x15x64x64_S1x1x64x64_0_5_0_0 rfl rfl (by decide) (by decide) x, ?_⟩
  refine List.forall_mem_cons.2 ⟨fun x => shown_at x0 1 3 4 4 _ inb_S1x3x256x704_S1x1x64x64_0_1_192_256 _ inb_S1x15x64x64_S1x1x64x64_0_4_0_0 rfl rfl (by decide) (by decide) x, ?_⟩
  refine List.forall_mem_cons.2 ⟨fun x => shown_at x0 1 3 3 3 _ inb_S1x3x256x704_S1x1x64x64_0_1_192_192 _ inb_S1x15x64x64_S1x1x64x64_0_3_0_0 rfl rfl (by decide) (by decide) x, ?_⟩
  refine List.forall_mem_cons.2 ⟨fun x => blank_at x0 1 3 2 _ inb_S1x3x256x704_S1x1x64x64_0_1_192_128 rfl (by decide) x, ?_⟩
  refine List.forall_mem_cons.2 ⟨fun x => blank_at x0 1 3 1 _ inb_S1x3x256x704_S1x1x64x64_0_1_192_64 rfl (by decide) x, ?_⟩
  refine List.forall_mem_cons.2 ⟨fun x => blank_at x0 1 3 0 _ inb_S1x3x256x704_S1x1x64x64_0_1_192_0 rfl (by decide) x, ?_⟩
  refine List.forall_mem_cons.2 ⟨fun x => blank_at x0 1 2 10 _ inb_S1x3x256x704_S1x1x64x64_0_1_128_640 rfl (by decide) x, ?_⟩
  refine List.forall_mem_cons.2 ⟨fun x => shown_at x0 1 2 9 10 _ inb_S1x3x256x704_S1x1x64x64_0_1_128_576 _ inb_S1x15x64x64_S1x1x64x64_0_10_0_0 rfl rfl (by decide) (by decide) x, ?_⟩
  refine List.forall_mem_cons.2 ⟨fun x => shown_at x0 1 2 8 9 _ inb_S1x3x256x704_S1x1x64x64_0_1_128_512 _ inb_S1x15x64x64_S1x1x64x64_0_9_0_0 rfl rfl (by decide) (by decide) x, ?_⟩
  refine List.forall_mem_cons.2 ⟨fun x => shown_at x0 1 2 7 8 _ inb_S1x3x256x704_S1x1x64x64_0_1_128_448 _ inb_S1x15x64x64_S1x1x64x64_0_8_0_0 rfl rfl (by decide) (by decide) x, ?_⟩
  refine List.forall_mem_cons.2 ⟨fun x => shown_at x0 1 2 6 7 _ inb_S1x3x256x704_S1x1x64x64_0_1_128_384 _ inb_S1x15x64x64_S1x1x64x64_0_7_0_0 rfl rfl (by decide) (by decide) x, ?_⟩
  refine List.forall_mem_cons.2 ⟨fun x => shown_at x0 1 2 5 6 _ inb_S1x3x256x704_S1x1x64x64_0_1_128_320 _ inb_S1x15x64x64_S1x1x64x64_0_6_0_0 rfl rfl (by decide) (by decide) x, ?_⟩
  refine List.forall_mem_cons.2 ⟨fun x => shown_at x0 1 2 4 5 _ inb_S1x3x256x704_S1x1x64x64_0_1_128_256 _ inb_S1x15x64x64_S1x1x64x64_0_5_0_0 rfl rfl (by decide) (by decide) x, ?_⟩
  refine List.forall_mem_cons.2 ⟨fun x => shown_at x0 1 2 3 4 _ inb_S1x3x256x704_S1x1x64x64_0_1_128_192 _ inb_S1x15x64x64_S1x1x64x64_0_4_0_0 rfl rfl (by decide) (by decide) x, ?_⟩
  refine List.forall_mem_cons.2 ⟨fun x => shown_at x0 1 2 2 3 _ inb_S1x3x256x704_S1x1x64x64_0_1_128_128 _ inb_S1x15x64x64_S1x1x64x64_0_3_0_0 rfl rfl (by decide) (by decide) x, ?_⟩
  refine List.forall_mem_cons.2 ⟨fun x => blank_at x0 1 2 1 _ inb_S1x3x256x704_S1x1x64x64_0_1_128_64 rfl (by decide) x, ?_⟩
  refine List.forall_mem_cons.2 ⟨fun x => blank_at x0 1 2 0 _ inb_S1x3x256x704_S1x1x64x64_0_1_128_0 rfl (by decide) x, ?_⟩
  refine List.forall_mem_cons.2 ⟨fun x => blank_at x0 1 1 10 _ inb_S1x3x256x704_S1x1x64x64_0_1_64_640 rfl (by decide) x, ?_⟩
  refine List.forall_mem_cons.2 ⟨fun x => blank_at x0 1 1 9 _ inb_S1x3x256x704_S1x1x64x64_0_1_64_576 rfl (by decide) x, ?_⟩
  refine List.forall_mem_cons.2 ⟨fun x => shown_at x0 1 1 8 10 _ inb_S1x3x256x704_S1x1x64x64_0_1_64_512 _ inb_S1x15x64x64_S1x1x64x64_0_10_0_0 rfl rfl (by decide) (by decide) x, ?_⟩
  refine List.forall_mem_cons.2 ⟨fun x => shown_at x0 1 1 7 9 _ inb_S1x3x256x704_S1x1x64x64_0_1_64_448 _ inb_S1x15x64x64_S1x1x64x64_0_9_0_0 rfl rfl (by decide) (by decide) x, ?_⟩
  refine List.forall_mem_cons.2 ⟨fun x => shown_at x0 1 1 6 8 _ inb_S1x3x256x704_S1x1x64x64_0_1_64_384 _ inb_S1x15x64x64_S1x1x64x64_0_8_0_0 rfl rfl (by decide) (by decide) x, ?_⟩
  refine List.forall_mem_cons.2 ⟨fun x => shown_at x0 1 1 5 7 _ inb_S1x3x256x704_S1x1x64x64_0_1_64_320 _ inb_S1x15x64x64_S1x1x64x64_0_7_0_0 rfl rfl (by decide) (by decide) x, ?_⟩
  refine List.forall_mem_cons.2 ⟨fun x => shown_at x0 1 1 4 6 _ inb_S1x3x256x704_S1x1x64x64_0_1_64_256 _ inb_S1x15x64x64_S1x1x64x64_0_6_0_0 rfl rfl (by decide) (by decide) x, ?_⟩
  refine List.forall_mem_cons.2 ⟨fun x => shown_at x0 1 1 3 5 _ inb_S1x3x256x704_S1x1x64x64_0_1_64_192 _ inb_S1x15x64x64_S1x1x64x64_0_5_0_0 rfl rfl (by decide) (by decide) x, ?_⟩
  refine List.forall_mem_cons.2 ⟨fun x => shown_at x0 1 1 2 4 _ inb_S1x3x256x704_S1x1x64x64_0_1_64_128 _ inb_S1x15x64x64_S1x1x64x64_0_4_0_0 rfl rfl (by decide) (by decide) x, ?_⟩
  refine List.forall_mem_cons.2 ⟨fun x => shown_at x0 1 1 1 3 _ inb_S1x3x256x704_S1x1x64x64_0_1_64_64 _ inb_S1x15x64x64_S1x1x64x64_0_3_0_0 rfl rfl (by decide) (by decide) x, ?_⟩
  refine List.forall_mem_cons.2 ⟨fun x => blank_at x0 1 1 0 _ inb_S1x3x256x704_S1x1x64x64_0_1_64_0 rfl (by decide) x, ?_⟩
  refine List.forall_mem_cons.2 ⟨fun x => blank_at x0 1 0 10 _ inb_S1x3x256x704_S1x1x64x64_0_1_0_640 rfl (by decide) x, ?_⟩
  refine List.forall_mem_cons.2 ⟨fun x => blank_at x0 1 0 9 _ inb_S1x3x256x704_S1x1x64x64_0_1_0_576 rfl (by decide) x, ?_⟩
  refine List.forall_mem_cons.2 ⟨fun x => blank_at x0 1 0 8 _ inb_S1x3x256x704_S1x1x64x64_0_1_0_512 rfl (by decide) x, ?_⟩
  refine List.forall_mem_cons.2 ⟨fun x => shown_at x0 1 0 7 10 _ inb_S1x3x256x704_S1x1x64x64_0_1_0_448 _ inb_S1x15x64x64_S1x1x64x64_0_10_0_0 rfl rfl (by decide) (by decide) x, ?_⟩
  refine List.forall_mem_cons.2 ⟨fun x => shown_at x0 1 0 6 9 _ inb_S1x3x256x704_S1x1x64x64_0_1_0_384 _ inb_S1x15x64x64_S1x1x64x64_0_9_0_0 rfl rfl (by decide) (by decide) x, ?_⟩
  refine List.forall_mem_cons.2 ⟨fun x => shown_at x0 1 0 5 8 _ inb_S1x3x256x704_S1x1x64x64_0_1_0_320 _ inb_S1x15x64x64_S1x1x64x64_0_8_0_0 rfl rfl (by decide) (by decide) x, ?_⟩
  refine List.forall_mem_cons.2 ⟨fun x => shown_at x0 1 0 4 7 _ inb_S1x3x256x704_S1x1x64x64_0_1_0_256 _ inb_S1x15x64x64_S1x1x64x64_0_7_0_0 rfl rfl (by decide) (by decide) x, ?_⟩
  refine List.forall_mem_cons.2 ⟨fun x => shown_at x0 1 0 3 6 _ inb_S1x3x256x704_S1x1x64x64_0_1_0_192 _ inb_S1x15x64x64_S1x1x64x64_0_6_0_0 rfl rfl (by decide) (by decide) x, ?_⟩
  refine List.forall_mem_cons.2 ⟨fun x => shown_at x0 1 0 2 5 _ inb_S1x3x256x704_S1x1x64x64_0_1_0_128 _ inb_S1x15x64x64_S1x1x64x64_0_5_0_0 rfl rfl (by decide) (by decide) x, ?_⟩
  refine List.forall_mem_cons.2 ⟨fun x => shown_at x0 1 0 1 4 _ inb_S1x3x256x704_S1x1x64x64_0_1_0_64 _ inb_S1x15x64x64_S1x1x64x64_0_4_0_0 rfl rfl (by decide) (by decide) x, ?_⟩
  refine List.forall_mem_cons.2 ⟨fun x => shown_at x0 1 0 0 3 _ inb_S1x3x256x704_S1x1x64x64_0_1_0_0 _ inb_S1x15x64x64_S1x1x64x64_0_3_0_0 rfl rfl (by decide) (by decide) x, ?_⟩
  refine List.forall_mem_cons.2 ⟨fun x => blank_at x0 0 3 10 _ inb_S1x3x256x704_S1x1x64x64_0_0_192_640 rfl (by decide) x, ?_⟩
  refine List.forall_mem_cons.2 ⟨fun x => blank_at x0 0 3 9 _ inb_S1x3x256x704_S1x1x64x64_0_0_192_576 rfl (by decide) x, ?_⟩
  refine List.forall_mem_cons.2 ⟨fun x => blank_at x0 0 3 8 _ inb_S1x3x256x704_S1x1x64x64_0_0_192_512 rfl (by decide) x, ?_⟩
  refine List.forall_mem_cons.2 ⟨fun x => shown_at x0 0 3 7 11 _ inb_S1x3x256x704_S1x1x64x64_0_0_192_448 _ inb_S1x15x64x64_S1x1x64x64_0_11_0_0 rfl rfl (by decide) (by decide) x, ?_⟩
  refine List.forall_mem_cons.2 ⟨fun x => shown_at x0 0 3 6 10 _ inb_S1x3x256x704_S1x1x64x64_0_0_192_384 _ inb_S1x15x64x64_S1x1x64x64_0_10_0_0 rfl rfl (by decide) (by decide) x, ?_⟩
  refine List.forall_mem_cons.2 ⟨fun x => shown_at x0 0 3 5 9 _ inb_S1x3x256x704_S1x1x64x64_0_0_192_320 _ inb_S1x15x64x64_S1x1x64x64_0_9_0_0 rfl rfl (by decide) (by decide) x, ?_⟩
  refine List.forall_mem_cons.2 ⟨fun x => shown_at x0 0 3 4 8 _ inb_S1x3x256x704_S1x1x64x64_0_0_192_256 _ inb_S1x15x64x64_S1x1x64x64_0_8_0_0 rfl rfl (by decide) (by decide) x, ?_⟩
  refine List.forall_mem_cons.2 ⟨fun x => shown_at x0 0 3 3 7 _ inb_S1x3x256x704_S1x1x64x64_0_0_192_192 _ inb_S1x15x64x64_S1x1x64x64_0_7_0_0 rfl rfl (by decide) (by decide) x, ?_⟩
  refine List.forall_mem_cons.2 ⟨fun x => shown_at x0 0 3 2 6 _ inb_S1x3x256x704_S1x1x64x64_0_0_192_128 _ inb_S1x15x64x64_S1x1x64x64_0_6_0_0 rfl rfl (by decide) (by decide) x, ?_⟩
  refine List.forall_mem_cons.2 ⟨fun x => shown_at x0 0 3 1 5 _ inb_S1x3x256x704_S1x1x64x64_0_0_192_64 _ inb_S1x15x64x64_S1x1x64x64_0_5_0_0 rfl rfl (by decide) (by decide) x, ?_⟩
  refine List.forall_mem_cons.2 ⟨fun x => shown_at x0 0 3 0 4 _ inb_S1x3x256x704_S1x1x64x64_0_0_192_0 _ inb_S1x15x64x64_S1x1x64x64_0_4_0_0 rfl rfl (by decide) (by decide) x, ?_⟩
  refine List.forall_mem_cons.2 ⟨fun x => blank_at x0 0 2 10 _ inb_S1x3x256x704_S1x1x64x64_0_0_128_640 rfl (by decide) x, ?_⟩
  refine List.forall_mem_cons.2 ⟨fun x => blank_at x0 0 2 9 _ inb_S1x3x256x704_S1x1x64x64_0_0_128_576 rfl (by decide) x, ?_⟩
  refine List.forall_mem_cons.2 ⟨fun x => blank_at x0 0 2 8 _ inb_S1x3x256x704_S1x1x64x64_0_0_128_512 rfl (by decide) x, ?_⟩
  refine List.forall_mem_cons.2 ⟨fun x => shown_at x0 0 2 7 12 _ inb_S1x3x256x704_S1x1x64x64_0_0_128_448 _ inb_S1x15x64x64_S1x1x64x64_0_12_0_0 rfl rfl (by decide) (by decide) x, ?_⟩
  refine List.forall_mem_cons.2 ⟨fun x => shown_at x0 0 2 6 11 _ inb_S1x3x256x704_S1x1x64x64_0_0_128_384 _ inb_S1x15x64x64_S1x1x64x64_0_11_0_0 rfl rfl (by decide) (by decide) x, ?_⟩
  refine List.forall_mem_cons.2 ⟨fun x => shown_at x0 0 2 5 10 _ inb_S1x3x256x704_S1x1x64x64_0_0_128_320 _ inb_S1x15x64x64_S1x1x64x64_0_10_0_0 rfl rfl (by decide) (by decide) x, ?_⟩
  refine List.forall_mem_cons.2 ⟨fun x => shown_at x0 0 2 4 9 _ inb_S1x3x256x704_S1x1x64x64_0_0_128_256 _ inb_S1x15x64x64_S1x1x64x64_0_9_0_0 rfl rfl (by decide) (by decide) x, ?_⟩
  refine List.forall_mem_cons.2 ⟨fun x => shown_at x0 0 2 3 8 _ inb_S1x3x256x704_S1x1x64x64_0_0_128_192 _ inb_S1x15x64x64_S1x1x64x64_0_8_0_0 rfl rfl (by decide) (by decide) x, ?_⟩
  refine List.forall_mem_cons.2 ⟨fun x => shown_at x0 0 2 2 7 _ inb_S1x3x256x704_S1x1x64x64_0_0_128_128 _ inb_S1x15x64x64_S1x1x64x64_0_7_0_0 rfl rfl (by decide) (by decide) x, ?_⟩
  refine List.forall_mem_cons.2 ⟨fun x => shown_at x0 0 2 1 6 _ inb_S1x3x256x704_S1x1x64x64_0_0_128_64 _ inb_S1x15x64x64_S1x1x64x64_0_6_0_0 rfl rfl (by decide) (by decide) x, ?_⟩
  refine List.forall_mem_cons.2 ⟨fun x => shown_at x0 0 2 0 5 _ inb_S1x3x256x704_S1x1x64x64_0_0_128_0 _ inb_S1x15x64x64_S1x1x64x64_0_5_0_0 rfl rfl (by decide) (by decide) x, ?_⟩
  refine List.forall_mem_cons.2 ⟨fun x => blank_at x0 0 1 10 _ inb_S1x3x256x704_S1x1x64x64_0_0_64_640 rfl (by decide) x, ?_⟩
  refine List.forall_mem_cons.2 ⟨fun x => blank_at x0 0 1 9 _ inb_S1x3x256x704_S1x1x64x64_0_0_64_576 rfl (by decide) x, ?_⟩
  refine List.forall_mem_cons.2 ⟨fun x => blank_at x0 0 1 8 _ inb_S1x3x256x704_S1x1x64x64_0_0_64_512 rfl (by decide) x, ?_⟩
  refine List.forall_mem_cons.2 ⟨fun x => shown_at x0 0 1 7 13 _ inb_S1x3x256x704_S1x1x64x64_0_0_64_448 _ inb_S1x15x64x64_S1x1x64x64_0_13_0_0 rfl rfl (by decide) (by decide) x, ?_⟩
  refine List.forall_mem_cons.2 ⟨fun x => shown_at x0 0 1 6 12 _ inb_S1x3x256x704_S1x1x64x64_0_0_64_384 _ inb_S1x15x64x64_S1x1x64x64_0_12_0_0 rfl rfl (by decide) (by decide) x, ?_⟩
  refine List.forall_mem_cons.2 ⟨fun x => shown_at x0 0 1 5 11 _ inb_S1x3x256x704_S1x1x64x64_0_0_64_320 _ inb_S1x15x64x64_S1x1x64x64_0_11_0_0 rfl rfl (by decide) (by decide) x, ?_⟩
  refine List.forall_mem_cons.2 ⟨fun x => shown_at x0 0 1 4 10 _ inb_S1x3x256x704_S1x1x64x64_0_0_64_256 _ inb_S1x15x64x64_S1x1x64x64_0_10_0_0 rfl rfl (by decide) (by decide) x, ?_⟩
  refine List.forall_mem_cons.2 ⟨fun x => shown_at x0 0 1 3 9 _ inb_S1x3x256x704_S1x1x64x64_0_0_64_192 _ inb_S1x15x64x64_S1x1x64x64_0_9_0_0 rfl rfl (by decide) (by decide) x, ?_⟩
  refine List.forall_mem_cons.2 ⟨fun x => shown_at x0 0 1 2 8 _ inb_S1x3x256x704_S1x1x64x64_0_0_64_128 _ inb_S1x15x64x64_S1x1x64x64_0_8_0_0 rfl rfl (by decide) (by decide) x, ?_⟩
  refine List.forall_mem_cons.2 ⟨fun x => shown_at x0 0 1 1 7 _ inb_S1x3x256x704_S1x1x64x64_0_0_64_64 _ inb_S1x15x64x64_S1x1x64x64_0_7_0_0 rfl rfl (by decide) (by decide) x, ?_⟩
  refine List.forall_mem_cons.2 ⟨fun x => shown_at x0 0 1 0 6 _ inb_S1x3x256x704_S1x1x64x64_0_0_64_0 _ inb_S1x15x64x64_S1x1x64x64_0_6_0_0 rfl rfl (by decide) (by decide) x, ?_⟩
  refine List.forall_mem_cons.2 ⟨fun x => blank_at x0 0 0 10 _ inb_S1x3x256x704_S1x1x64x64_0_0_0_640 rfl (by decide) x, ?_⟩
  refine List.forall_mem_cons.2 ⟨fun x => blank_at x0 0 0 9 _ inb_S1x3x256x704_S1x1x64x64_0_0_0_576 rfl (by decide) x, ?_⟩
  refine List.forall_mem_cons.2 ⟨fun x => blank_at x0 0 0 8 _ inb_S1x3x256x704_S1x1x64x64_0_0_0_512 rfl (by decide) x, ?_⟩
  refine List.forall_mem_cons.2 ⟨fun x => shown_at x0 0 0 7 14 _ inb_S1x3x256x704_S1x1x64x64_0_0_0_448 _ inb_S1x15x64x64_S1x1x64x64_0_14_0_0 rfl rfl (by decide) (by decide) x, ?_⟩
  refine List.forall_mem_cons.2 ⟨fun x => shown_at x0 0 0 6 13 _ inb_S1x3x256x704_S1x1x64x64_0_0_0_384 _ inb_S1x15x64x64_S1x1x64x64_0_13_0_0 rfl rfl (by decide) (by decide) x, ?_⟩
  refine List.forall_mem_cons.2 ⟨fun x => shown_at x0 0 0 5 12 _ inb_S1x3x256x704_S1x1x64x64_0_0_0_320 _ inb_S1x15x64x64_S1x1x64x64_0_12_0_0 rfl rfl (by decide) (by decide) x, ?_⟩
  refine List.forall_mem_cons.2 ⟨fun x => shown_at x0 0 0 4 11 _ inb_S1x3x256x704_S1x1x64x64_0_0_0_256 _ inb_S1x15x64x64_S1x1x64x64_0_11_0_0 rfl rfl (by decide) (by decide) x, ?_⟩
  refine List.forall_mem_cons.2 ⟨fun x => shown_at x0 0 0 3 10 _ inb_S1x3x256x704_S1x1x64x64_0_0_0_192 _ inb_S1x15x64x64_S1x1x64x64_0_10_0_0 rfl rfl (by decide) (by decide) x, ?_⟩
  refine List.forall_mem_cons.2 ⟨fun x => shown_at x0 0 0 2 9 _ inb_S1x3x256x704_S1x1x64x64_0_0_0_128 _ inb_S1x15x64x64_S1x1x64x64_0_9_0_0 rfl rfl (by decide) (by decide) x, ?_⟩
  refine List.forall_mem_cons.2 ⟨fun x => shown_at x0 0 0 1 8 _ inb_S1x3x256x704_S1x1x64x64_0_0_0_64 _ inb_S1x15x64x64_S1x1x64x64_0_8_0_0 rfl rfl (by decide) (by decide) x, ?_⟩
  refine List.forall_mem_cons.2 ⟨fun x => shown_at x0 0 0 0 7 _ inb_S1x3x256x704_S1x1x64x64_0_0_0_0 _ inb_S1x15x64x64_S1x1x64x64_0_7_0_0 rfl rfl (by decide) (by decide) x, ?_⟩
  exact fun _ h => absurd h List.not_mem_nil

/-! The tables of all the heads. -/

theorem index1_0 : ∀ t : Fin cfg1.N, win1_0.index t = ![t.val, 0, 0, 0] := by decide +kernel
theorem index1_1 : ∀ t : Fin cfg1.N, win1_1.index t = ![t.val, 0, 0, 0] := by decide +kernel

theorem head_lt (t : Fin cfg1.N) : t.val < 16 := t.isLt

variable (V : (c : Dev nD) → (b : Ref sig .tc) → Buf (Elt Ideal) ((c : Thread nD τ).loc b)) (c : Dev nD)

theorem iblk1_at (t : Fin cfg1.N) (x : S1x15x64x64.Idx) :
    iblk1 (F := Ideal) V c 0 t x = V c main_v28 (ix4 ⟨t.val, head_lt t⟩ (x 1 : Fin 15) (x 2 : Fin 64) (x 3 : Fin 64)) := by
  show V c main_v28 ((win1_0.rect t).emb x) = _
  have x0 : (x 0).val < 1 := (x 0).isLt
  refine congrArg (V c main_v28) (funext fun a => Fin.ext ?_)
  refine (win1_0.rect_emb_val t x a).trans ?_
  rw [congrFun (index1_0 t) a]
  fin_cases a
  · show t.val * 1 + (x 0).val = t.val; omega
  · show 0 * 15 + (x 1).val = (x 1).val; omega
  · show 0 * 64 + (x 2).val = (x 2).val; omega
  · show 0 * 64 + (x 3).val = (x 3).val; omega

/-- All the tables, from the relative biases by row offset. -/
def tables (w : S16x15x64x64.Idx → EReal) : S16x3x256x704.Idx → EReal :=
  fun y => tableAt (fun x => w (ix4 (y 0 : Fin 16) (x 1 : Fin 15) (x 2 : Fin 64) (x 3 : Fin 64))) (y 1).val (y 2).val (y 3).val

theorem tables_arr : (dat1 (F := Ideal) V c).arrAt 1 cfg1.N = tables (V c main_v28) := by
  refine Dat.arrAt_eq_of_cover (dat1 (F := Ideal) V c) 1 _ (fun t hf => ?_) (fun i => ?_)
  · rw [show (dat1 (F := Ideal) V c).flushed 1 t = (dat1 (F := Ideal) V c).after 1 t from rfl, after1_1]
    funext y
    refine (table_eq _ y).trans ?_
    have e : ∀ a, (((win1_1.rect t).emb y) a).val = ![t.val, 0, 0, 0] a * S1x3x256x704.size a + (y a).val := fun a =>
      (win1_1.rect_emb_val t y a).trans (by rw [congrFun (index1_1 t) a])
    have y0 : (y 0).val < 1 := (y 0).isLt
    have e0 : (((win1_1.rect t).emb y) 0).val = t.val := (e 0).trans (by show t.val * 1 + (y 0).val = t.val; omega)
    have e1 : (((win1_1.rect t).emb y) 1).val = (y 1).val := (e 1).trans (by show 0 * 3 + (y 1).val = (y 1).val; omega)
    have e2 : (((win1_1.rect t).emb y) 2).val = (y 2).val := (e 2).trans (by show 0 * 256 + (y 2).val = (y 2).val; omega)
    have e3 : (((win1_1.rect t).emb y) 3).val = (y 3).val := (e 3).trans (by show 0 * 704 + (y 3).val = (y 3).val; omega)
    show tableAt (iblk1 (F := Ideal) V c 0 t) _ _ _ = tableAt (fun x => V c main_v28 (ix4 (((win1_1.rect t).emb y) 0 : Fin 16) (x 1 : Fin 15) (x 2 : Fin 64) (x 3 : Fin 64))) (((win1_1.rect t).emb y) 1).val (((win1_1.rect t).emb y) 2).val (((win1_1.rect t).emb y) 3).val
    rw [e1, e2, e3]
    refine congrArg (fun z => tableAt z _ _ _) (funext fun x => ?_)
    refine (iblk1_at V c t x).trans ?_
    refine congrArg (fun z : Fin 16 => V c main_v28 (ix4 z (x 1 : Fin 15) (x 2 : Fin 64) (x 3 : Fin 64))) (Fin.ext e0.symm)
  · have i0 : (i 0).val < 16 := (i 0).isLt
    refine ⟨⟨(i 0).val, i0⟩, flush1_1 _, ?_⟩
    refine Finset.mem_map.mpr ⟨(ix4 (0 : Fin 1) (i 1 : Fin 3) (i 2 : Fin 256) (i 3 : Fin 704) : S1x3x256x704.Idx), Finset.mem_univ _, ?_⟩
    refine funext fun a => Fin.ext ?_
    refine (win1_1.rect_emb_val _ _ a).trans ?_
    rw [congrFun (index1_1 _) a]
    fin_cases a
    · show (i 0).val * 1 + 0 = (i 0).val; omega
    · show 0 * 3 + (i 1).val = (i 1).val; omega
    · show 0 * 256 + (i 2).val = (i 2).val; omega
    · show 0 * 704 + (i 3).val = (i 3).val; omega

/-! The relative biases by row offset: one product with a one-hot array. -/

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel

theorem iblk0_0 (t : Fin cfg0.N) (x : S240x32.Idx) : iblk0 (F := Ideal) V c 0 t x = V c main_v26 x := by
  show V c main_v26 ((win0_0.rect t).emb x) = _
  refine congrArg (V c main_v26) (funext fun a => Fin.ext ?_)
  refine (win0_0.rect_emb_val t x a).trans ?_
  rw [congrFun (index0_0 t) a]
  fin_cases a <;> simp

theorem iblk0_1 (t : Fin cfg0.N) (x : S32x4096.Idx) : iblk0 (F := Ideal) V c 1 t x = V c main_v24 x := by
  show V c main_v24 ((win0_1.rect t).emb x) = _
  refine congrArg (V c main_v24) (funext fun a => Fin.ext ?_)
  refine (win0_1.rect_emb_val t x a).trans ?_
  rw [congrFun (index0_1 t) a]
  fin_cases a <;> simp

/-- A product in two halves of each factor: the halves' products summed. -/
def halves {n : Nat} (a b : Fin n → EReal) : EReal :=
  ∑ k, a k * b k + (∑ k, (a k - a k) * b k + ∑ k, a k * (b k - b k))

set_option maxHeartbeats 2000000 in
theorem prod_apply (a : Vec Ideal S240x32 .f32) (b : Vec Ideal S32x4096 .f32) (r : Fin 240) (l : Fin 4096) :
    k0_pay1 a b (ix2 r l) = halves (fun k : Fin 32 => a (ix2 r k)) (fun k : Fin 32 => b (ix2 k l)) := by
  pointwise [k0_pay1]
  unfold halves
  rfl

/-- The relative biases by row offset, from the padded bias rows and the one-hot array. -/
def toeplitz (a : S240x32.Idx → EReal) (b : S32x4096.Idx → EReal) : S240x4096.Idx → EReal :=
  fun y => halves (fun k : Fin 32 => a (ix2 (y 0 : Fin 240) k)) (fun k : Fin 32 => b (ix2 k (y 1 : Fin 4096)))

theorem prod_arr : (dat0 (F := Ideal) V c).arrAt 2 cfg0.N = toeplitz (V c main_v26) (V c main_v24) := by
  refine Dat.arrAt_eq_of_cover (dat0 (F := Ideal) V c) 2 _ (fun t hf => ?_) (fun i => ?_)
  · rw [show (dat0 (F := Ideal) V c).flushed 2 t = (dat0 (F := Ideal) V c).after 2 t from rfl, after0_2]
    funext y
    have he : ((win0_2.rect t).emb y) = y := funext fun a => Fin.ext ((win0_2.rect_emb_val t y a).trans (by
      rw [congrFun (index0_2 t) a]; fin_cases a <;> simp))
    show out0_2 (F := Ideal) (iblk0 (F := Ideal) V c 0 t) (iblk0 (F := Ideal) V c 1 t) y = toeplitz (V c main_v26) (V c main_v24) ((win0_2.rect t).emb y)
    rw [he]
    unfold out0_2
    refine (View.canon_apply_of_pieces (Val := Elt Ideal) (S := S240x4096) (e := .f32) (fun y => k0_pay1 (View.ld (iblk0 (F := Ideal) V c 0 t) r0_0) (View.ld (iblk0 (F := Ideal) V c 1 t) r0_1) y) _ (fun p hp x => ?_) y (cover0_2 _ y)).trans ?_
    · obtain rfl := List.mem_singleton.mp hp
      refine congrArg (k0_pay1 _ _) (funext fun a => Fin.ext ?_)
      show (x a).val = (![0, 0] : Fin 2 → Nat) a + 1 * (x a).val
      fin_cases a <;> simp
    · refine (congrArg (k0_pay1 _ _) (eq_ix2 y)).trans ((prod_apply _ _ _ _).trans ?_)
      refine congrArg₂ halves (funext fun k => ?_) (funext fun k => ?_)
      · refine (ld_at _ _ _ _ _ (ix2 (y 0 : Fin 240) k) fun a => ?_).trans (iblk0_0 V c t _)
        fin_cases a <;> simp
      · refine (ld_at _ _ _ _ _ (ix2 k (y 1 : Fin 4096)) fun a => ?_).trans (iblk0_1 V c t _)
        fin_cases a <;> simp
  · refine ⟨⟨0, by decide⟩, flush0_2 _, ?_⟩
    refine Finset.mem_map.mpr ⟨(i : S240x4096.Idx), Finset.mem_univ _, ?_⟩
    refine funext fun a => Fin.ext ?_
    refine (win0_2.rect_emb_val _ _ a).trans ?_
    rw [congrFun (index0_2 _) a]
    fin_cases a <;> simp

end Cert.Nat
end
end
-- ==== Proof.HostIn.lean ====
/- What the host operations before the kernels leave in the arrays the kernels read. -/
module

public import proofs.«01_k».proof.Proof.Assemble
public import Idealize.ShloMosaic.Lib.StableHlo.Run
public import Idealize.ShloMosaic.Lib.KernelVsHost
public import Idealize.ShloMosaic.Lib.Pointwise

@[expose] public section
set_option maxRecDepth 16384

noncomputable section
namespace Cert.Nat
open Idealize.ShloMosaic Idealize.ShloMosaic.TcCoe Cert.KernelIdeal Cert.KernelIdeal.Gen

section Stretches
variable (X : Valuation τ sig (Elt Ideal))

/-- The queries, scaled. -/
def scaled (q : S2x16x4096x64.Idx → EReal) : S2x16x4096x64.Idx → EReal := fun i => q i * Ideal.ofBits .f32 0x3E000000#32

theorem s0_v2 : StableHlo.after hostOps0 X (Proc.devRef .tc main_v2) = scaled (X (Proc.devRef .tc main_arg0)) := by
  rw [hostOps0]; after_results; rfl
theorem s0_v3 : StableHlo.after hostOps0 X (Proc.devRef .tc main_v3) = X (Proc.devRef .tc main_arg1) := by
  rw [hostOps0]; after_results; rfl
theorem s0_v4 : StableHlo.after hostOps0 X (Proc.devRef .tc main_v4) = X (Proc.devRef .tc main_arg2) := by
  rw [hostOps0]; after_results; rfl

/-- The relative column offset, before clipping. -/
def offs : IVec S64x64 32 :=
  have a : IVec S64x64 32 := broadcastInDim S64x64 ![0, 1] bcast_S1x64_S64x64_0_1 (broadcastInDim S1x64 ![1] bcast_S64_S1x64_1 (iotaInDim S64 32 0))
  have b : IVec S64x64 32 := broadcastInDim S64x64 ![0, 1] bcast_S64x1_S64x64_0_1 (broadcastInDim S64x1 ![0] bcast_S64_S64x1_0 (iotaInDim S64 32 0))
  subi (addi (subi a b) (broadcastInDim S64x64 ![] bcast_S_S64x64 (constantI S_ 32 16#32))) (broadcastInDim S64x64 ![] bcast_S_S64x64 (constantI S_ 32 1#32))

theorem s0_v15 : StableHlo.after hostOps0 X (Proc.devRef .tc main_v15) = offs := by
  rw [hostOps0]; after_results; rfl
theorem s0_c1 : StableHlo.after hostOps0 X (Proc.devRef .tc main_c_1) = constantI S_ 32 0#32 := by
  rw [hostOps0]; after_results
theorem s0_c2 : StableHlo.after hostOps0 X (Proc.devRef .tc main_c_2) = constantI S_ 32 30#32 := by
  rw [hostOps0]; after_results

/-- The clip of an array between two bounds. -/
def clip (lo hi : IVec S_ 32) (x : IVec S64x64 32) : IVec S64x64 32 :=
  minsi (broadcastInDim S64x64 ![] bcast_S_S64x64 hi) (maxsi (broadcastInDim S64x64 ![] bcast_S_S64x64 lo) x)

theorem s1_v16 : StableHlo.after hostOps0_1 X (Proc.devRef .tc main_v16)
    = clip (X (Proc.devRef .tc main_c_1)) (X (Proc.devRef .tc main_c_2)) (X (Proc.devRef .tc main_v15)) := by
  rw [hostOps0_1]; after_results; rfl

/-- The one-hot array of the clipped offsets. -/
def hot (x : IVec S64x64 32) : FVec Ideal S32x4096 .f32 :=
  have a : IVec S32x64x64 32 := broadcastInDim S32x64x64 ![0, 1, 2] bcast_S1x64x64_S32x64x64_0_1_2 (broadcastInDim S1x64x64 ![1, 2] bcast_S64x64_S1x64x64_1_2 x)
  have b : IVec S32x64x64 32 := broadcastInDim S32x64x64 ![0, 1, 2] bcast_S32x1x1_S32x64x64_0_1_2 (broadcastInDim S32x1x1 ![0] bcast_S32_S32x1x1_0 (iotaInDim S32 32 0))
  uitofp .f32 (shapeCast S32x4096 (cmpi .eq a b) shapeCasts_S32x64x64_S32x4096)

theorem s2_v24 : StableHlo.after hostOps0_2 X (Proc.devRef .tc main_v24) = hot (X (Proc.devRef .tc main_v16)) := by
  rw [hostOps0_2]; after_results; rfl
theorem s2_v25 : StableHlo.after hostOps0_2 X (Proc.devRef .tc main_v25) = shapeCast S240x31 (X (Proc.devRef .tc main_arg5) : S16x15x31.Idx → EReal) shapeCasts_S16x15x31_S240x31 := by
  rw [hostOps0_2]; after_results; rfl
theorem s2_c3 : StableHlo.after hostOps0_2 X (Proc.devRef .tc main_c_3) = constantI S_ 32 0#32 := by
  rw [hostOps0_2]; after_results

theorem s4_v28 : StableHlo.after hostOps1 X (Proc.devRef .tc main_v28) = shapeCast S16x15x64x64 (X (Proc.devRef .tc main_v27) : S240x4096.Idx → EReal) shapeCasts_S240x4096_S16x15x64x64 := by
  rw [hostOps1]; after_results; rfl

/-- The bias rows with one padding column. -/
def padded (x : S240x31.Idx → EReal) (v : IVec S_ 32) : FVec Ideal S240x32 .f32 :=
  pad S240x32 ![0, 0] ![0, 1] ![0, 0] (x : FVec Ideal S240x31 .f32) (sitofp .f32 v : FVec Ideal S_ .f32) pads_S240x31_S240x32_000_010 h_S_

theorem s3_v26 : StableHlo.after hostOps0_3 X (Proc.devRef .tc main_v26) = padded (X (Proc.devRef .tc main_v25)) (X (Proc.devRef .tc main_c_3)) := by
  rw [hostOps0_3]; after_results; rfl

end Stretches

/-- The clipped offset of column `c` against column `r`. -/
def colShift (r c : Nat) : Nat := min 30 (c + 15 - r)

theorem clip_at : ∀ r c : Fin 64, clip (constantI S_ 32 0#32) (constantI S_ 32 30#32) offs (ix2 r c) = BitVec.ofNat 32 (colShift r.val c.val) := by
  intro r c
  pointwise [clip, offs]
  revert r c
  decide +kernel

theorem hot_at (x : IVec S64x64 32) (k : Fin 32) (r c : Fin 64) :
    hot x (ix2 k ⟨64 * r.val + c.val, by omega⟩) = if x (ix2 r c) = BitVec.ofNat 32 k.val then (1 : EReal) else 0 := by
  unfold hot
  pointwise
  by_cases h : x (ix2 r c) = BitVec.ofNat 32 k.val
  · rw [if_pos h, h]; simp [IntOp.cmpi, FloatOps.uitofp]
  · rw [if_neg h]; simp [IntOp.cmpi, FloatOps.uitofp, h]

theorem padded_at (x : S240x31.Idx → EReal) (v : IVec S_ 32) (r : Fin 240) (k : Fin 31) :
    padded x v (ix2 r ⟨k.val, by omega⟩) = x (ix2 r k) := by
  unfold padded
  refine pad_apply_of_inside _ _ _ _ _ _ _ _ _ fun a => ?_
  fin_cases a
  · show r.val = 0 + r.val * (0 + 1); omega
  · show k.val = 0 + k.val * (0 + 1); omega

/-- A sum of products with a one-hot array picks one entry. -/
theorem halves_hot {n : Nat} (a b : Fin n → EReal) (j : Fin n) (hb : ∀ k, b k = if k = j then 1 else 0) (h1 : a j ≠ ⊤) (h2 : a j ≠ ⊥) :
    halves a b = a j := by
  have z : ∀ k, b k - b k = 0 := fun k => by
    rw [hb k]
    split
    · show ((1 : ℝ) : EReal) - ((1 : ℝ) : EReal) = 0
      rw [← EReal.coe_sub, sub_self]; rfl
    · simp
  have e1 : ∑ k, a k * b k = a j := by
    rw [Finset.sum_eq_single j (fun k _ hk => by rw [hb, if_neg hk, mul_zero]) (fun h => absurd (Finset.mem_univ _) h), hb, if_pos rfl, mul_one]
  have e2 : ∑ k, (a k - a k) * b k = 0 := by
    rw [Finset.sum_eq_single j (fun k _ hk => by rw [hb, if_neg hk, mul_zero]) (fun h => absurd (Finset.mem_univ _) h), EReal.sub_self h1 h2, zero_mul]
  have e3 : ∑ k, a k * (b k - b k) = 0 := Finset.sum_eq_zero fun k _ => by rw [z, mul_zero]
  unfold halves
  rw [e1, e2, e3, add_zero, add_zero]

variable (m : (ℓ : Loc nD τ sig) → Buf (Elt Ideal) ℓ) (ρ : Dev nD → PrngReg) (c : Dev nD)

theorem w7_of (r : Ref sig .tc) (h1 : ∀ w, Pipeline.arrRef spec1 w ≠ r) (h2 : r ∉ hostOps1_W) (h3 : ∀ w, Pipeline.arrRef spec0 w ≠ r) (h4 : r ∉ hostOps0_3_W) (h5 : r ∉ hostOps0_2_W) (h6 : r ∉ hostOps0_1_W) :
    W7 m ρ c (Proc.devRef .tc r) = W1 m ρ c (Proc.devRef .tc r) :=
  (W7_of_ne m ρ c r h1).trans <| (W6_of m ρ c r h2).trans <| (W5_of_ne m ρ c r h3).trans <| (W4_of m ρ c r h4).trans <| (W3_of m ρ c r h5).trans (W2_of m ρ c r h6)

theorem v7_v2 : V7 m ρ c main_v2 = scaled (m ((c : Thread nD τ).loc main_arg0)) :=
  (w7_of m ρ c main_v2 (by decide) (by decide) (by decide) (by decide) (by decide) (by decide)).trans (s0_v2 _)
theorem v7_v3 : V7 m ρ c main_v3 = m ((c : Thread nD τ).loc main_arg1) :=
  (w7_of m ρ c main_v3 (by decide) (by decide) (by decide) (by decide) (by decide) (by decide)).trans (s0_v3 _)
theorem v7_v4 : V7 m ρ c main_v4 = m ((c : Thread nD τ).loc main_arg2) :=
  (w7_of m ρ c main_v4 (by decide) (by decide) (by decide) (by decide) (by decide) (by decide)).trans (s0_v4 _)
theorem v7_arg3 : V7 m ρ c main_arg3 = m ((c : Thread nD τ).loc main_arg3) := W7_args m ρ c main_arg3 (by decide)
theorem v7_arg4 : V7 m ρ c main_arg4 = m ((c : Thread nD τ).loc main_arg4) := W7_args m ρ c main_arg4 (by decide)

theorem v4_v24 : V4 m ρ c main_v24 = hot (clip (constantI S_ 32 0#32) (constantI S_ 32 30#32) offs) := by
  refine (W4_of m ρ c main_v24 (by decide)).trans ((s2_v24 _).trans (congrArg hot ((s1_v16 _).trans ?_)))
  rw [show W1 m ρ c (Proc.devRef .tc main_c_1) = _ from s0_c1 _, show W1 m ρ c (Proc.devRef .tc main_c_2) = _ from s0_c2 _, show W1 m ρ c (Proc.devRef .tc main_v15) = _ from s0_v15 _]

theorem v4_v26 : V4 m ρ c main_v26
    = padded (shapeCast S240x31 (m ((c : Thread nD τ).loc main_arg5) : S16x15x31.Idx → EReal) shapeCasts_S16x15x31_S240x31) (constantI S_ 32 0#32) := by
  refine (s3_v26 _).trans (congrArg₂ padded ((s2_v25 _).trans ?_) (s2_c3 _))
  rw [W2_args m ρ c main_arg5 (by decide)]

theorem v7_v29 : V7 m ρ c main_v29 = tables (shapeCast S16x15x64x64
    (toeplitz (padded (shapeCast S240x31 (m ((c : Thread nD τ).loc main_arg5) : S16x15x31.Idx → EReal) shapeCasts_S16x15x31_S240x31) (constantI S_ 32 0#32)) (hot (clip (constantI S_ 32 0#32) (constantI S_ 32 30#32) offs)))
    shapeCasts_S240x4096_S16x15x64x64) := by
  refine (W7_arr m ρ c 1).trans ((tables_arr (V6 m ρ) c).trans (congrArg tables ((s4_v28 _).trans ?_)))
  have h : W5 m ρ c (Proc.devRef .tc main_v27) = toeplitz (V4 m ρ c main_v26) (V4 m ρ c main_v24) := (W5_arr m ρ c 2).trans (prod_arr (V4 m ρ) c)
  rw [h, v4_v26, v4_v24]

/-- An entry of the relative biases by row offset. -/
theorem rel_at (rpb : S16x15x31.Idx → EReal) (hf : ∀ i, rpb i ≠ ⊤ ∧ rpb i ≠ ⊥) (h : Fin 16) (i : Fin 15) (r l : Fin 64) :
    shapeCast S16x15x64x64 (toeplitz (padded (shapeCast S240x31 rpb shapeCasts_S16x15x31_S240x31) (constantI S_ 32 0#32)) (hot (clip (constantI S_ 32 0#32) (constantI S_ 32 30#32) offs)))
        shapeCasts_S240x4096_S16x15x64x64 (ix4 h i r l)
      = rpb (ix3 h i ⟨colShift r.val l.val, by unfold colShift; omega⟩) := by
  have hc : colShift r.val l.val < 31 := by unfold colShift; omega
  have e : ∀ k : Fin 31, padded (shapeCast S240x31 rpb shapeCasts_S16x15x31_S240x31) (constantI S_ 32 0#32) (ix2 (⟨15 * h.val + i.val, by omega⟩ : Fin 240) ⟨k.val, by omega⟩) = rpb (ix3 h i k) := fun k => by
    rw [padded_at]
    pointwise
  have e2 : shapeCast S16x15x64x64 (toeplitz (padded (shapeCast S240x31 rpb shapeCasts_S16x15x31_S240x31) (constantI S_ 32 0#32)) (hot (clip (constantI S_ 32 0#32) (constantI S_ 32 30#32) offs)))
        shapeCasts_S240x4096_S16x15x64x64 (ix4 h i r l)
      = toeplitz (padded (shapeCast S240x31 rpb shapeCasts_S16x15x31_S240x31) (constantI S_ 32 0#32)) (hot (clip (constantI S_ 32 0#32) (constantI S_ 32 30#32) offs)) (ix2 (⟨15 * h.val + i.val, by omega⟩ : Fin 240) (⟨64 * r.val + l.val, by omega⟩ : Fin 4096)) := by
    pointwise
    simp only [Nat.mul_comm]
  rw [e2]
  refine (halves_hot _ _ (⟨colShift r.val l.val, by omega⟩ : Fin 32) (fun k => ?_) ?_ ?_).trans (e ⟨colShift r.val l.val, hc⟩)
  · refine (hot_at _ k r l).trans ?_
    rw [clip_at]
    refine if_congr ⟨fun h => Fin.ext ?_, fun h => by rw [h]⟩ rfl rfl
    have := congrArg BitVec.toNat h
    simp only [BitVec.toNat_ofNat] at this
    show k.val = colShift r.val l.val
    omega
  · exact ne_of_eq_of_ne (e ⟨colShift r.val l.val, hc⟩) (hf _).1
  · exact ne_of_eq_of_ne (e ⟨colShift r.val l.val, hc⟩) (hf _).2

end Cert.Nat
end
end
-- ==== Proof.Whole.lean ====
/- The attention kernel's whole result array, from the contents its six arrays have when the region is entered. -/
module

public import proofs.«01_k».proof.Proof.Block
public import Idealize.ShloMosaic.Lib.Pipeline.Value

@[expose] public section
set_option maxRecDepth 16384

noncomputable section
namespace Cert.Nat
open Idealize.ShloMosaic Idealize.ShloMosaic.TcCoe Cert.KernelIdeal Cert.KernelIdeal.Gen
open Idealize.ShloMosaic.Pipeline (Dat Window)

/-- A query row's scores over the whole arrays. -/
def scoreG (q k : S2x16x4096x64.Idx → EReal) (ck : S2x1x16x512x64.Idx → EReal) (bias : S16x3x256x704.Idx → EReal)
    (b : Fin 2) (h : Fin 16) (row : Fin 4096) (l : Fin 1216) : EReal :=
  if hl : l.val < 512 then ∑ x : Fin 64, q (ix4 b h row x) * ck (ix5 b 0 h ⟨l.val, hl⟩ x)
  else ∑ x : Fin 64, q (ix4 b h row x) * k (ix4 b h ⟨band (row.val / 256) + (l.val - 512), by have := band_le (row.val / 256); omega⟩ x)
    + bias (ix4 h (kase (row.val / 256)) ⟨row.val % 256, by omega⟩ ⟨l.val - 512, by omega⟩)

/-- The value rows beside them. -/
def valueG (v : S2x16x4096x64.Idx → EReal) (cv : S2x1x16x512x64.Idx → EReal)
    (b : Fin 2) (h : Fin 16) (row : Fin 4096) (d : Fin 64) (l : Fin 1216) : EReal :=
  if hl : l.val < 512 then cv (ix5 b 0 h ⟨l.val, hl⟩ d)
  else v (ix4 b h ⟨band (row.val / 256) + (l.val - 512), by have := band_le (row.val / 256); omega⟩ d)

/-- The result array: row `4096 b + row`, lane `64 h + d`. -/
def attK (q k v : S2x16x4096x64.Idx → EReal) (ck cv : S2x1x16x512x64.Idx → EReal) (bias : S16x3x256x704.Idx → EReal) : S8192x1024.Idx → EReal :=
  fun y => weighted
    (scoreG q k ck bias ⟨(y 0).val / 4096, by have : (y 0).val < 8192 := (y 0).isLt; omega⟩ ⟨(y 1).val / 64, by have : (y 1).val < 1024 := (y 1).isLt; omega⟩ ⟨(y 0).val % 4096, by omega⟩)
    (valueG v cv ⟨(y 0).val / 4096, by have : (y 0).val < 8192 := (y 0).isLt; omega⟩ ⟨(y 1).val / 64, by have : (y 1).val < 1024 := (y 1).isLt; omega⟩ ⟨(y 0).val % 4096, by omega⟩ ⟨(y 1).val % 64, by omega⟩)

theorem index_0 : ∀ t : Fin cfg2.N, win2_0.index t = ![t.val / 8, t.val % 8, 0, 0] := by decide +kernel
theorem index_1 : ∀ t : Fin cfg2.N, win2_1.index t = ![t.val / 8, t.val % 8, 0, 0] := by decide +kernel
theorem index_2 : ∀ t : Fin cfg2.N, win2_2.index t = ![t.val / 8, t.val % 8, 0, 0] := by decide +kernel
theorem index_3 : ∀ t : Fin cfg2.N, win2_3.index t = ![t.val / 8, 0, t.val % 8, 0, 0] := by decide +kernel
theorem index_4 : ∀ t : Fin cfg2.N, win2_4.index t = ![t.val / 8, 0, t.val % 8, 0, 0] := by decide +kernel
theorem index_5 : ∀ t : Fin cfg2.N, win2_5.index t = ![t.val % 8, 0, 0, 0] := by decide +kernel
theorem index_6 : ∀ t : Fin cfg2.N, win2_6.index t = ![t.val / 8, t.val % 8] := by decide +kernel

theorem point_lt (t : Fin cfg2.N) : t.val < 16 := t.isLt

variable (V : (c : Dev nD) → (b : Ref sig .tc) → Buf (Elt Ideal) ((c : Thread nD τ).loc b)) (c : Dev nD) (t : Fin cfg2.N)

theorem iblk_0 (h : Fin 2) (r : Fin 4096) (x : Fin 64) :
    iblk2 (F := Ideal) V c 0 t (ix4 0 h r x) = V c main_v2 (ix4 ⟨t.val / 8, by have := point_lt t; omega⟩ ⟨2 * (t.val % 8) + h.val, by omega⟩ r x) := by
  show V c main_v2 ((win2_0.rect t).emb (ix4 0 h r x)) = _
  refine congrArg (V c main_v2) (funext fun a => Fin.ext ?_)
  refine (win2_0.rect_emb_val t (ix4 0 h r x) a).trans ?_
  rw [congrFun (index_0 t) a]
  fin_cases a <;> simp [Nat.mul_comm]

theorem iblk_1 (h : Fin 2) (r : Fin 4096) (x : Fin 64) :
    iblk2 (F := Ideal) V c 1 t (ix4 0 h r x) = V c main_v3 (ix4 ⟨t.val / 8, by have := point_lt t; omega⟩ ⟨2 * (t.val % 8) + h.val, by omega⟩ r x) := by
  show V c main_v3 ((win2_1.rect t).emb (ix4 0 h r x)) = _
  refine congrArg (V c main_v3) (funext fun a => Fin.ext ?_)
  refine (win2_1.rect_emb_val t (ix4 0 h r x) a).trans ?_
  rw [congrFun (index_1 t) a]
  fin_cases a <;> simp [Nat.mul_comm]

theorem iblk_2 (h : Fin 2) (r : Fin 4096) (x : Fin 64) :
    iblk2 (F := Ideal) V c 2 t (ix4 0 h r x) = V c main_v4 (ix4 ⟨t.val / 8, by have := point_lt t; omega⟩ ⟨2 * (t.val % 8) + h.val, by omega⟩ r x) := by
  show V c main_v4 ((win2_2.rect t).emb (ix4 0 h r x)) = _
  refine congrArg (V c main_v4) (funext fun a => Fin.ext ?_)
  refine (win2_2.rect_emb_val t (ix4 0 h r x) a).trans ?_
  rw [congrFun (index_2 t) a]
  fin_cases a <;> simp [Nat.mul_comm]

theorem iblk_3 (h : Fin 2) (l : Fin 512) (x : Fin 64) :
    iblk2 (F := Ideal) V c 3 t (ix5 0 0 h l x) = V c main_arg3 (ix5 ⟨t.val / 8, by have := point_lt t; omega⟩ 0 ⟨2 * (t.val % 8) + h.val, by omega⟩ l x) := by
  show V c main_arg3 ((win2_3.rect t).emb (ix5 0 0 h l x)) = _
  refine congrArg (V c main_arg3) (funext fun a => Fin.ext ?_)
  refine (win2_3.rect_emb_val t (ix5 0 0 h l x) a).trans ?_
  rw [congrFun (index_3 t) a]
  fin_cases a <;> simp [Nat.mul_comm]

theorem iblk_4 (h : Fin 2) (l : Fin 512) (x : Fin 64) :
    iblk2 (F := Ideal) V c 4 t (ix5 0 0 h l x) = V c main_arg4 (ix5 ⟨t.val / 8, by have := point_lt t; omega⟩ 0 ⟨2 * (t.val % 8) + h.val, by omega⟩ l x) := by
  show V c main_arg4 ((win2_4.rect t).emb (ix5 0 0 h l x)) = _
  refine congrArg (V c main_arg4) (funext fun a => Fin.ext ?_)
  refine (win2_4.rect_emb_val t (ix5 0 0 h l x) a).trans ?_
  rw [congrFun (index_4 t) a]
  fin_cases a <;> simp [Nat.mul_comm]

theorem iblk_5 (h : Fin 2) (k : Fin 3) (r : Fin 256) (l : Fin 704) :
    iblk2 (F := Ideal) V c 5 t (ix4 h k r l) = V c main_v29 (ix4 ⟨2 * (t.val % 8) + h.val, by omega⟩ k r l) := by
  show V c main_v29 ((win2_5.rect t).emb (ix4 h k r l)) = _
  refine congrArg (V c main_v29) (funext fun a => Fin.ext ?_)
  refine (win2_5.rect_emb_val t (ix4 h k r l) a).trans ?_
  rw [congrFun (index_5 t) a]
  fin_cases a <;> simp [Nat.mul_comm]

theorem attK_at (q k v : S2x16x4096x64.Idx → EReal) (ck cv : S2x1x16x512x64.Idx → EReal) (bias : S16x3x256x704.Idx → EReal)
    (y : S8192x1024.Idx) (b : Fin 2) (h : Fin 16) (row : Fin 4096) (d : Fin 64)
    (h0 : (y 0).val = 4096 * b.val + row.val) (h1 : (y 1).val = 64 * h.val + d.val) :
    attK q k v ck cv bias y = weighted (scoreG q k ck bias b h row) (valueG v cv b h row d) := by
  unfold attK
  have a0 : (⟨(y 0).val / 4096, by have : (y 0).val < 8192 := (y 0).isLt; omega⟩ : Fin 2) = b := Fin.ext (by show (y 0).val / 4096 = b.val; omega)
  have a1 : (⟨(y 1).val / 64, by have : (y 1).val < 1024 := (y 1).isLt; omega⟩ : Fin 16) = h := Fin.ext (by show (y 1).val / 64 = h.val; omega)
  have a2 : (⟨(y 0).val % 4096, by omega⟩ : Fin 4096) = row := Fin.ext (by show (y 0).val % 4096 = row.val; omega)
  have a3 : (⟨(y 1).val % 64, by omega⟩ : Fin 64) = d := Fin.ext (by show (y 1).val % 64 = d.val; omega)
  rw [a0, a1, a2, a3]

theorem scoreB_eq (h : Fin 2) (row : Fin 4096) :
    scoreB (iblk2 (F := Ideal) V c 0 t) (iblk2 (F := Ideal) V c 1 t) (iblk2 (F := Ideal) V c 3 t) (iblk2 (F := Ideal) V c 5 t) h row
      = scoreG (V c main_v2) (V c main_v3) (V c main_arg3) (V c main_v29) ⟨t.val / 8, by have := point_lt t; omega⟩ ⟨2 * (t.val % 8) + h.val, by omega⟩ row := by
  funext l
  unfold scoreB scoreG
  simp only [iblk_0, iblk_1, iblk_3, iblk_5]

theorem valueB_eq (h : Fin 2) (row : Fin 4096) (d : Fin 64) :
    valueB (iblk2 (F := Ideal) V c 2 t) (iblk2 (F := Ideal) V c 4 t) h row d
      = valueG (V c main_v4) (V c main_arg4) ⟨t.val / 8, by have := point_lt t; omega⟩ ⟨2 * (t.val % 8) + h.val, by omega⟩ row d := by
  funext l
  unfold valueB valueG
  simp only [iblk_2, iblk_4]

/-- The block the kernel leaves at a point is that point's block of the whole result. -/
theorem block_eq (y : S4096x128.Idx) :
    blockOut (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) y
      = attK (V c main_v2) (V c main_v3) (V c main_v4) (V c main_arg3) (V c main_arg4) (V c main_v29) ((win2_6.rect t).emb y) := by
  have ht := point_lt t
  have y0 : (y 0).val < 4096 := (y 0).isLt
  have y1 : (y 1).val < 128 := (y 1).isLt
  have e0 : (((win2_6.rect t).emb y) 0).val = 4096 * (t.val / 8) + (y 0).val :=
    (win2_6.rect_emb_val t y 0).trans (by rw [congrFun (index_6 t) 0]; simp [Nat.mul_comm])
  have e1 : (((win2_6.rect t).emb y) 1).val = 128 * (t.val % 8) + (y 1).val :=
    (win2_6.rect_emb_val t y 1).trans (by rw [congrFun (index_6 t) 1]; simp [Nat.mul_comm])
  rw [blockOut_at _ _ _ _ _ _ y ⟨(y 1).val / 64, by omega⟩ (y 0) ⟨(y 1).val % 64, by omega⟩ rfl (by show (y 1).val = 64 * ((y 1).val / 64) + (y 1).val % 64; omega),
    attK_at _ _ _ _ _ _ ((win2_6.rect t).emb y) ⟨t.val / 8, by omega⟩ ⟨2 * (t.val % 8) + (y 1).val / 64, by omega⟩ (y 0) ⟨(y 1).val % 64, by omega⟩ e0
      (e1.trans (by show _ = 64 * (2 * (t.val % 8) + (y 1).val / 64) + (y 1).val % 64; omega))]
  exact congrArg₂ weighted (scoreB_eq V c t _ _) (valueB_eq V c t _ _ _)

/-- The result array after the region. -/
theorem arr_eq : (dat2 (F := Ideal) V c).arrAt 6 cfg2.N
    = attK (V c main_v2) (V c main_v3) (V c main_v4) (V c main_arg3) (V c main_arg4) (V c main_v29) := by
  refine Dat.arrAt_eq_of_cover (dat2 (F := Ideal) V c) 6 _ (fun t hf => ?_) (fun i => ?_)
  · rw [show (dat2 (F := Ideal) V c).flushed 6 t = (dat2 (F := Ideal) V c).after 6 t from rfl, after2_6, outsAt_eq]
    funext y
    exact block_eq V c t y
  · have i0 : (i 0).val < 8192 := (i 0).isLt
    have i1 : (i 1).val < 1024 := (i 1).isLt
    refine ⟨⟨8 * ((i 0).val / 4096) + (i 1).val / 128, by show _ < 16; omega⟩, flush2_6 _, ?_⟩
    refine Finset.mem_map.mpr ⟨(ix2 ⟨(i 0).val % 4096, by omega⟩ ⟨(i 1).val % 128, by omega⟩ : S4096x128.Idx), Finset.mem_univ _, ?_⟩
    refine funext fun a => Fin.ext ?_
    refine (win2_6.rect_emb_val _ _ a).trans ?_
    rw [congrFun (index_6 _) a]
    fin_cases a
    · show (8 * ((i 0).val / 4096) + (i 1).val / 128) / 8 * 4096 + (i 0).val % 4096 = (i 0).val; omega
    · show (8 * ((i 0).val / 4096) + (i 1).val / 128) % 8 * 128 + (i 1).val % 128 = (i 1).val; omega

end Cert.Nat
end
end
-- ==== Proof.Pre.lean ====
/- The precondition read: every element of the queries, the keys, the context's keys and the bias table is a real number. -/
module

public import proofs.«01_k».proof.Pre_finite
public import Idealize.ShloMosaic.Lib.Pointwise

@[expose] public section
set_option maxRecDepth 16384

noncomputable section
namespace Cert.Nat.Pre
open Idealize.ShloMosaic Cert.Pre_finite

theorem facts : Facts where
  shapeCasts_S2x16x4096x64_S8388608 := by decide
  shapeCasts_S2x1x16x512x64_S1048576 := by decide
  shapeCasts_S16x15x31_S7440 := by decide
  concatenates_S8388608_S8388608_S1048576_S7440_S17833232_d0 := by decide
  bcast_S_S17833232 := by decide

/-- An extended real that is a real number. -/
def real (x : EReal) : Prop := x ≠ ⊤ ∧ x ≠ ⊥

theorem real_of_abs {x : EReal} (h : max x (-x) < ⊤) : real x := by
  refine ⟨fun e => ?_, fun e => ?_⟩ <;> subst e <;> simp at h

theorem inf_eq : Ideal.ofBits FTy.f32 0x7F800000#32 = (⊤ : EReal) := by
  simp [Ideal.ofBits, Ideal.ieee]

theorem real_of_less {S : Shape} (x : S.Idx → EReal) (t : S.Idx → EReal) (ht : ∀ i, t i = ⊤)
    (h : (cmpf .olt (Host.absf (F := Ideal) (φ := .f32) x) t : S.Idx → BitVec 1) = fun _ => 1#1) (i : S.Idx) : real (x i) := by
  have e : BitVec.ofBool (decide (max (x i) (-(x i)) < t i)) = 1#1 := congrFun h i
  rw [ht i] at e
  refine real_of_abs ?_
  by_contra hn
  rw [decide_eq_false hn] at e
  exact absurd e (by decide)

theorem real_reshape {s t : Shape} (x : s.Idx → EReal) (h : s.ShapeCasts t) (hr : ∀ j, real (shapeCast t x h j)) (i : s.Idx) : real (x i) := by
  have hn : s.numel = t.numel := h.symm
  have hx := hr (t.rowMajor.symm (Fin.cast hn (s.rowMajor i)))
  rwa [shapeCast_apply x h _ i (by rw [Equiv.apply_symm_apply]; rfl)] at hx

/-- Four vectors, each with its shape. -/
abbrev parts {n0 n1 n2 n3 : Nat} (y0 : (⟨1, ![n0]⟩ : Shape).Idx → EReal) (y1 : (⟨1, ![n1]⟩ : Shape).Idx → EReal)
    (y2 : (⟨1, ![n2]⟩ : Shape).Idx → EReal) (y3 : (⟨1, ![n3]⟩ : Shape).Idx → EReal) : List ((s : Shape) × (s.Idx → EReal)) :=
  [⟨⟨1, ![n0]⟩, y0⟩, ⟨⟨1, ![n1]⟩, y1⟩, ⟨⟨1, ![n2]⟩, y2⟩, ⟨⟨1, ![n3]⟩, y3⟩]

/-- Four vectors end to end: what holds of every element of the whole holds of every element of each. -/
theorem four_parts {n0 n1 n2 n3 n : Nat} (y0 : (⟨1, ![n0]⟩ : Shape).Idx → EReal) (y1 : (⟨1, ![n1]⟩ : Shape).Idx → EReal)
    (y2 : (⟨1, ![n2]⟩ : Shape).Idx → EReal) (y3 : (⟨1, ![n3]⟩ : Shape).Idx → EReal)
    (hc : Shape.Concatenates [⟨1, ![n0]⟩, ⟨1, ![n1]⟩, ⟨1, ![n2]⟩, ⟨1, ![n3]⟩] ⟨1, ![n]⟩ 0) (hn : n0 + n1 + n2 + n3 = n)
    (hr : ∀ j, real (concatenate (⟨1, ![n]⟩ : Shape) 0 [⟨⟨1, ![n0]⟩, y0⟩, ⟨⟨1, ![n1]⟩, y1⟩, ⟨⟨1, ![n2]⟩, y2⟩, ⟨⟨1, ![n3]⟩, y3⟩] hc j)) :
    (∀ i, real (y0 i)) ∧ (∀ i, real (y1 i)) ∧ (∀ i, real (y2 i)) ∧ (∀ i, real (y3 i)) := by
  refine ⟨fun i => ?_, fun i => ?_, fun i => ?_, fun i => ?_⟩
  · have hi : (i 0).val < n0 := (i 0).isLt
    have e := hr (ix1 ⟨(i 0).val, by omega⟩)
    rwa [concatenate_apply_piece (t := ⟨1, ![n]⟩) 0 (parts y0 y1 y2 y3) hc _ 0 (show 0 < 4 by decide) ⟨1, ![n0]⟩ y0 rfl rfl 0 (by simp) i
      (fun b hb => absurd (Subsingleton.elim (α := Fin 1) _ _) hb) (Nat.zero_add _)] at e
  · have hi : (i 0).val < n1 := (i 0).isLt
    have e := hr (ix1 ⟨n0 + (i 0).val, by omega⟩)
    rwa [concatenate_apply_piece (t := ⟨1, ![n]⟩) 0 (parts y0 y1 y2 y3) hc _ 1 (show 1 < 4 by decide) ⟨1, ![n1]⟩ y1 rfl rfl n0 (by simp) i
      (fun b hb => absurd (Subsingleton.elim (α := Fin 1) _ _) hb) rfl] at e
  · have hi : (i 0).val < n2 := (i 0).isLt
    have e := hr (ix1 ⟨n0 + n1 + (i 0).val, by omega⟩)
    rwa [concatenate_apply_piece (t := ⟨1, ![n]⟩) 0 (parts y0 y1 y2 y3) hc _ 2 (show 2 < 4 by decide) ⟨1, ![n2]⟩ y2 rfl rfl (n0 + n1) (by simp) i
      (fun b hb => absurd (Subsingleton.elim (α := Fin 1) _ _) hb) rfl] at e
  · have hi : (i 0).val < n3 := (i 0).isLt
    have e := hr (ix1 ⟨n0 + n1 + n2 + (i 0).val, by omega⟩)
    rwa [concatenate_apply_piece (t := ⟨1, ![n]⟩) 0 (parts y0 y1 y2 y3) hc _ 3 (show 3 < 4 by decide) ⟨1, ![n3]⟩ y3 rfl rfl (n0 + n1 + n2) (by simp [Nat.add_assoc]) i
      (fun b hb => absurd (Subsingleton.elim (α := Fin 1) _ _) hb) rfl] at e

variable [Facts] (x0 x1 x2 : FVec Ideal S2x16x4096x64 .f32) (x3 x4 : FVec Ideal S2x1x16x512x64 .f32) (x5 : FVec Ideal S16x15x31 .f32)

theorem all_real (h : fn (F := Ideal) x0 x1 x2 x3 x4 x5 = fun _ => 1#1) :
    (∀ i, real (x0 i)) ∧ (∀ i, real (x1 i)) ∧ (∀ i, real (x3 i)) ∧ (∀ i, real (x5 i)) := by
  obtain ⟨a, b, c, d⟩ := four_parts (n0 := 8388608) (n1 := 8388608) (n2 := 1048576) (n3 := 7440) (n := 17833232) _ _ _ _
    Facts.concatenates_S8388608_S8388608_S1048576_S7440_S17833232_d0 (by norm_num) (real_of_less _ _ (fun i => inf_eq) h)
  exact ⟨real_reshape x0 _ a, real_reshape x1 _ b, real_reshape x3 _ c, real_reshape x5 _ d⟩

end Cert.Nat.Pre
end
end
-- ==== Proof.Join.lean ====
/- The kernel's result against the reference's: the same softmax, once over the keys near the query and the context, once
   over all the keys with the far ones at minus infinity. -/
module

public import proofs.«01_k».proof.Proof.RefScore
public import proofs.«01_k».proof.Proof.HostIn
public import proofs.«01_k».proof.Proof.Whole
public import proofs.«01_k».proof.Proof.Softmax
public import proofs.«01_k».proof.Proof.Pre

@[expose] public section
set_option maxRecDepth 16384

noncomputable section
namespace Cert.Nat
open Idealize.ShloMosaic Idealize.ShloMosaic.TcCoe Cert.KernelIdeal Cert.KernelIdeal.Gen

/-! ## Real numbers among the extended ones -/

theorem coe_sum {n : Nat} (f : Fin n → ℝ) : ((∑ x, f x : ℝ) : EReal) = ∑ x, (f x : EReal) := by
  induction n with
  | zero => simp
  | succ n ih => rw [Fin.sum_univ_succ, Fin.sum_univ_succ, EReal.coe_add, ih]

theorem exists_real {S : Type} (x : S → EReal) (h : ∀ i, Pre.real (x i)) : ∃ f : S → ℝ, x = fun i => (f i : EReal) :=
  ⟨fun i => (x i).toReal, funext fun i => (EReal.coe_toReal (h i).1 (h i).2).symm⟩

theorem eighth_real : ∃ r : ℝ, Ref.eighth = (r : EReal) := by
  refine ⟨(8388608 : ℝ) * ((2 : ℝ) ^ 26)⁻¹, ?_⟩
  rw [EReal.coe_mul]
  simp [Ref.eighth, Ideal.ofBits, Ideal.ieee]

/-- The scale taken out of a product of real rows. -/
theorem scale_out {n : Nat} (a b : Fin n → EReal) (ha : ∀ x, Pre.real (a x)) (hb : ∀ x, Pre.real (b x)) :
    ∑ x, a x * Ref.eighth * b x = (∑ x, a x * b x) * Ref.eighth := by
  obtain ⟨f, rfl⟩ := exists_real a ha
  obtain ⟨g, rfl⟩ := exists_real b hb
  obtain ⟨r, hr⟩ := eighth_real
  rw [hr]
  simp only [← EReal.coe_mul, ← coe_sum]
  rw [Finset.sum_mul]
  exact congrArg _ (Finset.sum_congr rfl fun x _ => by ring)

theorem dot_real {n : Nat} (a b : Fin n → EReal) (ha : ∀ x, Pre.real (a x)) (hb : ∀ x, Pre.real (b x)) :
    Pre.real ((∑ x, a x * b x) * Ref.eighth) := by
  obtain ⟨f, rfl⟩ := exists_real a ha
  obtain ⟨g, rfl⟩ := exists_real b hb
  obtain ⟨r, hr⟩ := eighth_real
  rw [hr]
  simp only [← EReal.coe_mul, ← coe_sum]
  exact ⟨EReal.coe_ne_top _, EReal.coe_ne_bot _⟩

/-! ## The bias tables against the bias by position -/

theorem shift_eq : ∀ (k : Fin 16) (b : Fin 4) (c : Fin 11), shift (kase k.val).val b.val c.val
    = if min 56 (4 * k.val + b.val - 4) ≤ min 53 (4 * k.val - 4) + c.val ∧ min 53 (4 * k.val - 4) + c.val < min 56 (4 * k.val + b.val - 4) + 8
      then min 53 (4 * k.val - 4) + c.val + 7 - (4 * k.val + b.val) else 15 := by decide +kernel

variable (rpb : S16x15x31.Idx → EReal)

/-- The tables of the kernel hold the bias by position. -/
theorem table_bias (hf : ∀ i, Pre.real (rpb i)) (h : Fin 16) (q : Fin 4096) (l : Fin 704) :
    tables (shapeCast S16x15x64x64 (toeplitz (padded (shapeCast S240x31 rpb shapeCasts_S16x15x31_S240x31) (constantI S_ 32 0#32)) (hot (clip (constantI S_ 32 0#32) (constantI S_ 32 30#32) offs)))
        shapeCasts_S240x4096_S16x15x64x64) (ix4 h (kase (q.val / 256)) ⟨q.val % 256, by omega⟩ l)
      = Ref.biasR rpb h ⟨q.val / 64, by omega⟩ ⟨q.val % 64, by omega⟩
          ⟨(band (q.val / 256) + l.val) / 64, by have := band_le (q.val / 256); omega⟩ ⟨(band (q.val / 256) + l.val) % 64, by omega⟩ := by
  have hs := shift_eq ⟨q.val / 256, by omega⟩ ⟨q.val % 256 / 64, by omega⟩ ⟨l.val / 64, by omega⟩
  have hq : 4 * (q.val / 256) + q.val % 256 / 64 = q.val / 64 := by omega
  have hc : min 53 (4 * (q.val / 256) - 4) + l.val / 64 = (band (q.val / 256) + l.val) / 64 := by unfold band; omega
  have hm : (band (q.val / 256) + l.val) % 64 = l.val % 64 := by unfold band; omega
  have hr : q.val % 256 % 64 = q.val % 64 := by omega
  simp only [hq, hc] at hs
  show tableAt _ (kase (q.val / 256)).val (q.val % 256) l.val = _
  unfold tableAt Ref.biasR
  simp only [hs, hm, hr]
  have hlt : (band (q.val / 256) + l.val) / 64 < 64 := by have := band_le (q.val / 256); omega
  by_cases hw : (min 56 (q.val / 64 - 4) ≤ ((band (q.val / 256) + l.val) / 64) ∧ ((band (q.val / 256) + l.val) / 64) < min 56 (q.val / 64 - 4) + 8) ∧ (min 48 (q.val % 64 - 8) ≤ l.val % 64 ∧ l.val % 64 < min 48 (q.val % 64 - 8) + 16)
  · rw [if_pos hw, dif_pos ⟨by rw [if_pos hw.1]; omega, by unfold colOk; exact decide_eq_true hw.2⟩]
    refine (rel_at rpb hf h _ _ _).trans (congrArg rpb ?_)
    have e1 : ∀ p : (if min 56 (q.val / 64 - 4) ≤ ((band (q.val / 256) + l.val) / 64) ∧ ((band (q.val / 256) + l.val) / 64) < min 56 (q.val / 64 - 4) + 8 then ((band (q.val / 256) + l.val) / 64) + 7 - q.val / 64 else 15) < 15,
        (⟨_, p⟩ : Fin 15) = ⟨min 14 (((band (q.val / 256) + l.val) / 64) + 7 - q.val / 64), by omega⟩ := fun p => Fin.ext ((if_pos hw.1).trans (by show _ = min 14 ((band (q.val / 256) + l.val) / 64 + 7 - q.val / 64); omega))
    exact congrArg (fun z => ix3 h z _) (e1 _)
  · rw [if_neg hw, dif_neg]
    rintro ⟨p1, p2⟩
    refine hw ⟨?_, of_decide_eq_true p2⟩
    by_contra hn
    rw [if_neg hn] at p1
    omega

/-! ## The keys of the kernel among those of the reference -/

/-- The place of a key of the kernel's row among the reference's keys. -/
def keyAt (q : Fin 4096) (l : Fin 1216) : Fin 4608 :=
  if hl : l.val < 512 then ⟨4096 + l.val, by omega⟩ else ⟨band (q.val / 256) + (l.val - 512), by have := band_le (q.val / 256); omega⟩

theorem keyAt_ctx (q : Fin 4096) (l : Fin 1216) (hl : l.val < 512) : keyAt q l = ⟨4096 + l.val, by omega⟩ := dif_pos hl
theorem keyAt_loc (q : Fin 4096) (l : Fin 1216) (hl : ¬ l.val < 512) :
    keyAt q l = ⟨band (q.val / 256) + (l.val - 512), by have := band_le (q.val / 256); omega⟩ := dif_neg hl

theorem keyAt_inj (q : Fin 4096) : Function.Injective (keyAt q) := by
  intro a b h
  have hb := band_le (q.val / 256)
  by_cases ha : a.val < 512 <;> by_cases hb' : b.val < 512
  · rw [keyAt_ctx q a ha, keyAt_ctx q b hb'] at h; have := congrArg Fin.val h; exact Fin.ext (by simp only at this; omega)
  · rw [keyAt_ctx q a ha, keyAt_loc q b hb'] at h; have := congrArg Fin.val h; simp only at this; omega
  · rw [keyAt_loc q a ha, keyAt_ctx q b hb'] at h; have := congrArg Fin.val h; simp only at this; omega
  · rw [keyAt_loc q a ha, keyAt_loc q b hb'] at h; have := congrArg Fin.val h; exact Fin.ext (by simp only at this; omega)

variable (x0 x1 x2 : S2x16x4096x64.Idx → EReal) (x3 x4 : S2x1x16x512x64.Idx → EReal)
variable (h0 : ∀ i, Pre.real (x0 i)) (h1 : ∀ i, Pre.real (x1 i)) (h3 : ∀ i, Pre.real (x3 i)) (h5 : ∀ i, Pre.real (rpb i))

theorem bias_ne_top (hf : ∀ i, Pre.real (rpb i)) (h : Fin 16) (a b c e : Fin 64) : Ref.biasR rpb h a b c e ≠ ⊤ := by
  unfold Ref.biasR
  split
  · exact (hf _).1
  · exact bot_ne_top

include h0 h1 h3 h5 in
theorem scoreR_ne_top (b : Fin 2) (h : Fin 16) (q : Fin 4096) (i : Fin 4608) : Ref.scoreR x0 x1 x3 rpb b h q i ≠ ⊤ := by
  by_cases hi : i.val < 4096
  · rw [show i = ⟨(⟨i.val, hi⟩ : Fin 4096).val, by omega⟩ from rfl, Ref.score_local, Ref.local_at]
    exact EReal.add_ne_top (dot_real _ _ (fun _ => h0 _) (fun _ => h1 _)).1 (bias_ne_top rpb h5 _ _ _ _ _)
  · rw [show i = ⟨4096 + (⟨i.val - 4096, by omega⟩ : Fin 512).val, by omega⟩ from Fin.ext (by show i.val = 4096 + (i.val - 4096); omega), Ref.score_ctx, Ref.ctx_at]
    exact (dot_real _ _ (fun _ => h0 _) (fun _ => h3 _)).1

include h0 h3 in
theorem scoreR_ctx_ne_bot (b : Fin 2) (h : Fin 16) (q : Fin 4096) : Ref.scoreR x0 x1 x3 rpb b h q (keyAt q 0) ≠ ⊥ := by
  rw [keyAt_ctx q 0 (by decide)]
  refine ne_of_eq_of_ne (Ref.score_ctx x0 x1 x3 rpb b h q (0 : Fin 512)) ?_
  rw [Ref.ctx_at]
  exact (dot_real _ _ (fun _ => h0 _) (fun _ => h3 _)).2

theorem scoreR_far (b : Fin 2) (h : Fin 16) (q : Fin 4096) (i : Fin 4608) (hi : i ∉ Set.range (keyAt q)) : Ref.scoreR x0 x1 x3 rpb b h q i = ⊥ := by
  by_cases hl : i.val < 4096
  · rw [show i = ⟨(⟨i.val, hl⟩ : Fin 4096).val, by omega⟩ from rfl, Ref.score_local, Ref.local_at]
    have hn : ¬ (band (q.val / 256) ≤ i.val ∧ i.val < band (q.val / 256) + 704) := fun hb => hi ⟨⟨512 + (i.val - band (q.val / 256)), by omega⟩, by
      rw [keyAt_loc _ _ (by show ¬ (512 + _ < 512); omega)]
      exact Fin.ext (by show band (q.val / 256) + (512 + (i.val - band (q.val / 256)) - 512) = i.val; omega)⟩
    have hz : Ref.biasR rpb h ⟨q.val / 64, by omega⟩ ⟨q.val % 64, by omega⟩ ⟨i.val / 64, by omega⟩ ⟨i.val % 64, by omega⟩ = ⊥ := by
      refine if_neg fun hw => hn ?_
      have hw1 := hw.1
      simp only at hw1
      unfold band
      omega
    exact (congrArg _ hz).trans (EReal.add_bot _)
  · exact absurd ⟨⟨i.val - 4096, by omega⟩, by
      rw [keyAt_ctx _ _ (by show i.val - 4096 < 512; omega)]
      exact Fin.ext (by show 4096 + (i.val - 4096) = i.val; omega)⟩ hi

/-- The bias tables of the kernel. -/
abbrev biasT : S16x3x256x704.Idx → EReal :=
  tables (shapeCast S16x15x64x64 (toeplitz (padded (shapeCast S240x31 rpb shapeCasts_S16x15x31_S240x31) (constantI S_ 32 0#32)) (hot (clip (constantI S_ 32 0#32) (constantI S_ 32 30#32) offs)))
    shapeCasts_S240x4096_S16x15x64x64)

include h0 h1 h3 h5 in
theorem score_eq (b : Fin 2) (h : Fin 16) (q : Fin 4096) (l : Fin 1216) :
    scoreG (scaled x0) x1 x3 (biasT rpb) b h q l = Ref.scoreR x0 x1 x3 rpb b h q (keyAt q l) := by
  unfold scoreG
  by_cases hl : l.val < 512
  · rw [dif_pos hl, keyAt_ctx q l hl]
    refine Eq.trans ?_ ((Ref.score_ctx x0 x1 x3 rpb b h q ⟨l.val, hl⟩).trans (Ref.ctx_at x0 x3 b h q ⟨l.val, hl⟩)).symm
    exact scale_out _ _ (fun _ => h0 _) (fun _ => h3 _)
  · have hb := band_le (q.val / 256)
    rw [dif_neg hl, keyAt_loc q l hl]
    refine Eq.trans ?_ ((Ref.score_local x0 x1 x3 rpb b h q ⟨band (q.val / 256) + (l.val - 512), by omega⟩).trans (Ref.local_at x0 x1 rpb b h q ⟨band (q.val / 256) + (l.val - 512), by omega⟩)).symm
    exact congrArg₂ (· + ·) (scale_out _ _ (fun _ => h0 _) (fun _ => h1 _)) (table_bias rpb h5 h q ⟨l.val - 512, by omega⟩)

/-- The reference's value rows. -/
def valueR (b : Fin 2) (h : Fin 16) (d : Fin 64) (i : Fin 4608) : EReal :=
  if hi : i.val < 4096 then x2 (ix4 b h ⟨i.val, hi⟩ d) else x4 (ix5 b 0 h ⟨i.val - 4096, by omega⟩ d)

theorem value_eq (b : Fin 2) (h : Fin 16) (q : Fin 4096) (d : Fin 64) (l : Fin 1216) :
    valueG x2 x4 b h q d l = valueR x2 x4 b h d (keyAt q l) := by
  unfold valueG valueR
  by_cases hl : l.val < 512
  · rw [dif_pos hl, keyAt_ctx q l hl, dif_neg (by show ¬ (4096 + l.val < 4096); omega)]
    exact congrArg (fun z => x4 (ix5 b 0 h z d)) (Fin.ext (by show l.val = 4096 + l.val - 4096; omega))
  · have hb := band_le (q.val / 256)
    rw [dif_neg hl, keyAt_loc q l hl, dif_pos (by show band (q.val / 256) + (l.val - 512) < 4096; omega)]

theorem sum_split (f : Fin 4608 → EReal) :
    ∑ k : Fin 4096, f ⟨k.val, by omega⟩ + ∑ k : Fin 512, f ⟨4096 + k.val, by omega⟩ = ∑ i, f i :=
  (Fin.sum_univ_add (a := 4096) (b := 512) f).symm

include h0 h1 h3 h5 in
/-- The two results are equal. -/
theorem result_eq (y : S8192x1024.Idx) :
    attK (scaled x0) x1 x2 x3 x4 (biasT rpb) y = Cert.ReferenceIdeal.Read.val_main_v103 (F := Ideal) x0 x1 x2 x3 x4 rpb y := by
  have hy0 : (y 0).val < 8192 := (y 0).isLt
  have hy1 : (y 1).val < 1024 := (y 1).isLt
  obtain ⟨b, hb⟩ : ∃ b : Fin 2, b.val = (y 0).val / 4096 := ⟨⟨_, by omega⟩, rfl⟩
  obtain ⟨q, hq⟩ : ∃ q : Fin 4096, q.val = (y 0).val % 4096 := ⟨⟨_, by omega⟩, rfl⟩
  obtain ⟨h, hh⟩ : ∃ h : Fin 16, h.val = (y 1).val / 64 := ⟨⟨_, by omega⟩, rfl⟩
  obtain ⟨d, hd⟩ : ∃ d : Fin 64, d.val = (y 1).val % 64 := ⟨⟨_, by omega⟩, rfl⟩
  have ey : y = ix2 (⟨4096 * b.val + q.val, by omega⟩ : Fin 8192) (⟨64 * h.val + d.val, by omega⟩ : Fin 1024) := by
    funext a
    match a with
    | ⟨0, _⟩ => exact Fin.ext (by show (y 0).val = 4096 * b.val + q.val; omega)
    | ⟨1, _⟩ => exact Fin.ext (by show (y 1).val = 64 * h.val + d.val; omega)
  rw [attK_at (scaled x0) x1 x2 x3 x4 (biasT rpb) y b h q d (by omega) (by omega)]
  refine Eq.trans ?_ (congrArg (Cert.ReferenceIdeal.Read.val_main_v103 (F := Ideal) x0 x1 x2 x3 x4 rpb) ey).symm
  rw [Ref.out_at, funext (score_eq rpb x0 x1 x3 h0 h1 h3 h5 b h q), funext (value_eq x2 x4 b h q d)]
  refine (drop_masked (keyAt q) (keyAt_inj q) (Ref.scoreR x0 x1 x3 rpb b h q) (valueR x2 x4 b h d)
    (scoreR_far rpb x0 x1 x3 b h q) (scoreR_ne_top rpb x0 x1 x3 h0 h1 h3 h5 b h q) 0 (scoreR_ctx_ne_bot rpb x0 x1 x3 h0 h3 b h q)).trans ?_
  rw [← sum_split]
  refine congrArg₂ (· + ·) (Finset.sum_congr rfl fun k _ => ?_) (Finset.sum_congr rfl fun k _ => ?_)
  · rw [Ref.soft_at]
    refine congrArg _ (dif_pos k.isLt)
  · rw [Ref.soft_at]
    refine congrArg _ ((dif_neg (by show ¬ (4096 + k.val < 4096); omega)).trans ?_)
    exact congrArg (fun z => x4 (ix5 b 0 h z d)) (Fin.ext (by show 4096 + k.val - 4096 = k.val; omega))

end Cert.Nat
end
end
-- ==== Proof.Stack.lean ====
/- Two groups of rows read as one: the context's 8192 rows, then the samples' 8192; and a row's modulated norm. -/
module

public import Idealize.ShloMosaic.Lib.Pipeline.Value
public import Idealize.ShloMosaic.Lib.ValueIdx
public import Idealize.ShloMosaic.Lib.Pipeline.FrameBody
public import Idealize.ShloMosaic.Lib.Pointwise
public import Idealize.ShloMosaic.PureOps.Ideal.Laws

@[expose] public section
set_option maxRecDepth 16384

noncomputable section
namespace Cert.Dense
open Idealize.ShloMosaic

/-- The row of the modulation table that row `r` of the stacked groups takes: 0 in the context, 1 and 2 in the samples. -/
def seg (r : Nat) : Nat := if r < 8192 then 0 else 1 + (r - 8192) / 4096

theorem seg_lt {r : Nat} (h : r < 16384) : seg r < 3 := by unfold seg; split <;> omega

/-- Row `r` of the two groups stacked. -/
def rows (a : (⟨3, ![32, 256, 1024]⟩ : Shape).Idx → EReal) (b : (⟨3, ![2, 4096, 1024]⟩ : Shape).Idx → EReal)
    (r : Fin 16384) (k : Fin 1024) : EReal :=
  if h : r.val < 8192 then a (ix3 ⟨r.val / 256, by omega⟩ ⟨r.val % 256, by omega⟩ k)
  else b (ix3 ⟨(r.val - 8192) / 4096, by omega⟩ ⟨(r.val - 8192) % 4096, by omega⟩ k)

/-- A row of the modulation, from its column `off`. -/
def modAt (m : (⟨2, ![8, 6144]⟩ : Shape).Idx → EReal) (part : Fin 6) (r : Fin 16384) (k : Fin 1024) : EReal :=
  m (ix2 ⟨seg r.val, by have := seg_lt r.isLt; omega⟩ ⟨1024 * part.val + k.val, by omega⟩)

/-- A row divided by its root mean square, with gain, then scaled and shifted. -/
def normed (x g sc sh : Fin 1024 → EReal) (k : Fin 1024) : EReal :=
  x k * Ideal.rsqrt (Ideal.div (∑ j, x j * x j) (Ideal.ofBits .f32 0x44800000#32) + Ideal.ofBits .f32 0x358637BD#32) * g k
    * (Ideal.ofBits .f32 0x3F800000#32 + sc k) + sh k

theorem eq_ix3' {n₀ n₁ n₂ : Nat} (j : (⟨3, ![n₀, n₁, n₂]⟩ : Shape).Idx) (a : Fin n₀) (b : Fin n₁) (c : Fin n₂)
    (h0 : (j 0).val = a.val) (h1 : (j 1).val = b.val) (h2 : (j 2).val = c.val) : j = ix3 a b c := by
  refine (eq_ix3 j).trans ?_
  rw [show (j 0 : Fin n₀) = a from Fin.ext h0, show (j 1 : Fin n₁) = b from Fin.ext h1, show (j 2 : Fin n₂) = c from Fin.ext h2]

theorem eq_ix2' {n₀ n₁ : Nat} (j : (⟨2, ![n₀, n₁]⟩ : Shape).Idx) (a : Fin n₀) (b : Fin n₁)
    (h0 : (j 0).val = a.val) (h1 : (j 1).val = b.val) : j = ix2 a b := by
  refine (eq_ix2 j).trans ?_
  rw [show (j 0 : Fin n₀) = a from Fin.ext h0, show (j 1 : Fin n₁) = b from Fin.ext h1]

theorem sel_one {α : Type} (a b : α) : Scalar.select 1#1 a b = a := rfl
theorem sel_zero {α : Type} (a b : α) : Scalar.select 0#1 a b = b := rfl

/-- A load of a whole array. -/
theorem ld_all {s : Shape} {e : EltTy} (X : s.Idx → Elt Ideal e) (off : Fin s.rank → Nat) (inb : ∀ a, off a + s.size a ≤ s.size a)
    (h : ∀ a, off a = 0) : View.ld X (Rect.unit off s.size inb) = X := by
  funext i
  rw [View.ld_unit]
  exact extractStridedSlice_apply off X _ i i fun a => by rw [h a]; simp

/-- Two arrays of 8192 rows, one above the other. -/
theorem two_rows {n : Nat} (u v : (⟨2, ![8192, n]⟩ : Shape).Idx → EReal)
    (h : Shape.Concatenates ([⟨⟨2, ![8192, n]⟩, u⟩, ⟨⟨2, ![8192, n]⟩, v⟩].map fun x : (s : Shape) × (s.Idx → EReal) => x.1) ⟨2, ![16384, n]⟩ 0)
    (r : Fin 16384) (k : Fin n) :
    concatenate ⟨2, ![16384, n]⟩ 0 [⟨⟨2, ![8192, n]⟩, u⟩, ⟨⟨2, ![8192, n]⟩, v⟩] h (ix2 r k)
      = if hr : r.val < 8192 then u (ix2 ⟨r.val, hr⟩ k) else v (ix2 ⟨r.val - 8192, by omega⟩ k) := by
  split
  · rename_i hr
    refine concatenate_apply_piece (t := ⟨2, ![16384, n]⟩) 0 [⟨⟨2, ![8192, n]⟩, u⟩, ⟨⟨2, ![8192, n]⟩, v⟩] h (ix2 r k) 0 (show 0 < 2 by decide) _ u rfl rfl 0 rfl (ix2 ⟨r.val, hr⟩ k) (fun b hb => ?_) ?_
    · match b, hb with
      | ⟨0, _⟩, hb => exact absurd rfl hb
      | ⟨1, _⟩, _ => rfl
    · show 0 + r.val = r.val; omega
  · rename_i hr
    refine concatenate_apply_piece (t := ⟨2, ![16384, n]⟩) 0 [⟨⟨2, ![8192, n]⟩, u⟩, ⟨⟨2, ![8192, n]⟩, v⟩] h (ix2 r k) 1 (show 1 < 2 by decide) _ v rfl rfl 8192 rfl (ix2 ⟨r.val - 8192, by omega⟩ k) (fun b hb => ?_) ?_
    · match b, hb with
      | ⟨0, _⟩, hb => exact absurd rfl hb
      | ⟨1, _⟩, _ => rfl
    · show 8192 + (r.val - 8192) = r.val; omega

/-- The table of modulations by part and request, flattened, at a row. -/
theorem mods_at (m : (⟨2, ![8, 6144]⟩ : Shape).Idx → EReal) (h1 : Shape.ShapeCasts (⟨2, ![8, 6144]⟩ : Shape) ⟨3, ![8, 6, 1024]⟩)
    (h2 : Shape.Transposes (⟨3, ![8, 6, 1024]⟩ : Shape) [1, 0, 2] ⟨3, ![6, 8, 1024]⟩) (h3 : Shape.ShapeCasts (⟨3, ![6, 8, 1024]⟩ : Shape) ⟨3, ![48, 1, 1024]⟩)
    (part : Fin 6) (s : Fin 8) (k : Fin 1024) :
    shapeCast ⟨3, ![48, 1, 1024]⟩ (transpose ⟨3, ![6, 8, 1024]⟩ [1, 0, 2] (shapeCast ⟨3, ![8, 6, 1024]⟩ m h1) h2) h3
        (ix3 ⟨8 * part.val + s.val, by omega⟩ 0 k) = m (ix2 s ⟨1024 * part.val + k.val, by omega⟩) := by
  refine (shapeCast_apply _ h3 _ (ix3 part s k) ?_).trans ?_
  · rw [Shape.rowMajor_val_three, Shape.rowMajor_val_three]
    show (part.val * 8 + s.val) * 1024 + k.val = ((8 * part.val + s.val) * 1 + 0) * 1024 + k.val
    omega
  refine (transpose_apply _ _ h2 (ix3 part s k) (ix3 s part k) ?_).trans ?_
  · intro a
    match a with
    | ⟨0, _⟩ => rfl
    | ⟨1, _⟩ => rfl
    | ⟨2, _⟩ => rfl
  refine shapeCast_apply _ h1 _ _ ?_
  rw [Shape.rowMajor_val_two, Shape.rowMajor_val_three]
  show s.val * 6144 + (1024 * part.val + k.val) = (s.val * 6 + part.val) * 1024 + k.val
  omega

end Cert.Dense
end
end
-- ==== Proof.HeadProj.lean ====
/- The attention's query, key and value projections: the three result arrays, from the arguments. -/
module

public import proofs.«01_k».proof.Proof.Gen.Kernel2Ideal.Value
public import proofs.«01_k».proof.Proof.Stack
public import Idealize.ShloMosaic.Lib.StableHlo.Run
public import Idealize.ShloMosaic.Lib.KernelVsHost

@[expose] public section
set_option maxRecDepth 16384

noncomputable section
namespace Cert.Dense.Heads
open Idealize.ShloMosaic Idealize.ShloMosaic.TcCoe Cert.Kernel2Ideal Cert.Kernel2Ideal.Gen
open Idealize.ShloMosaic.Pipeline (Dat Window)

theorem product_at (x : Vec Ideal S256x1024 .f32) (g : Vec Ideal S1x1024 .f32) (sc sh : Vec Ideal S1x1x1024 .f32) (w : Vec Ideal S1024x3072 .bf16)
    (r : Fin 256) (n : Fin 3072) :
    k0_pay5 x g sc sh w (ix2 r n)
      = ∑ k : Fin 1024, normed (fun j => x (ix2 r j)) (fun j => g (ix2 0 j)) (fun j => sc (ix3 0 0 j)) (fun j => sh (ix3 0 0 j)) k * w (ix2 k n) := by
  unfold k0_pay5 normed
  pointwise

/-- One part of a product's columns, cut into 16 heads and scaled. -/
def cut (part : Fin 3) (e : EReal) (z : S256x3072.Idx → EReal) : S1x16x256x64.Idx → EReal := fun y =>
  z (ix2 (y 2 : Fin 256) ⟨1024 * part.val + 64 * (y 1).val + (y 3).val, by
    have h1 : (y 1).val < 16 := (y 1).isLt
    have h3 : (y 3).val < 64 := (y 3).isLt
    omega⟩) * e

/-- A head's piece is its part of the cut. -/
theorem piece_eq (part : Fin 3) (e : EReal) (z : S256x3072.Idx → EReal) (h : Nat) (hh : h < 16)
    (inb : ∀ a, (![0, h, 0, 0] : Fin 4 → Nat) a + S1x1x256x64.size a ≤ S1x16x256x64.size a) (p : S1x1x256x64.Idx → EReal)
    (hp : ∀ (r : Fin 256) (d : Fin 64), p (ix4 0 0 r d) = z (ix2 r ⟨1024 * part.val + 64 * h + d.val, by omega⟩) * e) (x : S1x1x256x64.Idx) :
    p x = cut part e z ((Rect.unit (s := S1x16x256x64) ![0, h, 0, 0] S1x1x256x64.size inb).emb x) := by
  have x0 : (x 0).val < 1 := (x 0).isLt
  have x1 : (x 1).val < 1 := (x 1).isLt
  have ex : x = ix4 (0 : Fin 1) (0 : Fin 1) (x 2 : Fin 256) (x 3 : Fin 64) := by
    refine funext fun a => Fin.ext ?_
    match a with
    | ⟨0, _⟩ => show (x 0).val = 0; omega
    | ⟨1, _⟩ => show (x 1).val = 0; omega
    | ⟨2, _⟩ => rfl
    | ⟨3, _⟩ => rfl
  refine (congrArg p ex).trans ((hp _ _).trans ?_)
  unfold cut
  refine congrArg (· * e) (congrArg z ?_)
  refine congrArg₂ (fun (a : Fin 256) (b : Fin 3072) => (ix2 a b : S256x3072.Idx)) (Fin.ext ?_) (Fin.ext ?_)
  · show (x 2).val = 0 + 1 * (x 2).val
    omega
  · show 1024 * part.val + 64 * h + (x 3).val = 1024 * part.val + 64 * (h + 1 * (x 1).val) + (0 + 1 * (x 3).val)
    omega

theorem head_0_15 (z : FVec Ideal S256x3072 .f32) (r : Fin 256) (d : Fin 64) :
    k0_pay25 z (ix4 0 0 r d) = z (ix2 r ⟨1024 * 0 + 64 * 15 + d.val, by omega⟩) * (Ideal.ofBits .f32 0x3E000000#32) := by
  unfold k0_pay25
  pointwise
theorem head_0_14 (z : FVec Ideal S256x3072 .f32) (r : Fin 256) (d : Fin 64) :
    k0_pay24 (k0_pay23 z) (ix4 0 0 r d) = z (ix2 r ⟨1024 * 0 + 64 * 14 + d.val, by omega⟩) * (Ideal.ofBits .f32 0x3E000000#32) := by
  unfold k0_pay24 k0_pay23
  pointwise
theorem head_0_13 (z : FVec Ideal S256x3072 .f32) (r : Fin 256) (d : Fin 64) :
    k0_pay22 z (ix4 0 0 r d) = z (ix2 r ⟨1024 * 0 + 64 * 13 + d.val, by omega⟩) * (Ideal.ofBits .f32 0x3E000000#32) := by
  unfold k0_pay22
  pointwise
theorem head_0_12 (z : FVec Ideal S256x3072 .f32) (r : Fin 256) (d : Fin 64) :
    k0_pay21 z (ix4 0 0 r d) = z (ix2 r ⟨1024 * 0 + 64 * 12 + d.val, by omega⟩) * (Ideal.ofBits .f32 0x3E000000#32) := by
  unfold k0_pay21
  pointwise
theorem head_0_11 (z : FVec Ideal S256x3072 .f32) (r : Fin 256) (d : Fin 64) :
    k0_pay20 z (ix4 0 0 r d) = z (ix2 r ⟨1024 * 0 + 64 * 11 + d.val, by omega⟩) * (Ideal.ofBits .f32 0x3E000000#32) := by
  unfold k0_pay20
  pointwise
theorem head_0_10 (z : FVec Ideal S256x3072 .f32) (r : Fin 256) (d : Fin 64) :
    k0_pay19 (k0_pay17 z) (k0_pay18 (F := Ideal)) (ix4 0 0 r d) = z (ix2 r ⟨1024 * 0 + 64 * 10 + d.val, by omega⟩) * (Ideal.ofBits .f32 0x3E000000#32) := by
  unfold k0_pay19 k0_pay17 k0_pay18
  pointwise
theorem head_0_9 (z : FVec Ideal S256x3072 .f32) (r : Fin 256) (d : Fin 64) :
    k0_pay16 z (ix4 0 0 r d) = z (ix2 r ⟨1024 * 0 + 64 * 9 + d.val, by omega⟩) * (Ideal.ofBits .f32 0x3E000000#32) := by
  unfold k0_pay16
  pointwise
theorem head_0_8 (z : FVec Ideal S256x3072 .f32) (r : Fin 256) (d : Fin 64) :
    k0_pay15 z (ix4 0 0 r d) = z (ix2 r ⟨1024 * 0 + 64 * 8 + d.val, by omega⟩) * (Ideal.ofBits .f32 0x3E000000#32) := by
  unfold k0_pay15
  pointwise
theorem head_0_7 (z : FVec Ideal S256x3072 .f32) (r : Fin 256) (d : Fin 64) :
    k0_pay14 z (ix4 0 0 r d) = z (ix2 r ⟨1024 * 0 + 64 * 7 + d.val, by omega⟩) * (Ideal.ofBits .f32 0x3E000000#32) := by
  unfold k0_pay14
  pointwise
theorem head_0_6 (z : FVec Ideal S256x3072 .f32) (r : Fin 256) (d : Fin 64) :
    k0_pay13 z (ix4 0 0 r d) = z (ix2 r ⟨1024 * 0 + 64 * 6 + d.val, by omega⟩) * (Ideal.ofBits .f32 0x3E000000#32) := by
  unfold k0_pay13
  pointwise
theorem head_0_5 (z : FVec Ideal S256x3072 .f32) (r : Fin 256) (d : Fin 64) :
    k0_pay12 (k0_pay11 z) (ix4 0 0 r d) = z (ix2 r ⟨1024 * 0 + 64 * 5 + d.val, by omega⟩) * (Ideal.ofBits .f32 0x3E000000#32) := by
  unfold k0_pay12 k0_pay11
  pointwise
theorem head_0_4 (z : FVec Ideal S256x3072 .f32) (r : Fin 256) (d : Fin 64) :
    k0_pay10 z (ix4 0 0 r d) = z (ix2 r ⟨1024 * 0 + 64 * 4 + d.val, by omega⟩) * (Ideal.ofBits .f32 0x3E000000#32) := by
  unfold k0_pay10
  pointwise
theorem head_0_3 (z : FVec Ideal S256x3072 .f32) (r : Fin 256) (d : Fin 64) :
    k0_pay9 z (ix4 0 0 r d) = z (ix2 r ⟨1024 * 0 + 64 * 3 + d.val, by omega⟩) * (Ideal.ofBits .f32 0x3E000000#32) := by
  unfold k0_pay9
  pointwise
theorem head_0_2 (z : FVec Ideal S256x3072 .f32) (r : Fin 256) (d : Fin 64) :
    k0_pay8 z (ix4 0 0 r d) = z (ix2 r ⟨1024 * 0 + 64 * 2 + d.val, by omega⟩) * (Ideal.ofBits .f32 0x3E000000#32) := by
  unfold k0_pay8
  pointwise
theorem head_0_1 (z : FVec Ideal S256x3072 .f32) (r : Fin 256) (d : Fin 64) :
    k0_pay7 z (ix4 0 0 r d) = z (ix2 r ⟨1024 * 0 + 64 * 1 + d.val, by omega⟩) * (Ideal.ofBits .f32 0x3E000000#32) := by
  unfold k0_pay7
  pointwise
theorem head_0_0 (x : Vec Ideal S256x1024 .f32) (g : Vec Ideal S1x1024 .f32) (sc sh : Vec Ideal S1x1x1024 .f32) (w : Vec Ideal S1024x3072 .bf16) (r : Fin 256) (d : Fin 64) :
    k0_pay6 x g sc sh w (ix4 0 0 r d) = k0_pay5 x g sc sh w (ix2 r ⟨1024 * 0 + 64 * 0 + d.val, by omega⟩) * (Ideal.ofBits .f32 0x3E000000#32) := by
  unfold k0_pay6
  generalize k0_pay5 x g sc sh w = z
  pointwise
theorem head_1_15 (z : FVec Ideal S256x3072 .f32) (r : Fin 256) (d : Fin 64) :
    k0_pay44 z (ix4 0 0 r d) = z (ix2 r ⟨1024 * 1 + 64 * 15 + d.val, by omega⟩) * 1 := by
  unfold k0_pay44
  pointwise
theorem head_1_14 (z : FVec Ideal S256x3072 .f32) (r : Fin 256) (d : Fin 64) :
    k0_pay43 z (ix4 0 0 r d) = z (ix2 r ⟨1024 * 1 + 64 * 14 + d.val, by omega⟩) * 1 := by
  unfold k0_pay43
  pointwise
theorem head_1_13 (z : FVec Ideal S256x3072 .f32) (r : Fin 256) (d : Fin 64) :
    k0_pay42 (k0_pay41 z) (ix4 0 0 r d) = z (ix2 r ⟨1024 * 1 + 64 * 13 + d.val, by omega⟩) * 1 := by
  unfold k0_pay42 k0_pay41
  pointwise
theorem head_1_12 (z : FVec Ideal S256x3072 .f32) (r : Fin 256) (d : Fin 64) :
    k0_pay40 z (ix4 0 0 r d) = z (ix2 r ⟨1024 * 1 + 64 * 12 + d.val, by omega⟩) * 1 := by
  unfold k0_pay40
  pointwise
theorem head_1_11 (z : FVec Ideal S256x3072 .f32) (r : Fin 256) (d : Fin 64) :
    k0_pay39 z (ix4 0 0 r d) = z (ix2 r ⟨1024 * 1 + 64 * 11 + d.val, by omega⟩) * 1 := by
  unfold k0_pay39
  pointwise
theorem head_1_10 (z : FVec Ideal S256x3072 .f32) (r : Fin 256) (d : Fin 64) :
    k0_pay38 z (ix4 0 0 r d) = z (ix2 r ⟨1024 * 1 + 64 * 10 + d.val, by omega⟩) * 1 := by
  unfold k0_pay38
  pointwise
theorem head_1_9 (z : FVec Ideal S256x3072 .f32) (r : Fin 256) (d : Fin 64) :
    k0_pay37 z (ix4 0 0 r d) = z (ix2 r ⟨1024 * 1 + 64 * 9 + d.val, by omega⟩) * 1 := by
  unfold k0_pay37
  pointwise
theorem head_1_8 (z : FVec Ideal S256x3072 .f32) (r : Fin 256) (d : Fin 64) :
    k0_pay36 (k0_pay35 z) (ix4 0 0 r d) = z (ix2 r ⟨1024 * 1 + 64 * 8 + d.val, by omega⟩) * 1 := by
  unfold k0_pay36 k0_pay35
  pointwise
theorem head_1_7 (z : FVec Ideal S256x3072 .f32) (r : Fin 256) (d : Fin 64) :
    k0_pay34 z (ix4 0 0 r d) = z (ix2 r ⟨1024 * 1 + 64 * 7 + d.val, by omega⟩) * 1 := by
  unfold k0_pay34
  pointwise
theorem head_1_6 (z : FVec Ideal S256x3072 .f32) (r : Fin 256) (d : Fin 64) :
    k0_pay33 z (ix4 0 0 r d) = z (ix2 r ⟨1024 * 1 + 64 * 6 + d.val, by omega⟩) * 1 := by
  unfold k0_pay33
  pointwise
theorem head_1_5 (z : FVec Ideal S256x3072 .f32) (r : Fin 256) (d : Fin 64) :
    k0_pay32 z (ix4 0 0 r d) = z (ix2 r ⟨1024 * 1 + 64 * 5 + d.val, by omega⟩) * 1 := by
  unfold k0_pay32
  pointwise
theorem head_1_4 (z : FVec Ideal S256x3072 .f32) (r : Fin 256) (d : Fin 64) :
    k0_pay31 z (ix4 0 0 r d) = z (ix2 r ⟨1024 * 1 + 64 * 4 + d.val, by omega⟩) * 1 := by
  unfold k0_pay31
  pointwise
theorem head_1_3 (z : FVec Ideal S256x3072 .f32) (r : Fin 256) (d : Fin 64) :
    k0_pay30 (k0_pay29 z) (ix4 0 0 r d) = z (ix2 r ⟨1024 * 1 + 64 * 3 + d.val, by omega⟩) * 1 := by
  unfold k0_pay30 k0_pay29
  pointwise
theorem head_1_2 (z : FVec Ideal S256x3072 .f32) (r : Fin 256) (d : Fin 64) :
    k0_pay28 z (ix4 0 0 r d) = z (ix2 r ⟨1024 * 1 + 64 * 2 + d.val, by omega⟩) * 1 := by
  unfold k0_pay28
  pointwise
theorem head_1_1 (z : FVec Ideal S256x3072 .f32) (r : Fin 256) (d : Fin 64) :
    k0_pay27 z (ix4 0 0 r d) = z (ix2 r ⟨1024 * 1 + 64 * 1 + d.val, by omega⟩) * 1 := by
  unfold k0_pay27
  pointwise
theorem head_1_0 (z : FVec Ideal S256x3072 .f32) (r : Fin 256) (d : Fin 64) :
    k0_pay26 z (ix4 0 0 r d) = z (ix2 r ⟨1024 * 1 + 64 * 0 + d.val, by omega⟩) * 1 := by
  unfold k0_pay26
  pointwise
theorem head_2_15 (z : FVec Ideal S256x3072 .f32) (r : Fin 256) (d : Fin 64) :
    k0_pay4 z (ix4 0 0 r d) = z (ix2 r ⟨1024 * 2 + 64 * 15 + d.val, by omega⟩) * 1 := by
  unfold k0_pay4
  pointwise
theorem head_2_14 (z : FVec Ideal S256x3072 .f32) (r : Fin 256) (d : Fin 64) :
    k0_pay3 z (ix4 0 0 r d) = z (ix2 r ⟨1024 * 2 + 64 * 14 + d.val, by omega⟩) * 1 := by
  unfold k0_pay3
  pointwise
theorem head_2_13 (z : FVec Ideal S256x3072 .f32) (r : Fin 256) (d : Fin 64) :
    k0_pay2 z (ix4 0 0 r d) = z (ix2 r ⟨1024 * 2 + 64 * 13 + d.val, by omega⟩) * 1 := by
  unfold k0_pay2
  pointwise
theorem head_2_12 (z : FVec Ideal S256x3072 .f32) (r : Fin 256) (d : Fin 64) :
    k0_pay1 (k0_pay59 z) (ix4 0 0 r d) = z (ix2 r ⟨1024 * 2 + 64 * 12 + d.val, by omega⟩) * 1 := by
  unfold k0_pay1 k0_pay59
  pointwise
theorem head_2_11 (z : FVec Ideal S256x3072 .f32) (r : Fin 256) (d : Fin 64) :
    k0_pay58 z (ix4 0 0 r d) = z (ix2 r ⟨1024 * 2 + 64 * 11 + d.val, by omega⟩) * 1 := by
  unfold k0_pay58
  pointwise
theorem head_2_10 (z : FVec Ideal S256x3072 .f32) (r : Fin 256) (d : Fin 64) :
    k0_pay57 z (ix4 0 0 r d) = z (ix2 r ⟨1024 * 2 + 64 * 10 + d.val, by omega⟩) * 1 := by
  unfold k0_pay57
  pointwise
theorem head_2_9 (z : FVec Ideal S256x3072 .f32) (r : Fin 256) (d : Fin 64) :
    k0_pay56 z (ix4 0 0 r d) = z (ix2 r ⟨1024 * 2 + 64 * 9 + d.val, by omega⟩) * 1 := by
  unfold k0_pay56
  pointwise
theorem head_2_8 (z : FVec Ideal S256x3072 .f32) (r : Fin 256) (d : Fin 64) :
    k0_pay55 z (ix4 0 0 r d) = z (ix2 r ⟨1024 * 2 + 64 * 8 + d.val, by omega⟩) * 1 := by
  unfold k0_pay55
  pointwise
theorem head_2_7 (z : FVec Ideal S256x3072 .f32) (r : Fin 256) (d : Fin 64) :
    k0_pay54 (k0_pay53 z) (ix4 0 0 r d) = z (ix2 r ⟨1024 * 2 + 64 * 7 + d.val, by omega⟩) * 1 := by
  unfold k0_pay54 k0_pay53
  pointwise
theorem head_2_6 (z : FVec Ideal S256x3072 .f32) (r : Fin 256) (d : Fin 64) :
    k0_pay52 z (ix4 0 0 r d) = z (ix2 r ⟨1024 * 2 + 64 * 6 + d.val, by omega⟩) * 1 := by
  unfold k0_pay52
  pointwise
theorem head_2_5 (z : FVec Ideal S256x3072 .f32) (r : Fin 256) (d : Fin 64) :
    k0_pay51 z (ix4 0 0 r d) = z (ix2 r ⟨1024 * 2 + 64 * 5 + d.val, by omega⟩) * 1 := by
  unfold k0_pay51
  pointwise
theorem head_2_4 (z : FVec Ideal S256x3072 .f32) (r : Fin 256) (d : Fin 64) :
    k0_pay50 z (ix4 0 0 r d) = z (ix2 r ⟨1024 * 2 + 64 * 4 + d.val, by omega⟩) * 1 := by
  unfold k0_pay50
  pointwise
theorem head_2_3 (z : FVec Ideal S256x3072 .f32) (r : Fin 256) (d : Fin 64) :
    k0_pay49 z (ix4 0 0 r d) = z (ix2 r ⟨1024 * 2 + 64 * 3 + d.val, by omega⟩) * 1 := by
  unfold k0_pay49
  pointwise
theorem head_2_2 (z : FVec Ideal S256x3072 .f32) (r : Fin 256) (d : Fin 64) :
    k0_pay48 (k0_pay47 z) (ix4 0 0 r d) = z (ix2 r ⟨1024 * 2 + 64 * 2 + d.val, by omega⟩) * 1 := by
  unfold k0_pay48 k0_pay47
  pointwise
theorem head_2_1 (z : FVec Ideal S256x3072 .f32) (r : Fin 256) (d : Fin 64) :
    k0_pay46 z (ix4 0 0 r d) = z (ix2 r ⟨1024 * 2 + 64 * 1 + d.val, by omega⟩) * 1 := by
  unfold k0_pay46
  pointwise
theorem head_2_0 (z : FVec Ideal S256x3072 .f32) (r : Fin 256) (d : Fin 64) :
    k0_pay45 z (ix4 0 0 r d) = z (ix2 r ⟨1024 * 2 + 64 * 0 + d.val, by omega⟩) * 1 := by
  unfold k0_pay45
  pointwise

theorem ld_rows {e : EltTy} (X : S256x1024.Idx → Elt Ideal e) : View.ld X r0_0 = X := ld_all X _ _ fun a => by fin_cases a <;> rfl
theorem ld_gain {e : EltTy} (X : S1x1024.Idx → Elt Ideal e) : View.ld X r0_1 = X := ld_all X _ _ fun a => by fin_cases a <;> rfl
theorem ld_mod {e : EltTy} (X : S1x1x1024.Idx → Elt Ideal e) : View.ld X r0_2 = X := ld_all X _ _ fun a => by fin_cases a <;> rfl
theorem ld_weight {e : EltTy} (X : S1024x3072.Idx → Elt Ideal e) : View.ld X r0_3 = X := ld_all X _ _ fun a => by fin_cases a <;> rfl

theorem out_5 (x0 : Vec Ideal S256x1024 .f32) (x1 : Vec Ideal S1x1024 .f32) (x2 x3 : Vec Ideal S1x1x1024 .f32)
    (x4 : Vec Ideal S1024x3072 .bf16) (y : S1x16x256x64.Idx) : out0_5 x0 x1 x2 x3 x4 y = cut 0 (Ideal.ofBits .f32 0x3E000000#32) (k0_pay5 x0 x1 x2 x3 x4) y := by
  unfold out0_5 k0_pay60
  rw [ld_rows, ld_gain, ld_mod, ld_mod, ld_weight]
  refine View.canon_apply_of_pieces (Val := Elt Ideal) (S := S1x16x256x64) (e := .bf16) (cut 0 (Ideal.ofBits .f32 0x3E000000#32) (k0_pay5 x0 x1 x2 x3 x4)) _ (fun p hp x => ?_) y (cover0_5 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  · exact piece_eq 0 _ (k0_pay5 x0 x1 x2 x3 x4) 15 (by omega) inb_S1x16x256x64_S1x1x256x64_0_15_0_0 _ (head_0_15 (k0_pay5 x0 x1 x2 x3 x4)) x
  · exact piece_eq 0 _ (k0_pay5 x0 x1 x2 x3 x4) 14 (by omega) inb_S1x16x256x64_S1x1x256x64_0_14_0_0 _ (head_0_14 (k0_pay5 x0 x1 x2 x3 x4)) x
  · exact piece_eq 0 _ (k0_pay5 x0 x1 x2 x3 x4) 13 (by omega) inb_S1x16x256x64_S1x1x256x64_0_13_0_0 _ (head_0_13 (k0_pay5 x0 x1 x2 x3 x4)) x
  · exact piece_eq 0 _ (k0_pay5 x0 x1 x2 x3 x4) 12 (by omega) inb_S1x16x256x64_S1x1x256x64_0_12_0_0 _ (head_0_12 (k0_pay5 x0 x1 x2 x3 x4)) x
  · exact piece_eq 0 _ (k0_pay5 x0 x1 x2 x3 x4) 11 (by omega) inb_S1x16x256x64_S1x1x256x64_0_11_0_0 _ (head_0_11 (k0_pay5 x0 x1 x2 x3 x4)) x
  · exact piece_eq 0 _ (k0_pay5 x0 x1 x2 x3 x4) 10 (by omega) inb_S1x16x256x64_S1x1x256x64_0_10_0_0 _ (head_0_10 (k0_pay5 x0 x1 x2 x3 x4)) x
  · exact piece_eq 0 _ (k0_pay5 x0 x1 x2 x3 x4) 9 (by omega) inb_S1x16x256x64_S1x1x256x64_0_9_0_0 _ (head_0_9 (k0_pay5 x0 x1 x2 x3 x4)) x
  · exact piece_eq 0 _ (k0_pay5 x0 x1 x2 x3 x4) 8 (by omega) inb_S1x16x256x64_S1x1x256x64_0_8_0_0 _ (head_0_8 (k0_pay5 x0 x1 x2 x3 x4)) x
  · exact piece_eq 0 _ (k0_pay5 x0 x1 x2 x3 x4) 7 (by omega) inb_S1x16x256x64_S1x1x256x64_0_7_0_0 _ (head_0_7 (k0_pay5 x0 x1 x2 x3 x4)) x
  · exact piece_eq 0 _ (k0_pay5 x0 x1 x2 x3 x4) 6 (by omega) inb_S1x16x256x64_S1x1x256x64_0_6_0_0 _ (head_0_6 (k0_pay5 x0 x1 x2 x3 x4)) x
  · exact piece_eq 0 _ (k0_pay5 x0 x1 x2 x3 x4) 5 (by omega) inb_S1x16x256x64_S1x1x256x64_0_5_0_0 _ (head_0_5 (k0_pay5 x0 x1 x2 x3 x4)) x
  · exact piece_eq 0 _ (k0_pay5 x0 x1 x2 x3 x4) 4 (by omega) inb_S1x16x256x64_S1x1x256x64_0_4_0_0 _ (head_0_4 (k0_pay5 x0 x1 x2 x3 x4)) x
  · exact piece_eq 0 _ (k0_pay5 x0 x1 x2 x3 x4) 3 (by omega) inb_S1x16x256x64_S1x1x256x64_0_3_0_0 _ (head_0_3 (k0_pay5 x0 x1 x2 x3 x4)) x
  · exact piece_eq 0 _ (k0_pay5 x0 x1 x2 x3 x4) 2 (by omega) inb_S1x16x256x64_S1x1x256x64_0_2_0_0 _ (head_0_2 (k0_pay5 x0 x1 x2 x3 x4)) x
  · exact piece_eq 0 _ (k0_pay5 x0 x1 x2 x3 x4) 1 (by omega) inb_S1x16x256x64_S1x1x256x64_0_1_0_0 _ (head_0_1 (k0_pay5 x0 x1 x2 x3 x4)) x
  · exact piece_eq 0 _ (k0_pay5 x0 x1 x2 x3 x4) 0 (by omega) inb_S1x16x256x64_S1x1x256x64_0_0_0_0 _ (head_0_0 x0 x1 x2 x3 x4) x

theorem out_6 (x0 : Vec Ideal S256x1024 .f32) (x1 : Vec Ideal S1x1024 .f32) (x2 x3 : Vec Ideal S1x1x1024 .f32)
    (x4 : Vec Ideal S1024x3072 .bf16) (y : S1x16x256x64.Idx) : out0_6 x0 x1 x2 x3 x4 y = cut 1 1 (k0_pay5 x0 x1 x2 x3 x4) y := by
  unfold out0_6 k0_pay60
  rw [ld_rows, ld_gain, ld_mod, ld_mod, ld_weight]
  generalize k0_pay5 x0 x1 x2 x3 x4 = z
  refine View.canon_apply_of_pieces (Val := Elt Ideal) (S := S1x16x256x64) (e := .f32) (cut 1 1 z) _ (fun p hp x => ?_) y (cover0_6 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  · exact piece_eq 1 _ z 15 (by omega) inb_S1x16x256x64_S1x1x256x64_0_15_0_0 _ (head_1_15 z) x
  · exact piece_eq 1 _ z 14 (by omega) inb_S1x16x256x64_S1x1x256x64_0_14_0_0 _ (head_1_14 z) x
  · exact piece_eq 1 _ z 13 (by omega) inb_S1x16x256x64_S1x1x256x64_0_13_0_0 _ (head_1_13 z) x
  · exact piece_eq 1 _ z 12 (by omega) inb_S1x16x256x64_S1x1x256x64_0_12_0_0 _ (head_1_12 z) x
  · exact piece_eq 1 _ z 11 (by omega) inb_S1x16x256x64_S1x1x256x64_0_11_0_0 _ (head_1_11 z) x
  · exact piece_eq 1 _ z 10 (by omega) inb_S1x16x256x64_S1x1x256x64_0_10_0_0 _ (head_1_10 z) x
  · exact piece_eq 1 _ z 9 (by omega) inb_S1x16x256x64_S1x1x256x64_0_9_0_0 _ (head_1_9 z) x
  · exact piece_eq 1 _ z 8 (by omega) inb_S1x16x256x64_S1x1x256x64_0_8_0_0 _ (head_1_8 z) x
  · exact piece_eq 1 _ z 7 (by omega) inb_S1x16x256x64_S1x1x256x64_0_7_0_0 _ (head_1_7 z) x
  · exact piece_eq 1 _ z 6 (by omega) inb_S1x16x256x64_S1x1x256x64_0_6_0_0 _ (head_1_6 z) x
  · exact piece_eq 1 _ z 5 (by omega) inb_S1x16x256x64_S1x1x256x64_0_5_0_0 _ (head_1_5 z) x
  · exact piece_eq 1 _ z 4 (by omega) inb_S1x16x256x64_S1x1x256x64_0_4_0_0 _ (head_1_4 z) x
  · exact piece_eq 1 _ z 3 (by omega) inb_S1x16x256x64_S1x1x256x64_0_3_0_0 _ (head_1_3 z) x
  · exact piece_eq 1 _ z 2 (by omega) inb_S1x16x256x64_S1x1x256x64_0_2_0_0 _ (head_1_2 z) x
  · exact piece_eq 1 _ z 1 (by omega) inb_S1x16x256x64_S1x1x256x64_0_1_0_0 _ (head_1_1 z) x
  · exact piece_eq 1 _ z 0 (by omega) inb_S1x16x256x64_S1x1x256x64_0_0_0_0 _ (head_1_0 z) x

theorem out_7 (x0 : Vec Ideal S256x1024 .f32) (x1 : Vec Ideal S1x1024 .f32) (x2 x3 : Vec Ideal S1x1x1024 .f32)
    (x4 : Vec Ideal S1024x3072 .bf16) (y : S1x16x256x64.Idx) : out0_7 x0 x1 x2 x3 x4 y = cut 2 1 (k0_pay5 x0 x1 x2 x3 x4) y := by
  unfold out0_7 k0_pay60
  rw [ld_rows, ld_gain, ld_mod, ld_mod, ld_weight]
  generalize k0_pay5 x0 x1 x2 x3 x4 = z
  refine View.canon_apply_of_pieces (Val := Elt Ideal) (S := S1x16x256x64) (e := .f32) (cut 2 1 z) _ (fun p hp x => ?_) y (cover0_7 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  · exact piece_eq 2 _ z 15 (by omega) inb_S1x16x256x64_S1x1x256x64_0_15_0_0 _ (head_2_15 z) x
  · exact piece_eq 2 _ z 14 (by omega) inb_S1x16x256x64_S1x1x256x64_0_14_0_0 _ (head_2_14 z) x
  · exact piece_eq 2 _ z 13 (by omega) inb_S1x16x256x64_S1x1x256x64_0_13_0_0 _ (head_2_13 z) x
  · exact piece_eq 2 _ z 12 (by omega) inb_S1x16x256x64_S1x1x256x64_0_12_0_0 _ (head_2_12 z) x
  · exact piece_eq 2 _ z 11 (by omega) inb_S1x16x256x64_S1x1x256x64_0_11_0_0 _ (head_2_11 z) x
  · exact piece_eq 2 _ z 10 (by omega) inb_S1x16x256x64_S1x1x256x64_0_10_0_0 _ (head_2_10 z) x
  · exact piece_eq 2 _ z 9 (by omega) inb_S1x16x256x64_S1x1x256x64_0_9_0_0 _ (head_2_9 z) x
  · exact piece_eq 2 _ z 8 (by omega) inb_S1x16x256x64_S1x1x256x64_0_8_0_0 _ (head_2_8 z) x
  · exact piece_eq 2 _ z 7 (by omega) inb_S1x16x256x64_S1x1x256x64_0_7_0_0 _ (head_2_7 z) x
  · exact piece_eq 2 _ z 6 (by omega) inb_S1x16x256x64_S1x1x256x64_0_6_0_0 _ (head_2_6 z) x
  · exact piece_eq 2 _ z 5 (by omega) inb_S1x16x256x64_S1x1x256x64_0_5_0_0 _ (head_2_5 z) x
  · exact piece_eq 2 _ z 4 (by omega) inb_S1x16x256x64_S1x1x256x64_0_4_0_0 _ (head_2_4 z) x
  · exact piece_eq 2 _ z 3 (by omega) inb_S1x16x256x64_S1x1x256x64_0_3_0_0 _ (head_2_3 z) x
  · exact piece_eq 2 _ z 2 (by omega) inb_S1x16x256x64_S1x1x256x64_0_2_0_0 _ (head_2_2 z) x
  · exact piece_eq 2 _ z 1 (by omega) inb_S1x16x256x64_S1x1x256x64_0_1_0_0 _ (head_2_1 z) x
  · exact piece_eq 2 _ z 0 (by omega) inb_S1x16x256x64_S1x1x256x64_0_0_0_0 _ (head_2_0 z) x

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![8, 0, 0] := by decide +kernel
theorem index_3 : ∀ t : Fin cfg0.N, win0_3.index t = ![0, 0, 0] := by decide +kernel
theorem index_4 : ∀ t : Fin cfg0.N, win0_4.index t = ![0, 0] := by decide +kernel
theorem index_5 : ∀ t : Fin cfg0.N, win0_5.index t = ![t.val, 0, 0, 0] := by decide +kernel
theorem index_6 : ∀ t : Fin cfg0.N, win0_6.index t = ![t.val, 0, 0, 0] := by decide +kernel
theorem index_7 : ∀ t : Fin cfg0.N, win0_7.index t = ![t.val, 0, 0, 0] := by decide +kernel

variable (m : (ℓ : Loc nD τ sig) → Buf (Elt Ideal) ℓ) (c : Dev nD)

theorem v_2 : V m c main_v2 = (shapeCast S48x1x1024 (transpose S6x8x1024 [1, 0, 2] (shapeCast S8x6x1024 (m ((c : Thread nD τ).loc main_arg2) : S8x6144.Idx → EReal) shapeCasts_S8x6144_S8x6x1024) transposes_S8x6x1024_S6x8x1024_1_0_2) shapeCasts_S6x8x1024_S48x1x1024 : S48x1x1024.Idx → EReal) := by
  unfold V
  show StableHlo.after hostOps0 (fun b => m (c, b)) (Proc.devRef .tc main_v2) = _
  generalize hX : (fun b => m (c, b) : Valuation τ sig (Elt Ideal)) = X
  rw [hostOps0]; after_results; subst hX; rfl
theorem v_3 : V m c main_v3 = (m ((c : Thread nD τ).loc main_arg3) : S1024x3072.Idx → EReal) := by
  unfold V
  show StableHlo.after hostOps0 (fun b => m (c, b)) (Proc.devRef .tc main_v3) = _
  generalize hX : (fun b => m (c, b) : Valuation τ sig (Elt Ideal)) = X
  rw [hostOps0]; after_results; subst hX; rfl
theorem v_4 : V m c main_v4 = (shapeCast S1x1024 (m ((c : Thread nD τ).loc main_arg1) : S1024.Idx → EReal) shapeCasts_S1024_S1x1024 : S1x1024.Idx → EReal) := by
  unfold V
  show StableHlo.after hostOps0 (fun b => m (c, b)) (Proc.devRef .tc main_v4) = _
  generalize hX : (fun b => m (c, b) : Valuation τ sig (Elt Ideal)) = X
  rw [hostOps0]; after_results; subst hX; rfl

theorem gain_at (x : S1024.Idx → EReal) (k : Fin 1024) : shapeCast S1x1024 x shapeCasts_S1024_S1x1024 (ix2 0 k) = x (ix1 k) := by
  refine shapeCast_apply x _ _ _ ?_
  rw [Shape.rowMajor_val_one, Shape.rowMajor_val_two]
  show k.val = 0 * 1024 + k.val
  omega

variable (t : Fin cfg0.N)
theorem point_lt : t.val < 32 := t.isLt

theorem iblk_0 (r : Fin 256) (k : Fin 1024) : iblk m c 0 t (ix2 r k) = V m c main_arg0 (ix2 ⟨256 * t.val + r.val, by have := point_lt t; omega⟩ k) := by
  show V m c main_arg0 ((win0_0.rect t).emb (ix2 r k)) = _
  refine congrArg (V m c main_arg0) (funext fun a => Fin.ext ?_)
  refine (win0_0.rect_emb_val t (ix2 r k) a).trans ?_
  rw [congrFun (index_0 t) a]
  fin_cases a <;> simp [Nat.mul_comm]
theorem iblk_1 (r : Fin 1) (k : Fin 1024) : iblk m c 1 t (ix2 r k) = V m c main_v4 (ix2 r k) := by
  show V m c main_v4 ((win0_1.rect t).emb (ix2 r k)) = _
  refine congrArg (V m c main_v4) (funext fun a => Fin.ext ?_)
  refine (win0_1.rect_emb_val t (ix2 r k) a).trans ?_
  rw [congrFun (index_1 t) a]
  fin_cases a <;> simp
theorem iblk_4 (r : Fin 1024) (k : Fin 3072) : iblk m c 4 t (ix2 r k) = V m c main_v3 (ix2 r k) := by
  show V m c main_v3 ((win0_4.rect t).emb (ix2 r k)) = _
  refine congrArg (V m c main_v3) (funext fun a => Fin.ext ?_)
  refine (win0_4.rect_emb_val t (ix2 r k) a).trans ?_
  rw [congrFun (index_4 t) a]
  fin_cases a <;> simp
theorem iblk_2 (n : Fin 1024) :
    iblk m c 2 t (ix3 0 0 n) = (m ((c : Thread nD τ).loc main_arg2) : S8x6144.Idx → EReal) (ix2 0 ⟨1024 * 1 + n.val, by omega⟩) := by
  show V m c main_v2 ((win0_2.rect t).emb (ix3 0 0 n)) = _
  refine (congrArg (V m c main_v2) (eq_ix3' _ ⟨8 * (1 : Fin 6).val + (0 : Fin 8).val, by decide⟩ 0 n ?_ ?_ ?_)).trans ?_
  · refine (win0_2.rect_emb_val t (ix3 0 0 n) 0).trans ?_
    rw [congrFun (index_2 t) 0]
    rfl
  · refine (win0_2.rect_emb_val t (ix3 0 0 n) 1).trans ?_
    rw [congrFun (index_2 t) 1]
    simp
  · refine (win0_2.rect_emb_val t (ix3 0 0 n) 2).trans ?_
    rw [congrFun (index_2 t) 2]
    simp
  · rw [v_2]
    exact mods_at _ _ _ _ 1 0 n

theorem iblk_3 (n : Fin 1024) :
    iblk m c 3 t (ix3 0 0 n) = (m ((c : Thread nD τ).loc main_arg2) : S8x6144.Idx → EReal) (ix2 0 ⟨1024 * 0 + n.val, by omega⟩) := by
  show V m c main_v2 ((win0_3.rect t).emb (ix3 0 0 n)) = _
  refine (congrArg (V m c main_v2) (eq_ix3' _ ⟨8 * (0 : Fin 6).val + (0 : Fin 8).val, by decide⟩ 0 n ?_ ?_ ?_)).trans ?_
  · refine (win0_3.rect_emb_val t (ix3 0 0 n) 0).trans ?_
    rw [congrFun (index_3 t) 0]
    rfl
  · refine (win0_3.rect_emb_val t (ix3 0 0 n) 1).trans ?_
    rw [congrFun (index_3 t) 1]
    simp
  · refine (win0_3.rect_emb_val t (ix3 0 0 n) 2).trans ?_
    rw [congrFun (index_3 t) 2]
    simp
  · rw [v_2]
    exact mods_at _ _ _ _ 0 0 n

/-- One part (query, key or value) of head `h` at row `r` of request `b`: normed, modulated, projected, scaled. -/
def headAt (part : Fin 3) (e : EReal) (x : S16384x1024.Idx → EReal) (g : S1024.Idx → EReal) (md : S8x6144.Idx → EReal)
    (w : S1024x3072.Idx → EReal) (b : Fin 32) (h : Fin 16) (r : Fin 256) (d : Fin 64) : EReal :=
  (∑ k : Fin 1024, normed (fun j => x (ix2 ⟨256 * b.val + r.val, by omega⟩ j)) (fun j => g (ix1 j))
      (fun j => md (ix2 0 ⟨1024 * 1 + j.val, by omega⟩)) (fun j => md (ix2 0 ⟨1024 * 0 + j.val, by omega⟩)) k
    * w (ix2 k ⟨1024 * part.val + 64 * h.val + d.val, by omega⟩)) * e

theorem product_block (r : Fin 256) (n : Fin 3072) :
    k0_pay5 (iblk m c 0 t) (iblk m c 1 t) (iblk m c 2 t) (iblk m c 3 t) (iblk m c 4 t) (ix2 r n)
      = ∑ k : Fin 1024, normed (fun j => (m ((c : Thread nD τ).loc main_arg0) : S16384x1024.Idx → EReal) (ix2 ⟨256 * t.val + r.val, by have := point_lt t; omega⟩ j))
          (fun j => (m ((c : Thread nD τ).loc main_arg1) : S1024.Idx → EReal) (ix1 j))
          (fun j => (m ((c : Thread nD τ).loc main_arg2) : S8x6144.Idx → EReal) (ix2 0 ⟨1024 * 1 + j.val, by omega⟩))
          (fun j => (m ((c : Thread nD τ).loc main_arg2) : S8x6144.Idx → EReal) (ix2 0 ⟨1024 * 0 + j.val, by omega⟩)) k
        * (m ((c : Thread nD τ).loc main_arg3) : S1024x3072.Idx → EReal) (ix2 k n) := by
  have e4 : ∀ k : Fin 1024, iblk m c 4 t (ix2 k n) = (m ((c : Thread nD τ).loc main_arg3) : S1024x3072.Idx → EReal) (ix2 k n) := fun k => by rw [iblk_4, v_3]
  have e1 : (fun j => iblk m c 1 t (ix2 0 j) : Fin 1024 → EReal) = fun j => (m ((c : Thread nD τ).loc main_arg1) : S1024.Idx → EReal) (ix1 j) := by
    funext j; rw [iblk_1, v_4]; exact gain_at _ j
  have e2 : (fun j => iblk m c 2 t (ix3 0 0 j) : Fin 1024 → EReal) = _ := funext fun j => iblk_2 m c t j
  have e3 : (fun j => iblk m c 3 t (ix3 0 0 j) : Fin 1024 → EReal) = _ := funext fun j => iblk_3 m c t j
  have e0 : (fun j => iblk m c 0 t (ix2 r j) : Fin 1024 → EReal) = fun j => (m ((c : Thread nD τ).loc main_arg0) : S16384x1024.Idx → EReal) (ix2 ⟨256 * t.val + r.val, by have := point_lt t; omega⟩ j) := by
    funext j; rw [iblk_0, V_main_arg0]
  rw [product_at]
  refine Finset.sum_congr rfl fun k _ => congrArg₂ (· * ·) ?_ (e4 k)
  rw [e0, e1, e2, e3]

/-- A whole result. -/
def headG (part : Fin 3) (e : EReal) : S32x16x256x64.Idx → EReal := fun y =>
  headAt part e (m ((c : Thread nD τ).loc main_arg0)) (m ((c : Thread nD τ).loc main_arg1)) (m ((c : Thread nD τ).loc main_arg2))
    (m ((c : Thread nD τ).loc main_arg3)) (y 0 : Fin 32) (y 1 : Fin 16) (y 2 : Fin 256) (y 3 : Fin 64)

theorem cut_block (part : Fin 3) (e : EReal) (y : S1x16x256x64.Idx) (i : S32x16x256x64.Idx)
    (h0 : (i 0).val = t.val) (h1 : (i 1).val = (y 1).val) (h2 : (i 2).val = (y 2).val) (h3 : (i 3).val = (y 3).val) :
    cut part e (k0_pay5 (iblk m c 0 t) (iblk m c 1 t) (iblk m c 2 t) (iblk m c 3 t) (iblk m c 4 t)) y = headG m c part e i := by
  unfold cut
  refine (congrArg (· * e) (product_block m c t (y 2 : Fin 256) _)).trans ?_
  unfold headG headAt
  have r0 : (i 0 : Fin 32) = ⟨t.val, point_lt t⟩ := Fin.ext h0
  have r1 : (i 1 : Fin 16) = (y 1 : Fin 16) := Fin.ext h1
  have r2 : (i 2 : Fin 256) = (y 2 : Fin 256) := Fin.ext h2
  have r3 : (i 3 : Fin 64) = (y 3 : Fin 64) := Fin.ext h3
  rw [r0, r1, r2, r3]

theorem block_5 (y : S1x16x256x64.Idx) :
    out0_5 (iblk m c 0 t) (iblk m c 1 t) (iblk m c 2 t) (iblk m c 3 t) (iblk m c 4 t) y = headG m c 0 (Ideal.ofBits .f32 0x3E000000#32) ((win0_5.rect t).emb y) := by
  have y0 : (y 0).val < 1 := (y 0).isLt
  rw [out_5]
  refine cut_block m c t 0 _ y _ ?_ ?_ ?_ ?_
  · refine (win0_5.rect_emb_val t y 0).trans ?_
    rw [congrFun (index_5 t) 0]
    show t.val * 1 + (y 0).val = t.val
    omega
  · refine (win0_5.rect_emb_val t y 1).trans ?_
    rw [congrFun (index_5 t) 1]
    show 0 * 16 + (y 1).val = (y 1).val
    omega
  · refine (win0_5.rect_emb_val t y 2).trans ?_
    rw [congrFun (index_5 t) 2]
    show 0 * 256 + (y 2).val = (y 2).val
    omega
  · refine (win0_5.rect_emb_val t y 3).trans ?_
    rw [congrFun (index_5 t) 3]
    show 0 * 64 + (y 3).val = (y 3).val
    omega

theorem arr_5 : (dats m 0 c).arrAt 5 cfg0.N = headG m c 0 (Ideal.ofBits .f32 0x3E000000#32) := by
  refine Dat.arrAt_eq_of_cover (dats m 0 c) 5 _ (fun t hf => ?_) (fun i => ?_)
  · rw [show (dats m 0 c).flushed 5 t = (dats m 0 c).after 5 t from rfl, after0_5]
    funext y
    exact block_5 m c t y
  · refine ⟨⟨(i 0).val, (i 0).isLt⟩, flush0_5 _, ?_⟩
    refine Finset.mem_map.mpr ⟨(ix4 (0 : Fin 1) (i 1 : Fin 16) (i 2 : Fin 256) (i 3 : Fin 64) : S1x16x256x64.Idx), Finset.mem_univ _, ?_⟩
    refine funext fun a => Fin.ext ?_
    refine (win0_5.rect_emb_val _ _ a).trans ?_
    rw [congrFun (index_5 _) a]
    fin_cases a
    · show (i 0).val * 1 + 0 = (i 0).val; omega
    · show 0 * 16 + (i 1).val = (i 1).val; omega
    · show 0 * 256 + (i 2).val = (i 2).val; omega
    · show 0 * 64 + (i 3).val = (i 3).val; omega

theorem block_6 (y : S1x16x256x64.Idx) :
    out0_6 (iblk m c 0 t) (iblk m c 1 t) (iblk m c 2 t) (iblk m c 3 t) (iblk m c 4 t) y = headG m c 1 1 ((win0_6.rect t).emb y) := by
  have y0 : (y 0).val < 1 := (y 0).isLt
  rw [out_6]
  refine cut_block m c t 1 _ y _ ?_ ?_ ?_ ?_
  · refine (win0_6.rect_emb_val t y 0).trans ?_
    rw [congrFun (index_6 t) 0]
    show t.val * 1 + (y 0).val = t.val
    omega
  · refine (win0_6.rect_emb_val t y 1).trans ?_
    rw [congrFun (index_6 t) 1]
    show 0 * 16 + (y 1).val = (y 1).val
    omega
  · refine (win0_6.rect_emb_val t y 2).trans ?_
    rw [congrFun (index_6 t) 2]
    show 0 * 256 + (y 2).val = (y 2).val
    omega
  · refine (win0_6.rect_emb_val t y 3).trans ?_
    rw [congrFun (index_6 t) 3]
    show 0 * 64 + (y 3).val = (y 3).val
    omega

theorem arr_6 : (dats m 0 c).arrAt 6 cfg0.N = headG m c 1 1 := by
  refine Dat.arrAt_eq_of_cover (dats m 0 c) 6 _ (fun t hf => ?_) (fun i => ?_)
  · rw [show (dats m 0 c).flushed 6 t = (dats m 0 c).after 6 t from rfl, after0_6]
    funext y
    exact block_6 m c t y
  · refine ⟨⟨(i 0).val, (i 0).isLt⟩, flush0_6 _, ?_⟩
    refine Finset.mem_map.mpr ⟨(ix4 (0 : Fin 1) (i 1 : Fin 16) (i 2 : Fin 256) (i 3 : Fin 64) : S1x16x256x64.Idx), Finset.mem_univ _, ?_⟩
    refine funext fun a => Fin.ext ?_
    refine (win0_6.rect_emb_val _ _ a).trans ?_
    rw [congrFun (index_6 _) a]
    fin_cases a
    · show (i 0).val * 1 + 0 = (i 0).val; omega
    · show 0 * 16 + (i 1).val = (i 1).val; omega
    · show 0 * 256 + (i 2).val = (i 2).val; omega
    · show 0 * 64 + (i 3).val = (i 3).val; omega

theorem block_7 (y : S1x16x256x64.Idx) :
    out0_7 (iblk m c 0 t) (iblk m c 1 t) (iblk m c 2 t) (iblk m c 3 t) (iblk m c 4 t) y = headG m c 2 1 ((win0_7.rect t).emb y) := by
  have y0 : (y 0).val < 1 := (y 0).isLt
  rw [out_7]
  refine cut_block m c t 2 _ y _ ?_ ?_ ?_ ?_
  · refine (win0_7.rect_emb_val t y 0).trans ?_
    rw [congrFun (index_7 t) 0]
    show t.val * 1 + (y 0).val = t.val
    omega
  · refine (win0_7.rect_emb_val t y 1).trans ?_
    rw [congrFun (index_7 t) 1]
    show 0 * 16 + (y 1).val = (y 1).val
    omega
  · refine (win0_7.rect_emb_val t y 2).trans ?_
    rw [congrFun (index_7 t) 2]
    show 0 * 256 + (y 2).val = (y 2).val
    omega
  · refine (win0_7.rect_emb_val t y 3).trans ?_
    rw [congrFun (index_7 t) 3]
    show 0 * 64 + (y 3).val = (y 3).val
    omega

theorem arr_7 : (dats m 0 c).arrAt 7 cfg0.N = headG m c 2 1 := by
  refine Dat.arrAt_eq_of_cover (dats m 0 c) 7 _ (fun t hf => ?_) (fun i => ?_)
  · rw [show (dats m 0 c).flushed 7 t = (dats m 0 c).after 7 t from rfl, after0_7]
    funext y
    exact block_7 m c t y
  · refine ⟨⟨(i 0).val, (i 0).isLt⟩, flush0_7 _, ?_⟩
    refine Finset.mem_map.mpr ⟨(ix4 (0 : Fin 1) (i 1 : Fin 16) (i 2 : Fin 256) (i 3 : Fin 64) : S1x16x256x64.Idx), Finset.mem_univ _, ?_⟩
    refine funext fun a => Fin.ext ?_
    refine (win0_7.rect_emb_val _ _ a).trans ?_
    rw [congrFun (index_7 _) a]
    fin_cases a
    · show (i 0).val * 1 + 0 = (i 0).val; omega
    · show 0 * 16 + (i 1).val = (i 1).val; omega
    · show 0 * 256 + (i 2).val = (i 2).val; omega
    · show 0 * 64 + (i 3).val = (i 3).val; omega

end Cert.Dense.Heads
end
end
-- ==== Proof.HeadRef.lean ====
/- The reference's query, key and value projections are the kernel's. -/
module

public import proofs.«01_k».proof.Proof.Gen.Reference2Ideal.Read
public import proofs.«01_k».proof.Proof.HeadProj

@[expose] public section
set_option maxRecDepth 16384

noncomputable section
namespace Cert.Dense.Heads
open Idealize.ShloMosaic Cert.Reference2Ideal Cert.Reference2Ideal.Gen Cert.Reference2Ideal.Read

variable (x0 : S16384x1024.Idx → EReal) (x1 : S1024.Idx → EReal) (x2 : S8x6144.Idx → EReal) (x3 : S1024x3072.Idx → EReal)

theorem rows_at (b : Fin 32) (r : Fin 256) (k : Fin 1024) :
    val_main_v1 (F := Ideal) x0 (ix3 b r k) = x0 (ix2 ⟨256 * b.val + r.val, by omega⟩ k) := by
  unfold val_main_v1
  refine (shapeCast_apply _ _ _ (ix2 ⟨256 * b.val + r.val, by omega⟩ k : S8192x1024.Idx) ?_).trans ?_
  · rw [Shape.rowMajor_val_three, Shape.rowMajor_val_two]
    show (256 * b.val + r.val) * 1024 + k.val = (b.val * 256 + r.val) * 1024 + k.val
    omega
  · unfold val_main_v0
    refine extractStridedSlice_apply _ _ _ _ _ fun a => ?_
    match a with
    | ⟨0, _⟩ => show 256 * b.val + r.val = 0 + (256 * b.val + r.val); omega
    | ⟨1, _⟩ => show k.val = 0 + k.val; omega

theorem norm_at (b : Fin 32) (r : Fin 256) (k : Fin 1024) :
    val_main_v25 (F := Ideal) x0 x1 x2 (ix3 b r k)
      = normed (fun j => x0 (ix2 ⟨256 * b.val + r.val, by omega⟩ j)) (fun j => x1 (ix1 j)) (fun j => x2 (ix2 0 ⟨1024 * 1 + j.val, by omega⟩))
          (fun j => x2 (ix2 0 ⟨1024 * 0 + j.val, by omega⟩)) k := by
  have e : (fun j => x0 (ix2 ⟨256 * b.val + r.val, by omega⟩ j) : Fin 1024 → EReal) = fun j => val_main_v1 (F := Ideal) x0 (ix3 b r j) :=
    funext fun j => (rows_at x0 b r j).symm
  rw [e]
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2
  unfold val_main_cst val_main_cst_0 val_main_cst_1 val_main_cst_2 normed
  generalize val_main_v1 (F := Ideal) x0 = X
  pointwise

theorem prod_at (b : Fin 32) (r : Fin 256) (n : Fin 3072) :
    val_main_v26 (F := Ideal) x0 x1 x2 x3 (ix3 b r n)
      = ∑ k : Fin 1024, val_main_v25 (F := Ideal) x0 x1 x2 (ix3 b r k) * x3 (ix2 k n) := by
  unfold val_main_v26
  generalize val_main_v25 (F := Ideal) x0 x1 x2 = z
  pointwise

theorem split_at (s : Fin 3) (b : Fin 32) (h : Fin 16) (r : Fin 256) (d : Fin 64) :
    val_main_v28 (F := Ideal) x0 x1 x2 x3 (ix5 s b h r d)
      = val_main_v26 (F := Ideal) x0 x1 x2 x3 (ix3 b r ⟨1024 * s.val + 64 * h.val + d.val, by omega⟩) := by
  unfold val_main_v28
  refine (transpose_apply _ _ _ (ix5 s b h r d) (ix5 b r s h d : S32x256x3x16x64.Idx) ?_).trans ?_
  · intro a
    match a with
    | ⟨0, _⟩ => rfl
    | ⟨1, _⟩ => rfl
    | ⟨2, _⟩ => rfl
    | ⟨3, _⟩ => rfl
    | ⟨4, _⟩ => rfl
  unfold val_main_v27
  refine shapeCast_apply _ _ _ _ ?_
  rw [Shape.rowMajor_val_three, Shape.rowMajor_val_five]
  show (b.val * 256 + r.val) * 3072 + (1024 * s.val + 64 * h.val + d.val) = (((b.val * 256 + r.val) * 3 + s.val) * 16 + h.val) * 64 + d.val
  omega

theorem part_0 (b : Fin 32) (h : Fin 16) (r : Fin 256) (d : Fin 64) :
    val_main_v30 (F := Ideal) x0 x1 x2 x3 (ix4 b h r d) = val_main_v28 (F := Ideal) x0 x1 x2 x3 (ix5 0 b h r d) := by
  unfold val_main_v30
  refine (shapeCast_apply _ _ _ (ix5 (0 : Fin 1) b h r d : S1x32x16x256x64.Idx) ?_).trans ?_
  · rw [Shape.rowMajor_val_four, Shape.rowMajor_val_five]
    show (((0 * 32 + b.val) * 16 + h.val) * 256 + r.val) * 64 + d.val = ((b.val * 16 + h.val) * 256 + r.val) * 64 + d.val
    omega
  · unfold val_main_v29
    refine extractStridedSlice_apply _ _ _ _ _ fun a => ?_
    match a with
    | ⟨0, _⟩ => rfl
    | ⟨1, _⟩ => show b.val = 0 + b.val; omega
    | ⟨2, _⟩ => show h.val = 0 + h.val; omega
    | ⟨3, _⟩ => show r.val = 0 + r.val; omega
    | ⟨4, _⟩ => show d.val = 0 + d.val; omega

theorem part_1 (b : Fin 32) (h : Fin 16) (r : Fin 256) (d : Fin 64) :
    val_main_v32 (F := Ideal) x0 x1 x2 x3 (ix4 b h r d) = val_main_v28 (F := Ideal) x0 x1 x2 x3 (ix5 1 b h r d) := by
  unfold val_main_v32
  refine (shapeCast_apply _ _ _ (ix5 (0 : Fin 1) b h r d : S1x32x16x256x64.Idx) ?_).trans ?_
  · rw [Shape.rowMajor_val_four, Shape.rowMajor_val_five]
    show (((0 * 32 + b.val) * 16 + h.val) * 256 + r.val) * 64 + d.val = ((b.val * 16 + h.val) * 256 + r.val) * 64 + d.val
    omega
  · unfold val_main_v31
    refine extractStridedSlice_apply _ _ _ _ _ fun a => ?_
    match a with
    | ⟨0, _⟩ => rfl
    | ⟨1, _⟩ => show b.val = 0 + b.val; omega
    | ⟨2, _⟩ => show h.val = 0 + h.val; omega
    | ⟨3, _⟩ => show r.val = 0 + r.val; omega
    | ⟨4, _⟩ => show d.val = 0 + d.val; omega

theorem part_2 (b : Fin 32) (h : Fin 16) (r : Fin 256) (d : Fin 64) :
    val_main_v34 (F := Ideal) x0 x1 x2 x3 (ix4 b h r d) = val_main_v28 (F := Ideal) x0 x1 x2 x3 (ix5 2 b h r d) := by
  unfold val_main_v34
  refine (shapeCast_apply _ _ _ (ix5 (0 : Fin 1) b h r d : S1x32x16x256x64.Idx) ?_).trans ?_
  · rw [Shape.rowMajor_val_four, Shape.rowMajor_val_five]
    show (((0 * 32 + b.val) * 16 + h.val) * 256 + r.val) * 64 + d.val = ((b.val * 16 + h.val) * 256 + r.val) * 64 + d.val
    omega
  · unfold val_main_v33
    refine extractStridedSlice_apply _ _ _ _ _ fun a => ?_
    match a with
    | ⟨0, _⟩ => rfl
    | ⟨1, _⟩ => show b.val = 0 + b.val; omega
    | ⟨2, _⟩ => show h.val = 0 + h.val; omega
    | ⟨3, _⟩ => show r.val = 0 + r.val; omega
    | ⟨4, _⟩ => show d.val = 0 + d.val; omega

theorem whole_at (s : Fin 3) (b : Fin 32) (h : Fin 16) (r : Fin 256) (d : Fin 64) :
    val_main_v28 (F := Ideal) x0 x1 x2 x3 (ix5 s b h r d)
      = ∑ k : Fin 1024, normed (fun j => x0 (ix2 ⟨256 * b.val + r.val, by omega⟩ j)) (fun j => x1 (ix1 j)) (fun j => x2 (ix2 0 ⟨1024 * 1 + j.val, by omega⟩))
          (fun j => x2 (ix2 0 ⟨1024 * 0 + j.val, by omega⟩)) k * x3 (ix2 k ⟨1024 * s.val + 64 * h.val + d.val, by omega⟩) := by
  rw [split_at, prod_at]
  exact Finset.sum_congr rfl fun k _ => congrArg (· * _) (norm_at x0 x1 x2 b r k)

theorem query_ref (b : Fin 32) (h : Fin 16) (r : Fin 256) (d : Fin 64) :
    val_main_v37 (F := Ideal) x0 x1 x2 x3 (ix4 b h r d) = headAt 0 (Ideal.ofBits .f32 0x3E000000#32) x0 x1 x2 x3 b h r d := by
  have e : val_main_v37 (F := Ideal) x0 x1 x2 x3 (ix4 b h r d) = val_main_v30 (F := Ideal) x0 x1 x2 x3 (ix4 b h r d) * Ideal.ofBits .f32 0x3E000000#32 := by
    unfold val_main_v37 val_main_v36 val_main_v35 val_main_cst_3
    generalize val_main_v30 (F := Ideal) x0 x1 x2 x3 = z
    pointwise
  rw [e, part_0, whole_at]
  rfl

theorem key_ref (b : Fin 32) (h : Fin 16) (r : Fin 256) (d : Fin 64) :
    val_main_v32 (F := Ideal) x0 x1 x2 x3 (ix4 b h r d) = headAt 1 1 x0 x1 x2 x3 b h r d := by
  rw [part_1, whole_at]
  exact (mul_one _).symm

theorem value_ref (b : Fin 32) (h : Fin 16) (r : Fin 256) (d : Fin 64) :
    val_main_v34 (F := Ideal) x0 x1 x2 x3 (ix4 b h r d) = headAt 2 1 x0 x1 x2 x3 b h r d := by
  rw [part_2, whole_at]
  exact (mul_one _).symm

end Cert.Dense.Heads
end
end
-- ==== Proof.NormProj.lean ====
/- The input projection of a normed and modulated residual stream: its result array, from the arguments. -/
module

public import proofs.«01_k».proof.Proof.Gen.Kernel3Ideal.Value
public import proofs.«01_k».proof.Proof.Stack
public import Idealize.ShloMosaic.Lib.StableHlo.Run
public import Idealize.ShloMosaic.Lib.KernelVsHost

@[expose] public section
set_option maxRecDepth 16384

noncomputable section
namespace Cert.Dense.Norm
open Idealize.ShloMosaic Idealize.ShloMosaic.TcCoe Cert.Kernel3Ideal Cert.Kernel3Ideal.Gen
open Idealize.ShloMosaic.Pipeline (Dat Window)

/-- Which group a grid point's rows come from. -/
theorem point_word : ∀ t : Fin cfg0.N, Scalar.cmpi .slt (BitVec.ofNat 32 ((grid0.coords t) 0).val) 16#32 = if t.val < 16 then 1#1 else 0#1 := by
  decide +kernel

theorem pay_first (i : grid0.Coords) (hi : Scalar.cmpi .slt (BitVec.ofNat 32 (i 0).val) 16#32 = 1#1)
    (xa xb : Vec Ideal S512x1024 .f32) (g : Vec Ideal S1x1024 .f32) (sc sh : Vec Ideal S1x1x1024 .f32) (w : Vec Ideal S1024x3072 .bf16)
    (r : Fin 512) (n : Fin 3072) :
    k0_pay1 i xa xb g sc sh w (ix2 r n)
      = ∑ k : Fin 1024, normed (fun j => xa (ix2 r j)) (fun j => g (ix2 0 j)) (fun j => sc (ix3 0 0 j)) (fun j => sh (ix3 0 0 j)) k * w (ix2 k n) := by
  unfold k0_pay1 normed
  rw [hi]
  simp only [sel_one, sel_zero]
  pointwise

theorem pay_second (i : grid0.Coords) (hi : Scalar.cmpi .slt (BitVec.ofNat 32 (i 0).val) 16#32 = 0#1)
    (xa xb : Vec Ideal S512x1024 .f32) (g : Vec Ideal S1x1024 .f32) (sc sh : Vec Ideal S1x1x1024 .f32) (w : Vec Ideal S1024x3072 .bf16)
    (r : Fin 512) (n : Fin 3072) :
    k0_pay1 i xa xb g sc sh w (ix2 r n)
      = ∑ k : Fin 1024, normed (fun j => xb (ix2 r j)) (fun j => g (ix2 0 j)) (fun j => sc (ix3 0 0 j)) (fun j => sh (ix3 0 0 j)) k * w (ix2 k n) := by
  unfold k0_pay1 normed
  rw [hi]
  simp only [sel_one, sel_zero]
  pointwise

theorem index_0 : ∀ t : Fin cfg0.N, win0_0.index t = ![min t.val 15, 0] := by decide +kernel
theorem index_1 : ∀ t : Fin cfg0.N, win0_1.index t = ![t.val - 16, 0] := by decide +kernel
theorem index_2 : ∀ t : Fin cfg0.N, win0_2.index t = ![0, 0] := by decide +kernel
theorem index_3 : ∀ t : Fin cfg0.N, win0_3.index t = ![8 + (if t.val < 16 then 0 else 1 + (t.val - 16) / 8), 0, 0] := by decide +kernel
theorem index_4 : ∀ t : Fin cfg0.N, win0_4.index t = ![(if t.val < 16 then 0 else 1 + (t.val - 16) / 8), 0, 0] := by decide +kernel
theorem index_5 : ∀ t : Fin cfg0.N, win0_5.index t = ![0, 0] := by decide +kernel
theorem index_6 : ∀ t : Fin cfg0.N, win0_6.index t = ![t.val, 0] := by decide +kernel

variable (m : (ℓ : Loc nD τ sig) → Buf (Elt Ideal) ℓ) (c : Dev nD)

theorem v_0 : V m c main_v0 = (shapeCast S8192x1024 (m ((c : Thread nD τ).loc main_arg0) : S32x256x1024.Idx → EReal) shapeCasts_S32x256x1024_S8192x1024 : S8192x1024.Idx → EReal) := by
  unfold V
  show StableHlo.after hostOps0 (fun b => m (c, b)) (Proc.devRef .tc main_v0) = _
  generalize hX : (fun b => m (c, b) : Valuation τ sig (Elt Ideal)) = X
  rw [hostOps0]; after_results; subst hX; rfl
theorem v_1 : V m c main_v1 = (shapeCast S8192x1024 (m ((c : Thread nD τ).loc main_arg1) : S2x4096x1024.Idx → EReal) shapeCasts_S2x4096x1024_S8192x1024 : S8192x1024.Idx → EReal) := by
  unfold V
  show StableHlo.after hostOps0 (fun b => m (c, b)) (Proc.devRef .tc main_v1) = _
  generalize hX : (fun b => m (c, b) : Valuation τ sig (Elt Ideal)) = X
  rw [hostOps0]; after_results; subst hX; rfl
theorem v_4 : V m c main_v4 = (shapeCast S48x1x1024 (transpose S6x8x1024 [1, 0, 2] (shapeCast S8x6x1024 (m ((c : Thread nD τ).loc main_arg3) : S8x6144.Idx → EReal) shapeCasts_S8x6144_S8x6x1024) transposes_S8x6x1024_S6x8x1024_1_0_2) shapeCasts_S6x8x1024_S48x1x1024 : S48x1x1024.Idx → EReal) := by
  unfold V
  show StableHlo.after hostOps0 (fun b => m (c, b)) (Proc.devRef .tc main_v4) = _
  generalize hX : (fun b => m (c, b) : Valuation τ sig (Elt Ideal)) = X
  rw [hostOps0]; after_results; subst hX; rfl
theorem v_5 : V m c main_v5 = (m ((c : Thread nD τ).loc main_arg4) : S1024x3072.Idx → EReal) := by
  unfold V
  show StableHlo.after hostOps0 (fun b => m (c, b)) (Proc.devRef .tc main_v5) = _
  generalize hX : (fun b => m (c, b) : Valuation τ sig (Elt Ideal)) = X
  rw [hostOps0]; after_results; subst hX; rfl
theorem v_6 : V m c main_v6 = (shapeCast S1x1024 (m ((c : Thread nD τ).loc main_arg2) : S1024.Idx → EReal) shapeCasts_S1024_S1x1024 : S1x1024.Idx → EReal) := by
  unfold V
  show StableHlo.after hostOps0 (fun b => m (c, b)) (Proc.devRef .tc main_v6) = _
  generalize hX : (fun b => m (c, b) : Valuation τ sig (Elt Ideal)) = X
  rw [hostOps0]; after_results; subst hX; rfl

/-- Row `r` of the stacked groups, normed, modulated and projected. -/
def projAt (xa : S32x256x1024.Idx → EReal) (xb : S2x4096x1024.Idx → EReal) (g : S1024.Idx → EReal) (md : S8x6144.Idx → EReal)
    (w : S1024x3072.Idx → EReal) (r : Fin 16384) (n : Fin 3072) : EReal :=
  ∑ k : Fin 1024, normed (rows xa xb r) (fun j => g (ix1 j)) (modAt md 1 r) (modAt md 0 r) k * w (ix2 k n)

theorem flat_a (x : S32x256x1024.Idx → EReal) (r : Fin 8192) (k : Fin 1024) :
    shapeCast S8192x1024 x shapeCasts_S32x256x1024_S8192x1024 (ix2 r k) = x (ix3 ⟨r.val / 256, by omega⟩ ⟨r.val % 256, by omega⟩ k) := by
  refine shapeCast_apply x _ _ _ ?_
  rw [Shape.rowMajor_val_three, Shape.rowMajor_val_two]
  show (r.val / 256 * 256 + r.val % 256) * 1024 + k.val = r.val * 1024 + k.val
  omega

theorem flat_b (x : S2x4096x1024.Idx → EReal) (r : Fin 8192) (k : Fin 1024) :
    shapeCast S8192x1024 x shapeCasts_S2x4096x1024_S8192x1024 (ix2 r k) = x (ix3 ⟨r.val / 4096, by omega⟩ ⟨r.val % 4096, by omega⟩ k) := by
  refine shapeCast_apply x _ _ _ ?_
  rw [Shape.rowMajor_val_three, Shape.rowMajor_val_two]
  show (r.val / 4096 * 4096 + r.val % 4096) * 1024 + k.val = r.val * 1024 + k.val
  omega

theorem gain_at (x : S1024.Idx → EReal) (k : Fin 1024) : shapeCast S1x1024 x shapeCasts_S1024_S1x1024 (ix2 0 k) = x (ix1 k) := by
  refine shapeCast_apply x _ _ _ ?_
  rw [Shape.rowMajor_val_one, Shape.rowMajor_val_two]
  show k.val = 0 * 1024 + k.val
  omega

variable (t : Fin cfg0.N)
theorem point_lt : t.val < 32 := t.isLt

theorem iblk_0 (r : Fin 512) (k : Fin 1024) : iblk m c 0 t (ix2 r k) = V m c main_v0 (ix2 ⟨512 * min t.val 15 + r.val, by omega⟩ k) := by
  show V m c main_v0 ((win0_0.rect t).emb (ix2 r k)) = _
  refine congrArg (V m c main_v0) (funext fun a => Fin.ext ?_)
  refine (win0_0.rect_emb_val t (ix2 r k) a).trans ?_
  rw [congrFun (index_0 t) a]
  fin_cases a <;> simp [Nat.mul_comm]
theorem iblk_1 (r : Fin 512) (k : Fin 1024) : iblk m c 1 t (ix2 r k) = V m c main_v1 (ix2 ⟨512 * (t.val - 16) + r.val, by have := point_lt t; omega⟩ k) := by
  show V m c main_v1 ((win0_1.rect t).emb (ix2 r k)) = _
  refine congrArg (V m c main_v1) (funext fun a => Fin.ext ?_)
  refine (win0_1.rect_emb_val t (ix2 r k) a).trans ?_
  rw [congrFun (index_1 t) a]
  fin_cases a <;> simp [Nat.mul_comm]
theorem iblk_2 (r : Fin 1) (k : Fin 1024) : iblk m c 2 t (ix2 r k) = V m c main_v6 (ix2 r k) := by
  show V m c main_v6 ((win0_2.rect t).emb (ix2 r k)) = _
  refine congrArg (V m c main_v6) (funext fun a => Fin.ext ?_)
  refine (win0_2.rect_emb_val t (ix2 r k) a).trans ?_
  rw [congrFun (index_2 t) a]
  fin_cases a <;> simp
theorem iblk_5 (r : Fin 1024) (k : Fin 3072) : iblk m c 5 t (ix2 r k) = V m c main_v5 (ix2 r k) := by
  show V m c main_v5 ((win0_5.rect t).emb (ix2 r k)) = _
  refine congrArg (V m c main_v5) (funext fun a => Fin.ext ?_)
  refine (win0_5.rect_emb_val t (ix2 r k) a).trans ?_
  rw [congrFun (index_5 t) a]
  fin_cases a <;> simp

theorem seg_point (r : Nat) (hr : r < 512) : seg (512 * t.val + r) = if t.val < 16 then 0 else 1 + (t.val - 16) / 8 := by
  have := point_lt t
  unfold seg
  split <;> split <;> omega

theorem iblk_3 (r : Fin 512) (n : Fin 1024) :
    iblk m c 3 t (ix3 0 0 n) = modAt (m ((c : Thread nD τ).loc main_arg3)) 1 ⟨512 * t.val + r.val, by have := point_lt t; omega⟩ n := by
  have hs : seg (512 * t.val + r.val) < 3 := seg_lt (by have := point_lt t; omega)
  show V m c main_v4 ((win0_3.rect t).emb (ix3 0 0 n)) = _
  refine (congrArg (V m c main_v4) (eq_ix3' _ ⟨8 * (1 : Fin 6).val + seg (512 * t.val + r.val), by show 8 * 1 + _ < 48; omega⟩ 0 n ?_ ?_ ?_)).trans ?_
  · refine (win0_3.rect_emb_val t (ix3 0 0 n) 0).trans ?_
    rw [congrFun (index_3 t) 0]
    show (8 + if t.val < 16 then 0 else 1 + (t.val - 16) / 8) * 1 + 0 = 8 * 1 + seg (512 * t.val + r.val)
    rw [seg_point t r.val r.isLt]
    omega
  · refine (win0_3.rect_emb_val t (ix3 0 0 n) 1).trans ?_
    rw [congrFun (index_3 t) 1]
    simp
  · refine (win0_3.rect_emb_val t (ix3 0 0 n) 2).trans ?_
    rw [congrFun (index_3 t) 2]
    simp
  · rw [v_4]
    exact mods_at _ _ _ _ 1 ⟨seg (512 * t.val + r.val), by omega⟩ n

theorem iblk_4 (r : Fin 512) (n : Fin 1024) :
    iblk m c 4 t (ix3 0 0 n) = modAt (m ((c : Thread nD τ).loc main_arg3)) 0 ⟨512 * t.val + r.val, by have := point_lt t; omega⟩ n := by
  have hs : seg (512 * t.val + r.val) < 3 := seg_lt (by have := point_lt t; omega)
  show V m c main_v4 ((win0_4.rect t).emb (ix3 0 0 n)) = _
  refine (congrArg (V m c main_v4) (eq_ix3' _ ⟨8 * (0 : Fin 6).val + seg (512 * t.val + r.val), by show 8 * 0 + _ < 48; omega⟩ 0 n ?_ ?_ ?_)).trans ?_
  · refine (win0_4.rect_emb_val t (ix3 0 0 n) 0).trans ?_
    rw [congrFun (index_4 t) 0]
    show (if t.val < 16 then 0 else 1 + (t.val - 16) / 8) * 1 + 0 = 8 * 0 + seg (512 * t.val + r.val)
    rw [seg_point t r.val r.isLt]
    omega
  · refine (win0_4.rect_emb_val t (ix3 0 0 n) 1).trans ?_
    rw [congrFun (index_4 t) 1]
    simp
  · refine (win0_4.rect_emb_val t (ix3 0 0 n) 2).trans ?_
    rw [congrFun (index_4 t) 2]
    simp
  · rw [v_4]
    exact mods_at _ _ _ _ 0 ⟨seg (512 * t.val + r.val), by omega⟩ n

theorem block_at (r : Fin 512) (n : Fin 3072) :
    k0_pay1 (grid0.coords t) (iblk m c 0 t) (iblk m c 1 t) (iblk m c 2 t) (iblk m c 3 t) (iblk m c 4 t) (iblk m c 5 t) (ix2 r n)
      = projAt (m ((c : Thread nD τ).loc main_arg0)) (m ((c : Thread nD τ).loc main_arg1)) (m ((c : Thread nD τ).loc main_arg2))
          (m ((c : Thread nD τ).loc main_arg3)) (m ((c : Thread nD τ).loc main_arg4))
          ⟨512 * t.val + r.val, by have := point_lt t; omega⟩ n := by
  have ht := point_lt t
  have e5 : ∀ k : Fin 1024, iblk m c 5 t (ix2 k n) = (m ((c : Thread nD τ).loc main_arg4) : S1024x3072.Idx → EReal) (ix2 k n) := fun k => by rw [iblk_5, v_5]
  have e2 : (fun j => iblk m c 2 t (ix2 0 j) : Fin 1024 → EReal) = fun j => (m ((c : Thread nD τ).loc main_arg2) : S1024.Idx → EReal) (ix1 j) := by
    funext j; rw [iblk_2, v_6]; exact gain_at _ j
  have e3 : (fun j => iblk m c 3 t (ix3 0 0 j) : Fin 1024 → EReal) = _ := funext fun j => iblk_3 m c t r j
  have e4 : (fun j => iblk m c 4 t (ix3 0 0 j) : Fin 1024 → EReal) = _ := funext fun j => iblk_4 m c t r j
  unfold projAt
  by_cases h : t.val < 16
  · have h8 : 512 * t.val + r.val < 8192 := by omega
    rw [pay_first _ ((point_word t).trans (if_pos h))]
    refine Finset.sum_congr rfl fun k _ => congrArg₂ (· * ·) ?_ (e5 k)
    rw [e2, e3, e4]
    refine congrArg (fun x => normed x _ _ _ k) (funext fun j => ?_)
    rw [iblk_0, v_0, flat_a]
    unfold rows
    simp only [dif_pos h8, min_eq_left (show t.val ≤ 15 by omega)]
  · have h8 : ¬ 512 * t.val + r.val < 8192 := by omega
    have he : 512 * (t.val - 16) + r.val = 512 * t.val + r.val - 8192 := by omega
    rw [pay_second _ ((point_word t).trans (if_neg h))]
    refine Finset.sum_congr rfl fun k _ => congrArg₂ (· * ·) ?_ (e5 k)
    rw [e2, e3, e4]
    refine congrArg (fun x => normed x _ _ _ k) (funext fun j => ?_)
    rw [iblk_1, v_1, flat_b]
    unfold rows
    simp only [dif_neg h8, he]

theorem ld_rows {e : EltTy} (X : S512x1024.Idx → Elt Ideal e) : View.ld X r0_0 = X := ld_all X _ _ fun a => by fin_cases a <;> rfl
theorem ld_gain {e : EltTy} (X : S1x1024.Idx → Elt Ideal e) : View.ld X r0_1 = X := ld_all X _ _ fun a => by fin_cases a <;> rfl
theorem ld_mod {e : EltTy} (X : S1x1x1024.Idx → Elt Ideal e) : View.ld X r0_2 = X := ld_all X _ _ fun a => by fin_cases a <;> rfl
theorem ld_weight {e : EltTy} (X : S1024x3072.Idx → Elt Ideal e) : View.ld X r0_3 = X := ld_all X _ _ fun a => by fin_cases a <;> rfl

theorem out_eq (i : grid0.Coords) (x0 x1 : Vec Ideal S512x1024 .f32) (x2 : Vec Ideal S1x1024 .f32) (x3 x4 : Vec Ideal S1x1x1024 .f32)
    (x5 : Vec Ideal S1024x3072 .bf16) (y : S512x3072.Idx) : out0_6 i x0 x1 x2 x3 x4 x5 y = k0_pay1 i x0 x1 x2 x3 x4 x5 y := by
  unfold out0_6
  rw [ld_rows, ld_rows, ld_gain, ld_mod, ld_mod, ld_weight]
  generalize k0_pay1 i x0 x1 x2 x3 x4 x5 = z
  refine View.canon_apply_of_pieces (Val := Elt Ideal) (S := S512x3072) (e := .f32) z _ (fun p hp x => ?_) y (cover0_6 _ y)
  obtain rfl := List.mem_singleton.mp hp
  refine congrArg z (funext fun a => Fin.ext ?_)
  show (x a).val = (![0, 0] : Fin 2 → Nat) a + 1 * (x a).val
  fin_cases a <;> simp

/-- The whole result. -/
def projG : S16384x3072.Idx → EReal := fun y =>
  projAt (m ((c : Thread nD τ).loc main_arg0)) (m ((c : Thread nD τ).loc main_arg1)) (m ((c : Thread nD τ).loc main_arg2))
    (m ((c : Thread nD τ).loc main_arg3)) (m ((c : Thread nD τ).loc main_arg4)) (y 0 : Fin 16384) (y 1 : Fin 3072)

theorem block_eq (y : S512x3072.Idx) :
    out0_6 (grid0.coords t) (iblk m c 0 t) (iblk m c 1 t) (iblk m c 2 t) (iblk m c 3 t) (iblk m c 4 t) (iblk m c 5 t) y
      = projG m c ((win0_6.rect t).emb y) := by
  have y0 : (y 0).val < 512 := (y 0).isLt
  have y1 : (y 1).val < 3072 := (y 1).isLt
  have ht := point_lt t
  have e : (win0_6.rect t).emb y = ix2 ⟨512 * t.val + (y 0).val, by omega⟩ ⟨(y 1).val, y1⟩ :=
    eq_ix2' _ _ _ ((win0_6.rect_emb_val t y 0).trans (by rw [congrFun (index_6 t) 0]; simp [Nat.mul_comm]))
      ((win0_6.rect_emb_val t y 1).trans (by rw [congrFun (index_6 t) 1]; simp))
  rw [e, out_eq]
  exact (congrArg (k0_pay1 _ _ _ _ _ _ _) (eq_ix2 y)).trans (block_at m c t (y 0 : Fin 512) (y 1 : Fin 3072))

/-- The result array. -/
theorem arr_eq : (dats m 0 c).arrAt 6 cfg0.N = projG m c := by
  refine Dat.arrAt_eq_of_cover (dats m 0 c) 6 _ (fun t hf => ?_) (fun i => ?_)
  · rw [show (dats m 0 c).flushed 6 t = (dats m 0 c).after 6 t from rfl, after0_6]
    funext y
    exact block_eq m c t y
  · have i0 : (i 0).val < 16384 := (i 0).isLt
    have i1 : (i 1).val < 3072 := (i 1).isLt
    refine ⟨⟨(i 0).val / 512, by show _ < 32; omega⟩, flush0_6 _, ?_⟩
    refine Finset.mem_map.mpr ⟨(ix2 ⟨(i 0).val % 512, by omega⟩ ⟨(i 1).val, i1⟩ : S512x3072.Idx), Finset.mem_univ _, ?_⟩
    refine funext fun a => Fin.ext ?_
    refine (win0_6.rect_emb_val _ _ a).trans ?_
    rw [congrFun (index_6 _) a]
    fin_cases a
    · show (i 0).val / 512 * 512 + (i 0).val % 512 = (i 0).val; omega
    · show 0 * 3072 + (i 1).val = (i 1).val; omega

end Cert.Dense.Norm
end
end
-- ==== Proof.NormRef.lean ====
/- The reference's input projection, row by row, is the kernel's. -/
module

public import proofs.«01_k».proof.Proof.Gen.Reference3Ideal.Read
public import proofs.«01_k».proof.Proof.NormProj

@[expose] public section
set_option maxRecDepth 16384

noncomputable section
namespace Cert.Dense.Norm
open Idealize.ShloMosaic Cert.Reference3Ideal Cert.Reference3Ideal.Gen Cert.Reference3Ideal.Read

variable (x0 : S32x256x1024.Idx → EReal) (x1 : S2x4096x1024.Idx → EReal) (x2 : S1024.Idx → EReal) (x3 : S8x6144.Idx → EReal)
  (x4 : S1024x3072.Idx → EReal)

theorem first_at (b : Fin 32) (r : Fin 256) (k : Fin 1024) :
    val_main_v23 (F := Ideal) x0 x2 x3 (ix3 b r k)
      = normed (fun j => x0 (ix3 b r j)) (fun j => x2 (ix1 j)) (fun j => x3 (ix2 0 ⟨1024 + j.val, by omega⟩))
          (fun j => x3 (ix2 0 ⟨j.val, by omega⟩)) k := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  unfold val_main_cst val_main_cst_0 val_main_cst_1 val_main_cst_2 normed
  pointwise

theorem first_proj (b : Fin 32) (r : Fin 256) (n : Fin 3072) :
    val_main_v24 (F := Ideal) x0 x2 x3 x4 (ix3 b r n)
      = ∑ k : Fin 1024, val_main_v23 (F := Ideal) x0 x2 x3 (ix3 b r k) * x4 (ix2 k n) := by
  unfold val_main_v24
  generalize val_main_v23 (F := Ideal) x0 x2 x3 = z
  pointwise

theorem second_at (b : Fin 2) (r : Fin 4096) (k : Fin 1024) :
    val_main_v48 (F := Ideal) x1 x2 x3 (ix3 b r k)
      = normed (fun j => x1 (ix3 b r j)) (fun j => x2 (ix1 j)) (fun j => x3 (ix2 ⟨1 + b.val, by omega⟩ ⟨1024 + j.val, by omega⟩))
          (fun j => x3 (ix2 ⟨1 + b.val, by omega⟩ ⟨j.val, by omega⟩)) k := by
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25
  unfold val_main_cst_3 val_main_cst_4 val_main_cst_5 val_main_cst_6 normed
  pointwise

theorem second_proj (b : Fin 2) (r : Fin 4096) (n : Fin 3072) :
    val_main_v49 (F := Ideal) x1 x2 x3 x4 (ix3 b r n)
      = ∑ k : Fin 1024, val_main_v48 (F := Ideal) x1 x2 x3 (ix3 b r k) * x4 (ix2 k n) := by
  unfold val_main_v49
  generalize val_main_v48 (F := Ideal) x1 x2 x3 = z
  pointwise

theorem wide_a (x : S32x256x3072.Idx → EReal) (r : Fin 8192) (n : Fin 3072) :
    shapeCast S8192x3072 x shapeCasts_S32x256x3072_S8192x3072 (ix2 r n) = x (ix3 ⟨r.val / 256, by omega⟩ ⟨r.val % 256, by omega⟩ n) := by
  refine shapeCast_apply x _ _ _ ?_
  rw [Shape.rowMajor_val_three, Shape.rowMajor_val_two]
  show (r.val / 256 * 256 + r.val % 256) * 3072 + n.val = r.val * 3072 + n.val
  omega

theorem wide_b (x : S2x4096x3072.Idx → EReal) (r : Fin 8192) (n : Fin 3072) :
    shapeCast S8192x3072 x shapeCasts_S2x4096x3072_S8192x3072 (ix2 r n) = x (ix3 ⟨r.val / 4096, by omega⟩ ⟨r.val % 4096, by omega⟩ n) := by
  refine shapeCast_apply x _ _ _ ?_
  rw [Shape.rowMajor_val_three, Shape.rowMajor_val_two]
  show (r.val / 4096 * 4096 + r.val % 4096) * 3072 + n.val = r.val * 3072 + n.val
  omega

theorem ref_at (r : Fin 16384) (n : Fin 3072) :
    val_main_v52 (F := Ideal) x0 x1 x2 x3 x4 (ix2 r n) = projAt x0 x1 x2 x3 x4 r n := by
  unfold val_main_v52
  refine (two_rows _ _ _ r n).trans ?_
  unfold projAt
  split
  · rename_i h
    unfold val_main_v50
    refine (wide_a _ ⟨r.val, h⟩ n).trans ((first_proj x0 x2 x3 x4 _ _ n).trans ?_)
    have e : (0 : Fin 8) = ⟨seg r.val, by have := seg_lt r.isLt; omega⟩ := Fin.ext (by show 0 = seg r.val; unfold seg; rw [if_pos h])
    refine Finset.sum_congr rfl fun k _ => congrArg (· * _) ((first_at x0 x2 x3 _ _ k).trans ?_)
    rw [e]
    refine congrArg₂ (fun a b => normed a _ _ b k) (funext fun j => ?_) (funext fun j => ?_)
    · unfold rows; rw [dif_pos h]
    · unfold modAt; exact congrArg (fun z => x3 (ix2 _ z)) (Fin.ext (by show j.val = 1024 * 0 + j.val; omega))
  · rename_i h
    unfold val_main_v51
    refine (wide_b _ ⟨r.val - 8192, by omega⟩ n).trans ((second_proj x1 x2 x3 x4 _ _ n).trans ?_)
    have e : (⟨1 + (r.val - 8192) / 4096, by omega⟩ : Fin 8) = ⟨seg r.val, by have := seg_lt r.isLt; omega⟩ := Fin.ext (by show _ = seg r.val; unfold seg; rw [if_neg h])
    refine Finset.sum_congr rfl fun k _ => congrArg (· * _) ((second_at x1 x2 x3 _ _ k).trans ?_)
    rw [e]
    refine congrArg₂ (fun a b => normed a _ _ b k) (funext fun j => ?_) (funext fun j => ?_)
    · unfold rows; rw [dif_neg h]
    · unfold modAt; exact congrArg (fun z => x3 (ix2 _ z)) (Fin.ext (by show j.val = 1024 * 0 + j.val; omega))

end Cert.Dense.Norm
end
end
-- ==== Proof.OutProj.lean ====
/- The output projection's result array, from the arguments: one row of the stacked groups at a time. -/
module

public import proofs.«01_k».proof.Proof.Gen.Kernel4Ideal.Value
public import proofs.«01_k».proof.Proof.Stack
public import Idealize.ShloMosaic.Lib.StableHlo.Run
public import Idealize.ShloMosaic.Lib.KernelVsHost

@[expose] public section
set_option maxRecDepth 16384

noncomputable section
namespace Cert.Dense.Out
open Idealize.ShloMosaic Idealize.ShloMosaic.TcCoe Cert.Kernel4Ideal Cert.Kernel4Ideal.Gen
open Idealize.ShloMosaic.Pipeline (Dat Window)

/-- Which group a grid point's rows come from. -/
theorem point_word : ∀ t : Fin cfg0.N, Scalar.cmpi .slt (BitVec.ofNat 32 ((grid0.coords t) 0).val) 16#32 = if t.val < 16 then 1#1 else 0#1 := by
  decide +kernel

theorem pay_first (i : grid0.Coords) (hi : Scalar.cmpi .slt (BitVec.ofNat 32 (i 0).val) 16#32 = 1#1)
    (ya yb : Vec Ideal S512x1024 .bf16) (xa xb : Vec Ideal S512x1024 .f32) (gt : Vec Ideal S1x1x1024 .f32) (w : Vec Ideal S1024x1024 .bf16)
    (r : Fin 512) (n : Fin 1024) :
    k0_pay1 i ya yb xa xb gt w (ix2 r n) = xa (ix2 r n) + gt (ix3 0 0 n) * ∑ k : Fin 1024, ya (ix2 r k) * w (ix2 k n) := by
  unfold k0_pay1
  rw [hi]
  simp only [sel_one, sel_zero]
  pointwise

theorem pay_second (i : grid0.Coords) (hi : Scalar.cmpi .slt (BitVec.ofNat 32 (i 0).val) 16#32 = 0#1)
    (ya yb : Vec Ideal S512x1024 .bf16) (xa xb : Vec Ideal S512x1024 .f32) (gt : Vec Ideal S1x1x1024 .f32) (w : Vec Ideal S1024x1024 .bf16)
    (r : Fin 512) (n : Fin 1024) :
    k0_pay1 i ya yb xa xb gt w (ix2 r n) = xb (ix2 r n) + gt (ix3 0 0 n) * ∑ k : Fin 1024, yb (ix2 r k) * w (ix2 k n) := by
  unfold k0_pay1
  rw [hi]
  simp only [sel_one, sel_zero]
  pointwise

theorem index_0 : ∀ t : Fin cfg0.N, win0_0.index t = ![min t.val 15, 0] := by decide +kernel
theorem index_1 : ∀ t : Fin cfg0.N, win0_1.index t = ![t.val - 16, 0] := by decide +kernel
theorem index_2 : ∀ t : Fin cfg0.N, win0_2.index t = ![0, 0] := by decide +kernel
theorem index_3 : ∀ t : Fin cfg0.N, win0_3.index t = ![min t.val 15, 0] := by decide +kernel
theorem index_4 : ∀ t : Fin cfg0.N, win0_4.index t = ![t.val - 16, 0] := by decide +kernel
theorem index_5 : ∀ t : Fin cfg0.N, win0_5.index t = ![16 + (if t.val < 16 then 0 else 1 + (t.val - 16) / 8), 0, 0] := by decide +kernel
theorem index_6 : ∀ t : Fin cfg0.N, win0_6.index t = ![t.val, 0] := by decide +kernel

variable (m : (ℓ : Loc nD τ sig) → Buf (Elt Ideal) ℓ) (c : Dev nD)

theorem v_1 : V m c main_v1 = (shapeCast S8192x1024 (m ((c : Thread nD τ).loc main_arg0) : S32x256x1024.Idx → EReal) shapeCasts_S32x256x1024_S8192x1024 : S8192x1024.Idx → EReal) := by
  unfold V
  show StableHlo.after hostOps0 (fun b => m (c, b)) (Proc.devRef .tc main_v1) = _
  generalize hX : (fun b => m (c, b) : Valuation τ sig (Elt Ideal)) = X
  rw [hostOps0]; after_results; subst hX; rfl
theorem v_3 : V m c main_v3 = (shapeCast S8192x1024 (m ((c : Thread nD τ).loc main_arg1) : S2x4096x1024.Idx → EReal) shapeCasts_S2x4096x1024_S8192x1024 : S8192x1024.Idx → EReal) := by
  unfold V
  show StableHlo.after hostOps0 (fun b => m (c, b)) (Proc.devRef .tc main_v3) = _
  generalize hX : (fun b => m (c, b) : Valuation τ sig (Elt Ideal)) = X
  rw [hostOps0]; after_results; subst hX; rfl
theorem v_4 : V m c main_v4 = (m ((c : Thread nD τ).loc main_arg2) : S1024x1024.Idx → EReal) := by
  unfold V
  show StableHlo.after hostOps0 (fun b => m (c, b)) (Proc.devRef .tc main_v4) = _
  generalize hX : (fun b => m (c, b) : Valuation τ sig (Elt Ideal)) = X
  rw [hostOps0]; after_results; subst hX; rfl
theorem v_5 : V m c main_v5 = (shapeCast S8192x1024 (m ((c : Thread nD τ).loc main_arg3) : S32x256x1024.Idx → EReal) shapeCasts_S32x256x1024_S8192x1024 : S8192x1024.Idx → EReal) := by
  unfold V
  show StableHlo.after hostOps0 (fun b => m (c, b)) (Proc.devRef .tc main_v5) = _
  generalize hX : (fun b => m (c, b) : Valuation τ sig (Elt Ideal)) = X
  rw [hostOps0]; after_results; subst hX; rfl
theorem v_6 : V m c main_v6 = (shapeCast S8192x1024 (m ((c : Thread nD τ).loc main_arg4) : S2x4096x1024.Idx → EReal) shapeCasts_S2x4096x1024_S8192x1024 : S8192x1024.Idx → EReal) := by
  unfold V
  show StableHlo.after hostOps0 (fun b => m (c, b)) (Proc.devRef .tc main_v6) = _
  generalize hX : (fun b => m (c, b) : Valuation τ sig (Elt Ideal)) = X
  rw [hostOps0]; after_results; subst hX; rfl
theorem v_9 : V m c main_v9 = (shapeCast S48x1x1024 (transpose S6x8x1024 [1, 0, 2] (shapeCast S8x6x1024 (m ((c : Thread nD τ).loc main_arg5) : S8x6144.Idx → EReal) shapeCasts_S8x6144_S8x6x1024) transposes_S8x6x1024_S6x8x1024_1_0_2) shapeCasts_S6x8x1024_S48x1x1024 : S48x1x1024.Idx → EReal) := by
  unfold V
  show StableHlo.after hostOps0 (fun b => m (c, b)) (Proc.devRef .tc main_v9) = _
  generalize hX : (fun b => m (c, b) : Valuation τ sig (Elt Ideal)) = X
  rw [hostOps0]; after_results; subst hX; rfl

/-- The projection of row `r`, gated and added. -/
def outAt (ya : S32x256x1024.Idx → EReal) (yb : S2x4096x1024.Idx → EReal) (w : S1024x1024.Idx → EReal)
    (xa : S32x256x1024.Idx → EReal) (xb : S2x4096x1024.Idx → EReal) (md : S8x6144.Idx → EReal) (r : Fin 16384) (n : Fin 1024) : EReal :=
  rows xa xb r n + modAt md 2 r n * ∑ k : Fin 1024, rows ya yb r k * w (ix2 k n)

theorem flat_a (x : S32x256x1024.Idx → EReal) (r : Fin 8192) (k : Fin 1024) :
    shapeCast S8192x1024 x shapeCasts_S32x256x1024_S8192x1024 (ix2 r k) = x (ix3 ⟨r.val / 256, by omega⟩ ⟨r.val % 256, by omega⟩ k) := by
  refine shapeCast_apply x _ _ _ ?_
  rw [Shape.rowMajor_val_three, Shape.rowMajor_val_two]
  show (r.val / 256 * 256 + r.val % 256) * 1024 + k.val = r.val * 1024 + k.val
  omega

theorem flat_b (x : S2x4096x1024.Idx → EReal) (r : Fin 8192) (k : Fin 1024) :
    shapeCast S8192x1024 x shapeCasts_S2x4096x1024_S8192x1024 (ix2 r k) = x (ix3 ⟨r.val / 4096, by omega⟩ ⟨r.val % 4096, by omega⟩ k) := by
  refine shapeCast_apply x _ _ _ ?_
  rw [Shape.rowMajor_val_three, Shape.rowMajor_val_two]
  show (r.val / 4096 * 4096 + r.val % 4096) * 1024 + k.val = r.val * 1024 + k.val
  omega

variable (t : Fin cfg0.N)
theorem point_lt : t.val < 32 := t.isLt

theorem iblk_0 (r : Fin 512) (k : Fin 1024) : iblk m c 0 t (ix2 r k) = V m c main_v1 (ix2 ⟨512 * min t.val 15 + r.val, by omega⟩ k) := by
  show V m c main_v1 ((win0_0.rect t).emb (ix2 r k)) = _
  refine congrArg (V m c main_v1) (funext fun a => Fin.ext ?_)
  refine (win0_0.rect_emb_val t (ix2 r k) a).trans ?_
  rw [congrFun (index_0 t) a]
  fin_cases a <;> simp [Nat.mul_comm]
theorem iblk_1 (r : Fin 512) (k : Fin 1024) : iblk m c 1 t (ix2 r k) = V m c main_v3 (ix2 ⟨512 * (t.val - 16) + r.val, by have := point_lt t; omega⟩ k) := by
  show V m c main_v3 ((win0_1.rect t).emb (ix2 r k)) = _
  refine congrArg (V m c main_v3) (funext fun a => Fin.ext ?_)
  refine (win0_1.rect_emb_val t (ix2 r k) a).trans ?_
  rw [congrFun (index_1 t) a]
  fin_cases a <;> simp [Nat.mul_comm]
theorem iblk_2 (r : Fin 1024) (k : Fin 1024) : iblk m c 2 t (ix2 r k) = V m c main_v4 (ix2 r k) := by
  show V m c main_v4 ((win0_2.rect t).emb (ix2 r k)) = _
  refine congrArg (V m c main_v4) (funext fun a => Fin.ext ?_)
  refine (win0_2.rect_emb_val t (ix2 r k) a).trans ?_
  rw [congrFun (index_2 t) a]
  fin_cases a <;> simp
theorem iblk_3 (r : Fin 512) (k : Fin 1024) : iblk m c 3 t (ix2 r k) = V m c main_v5 (ix2 ⟨512 * min t.val 15 + r.val, by omega⟩ k) := by
  show V m c main_v5 ((win0_3.rect t).emb (ix2 r k)) = _
  refine congrArg (V m c main_v5) (funext fun a => Fin.ext ?_)
  refine (win0_3.rect_emb_val t (ix2 r k) a).trans ?_
  rw [congrFun (index_3 t) a]
  fin_cases a <;> simp [Nat.mul_comm]
theorem iblk_4 (r : Fin 512) (k : Fin 1024) : iblk m c 4 t (ix2 r k) = V m c main_v6 (ix2 ⟨512 * (t.val - 16) + r.val, by have := point_lt t; omega⟩ k) := by
  show V m c main_v6 ((win0_4.rect t).emb (ix2 r k)) = _
  refine congrArg (V m c main_v6) (funext fun a => Fin.ext ?_)
  refine (win0_4.rect_emb_val t (ix2 r k) a).trans ?_
  rw [congrFun (index_4 t) a]
  fin_cases a <;> simp [Nat.mul_comm]

theorem seg_point (r : Nat) (hr : r < 512) : seg (512 * t.val + r) = if t.val < 16 then 0 else 1 + (t.val - 16) / 8 := by
  have := point_lt t
  unfold seg
  split <;> split <;> omega

theorem iblk_5 (r : Fin 512) (n : Fin 1024) :
    iblk m c 5 t (ix3 0 0 n) = modAt (m ((c : Thread nD τ).loc main_arg5)) 2 ⟨512 * t.val + r.val, by have := point_lt t; omega⟩ n := by
  have hs : seg (512 * t.val + r.val) < 3 := seg_lt (by have := point_lt t; omega)
  show V m c main_v9 ((win0_5.rect t).emb (ix3 0 0 n)) = _
  refine (congrArg (V m c main_v9) (eq_ix3' _ ⟨8 * (2 : Fin 6).val + seg (512 * t.val + r.val), by show 8 * 2 + _ < 48; omega⟩ 0 n ?_ ?_ ?_)).trans ?_
  · refine (win0_5.rect_emb_val t (ix3 0 0 n) 0).trans ?_
    rw [congrFun (index_5 t) 0]
    show (16 + if t.val < 16 then 0 else 1 + (t.val - 16) / 8) * 1 + 0 = 8 * 2 + seg (512 * t.val + r.val)
    rw [seg_point t r.val r.isLt]
    omega
  · refine (win0_5.rect_emb_val t (ix3 0 0 n) 1).trans ?_
    rw [congrFun (index_5 t) 1]
    simp
  · refine (win0_5.rect_emb_val t (ix3 0 0 n) 2).trans ?_
    rw [congrFun (index_5 t) 2]
    simp
  · rw [v_9]
    exact mods_at _ _ _ _ 2 ⟨seg (512 * t.val + r.val), by omega⟩ n

theorem block_at (r : Fin 512) (n : Fin 1024) :
    k0_pay1 (grid0.coords t) (iblk m c 0 t) (iblk m c 1 t) (iblk m c 3 t) (iblk m c 4 t) (iblk m c 5 t) (iblk m c 2 t) (ix2 r n)
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨512 * t.val + r.val, by have := point_lt t; omega⟩ n := by
  have ht := point_lt t
  unfold outAt rows
  by_cases h : t.val < 16
  · have h8 : 512 * t.val + r.val < 8192 := by omega
    rw [pay_first _ ((point_word t).trans (if_pos h)), iblk_5 m c t r n, iblk_3, v_5, flat_a]
    simp only [dif_pos h8]
    refine congrArg₂ (· + ·) ?_ (congrArg₂ (· * ·) rfl (Finset.sum_congr rfl fun k _ => ?_))
    · simp only [min_eq_left (show t.val ≤ 15 by omega)]
    · rw [iblk_0, v_1, flat_a, iblk_2, v_4]
      simp only [min_eq_left (show t.val ≤ 15 by omega)]
  · have h8 : ¬ 512 * t.val + r.val < 8192 := by omega
    have he : 512 * (t.val - 16) + r.val = 512 * t.val + r.val - 8192 := by omega
    rw [pay_second _ ((point_word t).trans (if_neg h)), iblk_5 m c t r n, iblk_4, v_6, flat_b]
    simp only [dif_neg h8]
    refine congrArg₂ (· + ·) ?_ (congrArg₂ (· * ·) rfl (Finset.sum_congr rfl fun k _ => ?_))
    · simp only [he]
    · rw [iblk_1, v_3, flat_b, iblk_2, v_4]
      simp only [he]

theorem ld_rows {e : EltTy} (X : S512x1024.Idx → Elt Ideal e) : View.ld X r0_0 = X := ld_all X _ _ fun a => by fin_cases a <;> rfl
theorem ld_gate {e : EltTy} (X : S1x1x1024.Idx → Elt Ideal e) : View.ld X r0_1 = X := ld_all X _ _ fun a => by fin_cases a <;> rfl
theorem ld_weight {e : EltTy} (X : S1024x1024.Idx → Elt Ideal e) : View.ld X r0_2 = X := ld_all X _ _ fun a => by fin_cases a <;> rfl

theorem out_eq (i : grid0.Coords) (x0 x1 : Vec Ideal S512x1024 .bf16) (x2 : Vec Ideal S1024x1024 .bf16) (x3 x4 : Vec Ideal S512x1024 .f32)
    (x5 : Vec Ideal S1x1x1024 .f32) (y : S512x1024.Idx) : out0_6 i x0 x1 x2 x3 x4 x5 y = k0_pay1 i x0 x1 x3 x4 x5 x2 y := by
  unfold out0_6
  rw [ld_rows, ld_rows, ld_rows, ld_rows, ld_gate, ld_weight]
  generalize k0_pay1 i x0 x1 x3 x4 x5 x2 = z
  refine View.canon_apply_of_pieces (Val := Elt Ideal) (S := S512x1024) (e := .f32) z _ (fun p hp x => ?_) y (cover0_6 _ y)
  obtain rfl := List.mem_singleton.mp hp
  refine congrArg z (funext fun a => Fin.ext ?_)
  show (x a).val = (![0, 0] : Fin 2 → Nat) a + 1 * (x a).val
  fin_cases a <;> simp

/-- The whole result. -/
def outG : S16384x1024.Idx → EReal := fun y =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0 : Fin 16384) (y 1 : Fin 1024)

theorem block_eq (y : S512x1024.Idx) :
    out0_6 (grid0.coords t) (iblk m c 0 t) (iblk m c 1 t) (iblk m c 2 t) (iblk m c 3 t) (iblk m c 4 t) (iblk m c 5 t) y
      = outG m c ((win0_6.rect t).emb y) := by
  have y0 : (y 0).val < 512 := (y 0).isLt
  have y1 : (y 1).val < 1024 := (y 1).isLt
  have ht := point_lt t
  have e : (win0_6.rect t).emb y = ix2 ⟨512 * t.val + (y 0).val, by omega⟩ ⟨(y 1).val, y1⟩ :=
    eq_ix2' _ _ _ ((win0_6.rect_emb_val t y 0).trans (by rw [congrFun (index_6 t) 0]; simp [Nat.mul_comm]))
      ((win0_6.rect_emb_val t y 1).trans (by rw [congrFun (index_6 t) 1]; simp))
  rw [e, out_eq]
  exact (congrArg (k0_pay1 _ _ _ _ _ _ _) (eq_ix2 y)).trans (block_at m c t (y 0 : Fin 512) (y 1 : Fin 1024))

/-- The result array. -/
theorem arr_eq : (dats m 0 c).arrAt 6 cfg0.N = outG m c := by
  refine Dat.arrAt_eq_of_cover (dats m 0 c) 6 _ (fun t hf => ?_) (fun i => ?_)
  · rw [show (dats m 0 c).flushed 6 t = (dats m 0 c).after 6 t from rfl, after0_6]
    funext y
    exact block_eq m c t y
  · have i0 : (i 0).val < 16384 := (i 0).isLt
    have i1 : (i 1).val < 1024 := (i 1).isLt
    refine ⟨⟨(i 0).val / 512, by show _ < 32; omega⟩, flush0_6 _, ?_⟩
    refine Finset.mem_map.mpr ⟨(ix2 ⟨(i 0).val % 512, by omega⟩ ⟨(i 1).val, i1⟩ : S512x1024.Idx), Finset.mem_univ _, ?_⟩
    refine funext fun a => Fin.ext ?_
    refine (win0_6.rect_emb_val _ _ a).trans ?_
    rw [congrFun (index_6 _) a]
    fin_cases a
    · show (i 0).val / 512 * 512 + (i 0).val % 512 = (i 0).val; omega
    · show 0 * 1024 + (i 1).val = (i 1).val; omega

end Cert.Dense.Out
end
end
-- ==== Proof.OutRef.lean ====
/- The reference's output projection, row by row, is the kernel's. -/
module

public import proofs.«01_k».proof.Proof.Gen.Reference4Ideal.Read
public import proofs.«01_k».proof.Proof.OutProj

@[expose] public section
set_option maxRecDepth 16384

noncomputable section
namespace Cert.Dense.Out
open Idealize.ShloMosaic Cert.Reference4Ideal Cert.Reference4Ideal.Gen Cert.Reference4Ideal.Read

variable (x0 : S32x256x1024.Idx → EReal) (x1 : S2x4096x1024.Idx → EReal) (x2 : S1024x1024.Idx → EReal)
  (x3 : S32x256x1024.Idx → EReal) (x4 : S2x4096x1024.Idx → EReal) (x5 : S8x6144.Idx → EReal)

theorem first_at (b : Fin 32) (r : Fin 256) (n : Fin 1024) :
    val_main_v6 (F := Ideal) x0 x2 x3 x5 (ix3 b r n)
      = x3 (ix3 b r n) + x5 (ix2 0 ⟨2048 + n.val, by omega⟩) * ∑ k : Fin 1024, x0 (ix3 b r k) * x2 (ix2 k n) := by
  unfold val_main_v6 val_main_v5 val_main_v4 val_main_v3 val_main_v2 val_main_v1 val_main_v0
  pointwise

theorem second_at (b : Fin 2) (r : Fin 4096) (n : Fin 1024) :
    val_main_v11 (F := Ideal) x1 x2 x4 x5 (ix3 b r n)
      = x4 (ix3 b r n) + x5 (ix2 ⟨1 + b.val, by omega⟩ ⟨2048 + n.val, by omega⟩) * ∑ k : Fin 1024, x1 (ix3 b r k) * x2 (ix2 k n) := by
  unfold val_main_v11 val_main_v10 val_main_v9 val_main_v8 val_main_v7 val_main_v1 val_main_v0
  pointwise

theorem ref_at (r : Fin 16384) (n : Fin 1024) :
    val_main_v14 (F := Ideal) x0 x1 x2 x3 x4 x5 (ix2 r n) = outAt x0 x1 x2 x3 x4 x5 r n := by
  unfold val_main_v14
  refine (two_rows _ _ _ r n).trans ?_
  unfold outAt rows modAt
  split
  · rename_i h
    unfold val_main_v12
    refine (flat_a _ ⟨r.val, h⟩ n).trans ((first_at x0 x2 x3 x5 _ _ n).trans ?_)
    have e : (⟨seg r.val, by have := seg_lt r.isLt; omega⟩ : Fin 8) = 0 := Fin.ext (by show seg r.val = 0; unfold seg; rw [if_pos h])
    rw [e]
    rfl
  · rename_i h
    unfold val_main_v13
    refine (flat_b _ ⟨r.val - 8192, by omega⟩ n).trans ((second_at x1 x2 x4 x5 _ _ n).trans ?_)
    have e : (⟨seg r.val, by have := seg_lt r.isLt; omega⟩ : Fin 8) = ⟨1 + (r.val - 8192) / 4096, by omega⟩ := Fin.ext (by show seg r.val = _; unfold seg; rw [if_neg h])
    rw [e]
    rfl

end Cert.Dense.Out
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal.Run
public import proofs.«01_k».proof.Proof.Gen.Reference5Ideal.Read
public import proofs.«01_k».proof.Proof.Gen.Pre_tables
public import proofs.«01_k».proof.Proof.FfnArr
public import proofs.«01_k».proof.Proof.FfnClaim
public import proofs.«01_k».proof.Proof.FfnBits
public import proofs.«01_k».proof.Proof.KerRun
public import proofs.«01_k».proof.Proof.Join
public import proofs.«01_k».proof.Proof.HeadRef
public import proofs.«01_k».proof.Proof.NormRef
public import proofs.«01_k».proof.Proof.OutRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and ends with every counter at zero: it declares none. -/
theorem reference_frame : Cert.quiescent_ReferenceIdeal := fun m ρ _ =>
  (θ_run _ _ _).mono (fun r h => ⟨fun c => (h c).2, sem_eq_zero_of_no_sems (by decide) _⟩) (Cert.ReferenceIdeal.Value.run m ρ)

/-- The kernel's result array, from the arguments. -/
theorem kernel_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc Cert.KernelIdeal.main_v30)
      = Cert.Nat.attK (Cert.Nat.scaled (m ((c.tc : Thread Cert.KernelIdeal.nD Cert.KernelIdeal.τ).loc Cert.KernelIdeal.main_arg0)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (Cert.Nat.biasT (m ((c.tc : Thread Cert.KernelIdeal.nD Cert.KernelIdeal.τ).loc Cert.KernelIdeal.main_arg5))) := by
  refine (Cert.KernelIdeal.Gen.W8_arr m ρ c 6).trans ((Cert.Nat.arr_eq _ c).trans ?_)
  rw [Cert.Nat.v7_v2, Cert.Nat.v7_v3, Cert.Nat.v7_v4, Cert.Nat.v7_arg3, Cert.Nat.v7_arg4, Cert.Nat.v7_v29]

/-- The two programs end with equal results. -/
theorem values : Cert.algebraic_KernelIdeal_ReferenceIdeal_pre_finite (hPre_finite := Cert.Nat.Pre.facts) := by
  intro m ρ m' ρ' hpre hargs
  refine ⟨fun c => Cert.KernelIdeal.Gen.W8 m ρ c (Proc.devRef .tc Cert.KernelIdeal.main_v30),
    (θ_run _ _ _).mono (fun r h => h.1) (Cert.Nat.ker_run m ρ),
    (θ_run _ _ _).mono (fun r h c => ⟨(h c).1.trans ?_, (h c).2⟩) (Cert.ReferenceIdeal.Value.run m' ρ')⟩
  obtain ⟨a0, a1, a2, a3, a4, a5⟩ := hargs c
  obtain ⟨h0, h1, h3, h5⟩ := @Cert.Nat.Pre.all_real Cert.Nat.Pre.facts _ _ _ _ _ _ (hpre c)
  refine (Cert.ReferenceIdeal.Read.val_main_v103_eq m' c).trans ?_
  refine Eq.trans ?_ (kernel_out m ρ c).symm
  rw [a0, a1, a2, a3, a4, a5]
  exact funext fun y => (Cert.Nat.result_eq _ _ _ _ _ _ h0 h1 h3 h5 y).symm

theorem reference2_frame : Cert.quiescent_Reference2Ideal := fun m ρ _ =>
  (θ_run _ _ _).mono (fun r h => ⟨fun c => (h c).2.2.2, sem_eq_zero_of_no_sems (by decide) _⟩) (Cert.Reference2Ideal.Value.run m ρ)

theorem reference3_frame : Cert.quiescent_Reference3Ideal := fun m ρ _ =>
  (θ_run _ _ _).mono (fun r h => ⟨fun c => (h c).2, sem_eq_zero_of_no_sems (by decide) _⟩) (Cert.Reference3Ideal.Value.run m ρ)

theorem reference4_frame : Cert.quiescent_Reference4Ideal := fun m ρ _ =>
  (θ_run _ _ _).mono (fun r h => ⟨fun c => (h c).2, sem_eq_zero_of_no_sems (by decide) _⟩) (Cert.Reference4Ideal.Value.run m ρ)

/-- The query, key and value projections end with the reference's three results. -/
theorem heads_values : Cert.algebraic_Kernel2Ideal_Reference2Ideal := by
  intro m ρ m' ρ' _ hargs
  refine ⟨fun c => Cert.Dense.Heads.headG m c 0 (Ideal.ofBits .f32 0x3E000000#32), fun c => Cert.Dense.Heads.headG m c 1 1,
    fun c => Cert.Dense.Heads.headG m c 2 1,
    (θ_run _ _ _).mono (fun r h c => ⟨(h c).1.trans (Cert.Dense.Heads.arr_5 m c), (h c).2.1.trans (Cert.Dense.Heads.arr_6 m c),
      (h c).2.2.1.trans (Cert.Dense.Heads.arr_7 m c), (h c).2.2.2⟩) (Cert.Kernel2Ideal.Value.run_blocks m ρ),
    (θ_run _ _ _).mono (fun r h c => ⟨(h c).1.trans ?_, (h c).2.1.trans ?_, (h c).2.2.1.trans ?_, (h c).2.2.2⟩) (Cert.Reference2Ideal.Value.run m' ρ')⟩
  all_goals obtain ⟨a0, a1, a2, a3⟩ := hargs c
  · refine (Cert.Reference2Ideal.Read.val_main_v37_eq _ _ _ _).trans ?_
    rw [a0, a1, a2, a3]
    exact funext fun y => (congrArg _ (eq_ix4 y)).trans (Cert.Dense.Heads.query_ref _ _ _ _ (y 0 : Fin 32) (y 1 : Fin 16) (y 2 : Fin 256) (y 3 : Fin 64))
  · refine (Cert.Reference2Ideal.Read.val_main_v32_eq _ _ _ _).trans ?_
    rw [a0, a1, a2, a3]
    exact funext fun y => (congrArg _ (eq_ix4 y)).trans (Cert.Dense.Heads.key_ref _ _ _ _ (y 0 : Fin 32) (y 1 : Fin 16) (y 2 : Fin 256) (y 3 : Fin 64))
  · refine (Cert.Reference2Ideal.Read.val_main_v34_eq _ _ _ _).trans ?_
    rw [a0, a1, a2, a3]
    exact funext fun y => (congrArg _ (eq_ix4 y)).trans (Cert.Dense.Heads.value_ref _ _ _ _ (y 0 : Fin 32) (y 1 : Fin 16) (y 2 : Fin 256) (y 3 : Fin 64))

/-- The input projection of the normed stream ends with the reference's result. -/
theorem norm_values : Cert.algebraic_Kernel3Ideal_Reference3Ideal := by
  intro m ρ m' ρ' _ hargs
  refine ⟨fun c => Cert.Dense.Norm.projG m c,
    (θ_run _ _ _).mono (fun r h c => ⟨(h c).1.trans (Cert.Dense.Norm.arr_eq m c), (h c).2⟩) (Cert.Kernel3Ideal.Value.run_blocks m ρ),
    (θ_run _ _ _).mono (fun r h c => ⟨(h c).1.trans ?_, (h c).2⟩) (Cert.Reference3Ideal.Value.run m' ρ')⟩
  obtain ⟨a0, a1, a2, a3, a4⟩ := hargs c
  refine (Cert.Reference3Ideal.Read.val_main_v52_eq _ _ _ _ _).trans ?_
  rw [a0, a1, a2, a3, a4]
  exact funext fun y => (congrArg _ (eq_ix2 y)).trans (Cert.Dense.Norm.ref_at _ _ _ _ _ (y 0 : Fin 16384) (y 1 : Fin 3072))

/-- The output projection ends with the reference's result. -/
theorem out_values : Cert.algebraic_Kernel4Ideal_Reference4Ideal := by
  intro m ρ m' ρ' _ hargs
  refine ⟨fun c => Cert.Dense.Out.outG m c,
    (θ_run _ _ _).mono (fun r h c => ⟨(h c).1.trans (Cert.Dense.Out.arr_eq m c), (h c).2⟩) (Cert.Kernel4Ideal.Value.run_blocks m ρ),
    (θ_run _ _ _).mono (fun r h c => ⟨(h c).1.trans ?_, (h c).2⟩) (Cert.Reference4Ideal.Value.run m' ρ')⟩
  obtain ⟨a0, a1, a2, a3, a4, a5⟩ := hargs c
  refine (Cert.Reference4Ideal.Read.val_main_v14_eq _ _ _ _ _ _).trans ?_
  rw [a0, a1, a2, a3, a4, a5]
  exact funext fun y => (congrArg _ (eq_ix2 y)).trans (Cert.Dense.Out.ref_at _ _ _ _ _ _ (y 0 : Fin 16384) (y 1 : Fin 1024))

/-- The experts' products run, leave their arguments as they were, and end with every counter at zero. -/
theorem ffn_frame : Cert.quiescent_Kernel5Ideal := fun m ρ h => Cert.Ffn.frame_main m ρ (Cert.Ffn.tabM_of m (h 0))

theorem reference5_frame : Cert.quiescent_Reference5Ideal := fun m ρ _ =>
  (θ_run _ _ _).mono (fun r h => ⟨fun c => (h c).2, sem_eq_zero_of_no_sems (by decide) _⟩) (Cert.Reference5Ideal.Value.run m ρ)

/-- The experts' products end with the reference's result. -/
theorem ffn_values : Cert.algebraic_Kernel5Ideal_Reference5Ideal := by
  intro m ρ m' ρ' hpre hargs
  have hT := Cert.Ffn.tabM_of m (hpre 0)
  refine ⟨fun c => Cert.Ffn.outG m c, Cert.Ffn.run_val m ρ hT,
    (θ_run _ _ _).mono (fun r h c => ⟨(h c).1.trans ?_, (h c).2⟩) (Cert.Reference5Ideal.Value.run m' ρ')⟩
  obtain rfl : c = 0 := Subsingleton.elim _ _
  obtain ⟨a0, a1, a2, a3, a4, a5, a6, a7, a8, a9, a10⟩ := hargs 0
  refine (Cert.Reference5Ideal.Read.val_main_v52_eq _ _).trans ?_
  exact Cert.Ffn.ref_eq m 0 hT _ _ _ _ _ _ _ _ _ a0.symm a1.symm a2.symm a5.symm a6.symm a7.symm a8.symm a9.symm a10.symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Nat.Pre.facts, Cert.Pre_tables.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  Cert.Ffn.ffn_frame_bits, ffn_frame, reference5_frame, fun m ρ _ => reference5_frame m ρ trivial,
  IdealRules.named_const.statement Cert.KernelIdeal.κ "mask" .f32 0xF149F2CA#32 ⊥ rfl, values,
  trivial, heads_values, trivial, norm_values, trivial, out_values, trivial, ffn_values⟩

end Cert.Proof

end
